-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_groups : Cert.Pre_groups.Facts] (m : (ℓ : Loc Cert.Kernel2.nD Cert.Kernel2.τ Cert.Kernel2.sig) → Buf (Elt Bits) ℓ) : Prop :=
  ∀ c : Dev Cert.Kernel2.nD,
    (Cert.Pre_groups.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11))) = (fun _ => 1#1)

def Pre_Kernel2Ideal [hPre_groups : Cert.Pre_groups.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_groups.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Kernel2Ideal_packed [hPre_packed : Cert.Pre_packed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_packed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_packed [hPre_packed : Cert.Pre_packed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_packed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_groups : Cert.Pre_groups.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] [hPre_groups : Cert.Pre_groups.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_packed [hKernel2Ideal : Cert.Kernel2Ideal.Facts] [hPre_packed : Cert.Pre_packed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_packed m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_packed [hReference2Ideal : Cert.Reference2Ideal.Facts] [hPre_packed : Cert.Pre_packed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_packed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_packed [hKernel2Ideal : Cert.Kernel2Ideal.Facts] [hReference2Ideal : Cert.Reference2Ideal.Facts] [hPre_packed : Cert.Pre_packed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_packed m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v113) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v76_2)) (v1 : (c : Dev Cert.Kernel4Ideal.nD) → Buf (Elt Ideal) ((c.tc : Thread Cert.Kernel4Ideal.nD Cert.Kernel4Ideal.τ).loc Cert.Kernel4Ideal.main_v76_3)) (v2 : (c : Dev Cert.Kernel4Ideal.nD) → Buf (Elt Ideal) ((c.tc : Thread Cert.Kernel4Ideal.nD Cert.Kernel4Ideal.τ).loc Cert.Kernel4Ideal.main_v76_5)) (v3 : (c : Dev Cert.Kernel4Ideal.nD) → Buf (Elt Ideal) ((c.tc : Thread Cert.Kernel4Ideal.nD Cert.Kernel4Ideal.τ).loc Cert.Kernel4Ideal.main_v76_6)) (v4 : (c : Dev Cert.Kernel4Ideal.nD) → Buf (Elt Ideal) ((c.tc : Thread Cert.Kernel4Ideal.nD Cert.Kernel4Ideal.τ).loc Cert.Kernel4Ideal.main_v76_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v76_2) = v0 c
          ∧ r.2.mem ((c.tc : Thread Cert.Kernel4Ideal.nD Cert.Kernel4Ideal.τ).loc Cert.Kernel4Ideal.main_v76_3) = v1 c
          ∧ r.2.mem ((c.tc : Thread Cert.Kernel4Ideal.nD Cert.Kernel4Ideal.τ).loc Cert.Kernel4Ideal.main_v76_5) = v2 c
          ∧ r.2.mem ((c.tc : Thread Cert.Kernel4Ideal.nD Cert.Kernel4Ideal.τ).loc Cert.Kernel4Ideal.main_v76_6) = v3 c
          ∧ r.2.mem ((c.tc : Thread Cert.Kernel4Ideal.nD Cert.Kernel4Ideal.τ).loc Cert.Kernel4Ideal.main_v76_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v63) = v1 c
          ∧ r.2.mem ((c.tc : Thread Cert.Reference4Ideal.nD Cert.Reference4Ideal.τ).loc Cert.Reference4Ideal.main_v65) = v2 c
          ∧ r.2.mem ((c.tc : Thread Cert.Reference4Ideal.nD Cert.Reference4Ideal.τ).loc Cert.Reference4Ideal.main_v112) = v3 c
          ∧ r.2.mem ((c.tc : Thread Cert.Reference4Ideal.nD Cert.Reference4Ideal.τ).loc Cert.Reference4Ideal.main_v161) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_groups : Cert.Pre_groups.Facts) (hPre_packed : Cert.Pre_packed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_groups := hPre_groups)
    ∧ quiescent_Kernel2Ideal (hKernel2Ideal := hKernel2Ideal) (hPre_groups := hPre_groups)
    ∧ quiescent_Kernel2Ideal_pre_packed (hKernel2Ideal := hKernel2Ideal) (hPre_packed := hPre_packed)
    ∧ quiescent_Reference2Ideal (hReference2Ideal := hReference2Ideal)
    ∧ quiescent_Reference2Ideal_pre_packed (hReference2Ideal := hReference2Ideal) (hPre_packed := hPre_packed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_packed (hKernel2Ideal := hKernel2Ideal) (hReference2Ideal := hReference2Ideal) (hPre_packed := hPre_packed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x4096x6x64 : Shape := ⟨4, ![4, 4096, 6, 64]⟩
abbrev S4x256x6x64 : Shape := ⟨4, ![4, 256, 6, 64]⟩
abbrev S4x4096x2x64 : Shape := ⟨4, ![4, 4096, 2, 64]⟩
abbrev S4x256x2x64 : Shape := ⟨4, ![4, 256, 2, 64]⟩
abbrev S_ : Shape := ⟨0, ![]⟩

class Facts : Prop where
  bcast_S_S4x4096x6x64 : S_.BroadcastsInDim S4x4096x6x64 (![] : Fin 0 → Fin S4x4096x6x64.rank)
  reducesTo_S4x4096x6x64_S_d0_1_2_3 : S4x4096x6x64.ReducesTo [0, 1, 2, 3] S_
  h_S_ : 0 < S_.numel
  bcast_S_S4x4096x2x64 : S_.BroadcastsInDim S4x4096x2x64 (![] : Fin 0 → Fin S4x4096x2x64.rank)
  reducesTo_S4x4096x2x64_S_d0_1_2_3 : S4x4096x2x64.ReducesTo [0, 1, 2, 3] S_
  bcast_S_S4x256x2x64 : S_.BroadcastsInDim S4x256x2x64 (![] : Fin 0 → Fin S4x256x2x64.rank)
  reducesTo_S4x256x2x64_S_d0_1_2_3 : S4x256x2x64.ReducesTo [0, 1, 2, 3] S_

variable [Facts]

def fn {F : FTy → Type} [FloatOps F] (main_arg0 : FVec F S4x4096x6x64 .f32) (main_arg1 : FVec F S4x256x6x64 .f32) (main_arg2 : FVec F S4x4096x2x64 .f32) (main_arg3 : FVec F S4x256x2x64 .f32) (main_arg4 : FVec F S4x4096x2x64 .f32) (main_arg5 : FVec F S4x256x2x64 .f32) : IVec S_ 1 :=
  let main_v0 : FVec F S4x4096x6x64 .f32 := Host.absf main_arg0
  let main_cst : FVec F S_ .f32 := constant S_ .f32 0x7F800000#32
  let main_v1 : FVec F S4x4096x6x64 .f32 := broadcastInDim S4x4096x6x64 ![] bcast_S_S4x4096x6x64 main_cst
  let main_v2 : IVec S4x4096x6x64 1 := cmpf .olt main_v0 main_v1
  let main_c : IVec S_ 1 := constantI S_ 1 1#1
  let main_v3 : IVec S_ 1 := (fun x v => Host.reduce IntOp.andi x v reducesTo_S4x4096x6x64_S_d0_1_2_3 h_S_) main_v2 main_c
  let main_v4 : FVec F S4x4096x2x64 .f32 := Host.absf main_arg2
  let main_cst_0 : FVec F S_ .f32 := constant S_ .f32 0x7F800000#32
  let main_v5 : FVec F S4x4096x2x64 .f32 := broadcastInDim S4x4096x2x64 ![] bcast_S_S4x4096x2x64 main_cst_0
  let main_v6 : IVec S4x4096x2x64 1 := cmpf .olt main_v4 main_v5
  let main_c_1 : IVec S_ 1 := constantI S_ 1 1#1
  let main_v7 : IVec S_ 1 := (fun x v => Host.reduce IntOp.andi x v reducesTo_S4x4096x2x64_S_d0_1_2_3 h_S_) main_v6 main_c_1
  let main_v8 : IVec S_ 1 := andi main_v3 main_v7
  let main_v9 : FVec F S4x256x2x64 .f32 := Host.absf main_arg3
  let main_cst_2 : FVec F S_ .f32 := constant S_ .f32 0x7F800000#32
  let main_v10 : FVec F S4x256x2x64 .f32 := broadcastInDim S4x256x2x64 ![] bcast_S_S4x256x2x64 main_cst_2
  let main_v11 : IVec S4x256x2x64 1 := cmpf .olt main_v9 main_v10
  let main_c_3 : IVec S_ 1 := constantI S_ 1 1#1
  let main_v12 : IVec S_ 1 := (fun x v => Host.reduce IntOp.andi x v reducesTo_S4x256x2x64_S_d0_1_2_3 h_S_) main_v11 main_c_3
  let main_v13 : IVec S_ 1 := andi main_v8 main_v12
  main_v13
-- ==== Pre_groups.lean ====
abbrev S4x4096x1024 : Shape := ⟨3, ![4, 4096, 1024]⟩
abbrev S4x1024 : Shape := ⟨2, ![4, 1024]⟩
abbrev S1024 : Shape := ⟨1, ![1024]⟩
abbrev S16384x128 : Shape := ⟨2, ![16384, 128]⟩
abbrev S32x1x512 : Shape := ⟨3, ![32, 1, 512]⟩
abbrev S32x1x128 : Shape := ⟨3, ![32, 1, 128]⟩
abbrev S16x1024x256 : Shape := ⟨3, ![16, 1024, 256]⟩
abbrev S16x256x1024 : Shape := ⟨3, ![16, 256, 1024]⟩
abbrev S32x1x7 : Shape := ⟨3, ![32, 1, 7]⟩
abbrev S_ : Shape := ⟨0, ![]⟩

class Facts : Prop where
  slices_S32x1x128_S32x1x7_0_0_0 : S32x1x128.Slices ![0, 0, 0] S32x1x7
  bcast_S_S32x1x7 : S_.BroadcastsInDim S32x1x7 (![] : Fin 0 → Fin S32x1x7.rank)
  reducesTo_S32x1x7_S_d0_1_2 : S32x1x7.ReducesTo [0, 1, 2] S_
  h_S_ : 0 < S_.numel

variable [Facts]

def fn {F : FTy → Type} [FloatOps F] (main_arg0 : FVec F S4x4096x1024 .f32) (main_arg1 : FVec F S4x1024 .f32) (main_arg2 : FVec F S4x1024 .f32) (main_arg3 : FVec F S4x1024 .f32) (main_arg4 : FVec F S1024 .f32) (main_arg5 : FVec F S16384x128 .f32) (main_arg6 : IVec S32x1x512 32) (main_arg7 : IVec S32x1x128 32) (main_arg8 : FVec F S16x1024x256 .f32) (main_arg9 : FVec F S16x1024x256 .f32) (main_arg10 : FVec F S16x256x1024 .f32) (main_arg11 : FVec F S1024 .f32) : IVec S_ 1 :=
  let main_v0 : IVec S32x1x7 32 := (extractStridedSlice S32x1x7 ![0, 0, 0] · slices_S32x1x128_S32x1x7_0_0_0) main_arg7
  let main_c : IVec S_ 32 := constantI S_ 32 0#32
  let main_v1 : IVec S32x1x7 32 := broadcastInDim S32x1x7 ![] bcast_S_S32x1x7 main_c
  let main_v2 : IVec S32x1x7 1 := cmpi .sge main_v0 main_v1
  let main_c_0 : IVec S_ 1 := constantI S_ 1 1#1
  let main_v3 : IVec S_ 1 := (fun x v => Host.reduce IntOp.andi x v reducesTo_S32x1x7_S_d0_1_2 h_S_) main_v2 main_c_0
  main_v3
-- ==== Pre_packed.lean ====
abbrev S4x4096x1024 : Shape := ⟨3, ![4, 4096, 1024]⟩
abbrev S4x1024 : Shape := ⟨2, ![4, 1024]⟩
abbrev S1024 : Shape := ⟨1, ![1024]⟩
abbrev S16384x128 : Shape := ⟨2, ![16384, 128]⟩
abbrev S32x1x512 : Shape := ⟨3, ![32, 1, 512]⟩
abbrev S32x1x128 : Shape := ⟨3, ![32, 1, 128]⟩
abbrev S16x1024x256 : Shape := ⟨3, ![16, 1024, 256]⟩
abbrev S16x256x1024 : Shape := ⟨3, ![16, 256, 1024]⟩
abbrev S32x512 : Shape := ⟨2, ![32, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16384x4 : Shape := ⟨2, ![16384, 4]⟩
abbrev S32x1x7 : Shape := ⟨3, ![32, 1, 7]⟩
abbrev S_ : Shape := ⟨0, ![]⟩
abbrev S32x512x1 : Shape := ⟨3, ![32, 512, 1]⟩
abbrev S32x512x512 : Shape := ⟨3, ![32, 512, 512]⟩
abbrev S1x512x512 : Shape := ⟨3, ![1, 512, 512]⟩
abbrev S16384x1 : Shape := ⟨2, ![16384, 1]⟩
abbrev S16384 : Shape := ⟨1, ![16384]⟩

class Facts : Prop where
  shapeCasts_S32x1x512_S32x512 : S32x1x512.ShapeCasts S32x512
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  slices_S16384x128_S16384x4_0_0 : S16384x128.Slices ![0, 0] S16384x4
  slices_S32x1x128_S32x1x7_0_0_0 : S32x1x128.Slices ![0, 0, 0] S32x1x7
  bcast_S_S32x1x7 : S_.BroadcastsInDim S32x1x7 (![] : Fin 0 → Fin S32x1x7.rank)
  reducesTo_S32x1x7_S_d0_1_2 : S32x1x7.ReducesTo [0, 1, 2] S_
  h_S_ : 0 < S_.numel
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  bcast_S512x512_S1x512x512_1_2 : S512x512.BroadcastsInDim S1x512x512 (![1, 2] : Fin 2 → Fin S1x512x512.rank)
  bcast_S1x512x512_S32x512x512_0_1_2 : S1x512x512.BroadcastsInDim S32x512x512 (![0, 1, 2] : Fin 3 → Fin S32x512x512.rank)
  reducesTo_S32x512x512_S_d0_1_2 : S32x512x512.ReducesTo [0, 1, 2] S_
  slices_S16384x128_S16384x1_0_4 : S16384x128.Slices ![0, 4] S16384x1
  shapeCasts_S16384x1_S16384 : S16384x1.ShapeCasts S16384
  shapeCasts_S16384_S32x512 : S16384.ShapeCasts S32x512
  reducesTo_S32x512_S_d0_1 : S32x512.ReducesTo [0, 1] S_
  bcast_S_S16384x4 : S_.BroadcastsInDim S16384x4 (![] : Fin 0 → Fin S16384x4.rank)
  reducesTo_S16384x4_S_d0_1 : S16384x4.ReducesTo [0, 1] S_

variable [Facts]

def fn_part1 {F : FTy → Type} [FloatOps F] (main_arg5 : FVec F S16384x128 .f32) (main_v0 : IVec S32x512 32) (main_v7 : FVec F S16384x4 .f32) (main_v11 : IVec S_ 1) (main_v20 : IVec S_ 1) : IVec S_ 1 :=
  let main_v21 : IVec S_ 1 := andi main_v11 main_v20
  let main_v22 : FVec F S16384x1 .f32 := (extractStridedSlice S16384x1 ![0, 4] · slices_S16384x128_S16384x1_0_4) main_arg5
  let main_v23 : FVec F S16384 .f32 := shapeCast S16384 main_v22 shapeCasts_S16384x1_S16384
  let main_v24 : IVec S16384 32 := fptosi 32 main_v23
  let main_v25 : IVec S32x512 32 := shapeCast S32x512 main_v24 shapeCasts_S16384_S32x512
  let main_v26 : IVec S32x512 1 := cmpi .eq main_v25 main_v0
  let main_c_2 : IVec S_ 1 := constantI S_ 1 1#1
  let main_v27 : IVec S_ 1 := (fun x v => Host.reduce IntOp.andi x v reducesTo_S32x512_S_d0_1 h_S_) main_v26 main_c_2
  let main_v28 : IVec S_ 1 := andi main_v21 main_v27
  let main_cst : FVec F S_ .f32 := constant S_ .f32 0x00000000#32
  let main_v29 : FVec F S16384x4 .f32 := broadcastInDim S16384x4 ![] bcast_S_S16384x4 main_cst
  let main_v30 : IVec S16384x4 1 := cmpf .oge main_v7 main_v29
  let main_cst_3 : FVec F S_ .f32 := constant S_ .f32 0x7F800000#32
  let main_v31 : FVec F S16384x4 .f32 := broadcastInDim S16384x4 ![] bcast_S_S16384x4 main_cst_3
  let main_v32 : IVec S16384x4 1 := cmpf .olt main_v7 main_v31
  let main_v33 : IVec S16384x4 1 := andi main_v30 main_v32
  let main_c_4 : IVec S_ 1 := constantI S_ 1 1#1
  let main_v34 : IVec S_ 1 := (fun x v => Host.reduce IntOp.andi x v reducesTo_S16384x4_S_d0_1 h_S_) main_v33 main_c_4
  let main_v35 : IVec S_ 1 := andi main_v28 main_v34
  main_v35

def fn {F : FTy → Type} [FloatOps F] (main_arg0 : FVec F S4x4096x1024 .f32) (main_arg1 : FVec F S4x1024 .f32) (main_arg2 : FVec F S4x1024 .f32) (main_arg3 : FVec F S4x1024 .f32) (main_arg4 : FVec F S1024 .f32) (main_arg5 : FVec F S16384x128 .f32) (main_arg6 : IVec S32x1x512 32) (main_arg7 : IVec S32x1x128 32) (main_arg8 : FVec F S16x1024x256 .f32) (main_arg9 : FVec F S16x1024x256 .f32) (main_arg10 : FVec F S16x256x1024 .f32) (main_arg11 : FVec F S1024 .f32) : IVec S_ 1 :=
  let main_v0 : IVec S32x512 32 := shapeCast S32x512 main_arg6 shapeCasts_S32x1x512_S32x512
  let main_v1 : IVec S512 32 := iotaInDim S512 32 0
  let main_v2 : IVec S512x1 32 := broadcastInDim S512x1 ![0] bcast_S512_S512x1_0 main_v1
  let main_v3 : IVec S1x512 32 := broadcastInDim S1x512 ![1] bcast_S512_S1x512_1 main_v1
  let main_v4 : IVec S512x512 32 := broadcastInDim S512x512 ![0, 1] bcast_S512x1_S512x512_0_1 main_v2
  let main_v5 : IVec S512x512 32 := broadcastInDim S512x512 ![0, 1] bcast_S1x512_S512x512_0_1 main_v3
  let main_v6 : IVec S512x512 1 := cmpi .eq main_v4 main_v5
  let main_v7 : FVec F S16384x4 .f32 := (extractStridedSlice S16384x4 ![0, 0] · slices_S16384x128_S16384x4_0_0) main_arg5
  let main_v8 : IVec S32x1x7 32 := (extractStridedSlice S32x1x7 ![0, 0, 0] · slices_S32x1x128_S32x1x7_0_0_0) main_arg7
  let main_c : IVec S_ 32 := constantI S_ 32 0#32
  let main_v9 : IVec S32x1x7 32 := broadcastInDim S32x1x7 ![] bcast_S_S32x1x7 main_c
  let main_v10 : IVec S32x1x7 1 := cmpi .sge main_v8 main_v9
  let main_c_0 : IVec S_ 1 := constantI S_ 1 1#1
  let main_v11 : IVec S_ 1 := (fun x v => Host.reduce IntOp.andi x v reducesTo_S32x1x7_S_d0_1_2 h_S_) main_v10 main_c_0
  let main_v12 : IVec S32x512x1 32 := broadcastInDim S32x512x1 ![0, 1] bcast_S32x512_S32x512x1_0_1 main_v0
  let main_v13 : IVec S32x1x512 32 := broadcastInDim S32x1x512 ![0, 2] bcast_S32x512_S32x1x512_0_2 main_v0
  let main_v14 : IVec S32x512x512 32 := broadcastInDim S32x512x512 ![0, 1, 2] bcast_S32x512x1_S32x512x512_0_1_2 main_v12
  let main_v15 : IVec S32x512x512 32 := broadcastInDim S32x512x512 ![0, 1, 2] bcast_S32x1x512_S32x512x512_0_1_2 main_v13
  let main_v16 : IVec S32x512x512 1 := cmpi .ne main_v14 main_v15
  let main_v17 : IVec S1x512x512 1 := broadcastInDim S1x512x512 ![1, 2] bcast_S512x512_S1x512x512_1_2 main_v6
  let main_v18 : IVec S32x512x512 1 := broadcastInDim S32x512x512 ![0, 1, 2] bcast_S1x512x512_S32x512x512_0_1_2 main_v17
  let main_v19 : IVec S32x512x512 1 := ori main_v16 main_v18
  let main_c_1 : IVec S_ 1 := constantI S_ 1 1#1
  let main_v20 : IVec S_ 1 := (fun x v => Host.reduce IntOp.andi x v reducesTo_S32x512x512_S_d0_1_2 h_S_) main_v19 main_c_1
  fn_part1 (F := F) main_arg5 main_v0 main_v7 main_v11 main_v20
-- ==== Kernel.lean ====
abbrev S4x4096x6x64 : Shape := ⟨4, ![4, 4096, 6, 64]⟩
abbrev S4x256x6x64 : Shape := ⟨4, ![4, 256, 6, 64]⟩
abbrev S4x4096x2x64 : Shape := ⟨4, ![4, 4096, 2, 64]⟩
abbrev S4x256x2x64 : Shape := ⟨4, ![4, 256, 2, 64]⟩
abbrev S_ : Shape := ⟨0, ![]⟩
abbrev S4x4352x6x64 : Shape := ⟨4, ![4, 4352, 6, 64]⟩
abbrev S4x4352x384 : Shape := ⟨3, ![4, 4352, 384]⟩
abbrev S4x4352x2x64 : Shape := ⟨4, ![4, 4352, 2, 64]⟩
abbrev S4x4352x128 : Shape := ⟨3, ![4, 4352, 128]⟩
abbrev S4x384x4352 : Shape := ⟨3, ![4, 384, 4352]⟩
abbrev S4x128x4352 : Shape := ⟨3, ![4, 128, 4352]⟩
abbrev S4x4096x384 : Shape := ⟨3, ![4, 4096, 384]⟩
abbrev S1x384x1024 : Shape := ⟨3, ![1, 384, 1024]⟩
abbrev S1x4352x128 : Shape := ⟨3, ![1, 4352, 128]⟩
abbrev S1x128x4352 : Shape := ⟨3, ![1, 128, 4352]⟩
abbrev S1x1024x384 : Shape := ⟨3, ![1, 1024, 384]⟩
abbrev S2x4352x512 : Shape := ⟨3, ![2, 4352, 512]⟩
abbrev S4352x128 : Shape := ⟨2, ![4352, 128]⟩
abbrev S128x4352 : Shape := ⟨2, ![128, 4352]⟩
abbrev S16x4352 : Shape := ⟨2, ![16, 4352]⟩
abbrev S64x4352 : Shape := ⟨2, ![64, 4352]⟩
abbrev S80x4352 : Shape := ⟨2, ![80, 4352]⟩
abbrev S1x64x512 : Shape := ⟨3, ![1, 64, 512]⟩
abbrev S64x512 : Shape := ⟨2, ![64, 512]⟩
abbrev S128x512 : Shape := ⟨2, ![128, 512]⟩
abbrev S4352x512 : Shape := ⟨2, ![4352, 512]⟩
abbrev S1x4352x512 : Shape := ⟨3, ![1, 4352, 512]⟩
abbrev S512 : Shape := ⟨1, ![512]⟩
abbrev S1x512 : Shape := ⟨2, ![1, 512]⟩
abbrev S80x512 : Shape := ⟨2, ![80, 512]⟩
abbrev S384x512 : Shape := ⟨2, ![384, 512]⟩
abbrev S512x384 : Shape := ⟨2, ![512, 384]⟩
abbrev S1x512x384 : Shape := ⟨3, ![1, 512, 384]⟩

abbrev nBuf : Space → Nat
  | .hbm => 24
  | .vmem => 10
  | .smem => 0
  | _ => 0

abbrev bufTy : (tb : Table) → Fin (tcTables nBuf tb) → BufTy
  | .hbm, ⟨0, _⟩ => ⟨S4x4096x6x64, .f32⟩
  | .hbm, ⟨1, _⟩ => ⟨S4x256x6x64, .f32⟩
  | .hbm, ⟨2, _⟩ => ⟨S4x4096x2x64, .f32⟩
  | .hbm, ⟨3, _⟩ => ⟨S4x256x2x64, .f32⟩
  | .hbm, ⟨4, _⟩ => ⟨S4x4096x2x64, .f32⟩
  | .hbm, ⟨5, _⟩ => ⟨S4x256x2x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4352x6x64, .f32⟩
  | .hbm, ⟨11, _⟩ => ⟨S4x4352x384, .f32⟩
  | .hbm, ⟨12, _⟩ => ⟨S4x4352x384, .f32⟩
  | .hbm, ⟨13, _⟩ => ⟨S4x4352x384, .f32⟩
  | .hbm, ⟨14, _⟩ => ⟨S4x4352x2x64, .f32⟩
  | .hbm, ⟨15, _⟩ => ⟨S4x4352x128, .f32⟩
  | .hbm, ⟨16, _⟩ => ⟨S4x4352x2x64, .f32⟩
  | .hbm, ⟨17, _⟩ => ⟨S4x4352x128, .f32⟩
  | .hbm, ⟨18, _⟩ => ⟨S4x384x4352, .f32⟩
  | .hbm, ⟨19, _⟩ => ⟨S4x384x4352, .bf16⟩
  | .hbm, ⟨20, _⟩ => ⟨S4x128x4352, .f32⟩
  | .hbm, ⟨21, _⟩ => ⟨S4x128x4352, .bf16⟩
  | .hbm, ⟨22, _⟩ => ⟨S4x4352x128, .bf16⟩
  | .hbm, ⟨23, _⟩ => ⟨S4x4096x384, .bf16⟩
  | .local _ .vmem, ⟨0, _⟩ => ⟨S1x384x1024, .bf16⟩
  | .local _ .vmem, ⟨1, _⟩ => ⟨S1x384x1024, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x128x4352, .bf16⟩
  | .local _ .vmem, ⟨5, _⟩ => ⟨S1x128x4352, .bf16⟩
  | .local _ .vmem, ⟨6, _⟩ => ⟨S1x1024x384, .bf16⟩
  | .local _ .vmem, ⟨7, _⟩ => ⟨S1x1024x384, .bf16⟩
  | .local _ .vmem, ⟨8, _⟩ => ⟨S2x4352x512, .f32⟩
  | .local _ .vmem, ⟨9, _⟩ => ⟨S2x4352x512, .bf16⟩
  | _, _ => ⟨S4x4096x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x4096x6x64 : Shape := ⟨4, ![4, 4096, 6, 64]⟩
abbrev S4x256x6x64 : Shape := ⟨4, ![4, 256, 6, 64]⟩
abbrev S4x4096x2x64 : Shape := ⟨4, ![4, 4096, 2, 64]⟩
abbrev S4x256x2x64 : Shape := ⟨4, ![4, 256, 2, 64]⟩
abbrev S4x4352x2x64 : Shape := ⟨4, ![4, 4352, 2, 64]⟩
abbrev S4x4096x2x3x64 : Shape := ⟨5, ![4, 4096, 2, 3, 64]⟩
abbrev S4x2x4352x4096x3 : Shape := ⟨5, ![4, 2, 4352, 4096, 3]⟩
abbrev S4x2x3x4096x4352 : Shape := ⟨5, ![4, 2, 3, 4096, 4352]⟩
abbrev S_ : Shape := ⟨0, ![]⟩
abbrev S4x2x3x4096 : Shape := ⟨4, ![4, 2, 3, 4096]⟩
abbrev S4x2x3x4096x1 : Shape := ⟨5, ![4, 2, 3, 4096, 1]⟩
abbrev S4x2x64x3x4096 : Shape := ⟨5, ![4, 2, 64, 3, 4096]⟩
abbrev S4x4096x384 : Shape := ⟨3, ![4, 4096, 384]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x6x64, .f32⟩
  | .hbm, ⟨1, _⟩ => ⟨S4x256x6x64, .f32⟩
  | .hbm, ⟨2, _⟩ => ⟨S4x4096x2x64, .f32⟩
  | .hbm, ⟨3, _⟩ => ⟨S4x256x2x64, .f32⟩
  | .hbm, ⟨4, _⟩ => ⟨S4x4096x2x64, .f32⟩
  | .hbm, ⟨5, _⟩ => ⟨S4x256x2x64, .f32⟩
  | .hbm, ⟨6, _⟩ => ⟨S4x4352x2x64, .f32⟩
  | .hbm, ⟨7, _⟩ => ⟨S4x4352x2x64, .f32⟩
  | .hbm, ⟨8, _⟩ => ⟨S4x4096x2x3x64, .f32⟩
  | .hbm, ⟨9, _⟩ => ⟨S4x2x4352x4096x3, .f32⟩
  | .hbm, ⟨10, _⟩ => ⟨S4x2x3x4096x4352, .f32⟩
  | .hbm, ⟨11, _⟩ => ⟨S_, .f32⟩
  | .hbm, ⟨12, _⟩ => ⟨S4x2x3x4096x4352, .f32⟩
  | .hbm, ⟨13, _⟩ => ⟨S4x2x3x4096x4352, .f32⟩
  | .hbm, ⟨14, _⟩ => ⟨S_, .f32⟩
  | .hbm, ⟨15, _⟩ => ⟨S4x2x3x4096, .f32⟩
  | .hbm, ⟨16, _⟩ => ⟨S_, .f32⟩
  | .hbm, ⟨17, _⟩ => ⟨S4x2x3x4096, .f32⟩
  | .hbm, ⟨18, _⟩ => ⟨S4x2x3x4096, .f32⟩
  | .hbm, ⟨19, _⟩ => ⟨S4x2x3x4096x1, .f32⟩
  | .hbm, ⟨20, _⟩ => ⟨S4x2x3x4096x4352, .f32⟩
  | .hbm, ⟨21, _⟩ => ⟨S4x2x3x4096x4352, .f32⟩
  | .hbm, ⟨22, _⟩ => ⟨S4x2x3x4096x4352, .f32⟩
  | .hbm, ⟨23, _⟩ => ⟨S_, .f32⟩
  | .hbm, ⟨24, _⟩ => ⟨S4x2x3x4096, .f32⟩
  | .hbm, ⟨25, _⟩ => ⟨S4x2x3x4096x1, .f32⟩
  | .hbm, ⟨26, _⟩ => ⟨S4x2x3x4096x4352, .f32⟩
  | .hbm, ⟨27, _⟩ => ⟨S4x2x3x4096x4352, .f32⟩
  | .hbm, ⟨28, _⟩ => ⟨S4x2x64x3x4096, .f32⟩
  | .hbm, ⟨29, _⟩ => ⟨S4x4096x2x3x64, .f32⟩
  | .hbm, ⟨30, _⟩ => ⟨S4x4096x384, .f32⟩
  | .hbm, ⟨31, _⟩ => ⟨S4x4096x384, .bf16⟩
  | _, _ => ⟨S4x4096x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1024 : Shape := ⟨2, ![4, 1024]⟩
abbrev S1024 : Shape := ⟨1, ![1024]⟩
abbrev S16384x128 : Shape := ⟨2, ![16384, 128]⟩
abbrev S32x1x512 : Shape := ⟨3, ![32, 1, 512]⟩
abbrev S32x1x128 : Shape := ⟨3, ![32, 1, 128]⟩
abbrev S16x1024x256 : Shape := ⟨3, ![16, 1024, 256]⟩
abbrev S16x256x1024 : Shape := ⟨3, ![16, 256, 1024]⟩
abbrev S_ : Shape := ⟨0, ![]⟩
abbrev S4x6144 : Shape := ⟨2, ![4, 6144]⟩
abbrev S4x1x6144 : Shape := ⟨3, ![4, 1, 6144]⟩
abbrev S1x1024 : Shape := ⟨2, ![1, 1024]⟩
abbrev S1x16x1024x256 : Shape := ⟨4, ![1, 16, 1024, 256]⟩
abbrev S1x16x256x1024 : Shape := ⟨4, ![1, 16, 256, 1024]⟩
abbrev S32x128 : Shape := ⟨2, ![32, 128]⟩
abbrev S1x512x1024 : Shape := ⟨3, ![1, 512, 1024]⟩
abbrev S1x1x1024 : Shape := ⟨3, ![1, 1, 1024]⟩
abbrev S512x128 : Shape := ⟨2, ![512, 128]⟩
abbrev S1x1x512 : Shape := ⟨3, ![1, 1, 512]⟩
abbrev S896x1024 : Shape := ⟨2, ![896, 1024]⟩
abbrev S512x1024 : Shape := ⟨2, ![512, 1024]⟩
abbrev S512 : Shape := ⟨1, ![512]⟩
abbrev S512x1 : Shape := ⟨2, ![512, 1]⟩
abbrev S896x512 : Shape := ⟨2, ![896, 512]⟩
abbrev S1x512 : Shape := ⟨2, ![1, 512]⟩
abbrev S512x896 : Shape := ⟨2, ![512, 896]⟩
abbrev S896x128 : Shape := ⟨2, ![896, 128]⟩
abbrev S1x1 : Shape := ⟨2, ![1, 1]⟩
abbrev S128x1024 : Shape := ⟨2, ![128, 1024]⟩
abbrev S1x1x1024x256 : Shape := ⟨4, ![1, 1, 1024, 256]⟩
abbrev S1024x256 : Shape := ⟨2, ![1024, 256]⟩
abbrev S128x256 : Shape := ⟨2, ![128, 256]⟩
abbrev S128x1 : Shape := ⟨2, ![128, 1]⟩
abbrev S1x1x256x1024 : Shape := ⟨4, ![1, 1, 256, 1024]⟩
abbrev S256x1024 : Shape := ⟨2, ![256, 1024]⟩

abbrev nBuf : Space → Nat
  | .hbm => 25
  | .vmem => 21
  | .smem => 1
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S16384x128, .f32⟩
  | .hbm, ⟨6, _⟩ => ⟨S32x1x512, .i32⟩
  | .hbm, ⟨7, _⟩ => ⟨S32x1x128, .i32⟩
  | .hbm, ⟨8, _⟩ => ⟨S16x1024x256, .f32⟩
  | .hbm, ⟨9, _⟩ => ⟨S16x1024x256, .f32⟩
  | .hbm, ⟨10, _⟩ => ⟨S16x256x1024, .f32⟩
  | .hbm, ⟨11, _⟩ => ⟨S1024, .f32⟩
  | .hbm, ⟨12, _⟩ => ⟨S_, .f32⟩
  | .hbm, ⟨13, _⟩ => ⟨S4x1024, .f32⟩
  | .hbm, ⟨14, _⟩ => ⟨S4x6144, .f32⟩
  | .hbm, ⟨15, _⟩ => ⟨S4x1x6144, .f32⟩
  | .hbm, ⟨16, _⟩ => ⟨S1x1024, .f32⟩
  | .hbm, ⟨17, _⟩ => ⟨S16x1024x256, .bf16⟩
  | .hbm, ⟨18, _⟩ => ⟨S1x16x1024x256, .bf16⟩
  | .hbm, ⟨19, _⟩ => ⟨S16x1024x256, .bf16⟩
  | .hbm, ⟨20, _⟩ => ⟨S1x16x1024x256, .bf16⟩
  | .hbm, ⟨21, _⟩ => ⟨S16x256x1024, .bf16⟩
  | .hbm, ⟨22, _⟩ => ⟨S1x16x256x1024, .bf16⟩
  | .hbm, ⟨23, _⟩ => ⟨S1x1024, .f32⟩
  | .hbm, ⟨24, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S512x128, .f32⟩
  | .local _ .vmem, ⟨10, _⟩ => ⟨S512x128, .f32⟩
  | .local _ .vmem, ⟨11, _⟩ => ⟨S1x1x512, .i32⟩
  | .local _ .vmem, ⟨12, _⟩ => ⟨S1x1x512, .i32⟩
  | .local _ .vmem, ⟨13, _⟩ => ⟨S1x16x1024x256, .bf16⟩
  | .local _ .vmem, ⟨14, _⟩ => ⟨S1x16x1024x256, .bf16⟩
  | .local _ .vmem, ⟨15, _⟩ => ⟨S1x16x256x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S896x1024, .bf16⟩
  | .local _ .vmem, ⟨20, _⟩ => ⟨S896x1024, .bf16⟩
  | .local _ .smem, ⟨0, _⟩ => ⟨S32x128, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v12 : Ref sig .tc := ⟨.hbm, 24, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v65 : Index := Scalar.indexCast v1
  let c0_28 : Index := 0#32
  ![v65.toNat, 0]
def k0_off2 (v66 : BitVec 32) : Fin 4 → Nat :=
  let c0_72 : Index := 0#32
  let c4_i32_71 : BitVec 32 := 4#32
  let v145 : BitVec 32 := Scalar.muli v66 c4_i32_71
  let v146 : Index := Scalar.indexCast v145
  let c0_73 : Index := 0#32
  let c0_74 : Index := 0#32
  ![0, v146.toNat, 0, 0]
def k0_cond1 (v66 : BitVec 32) : BitVec 1 :=
  let c4_i32 : BitVec 32 := 4#32
  let v67 : BitVec 1 := Scalar.cmpi .slt v66 c4_i32
  let v68 : BitVec 32 := Scalar.extui v67
  let c0_i32 : BitVec 32 := 0#32
  let v69 : BitVec 1 := Scalar.cmpi .ne v68 c0_i32
  v69

def k0_off3 (v66 : BitVec 32) (c0_i32_81 : BitVec 32) : Fin 4 → Nat :=
  let c0_82 : Index := 0#32
  let c4_i32_71 : BitVec 32 := 4#32
  let v145 : BitVec 32 := Scalar.muli v66 c4_i32_71
  let v155 : BitVec 32 := Scalar.addi v145 c0_i32_81
  let c1_i32 : BitVec 32 := 1#32
  let v156 : BitVec 32 := Scalar.addi v155 c1_i32
  let v157 : Index := Scalar.indexCast v156
  let c0_83 : Index := 0#32
  let c0_84 : Index := 0#32
  ![0, v157.toNat, 0, 0]
def k0_off4 (v66 : BitVec 32) (c0_i32_92 : BitVec 32) : Fin 4 → Nat :=
  let c0_93 : Index := 0#32
  let c4_i32_71 : BitVec 32 := 4#32
  let v145 : BitVec 32 := Scalar.muli v66 c4_i32_71
  let v174 : BitVec 32 := Scalar.addi v145 c0_i32_92
  let v175 : Index := Scalar.indexCast v174
  let c0_94 : Index := 0#32
  let c0_95 : Index := 0#32
  ![0, v175.toNat, 0, 0]

def k0_chk1 (v66 : BitVec 32) : Prop :=
  (∀ (k0_h1 : k0_cond1 v66 = 1#1), ∀ a, (k0_off2 v66) a + S1x1x1024x256.size a ≤ S1x16x1024x256.size a) ∧
  (∀ (k0_h1 : k0_cond1 v66 = 1#1), ∀ (r : Fin 3), ∀ a, (k0_off3 v66 (BitVec.ofNat 32 r.val)) a + S1x1x1024x256.size a ≤ S1x16x1024x256.size a) ∧
  (∀ (k0_h1 : k0_cond1 v66 = 1#1), ∀ (r : Fin 4), ∀ a, (k0_off4 v66 (BitVec.ofNat 32 r.val)) a + S1x1x256x1024.size a ≤ S1x16x256x1024.size a)
theorem k0_off2_inb : ∀ (v66 : BitVec 32) (k0_hw1 : k0_chk1 v66), ∀ (k0_h1 : k0_cond1 v66 = 1#1), ∀ a, (k0_off2 v66) a + S1x1x1024x256.size a ≤ S1x16x1024x256.size a := fun v66 k0_hw1 k0_h1 => k0_hw1.1 k0_h1
theorem k0_off3_inb : ∀ (v66 : BitVec 32) (k0_hw1 : k0_chk1 v66), ∀ (k0_h1 : k0_cond1 v66 = 1#1), ∀ (r : Fin 3), ∀ a, (k0_off3 v66 (BitVec.ofNat 32 r.val)) a + S1x1x1024x256.size a ≤ S1x16x1024x256.size a := fun v66 k0_hw1 k0_h1 r => k0_hw1.2.1 k0_h1 r
theorem k0_off4_inb : ∀ (v66 : BitVec 32) (k0_hw1 : k0_chk1 v66), ∀ (k0_h1 : k0_cond1 v66 = 1#1), ∀ (r : Fin 4), ∀ a, (k0_off4 v66 (BitVec.ofNat 32 r.val)) a + S1x1x256x1024.size a ≤ S1x16x256x1024.size a := fun v66 k0_hw1 k0_h1 r => k0_hw1.2.2 k0_h1 r

def k0_off5 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v73 : Index := Scalar.indexCast v1
  let c1 : Index := 1#32
  ![v73.toNat, 1]
def k0_off6 (v74 : BitVec 32) : Fin 4 → Nat :=
  let c0_71 : Index := 0#32
  let c4_i32_70 : BitVec 32 := 4#32
  let v145 : BitVec 32 := Scalar.muli v74 c4_i32_70
  let v146 : Index := Scalar.indexCast v145
  let c0_72 : Index := 0#32
  let c0_73 : Index := 0#32
  ![0, v146.toNat, 0, 0]
def k0_cond3 (v74 : BitVec 32) : BitVec 1 :=
  let c4_i32_31 : BitVec 32 := 4#32
  let v75 : BitVec 1 := Scalar.cmpi .slt v74 c4_i32_31
  let v76 : BitVec 32 := Scalar.extui v75
  let c0_i32_32 : BitVec 32 := 0#32
  let v77 : BitVec 1 := Scalar.cmpi .ne v76 c0_i32_32
  v77

def k0_off7 (v74 : BitVec 32) (c0_i32_80 : BitVec 32) : Fin 4 → Nat :=
  let c0_81 : Index := 0#32
  let c4_i32_70 : BitVec 32 := 4#32
  let v145 : BitVec 32 := Scalar.muli v74 c4_i32_70
  let v155 : BitVec 32 := Scalar.addi v145 c0_i32_80
  let c1_i32 : BitVec 32 := 1#32
  let v156 : BitVec 32 := Scalar.addi v155 c1_i32
  let v157 : Index := Scalar.indexCast v156
  let c0_82 : Index := 0#32
  let c0_83 : Index := 0#32
  ![0, v157.toNat, 0, 0]
def k0_off8 (v74 : BitVec 32) (c0_i32_91 : BitVec 32) : Fin 4 → Nat :=
  let c0_92 : Index := 0#32
  let c4_i32_70 : BitVec 32 := 4#32
  let v145 : BitVec 32 := Scalar.muli v74 c4_i32_70
  let v174 : BitVec 32 := Scalar.addi v145 c0_i32_91
  let v175 : Index := Scalar.indexCast v174
  let c0_93 : Index := 0#32
  let c0_94 : Index := 0#32
  ![0, v175.toNat, 0, 0]

def k0_chk2 (v74 : BitVec 32) : Prop :=
  (∀ (k0_h3 : k0_cond3 v74 = 1#1), ∀ a, (k0_off6 v74) a + S1x1x1024x256.size a ≤ S1x16x1024x256.size a) ∧
  (∀ (k0_h3 : k0_cond3 v74 = 1#1), ∀ (r : Fin 3), ∀ a, (k0_off7 v74 (BitVec.ofNat 32 r.val)) a + S1x1x1024x256.size a ≤ S1x16x1024x256.size a) ∧
  (∀ (k0_h3 : k0_cond3 v74 = 1#1), ∀ (r : Fin 4), ∀ a, (k0_off8 v74 (BitVec.ofNat 32 r.val)) a + S1x1x256x1024.size a ≤ S1x16x256x1024.size a)
theorem k0_off6_inb : ∀ (v74 : BitVec 32) (k0_hw2 : k0_chk2 v74), ∀ (k0_h3 : k0_cond3 v74 = 1#1), ∀ a, (k0_off6 v74) a + S1x1x1024x256.size a ≤ S1x16x1024x256.size a := fun v74 k0_hw2 k0_h3 => k0_hw2.1 k0_h3
theorem k0_off7_inb : ∀ (v74 : BitVec 32) (k0_hw2 : k0_chk2 v74), ∀ (k0_h3 : k0_cond3 v74 = 1#1), ∀ (r : Fin 3), ∀ a, (k0_off7 v74 (BitVec.ofNat 32 r.val)) a + S1x1x1024x256.size a ≤ S1x16x1024x256.size a := fun v74 k0_hw2 k0_h3 r => k0_hw2.2.1 k0_h3 r
theorem k0_off8_inb : ∀ (v74 : BitVec 32) (k0_hw2 : k0_chk2 v74), ∀ (k0_h3 : k0_cond3 v74 = 1#1), ∀ (r : Fin 4), ∀ a, (k0_off8 v74 (BitVec.ofNat 32 r.val)) a + S1x1x256x1024.size a ≤ S1x16x256x1024.size a := fun v74 k0_hw2 k0_h3 r => k0_hw2.2.2 k0_h3 r

def k0_off9 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v81 : Index := Scalar.indexCast v1
  let c2 : Index := 2#32
  ![v81.toNat, 2]
def k0_off10 (v82 : BitVec 32) : Fin 4 → Nat :=
  let c0_71 : Index := 0#32
  let c4_i32_70 : BitVec 32 := 4#32
  let v145 : BitVec 32 := Scalar.muli v82 c4_i32_70
  let v146 : Index := Scalar.indexCast v145
  let c0_72 : Index := 0#32
  let c0_73 : Index := 0#32
  ![0, v146.toNat, 0, 0]
def k0_cond5 (v82 : BitVec 32) : BitVec 1 :=
  let c4_i32_35 : BitVec 32 := 4#32
  let v83 : BitVec 1 := Scalar.cmpi .slt v82 c4_i32_35
  let v84 : BitVec 32 := Scalar.extui v83
  let c0_i32_36 : BitVec 32 := 0#32
  let v85 : BitVec 1 := Scalar.cmpi .ne v84 c0_i32_36
  v85

def k0_off11 (v82 : BitVec 32) (c0_i32_80 : BitVec 32) : Fin 4 → Nat :=
  let c0_81 : Index := 0#32
  let c4_i32_70 : BitVec 32 := 4#32
  let v145 : BitVec 32 := Scalar.muli v82 c4_i32_70
  let v155 : BitVec 32 := Scalar.addi v145 c0_i32_80
  let c1_i32 : BitVec 32 := 1#32
  let v156 : BitVec 32 := Scalar.addi v155 c1_i32
  let v157 : Index := Scalar.indexCast v156
  let c0_82 : Index := 0#32
  let c0_83 : Index := 0#32
  ![0, v157.toNat, 0, 0]
def k0_off12 (v82 : BitVec 32) (c0_i32_91 : BitVec 32) : Fin 4 → Nat :=
  let c0_92 : Index := 0#32
  let c4_i32_70 : BitVec 32 := 4#32
  let v145 : BitVec 32 := Scalar.muli v82 c4_i32_70
  let v174 : BitVec 32 := Scalar.addi v145 c0_i32_91
  let v175 : Index := Scalar.indexCast v174
  let c0_93 : Index := 0#32
  let c0_94 : Index := 0#32
  ![0, v175.toNat, 0, 0]

def k0_chk3 (v82 : BitVec 32) : Prop :=
  (∀ (k0_h5 : k0_cond5 v82 = 1#1), ∀ a, (k0_off10 v82) a + S1x1x1024x256.size a ≤ S1x16x1024x256.size a) ∧
  (∀ (k0_h5 : k0_cond5 v82 = 1#1), ∀ (r : Fin 3), ∀ a, (k0_off11 v82 (BitVec.ofNat 32 r.val)) a + S1x1x1024x256.size a ≤ S1x16x1024x256.size a) ∧
  (∀ (k0_h5 : k0_cond5 v82 = 1#1), ∀ (r : Fin 4), ∀ a, (k0_off12 v82 (BitVec.ofNat 32 r.val)) a + S1x1x256x1024.size a ≤ S1x16x256x1024.size a)
theorem k0_off10_inb : ∀ (v82 : BitVec 32) (k0_hw3 : k0_chk3 v82), ∀ (k0_h5 : k0_cond5 v82 = 1#1), ∀ a, (k0_off10 v82) a + S1x1x1024x256.size a ≤ S1x16x1024x256.size a := fun v82 k0_hw3 k0_h5 => k0_hw3.1 k0_h5
theorem k0_off11_inb : ∀ (v82 : BitVec 32) (k0_hw3 : k0_chk3 v82), ∀ (k0_h5 : k0_cond5 v82 = 1#1), ∀ (r : Fin 3), ∀ a, (k0_off11 v82 (BitVec.ofNat 32 r.val)) a + S1x1x1024x256.size a ≤ S1x16x1024x256.size a := fun v82 k0_hw3 k0_h5 r => k0_hw3.2.1 k0_h5 r
theorem k0_off12_inb : ∀ (v82 : BitVec 32) (k0_hw3 : k0_chk3 v82), ∀ (k0_h5 : k0_cond5 v82 = 1#1), ∀ (r : Fin 4), ∀ a, (k0_off12 v82 (BitVec.ofNat 32 r.val)) a + S1x1x256x1024.size a ≤ S1x16x256x1024.size a := fun v82 k0_hw3 k0_h5 r => k0_hw3.2.2 k0_h5 r

def k0_off13 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v89 : Index := Scalar.indexCast v1
  let c3 : Index := 3#32
  ![v89.toNat, 3]
def k0_off14 (v90 : BitVec 32) : Fin 4 → Nat :=
  let c0_71 : Index := 0#32
  let c4_i32_70 : BitVec 32 := 4#32
  let v145 : BitVec 32 := Scalar.muli v90 c4_i32_70
  let v146 : Index := Scalar.indexCast v145
  let c0_72 : Index := 0#32
  let c0_73 : Index := 0#32
  ![0, v146.toNat, 0, 0]
def k0_cond7 (v90 : BitVec 32) : BitVec 1 :=
  let c4_i32_39 : BitVec 32 := 4#32
  let v91 : BitVec 1 := Scalar.cmpi .slt v90 c4_i32_39
  let v92 : BitVec 32 := Scalar.extui v91
  let c0_i32_40 : BitVec 32 := 0#32
  let v93 : BitVec 1 := Scalar.cmpi .ne v92 c0_i32_40
  v93

def k0_off15 (v90 : BitVec 32) (c0_i32_80 : BitVec 32) : Fin 4 → Nat :=
  let c0_81 : Index := 0#32
  let c4_i32_70 : BitVec 32 := 4#32
  let v145 : BitVec 32 := Scalar.muli v90 c4_i32_70
  let v155 : BitVec 32 := Scalar.addi v145 c0_i32_80
  let c1_i32 : BitVec 32 := 1#32
  let v156 : BitVec 32 := Scalar.addi v155 c1_i32
  let v157 : Index := Scalar.indexCast v156
  let c0_82 : Index := 0#32
  let c0_83 : Index := 0#32
  ![0, v157.toNat, 0, 0]
def k0_off16 (v90 : BitVec 32) (c0_i32_91 : BitVec 32) : Fin 4 → Nat :=
  let c0_92 : Index := 0#32
  let c4_i32_70 : BitVec 32 := 4#32
  let v145 : BitVec 32 := Scalar.muli v90 c4_i32_70
  let v174 : BitVec 32 := Scalar.addi v145 c0_i32_91
  let v175 : Index := Scalar.indexCast v174
  let c0_93 : Index := 0#32
  let c0_94 : Index := 0#32
  ![0, v175.toNat, 0, 0]

def k0_chk4 (v90 : BitVec 32) : Prop :=
  (∀ (k0_h7 : k0_cond7 v90 = 1#1), ∀ a, (k0_off14 v90) a + S1x1x1024x256.size a ≤ S1x16x1024x256.size a) ∧
  (∀ (k0_h7 : k0_cond7 v90 = 1#1), ∀ (r : Fin 3), ∀ a, (k0_off15 v90 (BitVec.ofNat 32 r.val)) a + S1x1x1024x256.size a ≤ S1x16x1024x256.size a) ∧
  (∀ (k0_h7 : k0_cond7 v90 = 1#1), ∀ (r : Fin 4), ∀ a, (k0_off16 v90 (BitVec.ofNat 32 r.val)) a + S1x1x256x1024.size a ≤ S1x16x256x1024.size a)
theorem k0_off14_inb : ∀ (v90 : BitVec 32) (k0_hw4 : k0_chk4 v90), ∀ (k0_h7 : k0_cond7 v90 = 1#1), ∀ a, (k0_off14 v90) a + S1x1x1024x256.size a ≤ S1x16x1024x256.size a := fun v90 k0_hw4 k0_h7 => k0_hw4.1 k0_h7
theorem k0_off15_inb : ∀ (v90 : BitVec 32) (k0_hw4 : k0_chk4 v90), ∀ (k0_h7 : k0_cond7 v90 = 1#1), ∀ (r : Fin 3), ∀ a, (k0_off15 v90 (BitVec.ofNat 32 r.val)) a + S1x1x1024x256.size a ≤ S1x16x1024x256.size a := fun v90 k0_hw4 k0_h7 r => k0_hw4.2.1 k0_h7 r
theorem k0_off16_inb : ∀ (v90 : BitVec 32) (k0_hw4 : k0_chk4 v90), ∀ (k0_h7 : k0_cond7 v90 = 1#1), ∀ (r : Fin 4), ∀ a, (k0_off16 v90 (BitVec.ofNat 32 r.val)) a + S1x1x256x1024.size a ≤ S1x16x256x1024.size a := fun v90 k0_hw4 k0_h7 r => k0_hw4.2.2 k0_h7 r

def k0_off17 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v97 : Index := Scalar.indexCast v1
  let c4 : Index := 4#32
  ![v97.toNat, 4]
def k0_off18 (v98 : BitVec 32) : Fin 4 → Nat :=
  let c0_71 : Index := 0#32
  let c4_i32_70 : BitVec 32 := 4#32
  let v145 : BitVec 32 := Scalar.muli v98 c4_i32_70
  let v146 : Index := Scalar.indexCast v145
  let c0_72 : Index := 0#32
  let c0_73 : Index := 0#32
  ![0, v146.toNat, 0, 0]
def k0_cond9 (v98 : BitVec 32) : BitVec 1 :=
  let c4_i32_43 : BitVec 32 := 4#32
  let v99 : BitVec 1 := Scalar.cmpi .slt v98 c4_i32_43
  let v100 : BitVec 32 := Scalar.extui v99
  let c0_i32_44 : BitVec 32 := 0#32
  let v101 : BitVec 1 := Scalar.cmpi .ne v100 c0_i32_44
  v101

def k0_off19 (v98 : BitVec 32) (c0_i32_80 : BitVec 32) : Fin 4 → Nat :=
  let c0_81 : Index := 0#32
  let c4_i32_70 : BitVec 32 := 4#32
  let v145 : BitVec 32 := Scalar.muli v98 c4_i32_70
  let v155 : BitVec 32 := Scalar.addi v145 c0_i32_80
  let c1_i32 : BitVec 32 := 1#32
  let v156 : BitVec 32 := Scalar.addi v155 c1_i32
  let v157 : Index := Scalar.indexCast v156
  let c0_82 : Index := 0#32
  let c0_83 : Index := 0#32
  ![0, v157.toNat, 0, 0]
def k0_off20 (v98 : BitVec 32) (c0_i32_91 : BitVec 32) : Fin 4 → Nat :=
  let c0_92 : Index := 0#32
  let c4_i32_70 : BitVec 32 := 4#32
  let v145 : BitVec 32 := Scalar.muli v98 c4_i32_70
  let v174 : BitVec 32 := Scalar.addi v145 c0_i32_91
  let v175 : Index := Scalar.indexCast v174
  let c0_93 : Index := 0#32
  let c0_94 : Index := 0#32
  ![0, v175.toNat, 0, 0]

def k0_chk5 (v98 : BitVec 32) : Prop :=
  (∀ (k0_h9 : k0_cond9 v98 = 1#1), ∀ a, (k0_off18 v98) a + S1x1x1024x256.size a ≤ S1x16x1024x256.size a) ∧
  (∀ (k0_h9 : k0_cond9 v98 = 1#1), ∀ (r : Fin 3), ∀ a, (k0_off19 v98 (BitVec.ofNat 32 r.val)) a + S1x1x1024x256.size a ≤ S1x16x1024x256.size a) ∧
  (∀ (k0_h9 : k0_cond9 v98 = 1#1), ∀ (r : Fin 4), ∀ a, (k0_off20 v98 (BitVec.ofNat 32 r.val)) a + S1x1x256x1024.size a ≤ S1x16x256x1024.size a)
theorem k0_off18_inb : ∀ (v98 : BitVec 32) (k0_hw5 : k0_chk5 v98), ∀ (k0_h9 : k0_cond9 v98 = 1#1), ∀ a, (k0_off18 v98) a + S1x1x1024x256.size a ≤ S1x16x1024x256.size a := fun v98 k0_hw5 k0_h9 => k0_hw5.1 k0_h9
theorem k0_off19_inb : ∀ (v98 : BitVec 32) (k0_hw5 : k0_chk5 v98), ∀ (k0_h9 : k0_cond9 v98 = 1#1), ∀ (r : Fin 3), ∀ a, (k0_off19 v98 (BitVec.ofNat 32 r.val)) a + S1x1x1024x256.size a ≤ S1x16x1024x256.size a := fun v98 k0_hw5 k0_h9 r => k0_hw5.2.1 k0_h9 r
theorem k0_off20_inb : ∀ (v98 : BitVec 32) (k0_hw5 : k0_chk5 v98), ∀ (k0_h9 : k0_cond9 v98 = 1#1), ∀ (r : Fin 4), ∀ a, (k0_off20 v98 (BitVec.ofNat 32 r.val)) a + S1x1x256x1024.size a ≤ S1x16x256x1024.size a := fun v98 k0_hw5 k0_h9 r => k0_hw5.2.2 k0_h9 r

def k0_off21 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v105 : Index := Scalar.indexCast v1
  let c5 : Index := 5#32
  ![v105.toNat, 5]
def k0_off22 (v106 : BitVec 32) : Fin 4 → Nat :=
  let c0_71 : Index := 0#32
  let c4_i32_70 : BitVec 32 := 4#32
  let v145 : BitVec 32 := Scalar.muli v106 c4_i32_70
  let v146 : Index := Scalar.indexCast v145
  let c0_72 : Index := 0#32
  let c0_73 : Index := 0#32
  ![0, v146.toNat, 0, 0]
def k0_cond11 (v106 : BitVec 32) : BitVec 1 :=
  let c4_i32_47 : BitVec 32 := 4#32
  let v107 : BitVec 1 := Scalar.cmpi .slt v106 c4_i32_47
  let v108 : BitVec 32 := Scalar.extui v107
  let c0_i32_48 : BitVec 32 := 0#32
  let v109 : BitVec 1 := Scalar.cmpi .ne v108 c0_i32_48
  v109

def k0_off23 (v106 : BitVec 32) (c0_i32_80 : BitVec 32) : Fin 4 → Nat :=
  let c0_81 : Index := 0#32
  let c4_i32_70 : BitVec 32 := 4#32
  let v145 : BitVec 32 := Scalar.muli v106 c4_i32_70
  let v155 : BitVec 32 := Scalar.addi v145 c0_i32_80
  let c1_i32 : BitVec 32 := 1#32
  let v156 : BitVec 32 := Scalar.addi v155 c1_i32
  let v157 : Index := Scalar.indexCast v156
  let c0_82 : Index := 0#32
  let c0_83 : Index := 0#32
  ![0, v157.toNat, 0, 0]
def k0_off24 (v106 : BitVec 32) (c0_i32_91 : BitVec 32) : Fin 4 → Nat :=
  let c0_92 : Index := 0#32
  let c4_i32_70 : BitVec 32 := 4#32
  let v145 : BitVec 32 := Scalar.muli v106 c4_i32_70
  let v174 : BitVec 32 := Scalar.addi v145 c0_i32_91
  let v175 : Index := Scalar.indexCast v174
  let c0_93 : Index := 0#32
  let c0_94 : Index := 0#32
  ![0, v175.toNat, 0, 0]

def k0_chk6 (v106 : BitVec 32) : Prop :=
  (∀ (k0_h11 : k0_cond11 v106 = 1#1), ∀ a, (k0_off22 v106) a + S1x1x1024x256.size a ≤ S1x16x1024x256.size a) ∧
  (∀ (k0_h11 : k0_cond11 v106 = 1#1), ∀ (r : Fin 3), ∀ a, (k0_off23 v106 (BitVec.ofNat 32 r.val)) a + S1x1x1024x256.size a ≤ S1x16x1024x256.size a) ∧
  (∀ (k0_h11 : k0_cond11 v106 = 1#1), ∀ (r : Fin 4), ∀ a, (k0_off24 v106 (BitVec.ofNat 32 r.val)) a + S1x1x256x1024.size a ≤ S1x16x256x1024.size a)
theorem k0_off22_inb : ∀ (v106 : BitVec 32) (k0_hw6 : k0_chk6 v106), ∀ (k0_h11 : k0_cond11 v106 = 1#1), ∀ a, (k0_off22 v106) a + S1x1x1024x256.size a ≤ S1x16x1024x256.size a := fun v106 k0_hw6 k0_h11 => k0_hw6.1 k0_h11
theorem k0_off23_inb : ∀ (v106 : BitVec 32) (k0_hw6 : k0_chk6 v106), ∀ (k0_h11 : k0_cond11 v106 = 1#1), ∀ (r : Fin 3), ∀ a, (k0_off23 v106 (BitVec.ofNat 32 r.val)) a + S1x1x1024x256.size a ≤ S1x16x1024x256.size a := fun v106 k0_hw6 k0_h11 r => k0_hw6.2.1 k0_h11 r
theorem k0_off24_inb : ∀ (v106 : BitVec 32) (k0_hw6 : k0_chk6 v106), ∀ (k0_h11 : k0_cond11 v106 = 1#1), ∀ (r : Fin 4), ∀ a, (k0_off24 v106 (BitVec.ofNat 32 r.val)) a + S1x1x256x1024.size a ≤ S1x16x256x1024.size a := fun v106 k0_hw6 k0_h11 r => k0_hw6.2.2 k0_h11 r

def k0_off25 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v113 : Index := Scalar.indexCast v1
  let c6 : Index := 6#32
  ![v113.toNat, 6]
def k0_off26 (v114 : BitVec 32) : Fin 4 → Nat :=
  let c0_71 : Index := 0#32
  let c4_i32_70 : BitVec 32 := 4#32
  let v145 : BitVec 32 := Scalar.muli v114 c4_i32_70
  let v146 : Index := Scalar.indexCast v145
  let c0_72 : Index := 0#32
  let c0_73 : Index := 0#32
  ![0, v146.toNat, 0, 0]
def k0_cond13 (v114 : BitVec 32) : BitVec 1 :=
  let c4_i32_51 : BitVec 32 := 4#32
  let v115 : BitVec 1 := Scalar.cmpi .slt v114 c4_i32_51
  let v116 : BitVec 32 := Scalar.extui v115
  let c0_i32_52 : BitVec 32 := 0#32
  let v117 : BitVec 1 := Scalar.cmpi .ne v116 c0_i32_52
  v117

def k0_off27 (v114 : BitVec 32) (c0_i32_80 : BitVec 32) : Fin 4 → Nat :=
  let c0_81 : Index := 0#32
  let c4_i32_70 : BitVec 32 := 4#32
  let v145 : BitVec 32 := Scalar.muli v114 c4_i32_70
  let v155 : BitVec 32 := Scalar.addi v145 c0_i32_80
  let c1_i32 : BitVec 32 := 1#32
  let v156 : BitVec 32 := Scalar.addi v155 c1_i32
  let v157 : Index := Scalar.indexCast v156
  let c0_82 : Index := 0#32
  let c0_83 : Index := 0#32
  ![0, v157.toNat, 0, 0]
def k0_off28 (v114 : BitVec 32) (c0_i32_91 : BitVec 32) : Fin 4 → Nat :=
  let c0_92 : Index := 0#32
  let c4_i32_70 : BitVec 32 := 4#32
  let v145 : BitVec 32 := Scalar.muli v114 c4_i32_70
  let v174 : BitVec 32 := Scalar.addi v145 c0_i32_91
  let v175 : Index := Scalar.indexCast v174
  let c0_93 : Index := 0#32
  let c0_94 : Index := 0#32
  ![0, v175.toNat, 0, 0]

def k0_chk7 (v114 : BitVec 32) : Prop :=
  (∀ (k0_h13 : k0_cond13 v114 = 1#1), ∀ a, (k0_off26 v114) a + S1x1x1024x256.size a ≤ S1x16x1024x256.size a) ∧
  (∀ (k0_h13 : k0_cond13 v114 = 1#1), ∀ (r : Fin 3), ∀ a, (k0_off27 v114 (BitVec.ofNat 32 r.val)) a + S1x1x1024x256.size a ≤ S1x16x1024x256.size a) ∧
  (∀ (k0_h13 : k0_cond13 v114 = 1#1), ∀ (r : Fin 4), ∀ a, (k0_off28 v114 (BitVec.ofNat 32 r.val)) a + S1x1x256x1024.size a ≤ S1x16x256x1024.size a)
theorem k0_off26_inb : ∀ (v114 : BitVec 32) (k0_hw7 : k0_chk7 v114), ∀ (k0_h13 : k0_cond13 v114 = 1#1), ∀ a, (k0_off26 v114) a + S1x1x1024x256.size a ≤ S1x16x1024x256.size a := fun v114 k0_hw7 k0_h13 => k0_hw7.1 k0_h13
theorem k0_off27_inb : ∀ (v114 : BitVec 32) (k0_hw7 : k0_chk7 v114), ∀ (k0_h13 : k0_cond13 v114 = 1#1), ∀ (r : Fin 3), ∀ a, (k0_off27 v114 (BitVec.ofNat 32 r.val)) a + S1x1x1024x256.size a ≤ S1x16x1024x256.size a := fun v114 k0_hw7 k0_h13 r => k0_hw7.2.1 k0_h13 r
theorem k0_off28_inb : ∀ (v114 : BitVec 32) (k0_hw7 : k0_chk7 v114), ∀ (k0_h13 : k0_cond13 v114 = 1#1), ∀ (r : Fin 4), ∀ a, (k0_off28 v114 (BitVec.ofNat 32 r.val)) a + S1x1x256x1024.size a ≤ S1x16x256x1024.size a := fun v114 k0_hw7 k0_h13 r => k0_hw7.2.2 k0_h13 r

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x16x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x16x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S4x4096x1024 : Shape := ⟨3, ![4, 4096, 1024]⟩
abbrev S4x1024 : Shape := ⟨2, ![4, 1024]⟩
abbrev S1024 : Shape := ⟨1, ![1024]⟩
abbrev S16384x128 : Shape := ⟨2, ![16384, 128]⟩
abbrev S32x1x512 : Shape := ⟨3, ![32, 1, 512]⟩
abbrev S32x1x128 : Shape := ⟨3, ![32, 1, 128]⟩
abbrev S16x1024x256 : Shape := ⟨3, ![16, 1024, 256]⟩
abbrev S16x256x1024 : Shape := ⟨3, ![16, 256, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S16384x1024 : Shape := ⟨2, ![16384, 1024]⟩
abbrev S32x512 : Shape := ⟨2, ![32, 512]⟩
abbrev S32x1x1 : Shape := ⟨3, ![32, 1, 1]⟩
abbrev S32x1 : Shape := ⟨2, ![32, 1]⟩
abbrev S16384x1x1 : Shape := ⟨3, ![16384, 1, 1]⟩
abbrev S4 : Shape := ⟨1, ![4]⟩
abbrev S1x4x1 : Shape := ⟨3, ![1, 4, 1]⟩
abbrev S16384x4x1 : Shape := ⟨3, ![16384, 4, 1]⟩
abbrev S16384x4 : Shape := ⟨2, ![16384, 4]⟩
abbrev S16384x1x4 : Shape := ⟨3, ![16384, 1, 4]⟩
abbrev S16384x4x4 : Shape := ⟨3, ![16384, 4, 4]⟩
abbrev S16384x16 : Shape := ⟨2, ![16384, 16]⟩
abbrev S16384x16x256 : Shape := ⟨3, ![16384, 16, 256]⟩
abbrev S16x16384x1024 : Shape := ⟨3, ![16, 16384, 1024]⟩

abbrev nBuf : Space → Nat
  | .hbm => 168
  | .vmem => 0
  | .smem => 0
  | _ => 0

abbrev hbmTy0_0 (i : Nat) : BufTy := match i % 128 with
  | 0 => ⟨S4x4096x1024, .f32⟩
  | 1 => ⟨S4x1024, .f32⟩
  | 2 => ⟨S4x1024, .f32⟩
  | 3 => ⟨S4x1024, .f32⟩
  | 4 => ⟨S1024, .f32⟩
  | 5 => ⟨S16384x128, .f32⟩
  | 6 => ⟨S32x1x512, .i32⟩
  | 7 => ⟨S32x1x128, .i32⟩
  | 8 => ⟨S16x1024x256, .f32⟩
  | 9 => ⟨S16x1024x256, .f32⟩
  | 10 => ⟨S16x256x1024, .f32⟩
  | 11 => ⟨S1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S4x1x1024, .f32⟩
  | 29 => ⟨S_, .f32⟩
  | 30 => ⟨S4x1x1024, .f32⟩
  | 31 => ⟨S4x1x1024, .f32⟩
  | 32 => ⟨S4x4096x1024, .f32⟩
  | 33 => ⟨S4x4096x1024, .f32⟩
  | 34 => ⟨S4x1x1024, .f32⟩
  | 35 => ⟨S4x4096x1024, .f32⟩
  | 36 => ⟨S4x4096x1024, .f32⟩
  | 37 => ⟨S16384x1024, .f32⟩
  | 38 => ⟨S32x512, .i32⟩
  | 39 => ⟨S_, .i32⟩
  | 40 => ⟨S32x512, .i32⟩
  | 41 => ⟨S_, .i32⟩
  | 42 => ⟨S32x512, .i32⟩
  | 43 => ⟨S32x512, .i1⟩
  | 44 => ⟨S_, .i32⟩
  | 45 => ⟨S32x512, .i32⟩
  | 46 => ⟨S32x512, .i1⟩
  | 47 => ⟨S32x512, .i1⟩
  | 48 => ⟨S32x1x1, .i32⟩
  | 49 => ⟨S32x1, .i32⟩
  | 50 => ⟨S32x512, .i32⟩
  | 51 => ⟨S32x512, .i32⟩
  | 52 => ⟨S_, .i32⟩
  | 53 => ⟨S32x512, .i32⟩
  | 54 => ⟨S32x512, .i1⟩
  | 55 => ⟨S_, .i32⟩
  | 56 => ⟨S32x512, .i32⟩
  | 57 => ⟨S32x512, .i1⟩
  | 58 => ⟨S32x512, .i1⟩
  | 59 => ⟨S32x1x1, .i32⟩
  | 60 => ⟨S32x1, .i32⟩
  | 61 => ⟨S32x512, .i32⟩
  | 62 => ⟨S32x512, .i32⟩
  | 63 => ⟨S_, .i32⟩
  | 64 => ⟨S32x512, .i32⟩
  | 65 => ⟨S32x512, .i1⟩
  | 66 => ⟨S_, .i32⟩
  | 67 => ⟨S32x512, .i32⟩
  | 68 => ⟨S32x512, .i1⟩
  | 69 => ⟨S32x512, .i1⟩
  | 70 => ⟨S32x1x1, .i32⟩
  | 71 => ⟨S32x1, .i32⟩
  | 72 => ⟨S32x512, .i32⟩
  | 73 => ⟨S32x512, .i32⟩
  | 74 => ⟨S_, .i32⟩
  | 75 => ⟨S32x512, .i32⟩
  | 76 => ⟨S32x512, .i1⟩
  | 77 => ⟨S_, .i32⟩
  | 78 => ⟨S32x512, .i32⟩
  | 79 => ⟨S32x512, .i1⟩
  | 80 => ⟨S32x512, .i1⟩
  | 81 => ⟨S32x1x1, .i32⟩
  | 82 => ⟨S32x1, .i32⟩
  | 83 => ⟨S32x512, .i32⟩
  | 84 => ⟨S32x512, .i32⟩
  | 85 => ⟨S_, .i32⟩
  | 86 => ⟨S32x512, .i32⟩
  | 87 => ⟨S32x512, .i1⟩
  | 88 => ⟨S_, .i32⟩
  | 89 => ⟨S32x512, .i32⟩
  | 90 => ⟨S32x512, .i1⟩
  | 91 => ⟨S32x512, .i1⟩
  | 92 => ⟨S32x1x1, .i32⟩
  | 93 => ⟨S32x1, .i32⟩
  | 94 => ⟨S32x512, .i32⟩
  | 95 => ⟨S32x512, .i32⟩
  | 96 => ⟨S_, .i32⟩
  | 97 => ⟨S32x512, .i32⟩
  | 98 => ⟨S32x512, .i1⟩
  | 99 => ⟨S_, .i32⟩
  | 100 => ⟨S32x512, .i32⟩
  | 101 => ⟨S32x512, .i1⟩
  | 102 => ⟨S32x512, .i1⟩
  | 103 => ⟨S32x1x1, .i32⟩
  | 104 => ⟨S32x1, .i32⟩
  | 105 => ⟨S32x512, .i32⟩
  | 106 => ⟨S32x512, .i32⟩
  | 107 => ⟨S_, .i32⟩
  | 108 => ⟨S32x512, .i32⟩
  | 109 => ⟨S32x512, .i1⟩
  | 110 => ⟨S_, .i32⟩
  | 111 => ⟨S32x512, .i32⟩
  | 112 => ⟨S32x512, .i1⟩
  | 113 => ⟨S32x512, .i1⟩
  | 114 => ⟨S32x1x1, .i32⟩
  | 115 => ⟨S32x1, .i32⟩
  | 116 => ⟨S32x512, .i32⟩
  | 117 => ⟨S32x512, .i32⟩
  | 118 => ⟨S16384x1x1, .i32⟩
  | 119 => ⟨S4, .i32⟩
  | 120 => ⟨S1x4x1, .i32⟩
  | 121 => ⟨S16384x4x1, .i32⟩
  | 122 => ⟨S16384x4x1, .i32⟩
  | 123 => ⟨S16384x4x1, .i1⟩
  | 124 => ⟨S16384x4, .f32⟩
  | 125 => ⟨S16384x1x4, .f32⟩
  | 126 => ⟨S_, .f32⟩
  | 127 => ⟨S_, .f32⟩
  | _ => ⟨S4x4096x1024, .f32⟩

abbrev hbmTy0_1 (i : Nat) : BufTy := match i % 128 with
  | 0 => ⟨S16384x4x4, .i1⟩
  | 1 => ⟨S16384x4x4, .f32⟩
  | 2 => ⟨S16384x4x4, .f32⟩
  | 3 => ⟨S16384x4x4, .f32⟩
  | 4 => ⟨S16384x16, .f32⟩
  | 5 => ⟨S16384x16x256, .f32⟩
  | 6 => ⟨S16384x16x256, .f32⟩
  | 7 => ⟨S16384x16x256, .f32⟩
  | 8 => ⟨S_, .f32⟩
  | 9 => ⟨S16384x16x256, .f32⟩
  | 10 => ⟨S16384x16x256, .f32⟩
  | 11 => ⟨S_, .f32⟩
  | 12 => ⟨S16384x16x256, .f32⟩
  | 13 => ⟨S16384x16x256, .f32⟩
  | 14 => ⟨S16384x16x256, .f32⟩
  | 15 => ⟨S16384x16x256, .f32⟩
  | 16 => ⟨S16384x16x256, .f32⟩
  | 17 => ⟨S16x16384x1024, .f32⟩
  | 18 => ⟨S16384x1024, .f32⟩
  | 19 => ⟨S4x1x1024, .f32⟩
  | 20 => ⟨S4x4096x1024, .f32⟩
  | 21 => ⟨S4x4096x1024, .f32⟩
  | 22 => ⟨S4x4096x1024, .f32⟩
  | 23 => ⟨S4x4096x1024, .f32⟩
  | 24 => ⟨S4x4096x1024, .f32⟩
  | 25 => ⟨S_, .f32⟩
  | 26 => ⟨S4x4096, .f32⟩
  | 27 => ⟨S4x4096x1, .f32⟩
  | 28 => ⟨S_, .f32⟩
  | 29 => ⟨S4x4096x1, .f32⟩
  | 30 => ⟨S4x4096x1, .f32⟩
  | 31 => ⟨S_, .f32⟩
  | 32 => ⟨S4x4096x1, .f32⟩
  | 33 => ⟨S4x4096x1, .f32⟩
  | 34 => ⟨S4x4096x1, .f32⟩
  | 35 => ⟨S4x4096x1024, .f32⟩
  | 36 => ⟨S4x4096x1024, .f32⟩
  | 37 => ⟨S1x1x1024, .f32⟩
  | 38 => ⟨S4x4096x1024, .f32⟩
  | 39 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_v0 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call2_v0 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call3_v0 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call4_v0 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call5_v0 : Ref sig .tc := ⟨.hbm, 105, rfl⟩
abbrev main_v71 : Ref sig .tc := ⟨.hbm, 106, rfl⟩
abbrev main_c_15 : Ref sig .tc := ⟨.hbm, 107, rfl⟩
abbrev main_v72 : Ref sig .tc := ⟨.hbm, 108, rfl⟩
abbrev main_v73 : Ref sig .tc := ⟨.hbm, 109, rfl⟩
abbrev main_c_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_call6_v0 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_17 : Ref sig .tc := ⟨.hbm, 126, rfl⟩
abbrev main_call7_v0 : Ref sig .tc := ⟨.hbm, 127, rfl⟩
abbrev main_call7_v1 : Ref sig .tc := ⟨.hbm, 128, rfl⟩
abbrev main_call7_v2 : Ref sig .tc := ⟨.hbm, 129, rfl⟩
abbrev main_call7_v3 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call8_v0 : Ref sig .tc := ⟨.hbm, 134, rfl⟩
abbrev main_call8_v1 : Ref sig .tc := ⟨.hbm, 135, rfl⟩
abbrev main_call8_cst : Ref sig .tc := ⟨.hbm, 136, rfl⟩
abbrev main_call8_v2 : Ref sig .tc := ⟨.hbm, 137, rfl⟩
abbrev main_call8_v3 : Ref sig .tc := ⟨.hbm, 138, rfl⟩
abbrev main_call8_cst_0 : Ref sig .tc := ⟨.hbm, 139, rfl⟩
abbrev main_call8_v4 : Ref sig .tc := ⟨.hbm, 140, rfl⟩
abbrev main_call8_v5 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_18 : Ref sig .tc := ⟨.hbm, 153, rfl⟩
abbrev main_v102 : Ref sig .tc := ⟨.hbm, 154, rfl⟩
abbrev main_v103 : Ref sig .tc := ⟨.hbm, 155, rfl⟩
abbrev main_cst_19 : Ref sig .tc := ⟨.hbm, 156, rfl⟩
abbrev main_v104 : Ref sig .tc := ⟨.hbm, 157, rfl⟩
abbrev main_v105 : Ref sig .tc := ⟨.hbm, 158, rfl⟩
abbrev main_cst_20 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x384 : Shape := ⟨3, ![4, 4096, 384]⟩
abbrev S4x256x384 : Shape := ⟨3, ![4, 256, 384]⟩
abbrev S4x4096x256 : Shape := ⟨3, ![4, 4096, 256]⟩
abbrev S4x1024 : Shape := ⟨2, ![4, 1024]⟩
abbrev S1024x1024 : Shape := ⟨2, ![1024, 1024]⟩
abbrev S_ : Shape := ⟨0, ![]⟩
abbrev S4x6144 : Shape := ⟨2, ![4, 6144]⟩
abbrev S4x1x6144 : Shape := ⟨3, ![4, 1, 6144]⟩
abbrev S4x4352x384 : Shape := ⟨3, ![4, 4352, 384]⟩
abbrev S1x1024x1024 : Shape := ⟨3, ![1, 1024, 1024]⟩
abbrev S1x512x1024 : Shape := ⟨3, ![1, 512, 1024]⟩
abbrev S1x512x384 : Shape := ⟨3, ![1, 512, 384]⟩
abbrev S1x512x256 : Shape := ⟨3, ![1, 512, 256]⟩
abbrev S1x1x1024 : Shape := ⟨3, ![1, 1, 1024]⟩
abbrev S1x384x1024 : Shape := ⟨3, ![1, 384, 1024]⟩
abbrev S1x256x1024 : Shape := ⟨3, ![1, 256, 1024]⟩
abbrev S512x384 : Shape := ⟨2, ![512, 384]⟩
abbrev S384x1024 : Shape := ⟨2, ![384, 1024]⟩
abbrev S512x1024 : Shape := ⟨2, ![512, 1024]⟩
abbrev S512x256 : Shape := ⟨2, ![512, 256]⟩
abbrev S256x1024 : Shape := ⟨2, ![256, 1024]⟩
abbrev S1x1024 : Shape := ⟨2, ![1, 1024]⟩

abbrev nBuf : Space → Nat
  | .hbm => 17
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x384, .f32⟩
  | .hbm, ⟨2, _⟩ => ⟨S4x4096x384, .f32⟩
  | .hbm, ⟨3, _⟩ => ⟨S4x256x384, .f32⟩
  | .hbm, ⟨4, _⟩ => ⟨S4x4096x256, .f32⟩
  | .hbm, ⟨5, _⟩ => ⟨S4x1024, .f32⟩
  | .hbm, ⟨6, _⟩ => ⟨S1024x1024, .f32⟩
  | .hbm, ⟨7, _⟩ => ⟨S_, .f32⟩
  | .hbm, ⟨8, _⟩ => ⟨S4x1024, .f32⟩
  | .hbm, ⟨9, _⟩ => ⟨S4x6144, .f32⟩
  | .hbm, ⟨10, _⟩ => ⟨S4x1x6144, .f32⟩
  | .hbm, ⟨11, _⟩ => ⟨S4x4096x384, .bf16⟩
  | .hbm, ⟨12, _⟩ => ⟨S4x4352x384, .f32⟩
  | .hbm, ⟨13, _⟩ => ⟨S4x4352x384, .bf16⟩
  | .hbm, ⟨14, _⟩ => ⟨S1024x1024, .bf16⟩
  | .hbm, ⟨15, _⟩ => ⟨S1x1024x1024, .bf16⟩
  | .hbm, ⟨16, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x384, .bf16⟩
  | .local _ .vmem, ⟨3, _⟩ => ⟨S1x512x384, .bf16⟩
  | .local _ .vmem, ⟨4, _⟩ => ⟨S1x512x384, .bf16⟩
  | .local _ .vmem, ⟨5, _⟩ => ⟨S1x512x384, .bf16⟩
  | .local _ .vmem, ⟨6, _⟩ => ⟨S1x512x256, .f32⟩
  | .local _ .vmem, ⟨7, _⟩ => ⟨S1x512x256, .f32⟩
  | .local _ .vmem, ⟨8, _⟩ => ⟨S1x1x1024, .f32⟩
  | .local _ .vmem, ⟨9, _⟩ => ⟨S1x1x1024, .f32⟩
  | .local _ .vmem, ⟨10, _⟩ => ⟨S1x384x1024, .bf16⟩
  | .local _ .vmem, ⟨11, _⟩ => ⟨S1x384x1024, .bf16⟩
  | .local _ .vmem, ⟨12, _⟩ => ⟨S1x256x1024, .bf16⟩
  | .local _ .vmem, ⟨13, _⟩ => ⟨S1x512x1024, .f32⟩
  | .local _ .vmem, ⟨14, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg1.toNat, c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S4x4096x1024 : Shape := ⟨3, ![4, 4096, 1024]⟩
abbrev S4x4096x384 : Shape := ⟨3, ![4, 4096, 384]⟩
abbrev S4x256x384 : Shape := ⟨3, ![4, 256, 384]⟩
abbrev S4x4096x256 : Shape := ⟨3, ![4, 4096, 256]⟩
abbrev S4x1024 : Shape := ⟨2, ![4, 1024]⟩
abbrev S1024x1024 : Shape := ⟨2, ![1024, 1024]⟩
abbrev S4x1x1024 : Shape := ⟨3, ![4, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x384, .f32⟩
  | .hbm, ⟨2, _⟩ => ⟨S4x4096x384, .f32⟩
  | .hbm, ⟨3, _⟩ => ⟨S4x256x384, .f32⟩
  | .hbm, ⟨4, _⟩ => ⟨S4x4096x256, .f32⟩
  | .hbm, ⟨5, _⟩ => ⟨S4x1024, .f32⟩
  | .hbm, ⟨6, _⟩ => ⟨S1024x1024, .f32⟩
  | .hbm, ⟨7, _⟩ => ⟨S4x4096x1024, .f32⟩
  | .hbm, ⟨8, _⟩ => ⟨S4x4096x1024, .f32⟩
  | .hbm, ⟨9, _⟩ => ⟨S4x1x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x256x1024 : Shape := ⟨3, ![4, 256, 1024]⟩
abbrev S4x1024 : Shape := ⟨2, ![4, 1024]⟩
abbrev S1024 : Shape := ⟨1, ![1024]⟩
abbrev S1024x2444 : Shape := ⟨2, ![1024, 2444]⟩
abbrev S64 : Shape := ⟨1, ![64]⟩
abbrev S3x640 : Shape := ⟨2, ![3, 640]⟩
abbrev S640 : Shape := ⟨1, ![640]⟩
abbrev S3x768 : Shape := ⟨2, ![3, 768]⟩
abbrev S768 : Shape := ⟨1, ![768]⟩
abbrev S_ : Shape := ⟨0, ![]⟩
abbrev S3x1024 : Shape := ⟨2, ![3, 1024]⟩
abbrev S1x1024 : Shape := ⟨2, ![1, 1024]⟩
abbrev S8x1024 : Shape := ⟨2, ![8, 1024]⟩
abbrev S8x4096 : Shape := ⟨2, ![8, 4096]⟩
abbrev S8x6144 : Shape := ⟨2, ![8, 6144]⟩
abbrev S8x1x6144 : Shape := ⟨3, ![8, 1, 6144]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S256x32 : Shape := ⟨2, ![256, 32]⟩
abbrev S4352x32 : Shape := ⟨2, ![4352, 32]⟩
abbrev S4352x384 : Shape := ⟨2, ![4352, 384]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S1x1024x2444 : Shape := ⟨3, ![1, 1024, 2444]⟩
abbrev S6x64 : Shape := ⟨2, ![6, 64]⟩
abbrev S2x64 : Shape := ⟨2, ![2, 64]⟩
abbrev S128 : Shape := ⟨1, ![128]⟩
abbrev S1x128 : Shape := ⟨2, ![1, 128]⟩
abbrev S3x1408 : Shape := ⟨2, ![3, 1408]⟩
abbrev S1408 : Shape := ⟨1, ![1408]⟩
abbrev S1x1408 : Shape := ⟨2, ![1, 1408]⟩
abbrev S4x384x4352 : Shape := ⟨3, ![4, 384, 4352]⟩
abbrev S4x4352x128 : Shape := ⟨3, ![4, 4352, 128]⟩
abbrev S4x128x4352 : Shape := ⟨3, ![4, 128, 4352]⟩
abbrev S4x4352x384 : Shape := ⟨3, ![4, 4352, 384]⟩
abbrev S4x4352x640 : Shape := ⟨3, ![4, 4352, 640]⟩
abbrev S4x4352x768 : Shape := ⟨3, ![4, 4352, 768]⟩
abbrev S1x256x1024 : Shape := ⟨3, ![1, 256, 1024]⟩
abbrev S1x8x1024 : Shape := ⟨3, ![1, 8, 1024]⟩
abbrev S1x1x1024 : Shape := ⟨3, ![1, 1, 1024]⟩
abbrev S256x384 : Shape := ⟨2, ![256, 384]⟩
abbrev S1x384x256 : Shape := ⟨3, ![1, 384, 256]⟩
abbrev S1x256x128 : Shape := ⟨3, ![1, 256, 128]⟩
abbrev S1x128x256 : Shape := ⟨3, ![1, 128, 256]⟩
abbrev S1x256x384 : Shape := ⟨3, ![1, 256, 384]⟩
abbrev S1x256x640 : Shape := ⟨3, ![1, 256, 640]⟩
abbrev S1x256x768 : Shape := ⟨3, ![1, 256, 768]⟩
abbrev S1024x2560 : Shape := ⟨2, ![1024, 2560]⟩
abbrev S1x1024x640 : Shape := ⟨3, ![1, 1024, 640]⟩
abbrev S1024x640 : Shape := ⟨2, ![1024, 640]⟩
abbrev S1x1024x780 : Shape := ⟨3, ![1, 1024, 780]⟩
abbrev S1024x780 : Shape := ⟨2, ![1024, 780]⟩
abbrev S1024x768 : Shape := ⟨2, ![1024, 768]⟩
abbrev S1x1024x384 : Shape := ⟨3, ![1, 1024, 384]⟩
abbrev S1024x384 : Shape := ⟨2, ![1024, 384]⟩
abbrev S1024x128 : Shape := ⟨2, ![1024, 128]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S272x640 : Shape := ⟨2, ![272, 640]⟩
abbrev S272x768 : Shape := ⟨2, ![272, 768]⟩
abbrev S256x640 : Shape := ⟨2, ![256, 640]⟩
abbrev S256x128 : Shape := ⟨2, ![256, 128]⟩
abbrev S128x128 : Shape := ⟨2, ![128, 128]⟩
abbrev S1024x512 : Shape := ⟨2, ![1024, 512]⟩
abbrev S256x512 : Shape := ⟨2, ![256, 512]⟩
abbrev S384x256 : Shape := ⟨2, ![384, 256]⟩
abbrev S128x256 : Shape := ⟨2, ![128, 256]⟩
abbrev S8x640 : Shape := ⟨2, ![8, 640]⟩
abbrev S1x640 : Shape := ⟨2, ![1, 640]⟩
abbrev S8x768 : Shape := ⟨2, ![8, 768]⟩
abbrev S256x768 : Shape := ⟨2, ![256, 768]⟩
abbrev S1x768 : Shape := ⟨2, ![1, 768]⟩

abbrev nBuf : Space → Nat
  | .hbm => 124
  | .vmem => 38
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x1024, .f32⟩
  | .hbm, ⟨3, _⟩ => ⟨S4x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x2444, .f32⟩
  | .hbm, ⟨8, _⟩ => ⟨S64, .f32⟩
  | .hbm, ⟨9, _⟩ => ⟨S64, .f32⟩
  | .hbm, ⟨10, _⟩ => ⟨S3x640, .f32⟩
  | .hbm, ⟨11, _⟩ => ⟨S640, .f32⟩
  | .hbm, ⟨12, _⟩ => ⟨S3x768, .f32⟩
  | .hbm, ⟨13, _⟩ => ⟨S768, .f32⟩
  | .hbm, ⟨14, _⟩ => ⟨S_, .f32⟩
  | .hbm, ⟨15, _⟩ => ⟨S3x1024, .f32⟩
  | .hbm, ⟨16, _⟩ => ⟨S1x1024, .f32⟩
  | .hbm, ⟨17, _⟩ => ⟨S8x1024, .f32⟩
  | .hbm, ⟨18, _⟩ => ⟨S1x1024, .f32⟩
  | .hbm, ⟨19, _⟩ => ⟨S8x1024, .f32⟩
  | .hbm, ⟨20, _⟩ => ⟨S_, .f32⟩
  | .hbm, ⟨21, _⟩ => ⟨S8x4096, .f32⟩
  | .hbm, ⟨22, _⟩ => ⟨S8x6144, .f32⟩
  | .hbm, ⟨23, _⟩ => ⟨S8x1x6144, .f32⟩
  | .hbm, ⟨24, _⟩ => ⟨S64, .i32⟩
  | .hbm, ⟨25, _⟩ => ⟨S64x1, .i32⟩
  | .hbm, ⟨26, _⟩ => ⟨S64x64, .i32⟩
  | .hbm, ⟨27, _⟩ => ⟨S4096, .i32⟩
  | .hbm, ⟨28, _⟩ => ⟨S4096, .f32⟩
  | .hbm, ⟨29, _⟩ => ⟨S64, .i32⟩
  | .hbm, ⟨30, _⟩ => ⟨S1x64, .i32⟩
  | .hbm, ⟨31, _⟩ => ⟨S64x64, .i32⟩
  | .hbm, ⟨32, _⟩ => ⟨S4096, .i32⟩
  | .hbm, ⟨33, _⟩ => ⟨S4096, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S4096x1, .f32⟩
  | .hbm, ⟨49, _⟩ => ⟨S1x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x1, .f32⟩
  | .hbm, ⟨54, _⟩ => ⟨S1x16, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S4096x32, .f32⟩
  | .hbm, ⟨59, _⟩ => ⟨S4096x32, .f32⟩
  | .hbm, ⟨60, _⟩ => ⟨S4096x32, .f32⟩
  | .hbm, ⟨61, _⟩ => ⟨S_, .f32⟩
  | .hbm, ⟨62, _⟩ => ⟨S256x32, .f32⟩
  | .hbm, ⟨63, _⟩ => ⟨S4352x32, .f32⟩
  | .hbm, ⟨64, _⟩ => ⟨S_, .f32⟩
  | .hbm, ⟨65, _⟩ => ⟨S256x32, .f32⟩
  | .hbm, ⟨66, _⟩ => ⟨S4352x32, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S4352x384, .f32⟩
  | .hbm, ⟨72, _⟩ => ⟨S4352x384, .f32⟩
  | .hbm, ⟨73, _⟩ => ⟨S4352x384, .f32⟩
  | .hbm, ⟨74, _⟩ => ⟨S4352x32, .f32⟩
  | .hbm, ⟨75, _⟩ => ⟨S4352x384, .f32⟩
  | .hbm, ⟨76, _⟩ => ⟨S4352x384, .f32⟩
  | .hbm, ⟨77, _⟩ => ⟨S4352x384, .f32⟩
  | .hbm, ⟨78, _⟩ => ⟨S384, .i32⟩
  | .hbm, ⟨79, _⟩ => ⟨S_, .i32⟩
  | .hbm, ⟨80, _⟩ => ⟨S_, .i32⟩
  | .hbm, ⟨81, _⟩ => ⟨S384, .i32⟩
  | .hbm, ⟨82, _⟩ => ⟨S384, .i32⟩
  | .hbm, ⟨83, _⟩ => ⟨S384, .i32⟩
  | .hbm, ⟨84, _⟩ => ⟨S_, .i32⟩
  | .hbm, ⟨85, _⟩ => ⟨S384, .i32⟩
  | .hbm, ⟨86, _⟩ => ⟨S384, .i1⟩
  | .hbm, ⟨87, _⟩ => ⟨S384, .i32⟩
  | .hbm, ⟨88, _⟩ => ⟨S384, .i32⟩
  | .hbm, ⟨89, _⟩ => ⟨S_, .i32⟩
  | .hbm, ⟨90, _⟩ => ⟨S384, .i32⟩
  | .hbm, ⟨91, _⟩ => ⟨S384, .i1⟩
  | .hbm, ⟨92, _⟩ => ⟨S384, .i1⟩
  | .hbm, ⟨93, _⟩ => ⟨S_, .i32⟩
  | .hbm, ⟨94, _⟩ => ⟨S384, .i32⟩
  | .hbm, ⟨95, _⟩ => ⟨S384, .i32⟩
  | .hbm, ⟨96, _⟩ => ⟨S384, .i32⟩
  | .hbm, ⟨97, _⟩ => ⟨S384x1, .i32⟩
  | .hbm, ⟨98, _⟩ => ⟨S1x384, .i32⟩
  | .hbm, ⟨99, _⟩ => ⟨S384x384, .i32⟩
  | .hbm, ⟨100, _⟩ => ⟨S384x384, .i32⟩
  | .hbm, ⟨101, _⟩ => ⟨S384x384, .i1⟩
  | .hbm, ⟨102, _⟩ => ⟨S384x384, .f32⟩
  | .hbm, ⟨103, _⟩ => ⟨S384x384, .bf16⟩
  | .hbm, ⟨104, _⟩ => ⟨S1x1024, .f32⟩
  | .hbm, ⟨105, _⟩ => ⟨S1x1024x2444, .f32⟩
  | .hbm, ⟨106, _⟩ => ⟨S1x64, .f32⟩
  | .hbm, ⟨107, _⟩ => ⟨S6x64, .f32⟩
  | .hbm, ⟨108, _⟩ => ⟨S384, .f32⟩
  | .hbm, ⟨109, _⟩ => ⟨S1x384, .f32⟩
  | .hbm, ⟨110, _⟩ => ⟨S1x64, .f32⟩
  | .hbm, ⟨111, _⟩ => ⟨S2x64, .f32⟩
  | .hbm, ⟨112, _⟩ => ⟨S128, .f32⟩
  | .hbm, ⟨113, _⟩ => ⟨S1x128, .f32⟩
  | .hbm, ⟨114, _⟩ => ⟨S3x1408, .f32⟩
  | .hbm, ⟨115, _⟩ => ⟨S1408, .f32⟩
  | .hbm, ⟨116, _⟩ => ⟨S1x1408, .f32⟩
  | .hbm, ⟨117, _⟩ => ⟨S4x384x4352, .bf16⟩
  | .hbm, ⟨118, _⟩ => ⟨S4x4352x128, .bf16⟩
  | .hbm, ⟨119, _⟩ => ⟨S4x128x4352, .bf16⟩
  | .hbm, ⟨120, _⟩ => ⟨S4x4352x384, .f32⟩
  | .hbm, ⟨121, _⟩ => ⟨S4x4352x640, .f32⟩
  | .hbm, ⟨122, _⟩ => ⟨S4x4352x128, .f32⟩
  | .hbm, ⟨123, _⟩ => ⟨S4x4352x768, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024x2444, .f32⟩
  | .local _ .vmem, ⟨14, _⟩ => ⟨S1x384, .f32⟩
  | .local _ .vmem, ⟨15, _⟩ => ⟨S1x128, .f32⟩
  | .local _ .vmem, ⟨16, _⟩ => ⟨S256x384, .f32⟩
  | .local _ .vmem, ⟨17, _⟩ => ⟨S256x384, .f32⟩
  | .local _ .vmem, ⟨18, _⟩ => ⟨S256x384, .f32⟩
  | .local _ .vmem, ⟨19, _⟩ => ⟨S256x384, .f32⟩
  | .local _ .vmem, ⟨20, _⟩ => ⟨S384x384, .bf16⟩
  | .local _ .vmem, ⟨21, _⟩ => ⟨S3x1408, .f32⟩
  | .local _ .vmem, ⟨22, _⟩ => ⟨S1x1408, .f32⟩
  | .local _ .vmem, ⟨23, _⟩ => ⟨S1x384x256, .bf16⟩
  | .local _ .vmem, ⟨24, _⟩ => ⟨S1x384x256, .bf16⟩
  | .local _ .vmem, ⟨25, _⟩ => ⟨S1x256x128, .bf16⟩
  | .local _ .vmem, ⟨26, _⟩ => ⟨S1x256x128, .bf16⟩
  | .local _ .vmem, ⟨27, _⟩ => ⟨S1x128x256, .bf16⟩
  | .local _ .vmem, ⟨28, _⟩ => ⟨S1x128x256, .bf16⟩
  | .local _ .vmem, ⟨29, _⟩ => ⟨S1x256x384, .f32⟩
  | .local _ .vmem, ⟨30, _⟩ => ⟨S1x256x384, .f32⟩
  | .local _ .vmem, ⟨31, _⟩ => ⟨S1x256x640, .f32⟩
  | .local _ .vmem, ⟨32, _⟩ => ⟨S1x256x640, .f32⟩
  | .local _ .vmem, ⟨33, _⟩ => ⟨S1x256x128, .f32⟩
  | .local _ .vmem, ⟨34, _⟩ => ⟨S1x256x128, .f32⟩
  | .local _ .vmem, ⟨35, _⟩ => ⟨S1x256x768, .f32⟩
  | .local _ .vmem, ⟨36, _⟩ => ⟨S1x256x768, .f32⟩
  | .local _ .vmem, ⟨37, _⟩ => ⟨S1024x2560, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_c : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_c_0 : Ref sig .tc := ⟨.hbm, 93, rfl⟩
abbrev main_call0_v12 : Ref sig .tc := ⟨.hbm, 94, rfl⟩
abbrev main_call0_v13 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76_0 : Ref sig .tc := ⟨.hbm, 117, rfl⟩
abbrev main_v76_1 : Ref sig .tc := ⟨.hbm, 118, rfl⟩
abbrev main_v76_2 : Ref sig .tc := ⟨.hbm, 119, rfl⟩
abbrev main_v76_3 : Ref sig .tc := ⟨.hbm, 120, rfl⟩
abbrev main_v76_4 : Ref sig .tc := ⟨.hbm, 121, rfl⟩
abbrev main_v76_5 : Ref sig .tc := ⟨.hbm, 122, rfl⟩
abbrev main_v76_6 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨2, ![17, 4], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![arg1.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg0 c16_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg1.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c1_i32 : BitVec 32 := 1#32
  let v1 : BitVec 32 := Scalar.addi v0 c1_i32
  let c32_i32 : BitVec 32 := 32#32
  let v2 : BitVec 32 := Scalar.muli v1 c32_i32
  let c511_i32 : BitVec 32 := 511#32
  let v3 : BitVec 32 := Scalar.minsi v2 c511_i32
  let c0_i32 : BitVec 32 := 0#32
  let c0_i32_0 : BitVec 32 := 0#32
  ![arg1.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg0 c16_i32
  let c4_i32 : BitVec 32 := 4#32
  let v1 : BitVec 32 := Scalar.select v0 c4_i32 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg0 c16_i32
  let c4_i32 : BitVec 32 := 4#32
  let v1 : BitVec 32 := Scalar.select v0 c4_i32 arg1
  let c0_i32 : BitVec 32 := 0#32
  let c1_i32 : BitVec 32 := 1#32
  let c0_i32_0 : BitVec 32 := 0#32
  ![v1.toNat, c0_i32.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x2444 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S384x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x1408 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1408 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x384x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x640 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x768 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference4Ideal.lean ====
abbrev S4x4096x1024 : Shape := ⟨3, ![4, 4096, 1024]⟩
abbrev S4x256x1024 : Shape := ⟨3, ![4, 256, 1024]⟩
abbrev S4x1024 : Shape := ⟨2, ![4, 1024]⟩
abbrev S1024 : Shape := ⟨1, ![1024]⟩
abbrev S1024x2444 : Shape := ⟨2, ![1024, 2444]⟩
abbrev S64 : Shape := ⟨1, ![64]⟩
abbrev S3x640 : Shape := ⟨2, ![3, 640]⟩
abbrev S640 : Shape := ⟨1, ![640]⟩
abbrev S3x768 : Shape := ⟨2, ![3, 768]⟩
abbrev S768 : Shape := ⟨1, ![768]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x256 : Shape := ⟨2, ![4, 256]⟩
abbrev S4x256x1 : Shape := ⟨3, ![4, 256, 1]⟩
abbrev S1x1024 : Shape := ⟨2, ![1, 1024]⟩
abbrev S4x4096x2444 : Shape := ⟨3, ![4, 4096, 2444]⟩
abbrev S4x4096x384 : Shape := ⟨3, ![4, 4096, 384]⟩
abbrev S4x4096x128 : Shape := ⟨3, ![4, 4096, 128]⟩
abbrev S4x4096x640 : Shape := ⟨3, ![4, 4096, 640]⟩
abbrev S4x4096x12 : Shape := ⟨3, ![4, 4096, 12]⟩
abbrev S4x4096x768 : Shape := ⟨3, ![4, 4096, 768]⟩
abbrev S4x256x2444 : Shape := ⟨3, ![4, 256, 2444]⟩
abbrev S4x256x384 : Shape := ⟨3, ![4, 256, 384]⟩
abbrev S4x256x128 : Shape := ⟨3, ![4, 256, 128]⟩
abbrev S4x256x640 : Shape := ⟨3, ![4, 256, 640]⟩
abbrev S4x256x12 : Shape := ⟨3, ![4, 256, 12]⟩
abbrev S4x256x768 : Shape := ⟨3, ![4, 256, 768]⟩
abbrev S4x4352x128 : Shape := ⟨3, ![4, 4352, 128]⟩
abbrev S4x128x4352 : Shape := ⟨3, ![4, 128, 4352]⟩
abbrev S4x4352x384 : Shape := ⟨3, ![4, 4352, 384]⟩
abbrev S4x4352x12 : Shape := ⟨3, ![4, 4352, 12]⟩
abbrev S4x4098x768 : Shape := ⟨3, ![4, 4098, 768]⟩
abbrev S1x768 : Shape := ⟨2, ![1, 768]⟩
abbrev S1x1x768 : Shape := ⟨3, ![1, 1, 768]⟩
abbrev S4x258x768 : Shape := ⟨3, ![4, 258, 768]⟩
abbrev S4x4352x768 : Shape := ⟨3, ![4, 4352, 768]⟩
abbrev S4x4098x640 : Shape := ⟨3, ![4, 4098, 640]⟩
abbrev S1x640 : Shape := ⟨2, ![1, 640]⟩
abbrev S1x1x640 : Shape := ⟨3, ![1, 1, 640]⟩
abbrev S4x258x640 : Shape := ⟨3, ![4, 258, 640]⟩
abbrev S4x4352x640 : Shape := ⟨3, ![4, 4352, 640]⟩

abbrev nBuf : Space → Nat
  | .hbm => 210
  | .vmem => 0
  | .smem => 0
  | _ => 0

abbrev hbmTy0_0 (i : Nat) : BufTy := match i % 128 with
  | 0 => ⟨S4x4096x1024, .f32⟩
  | 1 => ⟨S4x256x1024, .f32⟩
  | 2 => ⟨S4x1024, .f32⟩
  | 3 => ⟨S4x1024, .f32⟩
  | 4 => ⟨S1024, .f32⟩
  | 5 => ⟨S1024, .f32⟩
  | 6 => ⟨S1024, .f32⟩
  | 7 => ⟨S1024x2444, .f32⟩
  | 8 => ⟨S64, .f32⟩
  | 9 => ⟨S64, .f32⟩
  | 10 => ⟨S3x640, .f32⟩
  | 11 => ⟨S640, .f32⟩
  | 12 => ⟨S3x768, .f32⟩
  | 13 => ⟨S768, .f32⟩
  | 14 => ⟨S4x4096x1024, .f32⟩
  | 15 => ⟨S_, .f32⟩
  | 16 => ⟨S4x4096, .f32⟩
  | 17 => ⟨S4x4096x1, .f32⟩
  | 18 => ⟨S_, .f32⟩
  | 19 => ⟨S4x4096x1, .f32⟩
  | 20 => ⟨S4x4096x1, .f32⟩
  | 21 => ⟨S_, .f32⟩
  | 22 => ⟨S4x4096x1, .f32⟩
  | 23 => ⟨S4x4096x1, .f32⟩
  | 24 => ⟨S4x4096x1, .f32⟩
  | 25 => ⟨S4x4096x1024, .f32⟩
  | 26 => ⟨S4x4096x1024, .f32⟩
  | 27 => ⟨S1x1x1024, .f32⟩
  | 28 => ⟨S4x4096x1024, .f32⟩
  | 29 => ⟨S4x4096x1024, .f32⟩
  | 30 => ⟨S4x1x1024, .f32⟩
  | 31 => ⟨S_, .f32⟩
  | 32 => ⟨S4x1x1024, .f32⟩
  | 33 => ⟨S4x1x1024, .f32⟩
  | 34 => ⟨S4x4096x1024, .f32⟩
  | 35 => ⟨S4x4096x1024, .f32⟩
  | 36 => ⟨S4x1x1024, .f32⟩
  | 37 => ⟨S4x4096x1024, .f32⟩
  | 38 => ⟨S4x4096x1024, .f32⟩
  | 39 => ⟨S4x256x1024, .f32⟩
  | 40 => ⟨S_, .f32⟩
  | 41 => ⟨S4x256, .f32⟩
  | 42 => ⟨S4x256x1, .f32⟩
  | 43 => ⟨S_, .f32⟩
  | 44 => ⟨S4x256x1, .f32⟩
  | 45 => ⟨S4x256x1, .f32⟩
  | 46 => ⟨S_, .f32⟩
  | 47 => ⟨S4x256x1, .f32⟩
  | 48 => ⟨S4x256x1, .f32⟩
  | 49 => ⟨S4x256x1, .f32⟩
  | 50 => ⟨S4x256x1024, .f32⟩
  | 51 => ⟨S4x256x1024, .f32⟩
  | 52 => ⟨S1x1x1024, .f32⟩
  | 53 => ⟨S4x256x1024, .f32⟩
  | 54 => ⟨S4x256x1024, .f32⟩
  | 55 => ⟨S1x1024, .f32⟩
  | 56 => ⟨S1x1024, .f32⟩
  | 57 => ⟨S1x1x1024, .f32⟩
  | 58 => ⟨S_, .f32⟩
  | 59 => ⟨S1x1x1024, .f32⟩
  | 60 => ⟨S1x1x1024, .f32⟩
  | 61 => ⟨S4x256x1024, .f32⟩
  | 62 => ⟨S4x256x1024, .f32⟩
  | 63 => ⟨S1x1x1024, .f32⟩
  | 64 => ⟨S4x256x1024, .f32⟩
  | 65 => ⟨S4x256x1024, .f32⟩
  | 66 => ⟨S4x4096x2444, .f32⟩
  | 67 => ⟨S4x4096x384, .f32⟩
  | 68 => ⟨S4x4096x128, .f32⟩
  | 69 => ⟨S4x4096x128, .f32⟩
  | 70 => ⟨S4x4096x384, .f32⟩
  | 71 => ⟨S4x4096x640, .f32⟩
  | 72 => ⟨S4x4096x12, .f32⟩
  | 73 => ⟨S4x4096x768, .f32⟩
  | 74 => ⟨S4x256x2444, .f32⟩
  | 75 => ⟨S4x256x384, .f32⟩
  | 76 => ⟨S4x256x128, .f32⟩
  | 77 => ⟨S4x256x128, .f32⟩
  | 78 => ⟨S4x256x384, .f32⟩
  | 79 => ⟨S4x256x640, .f32⟩
  | 80 => ⟨S4x256x12, .f32⟩
  | 81 => ⟨S4x256x768, .f32⟩
  | 82 => ⟨S4x4352x128, .f32⟩
  | 83 => ⟨S4x128x4352, .f32⟩
  | 84 => ⟨S4x128x4352, .bf16⟩
  | 85 => ⟨S4x4352x384, .f32⟩
  | 86 => ⟨S4x4352x12, .f32⟩
  | 87 => ⟨S_, .i32⟩
  | 88 => ⟨S_, .f32⟩
  | 89 => ⟨S4x4352x128, .f32⟩
  | 90 => ⟨S_, .i32⟩
  | 91 => ⟨S_, .f32⟩
  | 92 => ⟨S4x4098x768, .f32⟩
  | 93 => ⟨S4x4096x768, .f32⟩
  | 94 => ⟨S1x768, .f32⟩
  | 95 => ⟨S768, .f32⟩
  | 96 => ⟨S1x1x768, .f32⟩
  | 97 => ⟨S4x4096x768, .f32⟩
  | 98 => ⟨S4x4096x768, .f32⟩
  | 99 => ⟨S1x768, .f32⟩
  | 100 => ⟨S768, .f32⟩
  | 101 => ⟨S1x1x768, .f32⟩
  | 102 => ⟨S4x4096x768, .f32⟩
  | 103 => ⟨S4x4096x768, .f32⟩
  | 104 => ⟨S4x4096x768, .f32⟩
  | 105 => ⟨S4x4096x768, .f32⟩
  | 106 => ⟨S1x768, .f32⟩
  | 107 => ⟨S768, .f32⟩
  | 108 => ⟨S1x1x768, .f32⟩
  | 109 => ⟨S4x4096x768, .f32⟩
  | 110 => ⟨S4x4096x768, .f32⟩
  | 111 => ⟨S4x4096x768, .f32⟩
  | 112 => ⟨S1x1x768, .f32⟩
  | 113 => ⟨S4x4096x768, .f32⟩
  | 114 => ⟨S4x4096x768, .f32⟩
  | 115 => ⟨S_, .i32⟩
  | 116 => ⟨S_, .f32⟩
  | 117 => ⟨S4x258x768, .f32⟩
  | 118 => ⟨S4x256x768, .f32⟩
  | 119 => ⟨S1x768, .f32⟩
  | 120 => ⟨S768, .f32⟩
  | 121 => ⟨S1x1x768, .f32⟩
  | 122 => ⟨S4x256x768, .f32⟩
  | 123 => ⟨S4x256x768, .f32⟩
  | 124 => ⟨S1x768, .f32⟩
  | 125 => ⟨S768, .f32⟩
  | 126 => ⟨S1x1x768, .f32⟩
  | 127 => ⟨S4x256x768, .f32⟩
  | _ => ⟨S4x4096x1024, .f32⟩

abbrev hbmTy0_1 (i : Nat) : BufTy := match i % 128 with
  | 0 => ⟨S4x256x768, .f32⟩
  | 1 => ⟨S4x256x768, .f32⟩
  | 2 => ⟨S4x256x768, .f32⟩
  | 3 => ⟨S1x768, .f32⟩
  | 4 => ⟨S768, .f32⟩
  | 5 => ⟨S1x1x768, .f32⟩
  | 6 => ⟨S4x256x768, .f32⟩
  | 7 => ⟨S4x256x768, .f32⟩
  | 8 => ⟨S4x256x768, .f32⟩
  | 9 => ⟨S1x1x768, .f32⟩
  | 10 => ⟨S4x256x768, .f32⟩
  | 11 => ⟨S4x256x768, .f32⟩
  | 12 => ⟨S4x4352x768, .f32⟩
  | 13 => ⟨S_, .i32⟩
  | 14 => ⟨S_, .f32⟩
  | 15 => ⟨S4x4098x640, .f32⟩
  | 16 => ⟨S4x4096x640, .f32⟩
  | 17 => ⟨S1x640, .f32⟩
  | 18 => ⟨S640, .f32⟩
  | 19 => ⟨S1x1x640, .f32⟩
  | 20 => ⟨S4x4096x640, .f32⟩
  | 21 => ⟨S4x4096x640, .f32⟩
  | 22 => ⟨S1x640, .f32⟩
  | 23 => ⟨S640, .f32⟩
  | 24 => ⟨S1x1x640, .f32⟩
  | 25 => ⟨S4x4096x640, .f32⟩
  | 26 => ⟨S4x4096x640, .f32⟩
  | 27 => ⟨S4x4096x640, .f32⟩
  | 28 => ⟨S4x4096x640, .f32⟩
  | 29 => ⟨S1x640, .f32⟩
  | 30 => ⟨S640, .f32⟩
  | 31 => ⟨S1x1x640, .f32⟩
  | 32 => ⟨S4x4096x640, .f32⟩
  | 33 => ⟨S4x4096x640, .f32⟩
  | 34 => ⟨S4x4096x640, .f32⟩
  | 35 => ⟨S1x1x640, .f32⟩
  | 36 => ⟨S4x4096x640, .f32⟩
  | 37 => ⟨S4x4096x640, .f32⟩
  | 38 => ⟨S4x4096x640, .f32⟩
  | 39 => ⟨S4x4096x640, .f32⟩
  | 40 => ⟨S_, .f32⟩
  | 41 => ⟨S4x4096x640, .f32⟩
  | 42 => ⟨S4x4096x640, .f32⟩
  | 43 => ⟨S_, .f32⟩
  | 44 => ⟨S4x4096x640, .f32⟩
  | 45 => ⟨S4x4096x640, .f32⟩
  | 46 => ⟨S4x4096x640, .f32⟩
  | 47 => ⟨S_, .i32⟩
  | 48 => ⟨S_, .f32⟩
  | 49 => ⟨S4x258x640, .f32⟩
  | 50 => ⟨S4x256x640, .f32⟩
  | 51 => ⟨S1x640, .f32⟩
  | 52 => ⟨S640, .f32⟩
  | 53 => ⟨S1x1x640, .f32⟩
  | 54 => ⟨S4x256x640, .f32⟩
  | 55 => ⟨S4x256x640, .f32⟩
  | 56 => ⟨S1x640, .f32⟩
  | 57 => ⟨S640, .f32⟩
  | 58 => ⟨S1x1x640, .f32⟩
  | 59 => ⟨S4x256x640, .f32⟩
  | 60 => ⟨S4x256x640, .f32⟩
  | 61 => ⟨S4x256x640, .f32⟩
  | 62 => ⟨S4x256x640, .f32⟩
  | 63 => ⟨S1x640, .f32⟩
  | 64 => ⟨S640, .f32⟩
  | 65 => ⟨S1x1x640, .f32⟩
  | 66 => ⟨S4x256x640, .f32⟩
  | 67 => ⟨S4x256x640, .f32⟩
  | 68 => ⟨S4x256x640, .f32⟩
  | 69 => ⟨S1x1x640, .f32⟩
  | 70 => ⟨S4x256x640, .f32⟩
  | 71 => ⟨S4x256x640, .f32⟩
  | 72 => ⟨S4x256x640, .f32⟩
  | 73 => ⟨S4x256x640, .f32⟩
  | 74 => ⟨S_, .f32⟩
  | 75 => ⟨S4x256x640, .f32⟩
  | 76 => ⟨S4x256x640, .f32⟩
  | 77 => ⟨S_, .f32⟩
  | 78 => ⟨S4x256x640, .f32⟩
  | 79 => ⟨S4x256x640, .f32⟩
  | 80 => ⟨S4x256x640, .f32⟩
  | 81 => ⟨S4x4352x640, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c : Ref sig .tc := ⟨.hbm, 87, rfl⟩
abbrev main_call0_v0 : Ref sig .tc := ⟨.hbm, 88, rfl⟩
abbrev main_v65 : Ref sig .tc := ⟨.hbm, 89, rfl⟩
abbrev main_c_7 : Ref sig .tc := ⟨.hbm, 90, rfl⟩
abbrev main_call1_v0 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_c_8 : Ref sig .tc := ⟨.hbm, 115, rfl⟩
abbrev main_call2_v0 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_c_9 : Ref sig .tc := ⟨.hbm, 141, rfl⟩
abbrev main_call3_v0 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_call4_v0 : Ref sig .tc := ⟨.hbm, 166, rfl⟩
abbrev main_call4_v1 : Ref sig .tc := ⟨.hbm, 167, rfl⟩
abbrev main_call4_cst : Ref sig .tc := ⟨.hbm, 168, rfl⟩
abbrev main_call4_v2 : Ref sig .tc := ⟨.hbm, 169, rfl⟩
abbrev main_call4_v3 : Ref sig .tc := ⟨.hbm, 170, rfl⟩
abbrev main_call4_cst_0 : Ref sig .tc := ⟨.hbm, 171, rfl⟩
abbrev main_call4_v4 : Ref sig .tc := ⟨.hbm, 172, rfl⟩
abbrev main_call4_v5 : Ref sig .tc := ⟨.hbm, 173, rfl⟩
abbrev main_v136 : Ref sig .tc := ⟨.hbm, 174, rfl⟩
abbrev main_c_10 : Ref sig .tc := ⟨.hbm, 175, rfl⟩
abbrev main_call5_v0 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_call6_v0 : Ref sig .tc := ⟨.hbm, 200, rfl⟩
abbrev main_call6_v1 : Ref sig .tc := ⟨.hbm, 201, rfl⟩
abbrev main_call6_cst : Ref sig .tc := ⟨.hbm, 202, rfl⟩
abbrev main_call6_v2 : Ref sig .tc := ⟨.hbm, 203, rfl⟩
abbrev main_call6_v3 : Ref sig .tc := ⟨.hbm, 204, rfl⟩
abbrev main_call6_cst_0 : Ref sig .tc := ⟨.hbm, 205, rfl⟩
abbrev main_call6_v4 : Ref sig .tc := ⟨.hbm, 206, rfl⟩
abbrev main_call6_v5 : Ref sig .tc := ⟨.hbm, 207, rfl⟩
abbrev main_v160 : Ref sig .tc := ⟨.hbm, 208, rfl⟩
abbrev main_v161 : Ref sig .tc := ⟨.hbm, 209, rfl⟩

abbrev nD : Nat := 1
abbrev τ : Topo := Topo.v7x

variable {F : FTy → Type} [FloatOps F]
-- ==== Proof.Block.lean ====
module
public import proofs.«01_k».proof.Proof.Gen.KernelIdeal.Value
public import Idealize.ShloMosaic.Lib.Pointwise
public import Idealize.ShloMosaic.Lib.Pipeline.ReadBack
/-! What one grid point of the attention kernel stores: twelve (query half, head) units, each the same
    tower of operations, six of them side by side in each of the two stores. -/
@[expose] public section
set_option maxRecDepth 65536
noncomputable section
namespace Cert.KernelIdeal.Att
open Idealize.ShloMosaic Idealize.ShloMosaic.TcCoe Idealize.ShloMosaic.Tactic
open Idealize.ShloMosaic.Pipeline (Dat Cfg Window BodyObligation cellOf)
open Idealize.SL Idealize.SL.RA
open Cert.KernelIdeal.Gen

variable {F : FTy → Type} [FloatOps F]

/-- Sixty-four rows of zeros, the other half of a head's padded queries. -/
def zeroRows : FVec F S64x512 .bf16 := broadcast S64x512 (Scalar.ofBits .bf16 0x0000#16)

/-- A head's queries against the first half of the key columns: its rows, then zeros. -/
def lowRows (q : Vec F S1x64x512 .bf16) : FVec F S128x512 .bf16 :=
  concatenate S128x512 0 [⟨S64x512, shapeCast S64x512 q shapeCasts_S1x64x512_S64x512⟩, ⟨S64x512, zeroRows⟩]
    concatenates_S64x512_S64x512_S128x512_d0

/-- A head's queries against the second half of the key columns: zeros, then its rows. -/
def highRows (q : Vec F S1x64x512 .bf16) : FVec F S128x512 .bf16 :=
  concatenate S128x512 0 [⟨S64x512, zeroRows⟩, ⟨S64x512, shapeCast S64x512 q shapeCasts_S1x64x512_S64x512⟩]
    concatenates_S64x512_S64x512_S128x512_d0

/-- The scores of one unit: every key row against every query column. -/
def scores (kk : FVec F S4352x128 .bf16) (w : FVec F S128x512 .bf16) : FVec F S4352x512 .f32 :=
  matmul dot_S4352x128_S128x512_S4352x512_1_0_0_1_n_n none kk w (constant S4352x512 .f32 0x00000000#32)

/-- The largest score of each query, as a row. -/
def tops (s : FVec F S4352x512 .f32) : FVec F S1x512 .f32 :=
  shapeCast S1x512 (multiReduction .maximumf [0] S512 s 0xFF800000#32 reduces_S4352x512_S512 (.inl rfl) rfl) shapeCasts_S512_S1x512

/-- The weights of one unit: two to the power of the score less the largest, written to the scratch and read back. -/
def weights (s : FVec F S4352x512 .f32) : FVec F S4352x512 .bf16 :=
  shapeCast S4352x512
    (shapeCast S1x4352x512
      (truncf .bf16
        (exp2 (subf (shapeCast S4352x512 (shapeCast S1x4352x512 s shapeCasts_S4352x512_S1x4352x512) shapeCasts_S1x4352x512_S4352x512)
          (broadcastTo S4352x512 (tops s) broadcasts_S1x512_S4352x512))) bitsLt_bf16_f32)
      shapeCasts_S4352x512_S1x4352x512) shapeCasts_S1x4352x512_S4352x512

/-- The weighted values and, in the rows below them, the weights' sums. -/
def mixed (vv : FVec F S80x4352 .bf16) (p : FVec F S4352x512 .bf16) : FVec F S80x512 .f32 :=
  matmul dot_S80x4352_S4352x512_S80x512_1_0_0_1_n_n none vv p (constant S80x512 .f32 0x00000000#32)

/-- The first sixty-four rows over the sixty-fifth. -/
def ratio (o : FVec F S80x512 .f32) : FVec F S64x512 .f32 :=
  divf (extractStridedSlice S64x512 ![0, 0] o slices_S80x512_o0_0_S64x512)
    (broadcastTo S64x512 (extractStridedSlice S1x512 ![64, 0] o slices_S80x512_o64_0_S1x512) broadcasts_S1x512_S64x512)

/-- One unit: a head's outputs for 512 queries. -/
def unit (kk : FVec F S4352x128 .bf16) (w : FVec F S128x512 .bf16) (vv : FVec F S80x4352 .bf16) : FVec F S64x512 .f32 :=
  ratio (mixed vv (weights (scores kk w)))

/-- Six heads' outputs, stacked and turned to have a query in each row. -/
def packed (h0 h1 h2 h3 h4 h5 : FVec F S64x512 .f32) : FVec F S1x512x384 .bf16 :=
  shapeCast S1x512x384
    (truncf .bf16
      (transpose S512x384 [1, 0]
        (concatenate S384x512 0 [⟨S64x512, h0⟩, ⟨S64x512, h1⟩, ⟨S64x512, h2⟩, ⟨S64x512, h3⟩, ⟨S64x512, h4⟩, ⟨S64x512, h5⟩]
          concatenates_S64x512_S64x512_S64x512_S64x512_S64x512_S64x512_S384x512_d0)
        transposes_S384x512_p1_0_S512x384) bitsLt_bf16_f32) shapeCasts_S512x384_S1x512x384

/-- The stored block's two pieces, from the point's query, key and value blocks. -/
def pieces (x0 : Vec F S1x384x1024 .bf16) (x1 : Vec F S1x4352x128 .bf16) (x2 : Vec F S1x128x4352 .bf16) :
    List (View.Piece (Elt F) S1x1024x384 .bf16) :=
  let kk := k0_pay2 (View.ld x1 (Rect.unit (s := S1x4352x128) ![0, 0, 0] S1x4352x128.size inb_S1x4352x128_S1x4352x128_0_0_0))
  let vx := View.ld x2 (Rect.unit (s := S1x128x4352) ![0, 0, 0] S1x128x4352.size inb_S1x128x4352_S1x128x4352_0_0_0)
  [⟨Rect.unit (s := S1x1024x384) ![0, 512, 0] S1x512x384.size inb_S1x1024x384_S1x512x384_0_512_0,
      packed
        (unit kk (lowRows (View.ld x0 (Rect.unit (s := S1x384x1024) ![0, 0, 512] S1x64x512.size inb_S1x384x1024_S1x64x512_0_0_512))) (k0_pay5 vx))
        (unit kk (lowRows (View.ld x0 (Rect.unit (s := S1x384x1024) ![0, 64, 512] S1x64x512.size inb_S1x384x1024_S1x64x512_0_64_512))) (k0_pay5 vx))
        (unit kk (lowRows (View.ld x0 (Rect.unit (s := S1x384x1024) ![0, 128, 512] S1x64x512.size inb_S1x384x1024_S1x64x512_0_128_512))) (k0_pay5 vx))
        (unit kk (highRows (View.ld x0 (Rect.unit (s := S1x384x1024) ![0, 192, 512] S1x64x512.size inb_S1x384x1024_S1x64x512_0_192_512))) (k0_pay6 vx))
        (unit kk (highRows (View.ld x0 (Rect.unit (s := S1x384x1024) ![0, 256, 512] S1x64x512.size inb_S1x384x1024_S1x64x512_0_256_512))) (k0_pay6 vx))
        (unit kk (highRows (View.ld x0 (Rect.unit (s := S1x384x1024) ![0, 320, 512] S1x64x512.size inb_S1x384x1024_S1x64x512_0_320_512))) (k0_pay6 vx))⟩,
   ⟨Rect.unit (s := S1x1024x384) ![0, 0, 0] S1x512x384.size inb_S1x1024x384_S1x512x384_0_0_0,
      packed
        (unit kk (lowRows (View.ld x0 (Rect.unit (s := S1x384x1024) ![0, 0, 0] S1x64x512.size inb_S1x384x1024_S1x64x512_0_0_0))) (k0_pay5 vx))
        (unit kk (lowRows (View.ld x0 (Rect.unit (s := S1x384x1024) ![0, 64, 0] S1x64x512.size inb_S1x384x1024_S1x64x512_0_64_0))) (k0_pay5 vx))
        (unit kk (lowRows (View.ld x0 (Rect.unit (s := S1x384x1024) ![0, 128, 0] S1x64x512.size inb_S1x384x1024_S1x64x512_0_128_0))) (k0_pay5 vx))
        (unit kk (highRows (View.ld x0 (Rect.unit (s := S1x384x1024) ![0, 192, 0] S1x64x512.size inb_S1x384x1024_S1x64x512_0_192_0))) (k0_pay6 vx))
        (unit kk (highRows (View.ld x0 (Rect.unit (s := S1x384x1024) ![0, 256, 0] S1x64x512.size inb_S1x384x1024_S1x64x512_0_256_0))) (k0_pay6 vx))
        (unit kk (highRows (View.ld x0 (Rect.unit (s := S1x384x1024) ![0, 320, 0] S1x64x512.size inb_S1x384x1024_S1x64x512_0_320_0))) (k0_pay6 vx))⟩]

set_option maxHeartbeats 2000000 in
/-- The block a grid point leaves in the result's buffer is its two stores laid over each other. -/
theorem out_eq (c : Dev nD) (i : grid0.Coords) (arg2 : Memref sig .tc .vmem S1x384x1024 .bf16) (harg2 : arg2.IsWhole) (arg3 : Memref sig .tc .vmem S1x4352x128 .bf16) (harg3 : arg3.IsWhole) (arg4 : Memref sig .tc .vmem S1x128x4352 .bf16) (harg4 : arg4.IsWhole) (arg5 : Memref sig .tc .vmem S1x1024x384 .bf16) (harg5 : arg5.IsWhole) (arg6 : Memref sig .tc .vmem S2x4352x512 .f32) (harg6 : arg6.IsWhole) (arg7 : Memref sig .tc .vmem S2x4352x512 .bf16) (harg7 : arg7.IsWhole)
    (x0 : Vec F S1x384x1024 .bf16) (x1 : Vec F S1x4352x128 .bf16) (x2 : Vec F S1x128x4352 .bf16) :
    out0_A_3 c i arg2 harg2 arg3 harg3 arg4 harg4 arg5 harg5 arg6 harg6 arg7 harg7 x0 x1 x2 = View.canon (pieces x0 x1 x2) := by
  unfold out0_A_3
  rw [View.read_writes_eq_canon _ _ _ (cover0_A_3 c i arg2 harg2 arg3 harg3 arg4 harg4 arg5 harg5 arg6 harg6 arg7 harg7 x0 x1 x2)]
  unfold kernelRun0_A
  dsimp only
  sl_unfold_words
  simp (disch := decide) only [↓View.readCov_cons_toLoadRect, ↓View.readCov_skip, View.readAt_eq_ld, harg2.read_unread, harg3.read_unread, harg4.read_unread]
  rfl

end Cert.KernelIdeal.Att
end
-- ==== Proof.Soft.lean ====
module
public import Idealize.ShloMosaic.Lib.Pointwise
/-! Softmax-weighted sums over the extended reals: the form with powers of two and one final division equals the form
    with exponentials and normalised weights, whatever order the keys come in. -/
@[expose] public section
noncomputable section
namespace Cert.Soft
open Idealize.ShloMosaic

/-- Weighted values over the weights' sum, the weights powers of two of the scores less the largest. -/
def mixPow {n : Nat} (s v : Fin n → EReal) : EReal :=
  Ideal.div (∑ k, v k * Ideal.exp2 (s k - Finset.fold max (Ideal.ofBits FTy.f32 0xFF800000#32) s Finset.univ))
    (∑ k, Ideal.exp2 (s k - Finset.fold max (Ideal.ofBits FTy.f32 0xFF800000#32) s Finset.univ))

/-- Values weighted by the normalised exponentials of the scores less the largest. -/
def mixExp {n : Nat} (s v : Fin n → EReal) : EReal :=
  ∑ k, v k * Ideal.div
    (Ideal.exp (s k - max (Ideal.ofBits FTy.f32 0xFF800000#32) (Finset.fold max (Ideal.ofBits FTy.f32 0xFF800000#32) s Finset.univ)))
    (∑ l, Ideal.exp (s l - max (Ideal.ofBits FTy.f32 0xFF800000#32) (Finset.fold max (Ideal.ofBits FTy.f32 0xFF800000#32) s Finset.univ)))

/-- The scores' fold starts at the least extended real. -/
theorem bits_bot : Ideal.ofBits FTy.f32 0xFF800000#32 = ⊥ := by
  simp [Ideal.ofBits, Ideal.ieee]

/-- The largest of finitely many reals, taken over the extended reals, is one of them and bounds them all. -/
theorem fold_max_coe {n : Nat} (hn : 0 < n) (a : Fin n → ℝ) :
    ∃ M : ℝ, Finset.fold max (⊥ : EReal) (fun k => (a k : EReal)) Finset.univ = (M : EReal)
      ∧ (∃ k, a k = M) ∧ ∀ k, a k ≤ M := by
  haveI : Nonempty (Fin n) := ⟨⟨0, hn⟩⟩
  obtain ⟨k0, -, hk0⟩ := Finset.exists_max_image Finset.univ a Finset.univ_nonempty
  refine ⟨a k0, le_antisymm ?_ ?_, ⟨k0, rfl⟩, fun k => hk0 k (Finset.mem_univ k)⟩
  · rw [Finset.fold_max_le]
    exact ⟨bot_le, fun k hk => EReal.coe_le_coe_iff.mpr (hk0 k hk)⟩
  · rw [Finset.le_fold_max]
    exact Or.inr ⟨k0, Finset.mem_univ _, le_rfl⟩

/-- A sum of reals, each seen as an extended real, is the real sum. -/
theorem sum_coe {ι : Type} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- A nonnegative real factor goes into a sum of extended reals. -/
theorem sum_mul_coe {ι : Type} (t : Finset ι) (f : ι → EReal) {c : ℝ} (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- A power of two whose exponent is `x / log 2` is the exponential of `x`. -/
theorem exp2_div_log (x : ℝ) : Ideal.exp2 ((x / Real.log 2 : ℝ) : EReal) = ((Real.exp x : ℝ) : EReal) := by
  rw [Ideal.exp2_coe]
  congr 1
  show (2 : ℝ) ^ (x / Real.log 2) = _
  rw [Real.rpow_def_of_pos (by norm_num), mul_div_cancel₀ _ (Real.log_pos (by norm_num)).ne']

/-- The two forms agree: scores `a` in exponentials, scores `a / log 2` in powers of two, keys in any two orders. -/
theorem mixPow_eq_mixExp {n : Nat} (hn : 0 < n) (e : Fin n ≃ Fin n) (a : Fin n → ℝ) (s s' v v' : Fin n → EReal)
    (hs : ∀ k, s k = (a k : EReal)) (hs' : ∀ k, s' k = ((a (e k) / Real.log 2 : ℝ) : EReal)) (hv : ∀ k, v' k = v (e k)) :
    mixPow s' v' = mixExp s v := by
  obtain rfl : s = fun k => (a k : EReal) := funext hs
  obtain rfl : s' = fun k => ((a (e k) / Real.log 2 : ℝ) : EReal) := funext hs'
  obtain rfl : v' = fun k => v (e k) := funext hv
  have hl : 0 < Real.log 2 := Real.log_pos (by norm_num)
  obtain ⟨M, hM, ⟨k0, hk0⟩, hle⟩ := fold_max_coe hn a
  obtain ⟨M', hM', ⟨k1, hk1⟩, hle'⟩ := fold_max_coe hn (fun k => a (e k) / Real.log 2)
  have hMM : M' = M / Real.log 2 := by
    apply le_antisymm
    · rw [← hk1]; exact div_le_div_of_nonneg_right (hle _) hl.le
    · have h := hle' (e.symm k0); simp only [Equiv.apply_symm_apply, hk0] at h; exact h
  unfold mixPow mixExp
  rw [bits_bot, hM, hM', hMM, max_eq_right (bot_le : (⊥ : EReal) ≤ (M : EReal))]
  have hp : ∀ k, Ideal.exp2 (((a (e k) / Real.log 2 : ℝ) : EReal) - ((M / Real.log 2 : ℝ) : EReal)) = ((Real.exp (a (e k) - M) : ℝ) : EReal) := fun k => by
    rw [← EReal.coe_sub, ← sub_div, exp2_div_log]
  have hq : ∀ k, Ideal.exp ((a k : EReal) - (M : EReal)) = ((Real.exp (a k - M) : ℝ) : EReal) := fun k => by
    rw [← EReal.coe_sub, Ideal.exp_coe]
  simp only [hp, hq]
  rw [e.sum_comp (fun k => v k * ((Real.exp (a k - M) : ℝ) : EReal)), e.sum_comp (fun k => ((Real.exp (a k - M) : ℝ) : EReal)), sum_coe]
  have hL : 0 < ∑ k, Real.exp (a k - M) := Finset.sum_pos (fun k _ => Real.exp_pos _) ⟨k0, Finset.mem_univ _⟩
  rw [Ideal.div_coe hL.ne', sum_mul_coe _ _ (one_div_pos.mpr hL).le]
  refine Finset.sum_congr rfl fun k _ => ?_
  rw [Ideal.div_coe hL.ne', mul_assoc]

end Cert.Soft
end
-- ==== Proof.BlockValue.lean ====
module
public import proofs.«01_k».proof.Proof.Block
public import proofs.«01_k».proof.Proof.Soft
/-! One unit of a grid point, read at an index: a softmax of a query against all keys, in powers of two, applied to the
    values; and from it the whole stored block. -/
@[expose] public section
set_option maxRecDepth 65536
noncomputable section
namespace Cert.KernelIdeal.Att
open Idealize.ShloMosaic Idealize.ShloMosaic.TcCoe Idealize.ShloMosaic.Tactic
open Idealize.ShloMosaic.Pipeline (Dat Cfg Window BodyObligation cellOf)
open Cert.KernelIdeal.Gen Cert.Soft
local notation "𝕀" => Idealize.ShloMosaic.Ideal

/-- A unit on the first half of the key and value columns. -/
theorem unit_low (kx : Vec 𝕀 S1x4352x128 .bf16) (q : Vec 𝕀 S1x64x512 .bf16) (vx : Vec 𝕀 S1x128x4352 .bf16) (d : Fin 64) (r : Fin 512) :
    unit (k0_pay2 kx) (lowRows q) (k0_pay5 vx) (ix2 d r)
      = mixPow (fun k => ∑ e : Fin 64, kx (ix3 0 k ⟨e.val, by omega⟩) * q (ix3 0 e r)) (fun k => vx (ix3 0 ⟨d.val, by omega⟩ k)) := by
  pointwise [unit, ratio, mixed, weights, tops, scores, lowRows, zeroRows, k0_pay2, k0_pay5, k0_pay4, k0_pay3]
  simp only [mul_zero, Finset.sum_const_zero, add_zero]
  rfl

/-- A unit on the second half of the key and value columns. -/
theorem unit_high (kx : Vec 𝕀 S1x4352x128 .bf16) (q : Vec 𝕀 S1x64x512 .bf16) (vx : Vec 𝕀 S1x128x4352 .bf16) (d : Fin 64) (r : Fin 512) :
    unit (k0_pay2 kx) (highRows q) (k0_pay6 vx) (ix2 d r)
      = mixPow (fun k => ∑ e : Fin 64, kx (ix3 0 k ⟨64 + e.val, by omega⟩) * q (ix3 0 e r)) (fun k => vx (ix3 0 ⟨64 + d.val, by omega⟩ k)) := by
  pointwise [unit, ratio, mixed, weights, tops, scores, highRows, zeroRows, k0_pay2, k0_pay6, k0_pay4, k0_pay3]
  simp only [mul_zero, Finset.sum_const_zero, zero_add]
  rfl

/-- Six heads side by side: column `64 n + d` is head `n`'s output `d`. -/
theorem packed_apply (h0 h1 h2 h3 h4 h5 : FVec 𝕀 S64x512 .f32) (r : Fin 512) (n : Fin 6) (d : Fin 64) :
    packed h0 h1 h2 h3 h4 h5 (ix3 0 r ⟨64 * n.val + d.val, by omega⟩) = (![h0, h1, h2, h3, h4, h5] n) (ix2 d r) := by
  pointwise [packed]
  fin_vals n with hk
  all_goals
    have hd := d.isLt
    simp only [hk]
    repeat (first | rw [dif_pos (by omega)] | rw [dif_neg (by omega)])
    have hi : ∀ (a : Nat) (ha : a < 64), a = d.val → (⟨a, ha⟩ : Fin 64) = d := fun a ha h => Fin.ext h
    rw [hi _ _ (by omega)]
  exacts [by rw [show n = 0 from Fin.ext hk]; rfl, by rw [show n = 1 from Fin.ext hk]; rfl, by rw [show n = 2 from Fin.ext hk]; rfl, by rw [show n = 3 from Fin.ext hk]; rfl, by rw [show n = 4 from Fin.ext hk]; rfl, by rw [show n = 5 from Fin.ext hk]; rfl]

/-- The stored block, from the point's query, key and value blocks: head `n`'s output `d` for query `r`. -/
def blkVal (x0 : Vec 𝕀 S1x384x1024 .bf16) (x1 : Vec 𝕀 S1x4352x128 .bf16) (x2 : Vec 𝕀 S1x128x4352 .bf16)
    (n : Fin 6) (d : Fin 64) (r : Fin 1024) : EReal :=
  mixPow (fun k => ∑ e : Fin 64, x1 (ix3 0 k ⟨64 * (n.val / 3) + e.val, by omega⟩) * x0 (ix3 0 ⟨64 * n.val + e.val, by omega⟩ r))
    (fun k => x2 (ix3 0 ⟨64 * (n.val / 3) + d.val, by omega⟩ k))

variable (x0 : Vec 𝕀 S1x384x1024 .bf16) (x1 : Vec 𝕀 S1x4352x128 .bf16) (x2 : Vec 𝕀 S1x128x4352 .bf16)

/-- A head of the first three, its queries loaded from row `64 n` and column `o` of the block. -/
theorem head_low (n : Fin 6) (hn : n.val < 3) (a o : Nat) (ha : a = 64 * n.val) (ho : o + 512 ≤ 1024) (inb : ∀ i, ![0, a, o] i + S1x64x512.size i ≤ S1x384x1024.size i)
    (d : Fin 64) (r : Fin 512) :
    unit (k0_pay2 (View.ld x1 (Rect.unit (s := S1x4352x128) ![0, 0, 0] S1x4352x128.size inb_S1x4352x128_S1x4352x128_0_0_0)))
      (lowRows (View.ld x0 (Rect.unit (s := S1x384x1024) ![0, a, o] S1x64x512.size inb)))
      (k0_pay5 (View.ld x2 (Rect.unit (s := S1x128x4352) ![0, 0, 0] S1x128x4352.size inb_S1x128x4352_S1x128x4352_0_0_0))) (ix2 d r)
    = blkVal x0 x1 x2 n d ⟨o + r.val, by omega⟩ := by
  subst ha
  have e1 : ∀ a, 64 * (n.val / 3) + a = a := fun a => by omega
  rw [unit_low]
  unfold blkVal
  pointwise []
  simp only [e1]

/-- A head of the last three. -/
theorem head_high (n : Fin 6) (hn : 3 ≤ n.val) (a o : Nat) (ha : a = 64 * n.val) (ho : o + 512 ≤ 1024) (inb : ∀ i, ![0, a, o] i + S1x64x512.size i ≤ S1x384x1024.size i)
    (d : Fin 64) (r : Fin 512) :
    unit (k0_pay2 (View.ld x1 (Rect.unit (s := S1x4352x128) ![0, 0, 0] S1x4352x128.size inb_S1x4352x128_S1x4352x128_0_0_0)))
      (highRows (View.ld x0 (Rect.unit (s := S1x384x1024) ![0, a, o] S1x64x512.size inb)))
      (k0_pay6 (View.ld x2 (Rect.unit (s := S1x128x4352) ![0, 0, 0] S1x128x4352.size inb_S1x128x4352_S1x128x4352_0_0_0))) (ix2 d r)
    = blkVal x0 x1 x2 n d ⟨o + r.val, by omega⟩ := by
  subst ha
  have e1 : ∀ a, 64 * (n.val / 3) + a = 64 + a := fun a => by omega
  rw [unit_high]
  unfold blkVal
  pointwise []
  simp only [e1]

/-- The block as one function of its index. -/
def blkFn : Vec 𝕀 S1x1024x384 .bf16 := fun y =>
  blkVal x0 x1 x2 ⟨(y 2).val / 64, by have := (y 2).isLt; show _ < 6; change (y 2).val < 384 at this; omega⟩
    ⟨(y 2).val % 64, Nat.mod_lt _ (by norm_num)⟩ (y 1)

/-- … at a row and a head's column. -/
theorem blkFn_apply (r : Fin 1024) (n : Fin 6) (d : Fin 64) :
    blkFn x0 x1 x2 (ix3 0 r ⟨64 * n.val + d.val, by omega⟩) = blkVal x0 x1 x2 n d r := by
  have e1 : (64 * n.val + d.val) / 64 = n.val := by omega
  have e2 : (64 * n.val + d.val) % 64 = d.val := by omega
  unfold blkFn
  show blkVal x0 x1 x2 ⟨(64 * n.val + d.val) / 64, _⟩ ⟨(64 * n.val + d.val) % 64, _⟩ r = _
  simp only [e1, e2]

/-- A store whose six heads are the block's own leaves the block's rows from `o` on. -/
theorem packed_eq (o : Nat) (ho : o + 512 ≤ 1024) (inb : ∀ a, ![0, o, 0] a + S1x512x384.size a ≤ S1x1024x384.size a)
    (h0 h1 h2 h3 h4 h5 : FVec 𝕀 S64x512 .f32)
    (e0 : ∀ (d : Fin 64) (r : Fin 512), h0 (ix2 d r) = blkVal x0 x1 x2 0 d ⟨o + r.val, by omega⟩)
    (e1 : ∀ (d : Fin 64) (r : Fin 512), h1 (ix2 d r) = blkVal x0 x1 x2 1 d ⟨o + r.val, by omega⟩)
    (e2 : ∀ (d : Fin 64) (r : Fin 512), h2 (ix2 d r) = blkVal x0 x1 x2 2 d ⟨o + r.val, by omega⟩)
    (e3 : ∀ (d : Fin 64) (r : Fin 512), h3 (ix2 d r) = blkVal x0 x1 x2 3 d ⟨o + r.val, by omega⟩)
    (e4 : ∀ (d : Fin 64) (r : Fin 512), h4 (ix2 d r) = blkVal x0 x1 x2 4 d ⟨o + r.val, by omega⟩)
    (e5 : ∀ (d : Fin 64) (r : Fin 512), h5 (ix2 d r) = blkVal x0 x1 x2 5 d ⟨o + r.val, by omega⟩)
    (x : S1x512x384.Idx) :
    packed h0 h1 h2 h3 h4 h5 x = blkFn x0 x1 x2 ((Rect.unit (s := S1x1024x384) ![0, o, 0] S1x512x384.size inb).emb x) := by
  have hc : (x 2).val < 384 := (x 2).isLt
  have hr : (x 1).val < 512 := (x 1).isLt
  have h0' : (x 0).val < 1 := (x 0).isLt
  obtain ⟨n, hn⟩ : ∃ n : Fin 6, n.val = (x 2).val / 64 := ⟨⟨(x 2).val / 64, by omega⟩, rfl⟩
  obtain ⟨d, hd⟩ : ∃ d : Fin 64, d.val = (x 2).val % 64 := ⟨⟨(x 2).val % 64, by omega⟩, rfl⟩
  have hx : x = ix3 0 ⟨(x 1).val, hr⟩ ⟨64 * n.val + d.val, by omega⟩ := by
    idx_ext <;> first | rfl | omega
  have hy : (Rect.unit (s := S1x1024x384) ![0, o, 0] S1x512x384.size inb).emb x = ix3 0 ⟨o + (x 1).val, by omega⟩ ⟨64 * n.val + d.val, by omega⟩ := by
    idx_ext
  rw [hy, blkFn_apply, congrArg (packed h0 h1 h2 h3 h4 h5) hx, packed_apply]
  fin_vals n with hk
  exacts [by rw [show n = 0 from Fin.ext hk]; exact e0 d _, by rw [show n = 1 from Fin.ext hk]; exact e1 d _, by rw [show n = 2 from Fin.ext hk]; exact e2 d _, by rw [show n = 3 from Fin.ext hk]; exact e3 d _, by rw [show n = 4 from Fin.ext hk]; exact e4 d _, by rw [show n = 5 from Fin.ext hk]; exact e5 d _]

/-- The two stores laid over each other are the block. -/
theorem canon_eq : View.canon (pieces x0 x1 x2) = blkFn x0 x1 x2 := by
  funext y
  refine View.canon_apply_of_pieces (blkFn x0 x1 x2) _ ?_ y ?_
  · intro p hp
    simp only [pieces, List.mem_cons, List.mem_nil_iff, or_false] at hp
    rcases hp with rfl | rfl
    · exact packed_eq x0 x1 x2 512 (by norm_num) inb_S1x1024x384_S1x512x384_0_512_0 _ _ _ _ _ _
        (head_low x0 x1 x2 0 (by decide) 0 512 rfl (by norm_num) inb_S1x384x1024_S1x64x512_0_0_512)
        (head_low x0 x1 x2 1 (by decide) 64 512 rfl (by norm_num) inb_S1x384x1024_S1x64x512_0_64_512)
        (head_low x0 x1 x2 2 (by decide) 128 512 rfl (by norm_num) inb_S1x384x1024_S1x64x512_0_128_512)
        (head_high x0 x1 x2 3 (by decide) 192 512 rfl (by norm_num) inb_S1x384x1024_S1x64x512_0_192_512)
        (head_high x0 x1 x2 4 (by decide) 256 512 rfl (by norm_num) inb_S1x384x1024_S1x64x512_0_256_512)
        (head_high x0 x1 x2 5 (by decide) 320 512 rfl (by norm_num) inb_S1x384x1024_S1x64x512_0_320_512)
    · exact packed_eq x0 x1 x2 0 (by norm_num) inb_S1x1024x384_S1x512x384_0_0_0 _ _ _ _ _ _
        (head_low x0 x1 x2 0 (by decide) 0 0 rfl (by norm_num) inb_S1x384x1024_S1x64x512_0_0_0)
        (head_low x0 x1 x2 1 (by decide) 64 0 rfl (by norm_num) inb_S1x384x1024_S1x64x512_0_64_0)
        (head_low x0 x1 x2 2 (by decide) 128 0 rfl (by norm_num) inb_S1x384x1024_S1x64x512_0_128_0)
        (head_high x0 x1 x2 3 (by decide) 192 0 rfl (by norm_num) inb_S1x384x1024_S1x64x512_0_192_0)
        (head_high x0 x1 x2 4 (by decide) 256 0 rfl (by norm_num) inb_S1x384x1024_S1x64x512_0_256_0)
        (head_high x0 x1 x2 5 (by decide) 320 0 rfl (by norm_num) inb_S1x384x1024_S1x64x512_0_320_0)
  · exact View.cover_of_tiledL (pieces x0 x1 x2) S1x512x384.size (by sl_kernel_rfl) y

end Cert.KernelIdeal.Att
end
-- ==== Proof.Host.lean ====
module
public import proofs.«01_k».proof.Proof.Gen.KernelIdeal.Value
public import Idealize.ShloMosaic.Lib.Pointwise
public import Idealize.ShloMosaic.Lib.Claim
/-! What the host code hands the attention call: the joined keys and values, and the scaled joined queries, read at an index. -/
@[expose] public section
set_option maxRecDepth 16384
noncomputable section
namespace Cert.KernelIdeal.Att
open Idealize.ShloMosaic Idealize.ShloMosaic.TcCoe Idealize.ShloMosaic.Tactic
open Idealize.ShloMosaic.Pipeline (Dat Cfg Window BodyObligation cellOf)
open Cert.KernelIdeal.Gen
local notation "𝕀" => Idealize.ShloMosaic.Ideal
variable (m : (ℓ : Loc nD τ sig) → Buf (Elt 𝕀) ℓ) (c : Dev nD)

/-- The latent queries, keys and values, and the context's keys and values, as given. -/
def qIn : FVec 𝕀 S4x4096x6x64 .f32 := m (c.tc.loc main_arg0)
def klIn : FVec 𝕀 S4x4096x2x64 .f32 := m (c.tc.loc main_arg2)
def kcIn : FVec 𝕀 S4x256x2x64 .f32 := m (c.tc.loc main_arg3)
def vlIn : FVec 𝕀 S4x4096x2x64 .f32 := m (c.tc.loc main_arg4)
def vcIn : FVec 𝕀 S4x256x2x64 .f32 := m (c.tc.loc main_arg5)

/-- The queries, keys and values as the call reads them. -/
def qArr : FVec 𝕀 S4x384x4352 .bf16 := V m c main_v11
def kArr : FVec 𝕀 S4x4352x128 .bf16 := V m c main_v14
def vArr : FVec 𝕀 S4x128x4352 .bf16 := V m c main_v13

/-- The latent rows, then the context rows. -/
def joined (xl : FVec 𝕀 S4x4096x2x64 .f32) (xc : FVec 𝕀 S4x256x2x64 .f32) (b : Fin 4) (k : Fin 4352) (g : Fin 2) (d : Fin 64) : EReal :=
  if h : k.val < 4096 then xl (ix4 b ⟨k.val, h⟩ g d) else xc (ix4 b ⟨k.val - 4096, by omega⟩ g d)

/-- The factor the queries are scaled by: an eighth over the logarithm of two. -/
def qScale : EReal := Ideal.div (Ideal.ofBits .f32 0x3E000000#32) (Ideal.log (Ideal.ofBits .f32 0x40000000#32))

/-- The keys the call reads: the latent rows, then the context rows, both heads side by side. -/
theorem keys_apply (b : Fin 4) (k : Fin 4352) (g : Fin 2) (d : Fin 64) :
    kArr m c (ix3 b k ⟨64 * g.val + d.val, by omega⟩) = joined (klIn m c) (kcIn m c) b k g d := by
  have e1 : (64 * g.val + d.val) / 64 = g.val := by omega
  have e2 : (64 * g.val + d.val) % 64 = d.val := by omega
  unfold kArr
  entry_read
  pointwise []
  simp only [e1, e2]
  rfl

/-- The values the call reads, columns as rows. -/
theorem values_apply (b : Fin 4) (k : Fin 4352) (g : Fin 2) (d : Fin 64) :
    vArr m c (ix3 b ⟨64 * g.val + d.val, by omega⟩ k) = joined (vlIn m c) (vcIn m c) b k g d := by
  have e1 : (64 * g.val + d.val) / 64 = g.val := by omega
  have e2 : (64 * g.val + d.val) % 64 = d.val := by omega
  unfold vArr
  entry_read
  pointwise []
  simp only [e1, e2]
  rfl

/-- The latent queries the call reads, columns as rows, scaled. -/
theorem queries_apply (b : Fin 4) (j : Fin 4096) (n : Fin 6) (d : Fin 64) :
    qArr m c (ix3 b ⟨64 * n.val + d.val, by omega⟩ ⟨j.val, by omega⟩) = (qIn m c (ix4 b j n d) : EReal) * qScale := by
  have e1 : (64 * n.val + d.val) / 64 = n.val := by omega
  have e2 : (64 * n.val + d.val) % 64 = d.val := by omega
  unfold qArr
  entry_read
  pointwise []
  simp only [e1, e2]
  rfl

end Cert.KernelIdeal.Att
end
-- ==== Proof.Array.lean ====
module
public import proofs.«01_k».proof.Proof.BlockValue
public import proofs.«01_k».proof.Proof.Host
public import Idealize.ShloMosaic.Lib.Pipeline.ValueKit
/-! What the result array holds after the run: each query's softmax over all keys applied to the values. -/
@[expose] public section
set_option maxRecDepth 16384
noncomputable section
namespace Cert.KernelIdeal.Att
open Idealize.ShloMosaic Idealize.ShloMosaic.TcCoe Idealize.ShloMosaic.Tactic
open Idealize.ShloMosaic.Pipeline (Dat Cfg Window BodyObligation cellOf)
open Cert.KernelIdeal.Gen Cert.Soft
local notation "𝕀" => Idealize.ShloMosaic.Ideal
variable (m : (ℓ : Loc nD τ sig) → Buf (Elt 𝕀) ℓ) (c : Dev nD)

/-- Head `n`'s output `d` for query `j` of batch `b`. -/
def attVal (b : Fin 4) (n : Fin 6) (d : Fin 64) (j : Fin 4096) : EReal :=
  mixPow (fun k => ∑ e : Fin 64, joined (klIn m c) (kcIn m c) b k ⟨n.val / 3, by omega⟩ e * ((qIn m c (ix4 b j n e) : EReal) * qScale))
    (fun k => joined (vlIn m c) (vcIn m c) b k ⟨n.val / 3, by omega⟩ d)

/-- The result array. -/
def attArr : FVec 𝕀 S4x4096x384 .bf16 := fun y =>
  attVal m c (y 0) ⟨(y 2).val / 64, by have := (y 2).isLt; show _ < 6; change (y 2).val < 384 at this; omega⟩
    ⟨(y 2).val % 64, Nat.mod_lt _ (by norm_num)⟩ (y 1)

/-- The result array at a query and a head's column. -/
theorem attArr_apply (b : Fin 4) (j : Fin 4096) (n : Fin 6) (d : Fin 64) :
    attArr m c (ix3 b j ⟨64 * n.val + d.val, by omega⟩) = attVal m c b n d j := by
  have e1 : (64 * n.val + d.val) / 64 = n.val := by omega
  have e2 : (64 * n.val + d.val) % 64 = d.val := by omega
  unfold attArr
  show attVal m c b ⟨(64 * n.val + d.val) / 64, _⟩ ⟨(64 * n.val + d.val) % 64, _⟩ j = _
  simp only [e1, e2]

theorem idx_0 : ∀ t : Fin cfg0.N, win0_0.index t = ![t.val / 4, 0, t.val % 4] := (by decide +kernel : ∀ t : Fin grid0.N, win0_0.index t = ![t.val / 4, 0, t.val % 4])
theorem idx_1 : ∀ t : Fin cfg0.N, win0_1.index t = ![t.val / 4, 0, 0] := (by decide +kernel : ∀ t : Fin grid0.N, win0_1.index t = ![t.val / 4, 0, 0])
theorem read_1 (W : FVec 𝕀 S4x4352x128 .bf16) (t : Fin cfg0.N) (ht : t.val < 16) (k : Fin 4352) (l : Fin 128) :
    ((cfg0.win 1).blk t).view.read (Elt 𝕀) W (ix3 0 k l) = W (ix3 ⟨t.val / 4, by omega⟩ k l) := by
  blk_ext [idx_1 t]
theorem read_0 (W : FVec 𝕀 S4x384x4352 .bf16) (t : Fin cfg0.N) (ht : t.val < 16) (l : Fin 384) (r : Fin 1024) :
    (cfg0.win 0).fill (cfg0.grid.coords t) dflt0_0 (((cfg0.win 0).blk t).view.read (Elt 𝕀) W) (ix3 0 l r) = W (ix3 ⟨t.val / 4, by omega⟩ l ⟨1024 * (t.val % 4) + r.val, by omega⟩) := by
  unfold Pipeline.Window.fill
  rw [dif_pos (moved0_0 t _)]
  blk_ext [idx_0 t]
theorem idx_2 : ∀ t : Fin cfg0.N, win0_2.index t = ![t.val / 4, 0, 0] := (by decide +kernel : ∀ t : Fin grid0.N, win0_2.index t = ![t.val / 4, 0, 0])
theorem idx_3 : ∀ t : Fin cfg0.N, win0_3.index t = ![t.val / 4, t.val % 4, 0] := (by decide +kernel : ∀ t : Fin grid0.N, win0_3.index t = ![t.val / 4, t.val % 4, 0])

theorem read_2 (W : FVec 𝕀 S4x128x4352 .bf16) (t : Fin cfg0.N) (ht : t.val < 16) (l : Fin 128) (k : Fin 4352) :
    ((cfg0.win 2).blk t).view.read (Elt 𝕀) W (ix3 0 l k) = W (ix3 ⟨t.val / 4, by omega⟩ l k) := by
  blk_ext [idx_2 t]
theorem blk_values (t : Fin cfg0.N) (ht : t.val < 16) (l : Fin 128) (k : Fin 4352) :
    iblk m c 2 t (ix3 0 l k) = vArr m c (ix3 ⟨t.val / 4, by omega⟩ l k) := read_2 (vArr m c) t ht l k
theorem blk_keys (t : Fin cfg0.N) (ht : t.val < 16) (k : Fin 4352) (l : Fin 128) :
    iblk m c 1 t (ix3 0 k l) = kArr m c (ix3 ⟨t.val / 4, by omega⟩ k l) := read_1 (kArr m c) t ht k l
theorem blk_queries (t : Fin cfg0.N) (ht : t.val < 16) (l : Fin 384) (r : Fin 1024) :
    X0_0 m c t (ix3 0 l r) = qArr m c (ix3 ⟨t.val / 4, by omega⟩ l ⟨1024 * (t.val % 4) + r.val, by omega⟩) := read_0 (qArr m c) t ht l r

/-- A block of the result array is the block's computation on the point's blocks of queries, keys and values. -/
theorem block_att (t : Fin cfg0.N) (ht : t.val < 16) (r : Fin 1024) (n : Fin 6) (d : Fin 64) :
    blkFn (X0_0 m c t) (iblk m c 1 t) (iblk m c 2 t) (ix3 0 r ⟨64 * n.val + d.val, by omega⟩)
      = attVal m c ⟨t.val / 4, by omega⟩ n d ⟨1024 * (t.val % 4) + r.val, by omega⟩ := by
  rw [blkFn_apply]
  unfold blkVal attVal
  congr 1
  · funext k
    refine Finset.sum_congr rfl fun e _ => ?_
    rw [blk_keys m c t ht, blk_queries m c t ht]
    rw [keys_apply m c ⟨t.val / 4, by omega⟩ k ⟨n.val / 3, by omega⟩ e]
    exact congrArg _ (queries_apply m c ⟨t.val / 4, by omega⟩ ⟨1024 * (t.val % 4) + r.val, by omega⟩ n e)
  · funext k
    rw [blk_values m c t ht]
    exact values_apply m c ⟨t.val / 4, by omega⟩ k ⟨n.val / 3, by omega⟩ d

theorem arr_eq : (dats m 0 c).arrAt 3 (cfgs 0).N = attArr m c := by
  refine (dats m 0 c).arrAt_eq_of_covers 3 _ (by decide +kernel) fun t hf y => ?_
  blk_simp
  rw [after0_3]
  unfold outsAt0
  rw [out_eq, canon_eq]
  have ht : t.val < 16 := t.isLt
  have hc : (y 2).val < 384 := (y 2).isLt
  have hr : (y 1).val < 1024 := (y 1).isLt
  have h0 : (y 0).val < 1 := (y 0).isLt
  obtain ⟨n, hn⟩ : ∃ n : Fin 6, n.val = (y 2).val / 64 := ⟨⟨(y 2).val / 64, by omega⟩, rfl⟩
  obtain ⟨d, hd⟩ : ∃ d : Fin 64, d.val = (y 2).val % 64 := ⟨⟨(y 2).val % 64, by omega⟩, rfl⟩
  have hy : (y : S1x1024x384.Idx) = ix3 0 ⟨(y 1).val, hr⟩ ⟨64 * n.val + d.val, by omega⟩ := by
    idx_ext
  have hemb : (win0_3.blk t).view.emb y = (ix3 ⟨t.val / 4, by omega⟩ ⟨1024 * (t.val % 4) + (y 1).val, by omega⟩ ⟨64 * n.val + d.val, by omega⟩ : S4x4096x384.Idx) := by
    blk_ext [idx_3 t]
  rw [hemb, attArr_apply]
  refine Eq.trans (congrArg (blkFn _ _ _) hy) ?_
  exact block_att m c t ht ⟨(y 1).val, hr⟩ n d

end Cert.KernelIdeal.Att
end
-- ==== Proof.Ref.lean ====
module
public import proofs.«01_k».proof.Proof.Gen.ReferenceIdeal.Read
public import proofs.«01_k».proof.Proof.Soft
public import Idealize.ShloMosaic.Lib.Pointwise
/-! What the reference computes at an index. -/
@[expose] public section
set_option maxRecDepth 65536
noncomputable section
namespace Cert.ReferenceIdeal.Read
open Idealize.ShloMosaic Idealize.ShloMosaic.TcCoe Idealize.ShloMosaic.Tactic
local notation "𝕀" => Idealize.ShloMosaic.Ideal
variable (x0 : (⟨S4x4096x6x64, .f32⟩ : BufTy).Contents (Elt 𝕀)) (x2 : (⟨S4x4096x2x64, .f32⟩ : BufTy).Contents (Elt 𝕀)) (x3 : (⟨S4x256x2x64, .f32⟩ : BufTy).Contents (Elt 𝕀))
 (x4 : (⟨S4x4096x2x64, .f32⟩ : BufTy).Contents (Elt 𝕀)) (x5 : (⟨S4x256x2x64, .f32⟩ : BufTy).Contents (Elt 𝕀))

/-- The scores: products of key and query, scaled. -/
theorem score_apply (b : Fin 4) (g : Fin 2) (p : Fin 3) (r : Fin 4096) (k : Fin 4352) :
   val_main_v6 (F := 𝕀) x0 x2 x3 (ix5 b g p r k) = (∑ x, val_main_v0 (F := 𝕀) x2 x3 (ix4 b k g x) * x0 (ix4 b r ⟨g.val * 3 + p.val, by omega⟩ x)) * Ideal.ofBits .f32 0x3E000000#32 := by
  unfold val_main_v6 val_main_v5 val_main_v4 val_main_v3 val_main_v2 val_main_cst
  generalize val_main_v0 (F := 𝕀) x2 x3 = kk
  pointwise []

theorem cast_apply (b : Fin 4) (g : Fin 2) (p : Fin 3) (d : Fin 64) (r : Fin 4096)  :
   val_main_v21 (F := 𝕀) x0 x2 x3 x4 x5 (ix3 b r ⟨192 * g.val + 64 * p.val + d.val, by omega⟩) = val_main_v19 (F := 𝕀) x0 x2 x3 x4 x5 (ix5 b r g p d) := by
  unfold val_main_v21 val_main_v20
  generalize val_main_v19 (F := 𝕀) x0 x2 x3 x4 x5 = yy
  pointwise []

theorem top_apply (b : Fin 4) (g : Fin 2) (p : Fin 3) (r : Fin 4096)  :
   val_main_v7 (F := 𝕀) x0 x2 x3 (ix4 b g p r) = Finset.fold max (Ideal.ofBits FTy.f32 0xFF800000#32) (fun k => val_main_v6 (F := 𝕀) x0 x2 x3 (ix5 b g p r k)) Finset.univ := by
  unfold val_main_v7 val_main_cst_0
  generalize val_main_v6 (F := 𝕀) x0 x2 x3 = ss
  pointwise []

theorem mix_apply (b : Fin 4) (g : Fin 2) (p : Fin 3) (d : Fin 64) (r : Fin 4096)  :
   val_main_v19 (F := 𝕀) x0 x2 x3 x4 x5 (ix5 b r g p d) = ∑ k, val_main_v1 (F := 𝕀) x4 x5 (ix4 b k g d) * val_main_v17 (F := 𝕀) x0 x2 x3 (ix5 b g p r k) := by
  unfold val_main_v19 val_main_v18
  generalize val_main_v1 (F := 𝕀) x4 x5 = vv
  generalize val_main_v17 (F := 𝕀) x0 x2 x3 = ss
  pointwise []
theorem key_apply (b : Fin 4) (g : Fin 2) (d : Fin 64) (k : Fin 4352)  :
   val_main_v0 (F := 𝕀) x2 x3 (ix4 b k g d) = if h : k.val < 256 then x3 (ix4 b ⟨k.val, h⟩ g d) else x2 (ix4 b ⟨k.val - 256, by omega⟩ g d) := by
  pointwise [val_main_v0]

theorem value_apply (b : Fin 4) (g : Fin 2) (d : Fin 64) (k : Fin 4352)  :
   val_main_v1 (F := 𝕀) x4 x5 (ix4 b k g d) = if h : k.val < 256 then x5 (ix4 b ⟨k.val, h⟩ g d) else x4 (ix4 b ⟨k.val - 256, by omega⟩ g d) := by
  pointwise [val_main_v1]

theorem idx_row (b : Fin 4) (g : Fin 2) (p : Fin 3) (r : Fin 4096) (k : Fin 4352) :
    idx_main_v15 (idx_main_v16 (ix5 b g p r k)) = ix4 b g p r := by
  funext a; match a with | ⟨0, _⟩ => rfl | ⟨1, _⟩ => rfl | ⟨2, _⟩ => rfl | ⟨3, _⟩ => rfl
theorem idx_row' (b : Fin 4) (g : Fin 2) (p : Fin 3) (r : Fin 4096) (k : Fin 4352) :
    idx_main_v10 (idx_main_v11 (ix5 b g p r k)) = ix4 b g p r := by
  funext a; match a with | ⟨0, _⟩ => rfl | ⟨1, _⟩ => rfl | ⟨2, _⟩ => rfl | ⟨3, _⟩ => rfl
theorem idx_sum (b : Fin 4) (g : Fin 2) (p : Fin 3) (r : Fin 4096) (k : Fin 4352) :
    idx_main_v14 (ix4 b g p r) k = ix5 b g p r k := by
  funext a; match a with | ⟨0, _⟩ => rfl | ⟨1, _⟩ => rfl | ⟨2, _⟩ => rfl | ⟨3, _⟩ => rfl | ⟨4, _⟩ => rfl

/-- The exponentials: of a score less the largest. -/
theorem num_apply (b : Fin 4) (g : Fin 2) (p : Fin 3) (r : Fin 4096) (k : Fin 4352) :
   val_main_v13 (F := 𝕀) x0 x2 x3 (ix5 b g p r k) = Ideal.exp (val_main_v6 (F := 𝕀) x0 x2 x3 (ix5 b g p r k) - max (Ideal.ofBits FTy.f32 0xFF800000#32) (val_main_v7 (F := 𝕀) x0 x2 x3 (ix4 b g p r))) := by
  rw [val_main_v13_apply, val_main_v12_apply, val_main_v11_apply, val_main_v10_apply, val_main_v9_apply, val_main_v8_apply, idx_row']
  generalize val_main_v6 (F := 𝕀) x0 x2 x3 = ss
  generalize val_main_v7 (F := 𝕀) x0 x2 x3 = tt
  rfl

/-- The normalised weights. -/
theorem weight_apply (b : Fin 4) (g : Fin 2) (p : Fin 3) (r : Fin 4096) (k : Fin 4352) :
   val_main_v17 (F := 𝕀) x0 x2 x3 (ix5 b g p r k) = Ideal.div (val_main_v13 (F := 𝕀) x0 x2 x3 (ix5 b g p r k)) (∑ l, val_main_v13 (F := 𝕀) x0 x2 x3 (ix5 b g p r l)) := by
  rw [val_main_v17_apply, val_main_v16_apply, val_main_v15_apply, idx_row, val_main_v14_apply]
  simp only [idx_sum]
  generalize val_main_v13 (F := 𝕀) x0 x2 x3 = ss
  have h : ∀ i, (val_main_cst_2 (F := 𝕀)) i = (0 : EReal) := fun i => by
    show Ideal.ofBits .f32 0x00000000#32 = _
    simp [Ideal.ofBits, Ideal.ieee]
  rw [h]
  refine congrArg (Ideal.div _) ?_
  exact zero_add _

/-- The score of a key for a query, and a key's own values, in the order [context, latent]. -/
def refJoined (xl : (⟨S4x4096x2x64, .f32⟩ : BufTy).Contents (Elt 𝕀)) (xc : (⟨S4x256x2x64, .f32⟩ : BufTy).Contents (Elt 𝕀))
    (b : Fin 4) (k : Fin 4352) (g : Fin 2) (d : Fin 64) : EReal :=
  if h : k.val < 256 then xc (ix4 b ⟨k.val, h⟩ g d) else xl (ix4 b ⟨k.val - 256, by omega⟩ g d)

/-- The reference's result: the softmax of the scores over all keys, applied to the values. -/
theorem ref_apply (b : Fin 4) (g : Fin 2) (p : Fin 3) (d : Fin 64) (r : Fin 4096) :
    val_main_v21 (F := 𝕀) x0 x2 x3 x4 x5 (ix3 b r ⟨192 * g.val + 64 * p.val + d.val, by omega⟩)
      = Cert.Soft.mixExp (fun k => (∑ x, refJoined x2 x3 b k g x * x0 (ix4 b r ⟨g.val * 3 + p.val, by omega⟩ x)) * Ideal.ofBits .f32 0x3E000000#32)
          (fun k => refJoined x4 x5 b k g d) := by
  have hs : ∀ k, val_main_v6 (F := 𝕀) x0 x2 x3 (ix5 b g p r k) = (∑ x, refJoined x2 x3 b k g x * x0 (ix4 b r ⟨g.val * 3 + p.val, by omega⟩ x)) * Ideal.ofBits .f32 0x3E000000#32 := fun k => by
    rw [score_apply]
    refine congrArg (· * _) (Finset.sum_congr rfl fun x _ => ?_)
    rw [key_apply]; rfl
  rw [cast_apply, mix_apply]
  unfold Cert.Soft.mixExp
  simp only [weight_apply, num_apply, top_apply, hs, value_apply]
  rfl

end Cert.ReferenceIdeal.Read
end
-- ==== Proof.Equation.lean ====
module
public import proofs.«01_k».proof.Proof.Array
public import proofs.«01_k».proof.Proof.Ref
/-! The equation: the kernel's attention, its keys in the order [latent, context] and its softmax in powers of two,
    is the reference's. -/
@[expose] public section
set_option maxRecDepth 16384
noncomputable section
namespace Cert.KernelIdeal.Att
open Idealize.ShloMosaic Idealize.ShloMosaic.TcCoe Idealize.ShloMosaic.Tactic
open Cert.KernelIdeal.Gen Cert.Soft
open Cert.ReferenceIdeal.Read (refJoined val_main_v21 ref_apply)
local notation "𝕀" => Idealize.ShloMosaic.Ideal
variable (m : (ℓ : Loc nD τ sig) → Buf (Elt 𝕀) ℓ) (c : Dev nD)

/-- Where the kernel's key `k` stands among the reference's: latent keys after the 256 context keys. -/
def place : Fin 4352 ≃ Fin 4352 where
  toFun k := if h : k.val < 4096 then ⟨k.val + 256, by omega⟩ else ⟨k.val - 4096, by omega⟩
  invFun k := if h : k.val < 256 then ⟨k.val + 4096, by omega⟩ else ⟨k.val - 256, by omega⟩
  left_inv k := by
    apply Fin.ext
    by_cases h : k.val < 4096
    · simp [h]
    · simp [h]; have := k.isLt; split <;> simp <;> omega
  right_inv k := by
    apply Fin.ext
    by_cases h : k.val < 256
    · simp [h]
    · simp [h]; have := k.isLt; split <;> simp <;> omega

/-- The two orders hold the same rows. -/
theorem joined_place (xl : FVec 𝕀 S4x4096x2x64 .f32) (xc : FVec 𝕀 S4x256x2x64 .f32) (b : Fin 4) (k : Fin 4352) (g : Fin 2) (d : Fin 64) :
    joined xl xc b k g d = refJoined xl xc b (place k) g d := by
  unfold joined refJoined
  by_cases h : k.val < 4096
  · have hp : (place k).val = k.val + 256 := by simp [place, h]
    rw [dif_pos h, dif_neg (by omega)]
    exact congrArg (fun j => xl (ix4 b j g d)) (Fin.ext (by show k.val = (place k).val - 256; omega))
  · have hp : (place k).val = k.val - 4096 := by simp [place, h]
    rw [dif_neg h, dif_pos (by omega)]
    exact congrArg (fun j => xc (ix4 b j g d)) (Fin.ext hp.symm)

/-- A joined entry of real arrays is real. -/
theorem refJoined_real (xl : FVec 𝕀 S4x4096x2x64 .f32) (xc : FVec 𝕀 S4x256x2x64 .f32)
    (hl : ∀ i, ∃ r : ℝ, xl i = (r : EReal)) (hc : ∀ i, ∃ r : ℝ, xc i = (r : EReal)) (b : Fin 4) (k : Fin 4352) (g : Fin 2) (d : Fin 64) :
    ∃ r : ℝ, refJoined xl xc b k g d = (r : EReal) := by
  unfold refJoined
  split
  · exact hc _
  · exact hl _

theorem h8 : Ideal.ofBits .f32 0x3E000000#32 = ((1 / 8 : ℝ) : EReal) := by
  simp [Ideal.ofBits, Ideal.ieee]; rw [← EReal.coe_mul]; congr 1; norm_num

/-- The scale: an eighth over log 2. -/
theorem qScale_eq : qScale = ((1 / 8 / Real.log 2 : ℝ) : EReal) := by
  have h2 : Ideal.ofBits .f32 0x40000000#32 = ((2 : ℝ) : EReal) := by
    simp [Ideal.ofBits, Ideal.ieee]; rw [← EReal.coe_mul]; congr 1; norm_num
  have hlog : Real.log 2 ≠ 0 := (Real.log_pos (by norm_num)).ne'
  unfold qScale
  rw [h8, h2, Ideal.log_coe, if_neg (by norm_num), Ideal.div_coe hlog, ← EReal.coe_mul]
  congr 1
  ring

/-- The equation, at a query and a head's column. -/
theorem equation_at (hq : ∀ i, ∃ r : ℝ, qIn m c i = (r : EReal)) (hl : ∀ i, ∃ r : ℝ, klIn m c i = (r : EReal)) (hc : ∀ i, ∃ r : ℝ, kcIn m c i = (r : EReal))
    (b : Fin 4) (g : Fin 2) (p : Fin 3) (d : Fin 64) (r : Fin 4096) :
    attVal m c b ⟨g.val * 3 + p.val, by omega⟩ d r
      = mixExp (fun k => (∑ x, refJoined (klIn m c) (kcIn m c) b k g x * qIn m c (ix4 b r ⟨g.val * 3 + p.val, by omega⟩ x)) * Ideal.ofBits .f32 0x3E000000#32)
          (fun k => refJoined (vlIn m c) (vcIn m c) b k g d) := by
  choose q hq using hq
  have hk := fun k x => refJoined_real (klIn m c) (kcIn m c) hl hc b k g x
  choose K hK using hk
  have hg : (⟨(g.val * 3 + p.val) / 3, by omega⟩ : Fin 2) = g := Fin.ext (by show (g.val * 3 + p.val) / 3 = g.val; omega)
  unfold attVal
  simp only [hg, joined_place]
  refine mixPow_eq_mixExp (by norm_num) place
    (fun k => (∑ x, K k x * q (ix4 b r ⟨g.val * 3 + p.val, by omega⟩ x)) * (1 / 8)) _ _ _ _ (fun k => ?_) (fun k => ?_) (fun k => rfl)
  · simp only [hK, hq, h8, ← EReal.coe_mul, sum_coe]
  · simp only [hK, hq, qScale_eq, ← EReal.coe_mul, sum_coe]
    congr 1
    rw [Finset.sum_mul, Finset.sum_div]
    refine Finset.sum_congr rfl fun x _ => ?_
    ring

/-- The kernel's result array is the reference's. -/
theorem equation (hq : ∀ i, ∃ r : ℝ, qIn m c i = (r : EReal)) (hl : ∀ i, ∃ r : ℝ, klIn m c i = (r : EReal)) (hc : ∀ i, ∃ r : ℝ, kcIn m c i = (r : EReal)) :
    attArr m c = val_main_v21 (F := 𝕀) (qIn m c) (klIn m c) (kcIn m c) (vlIn m c) (vcIn m c) := by
  funext y
  have h0 : (y 0).val < 4 := (y 0).isLt
  have h1 : (y 1).val < 4096 := (y 1).isLt
  have h2 : (y 2).val < 384 := (y 2).isLt
  obtain ⟨g, hg⟩ : ∃ g : Fin 2, g.val = (y 2).val / 192 := ⟨⟨(y 2).val / 192, by omega⟩, rfl⟩
  obtain ⟨p, hp⟩ : ∃ p : Fin 3, p.val = (y 2).val % 192 / 64 := ⟨⟨(y 2).val % 192 / 64, by omega⟩, rfl⟩
  obtain ⟨d, hd⟩ : ∃ d : Fin 64, d.val = (y 2).val % 64 := ⟨⟨(y 2).val % 64, by omega⟩, rfl⟩
  have ha : y = ix3 ⟨(y 0).val, h0⟩ ⟨(y 1).val, h1⟩ ⟨64 * (⟨g.val * 3 + p.val, by omega⟩ : Fin 6).val + d.val, by show 64 * (g.val * 3 + p.val) + d.val < 384; omega⟩ := by
    idx_ext
  have hb : y = ix3 ⟨(y 0).val, h0⟩ ⟨(y 1).val, h1⟩ ⟨192 * g.val + 64 * p.val + d.val, by omega⟩ := by
    idx_ext
  refine Eq.trans (congrArg _ ha) (Eq.trans ?_ (congrArg _ hb).symm)
  refine (attArr_apply m c _ _ _ _).trans (Eq.trans ?_ (ref_apply _ _ _ _ _ _ _ _ _ _).symm)
  exact equation_at m c hq hl hc _ _ _ _ _

end Cert.KernelIdeal.Att
end
-- ==== Proof.Finite.lean ====
module
public import proofs.«01_k».proof.Pre_finite
public import Idealize.ShloMosaic.Lib.ReduceAll
public import Idealize.ShloMosaic.Lib.Affine
public import Idealize.ShloMosaic.Lib.Pointwise
/-! The precondition: every query and every key is a real number. -/
@[expose] public section
set_option maxRecDepth 16384
noncomputable section
namespace Cert.Pre_finite
open Idealize.ShloMosaic Idealize.ShloMosaic.TcCoe Idealize.ShloMosaic.Tactic
local notation "𝕀" => Idealize.ShloMosaic.Ideal

/-- The precondition's own side conditions. -/
theorem facts : Facts where
  bcast_S_S4x4096x6x64 := by decide
  reducesTo_S4x4096x6x64_S_d0_1_2_3 := by decide
  h_S_ := by decide
  bcast_S_S4x4096x2x64 := by decide
  reducesTo_S4x4096x2x64_S_d0_1_2_3 := by decide
  bcast_S_S4x256x2x64 := by decide
  reducesTo_S4x256x2x64_S_d0_1_2_3 := by decide

attribute [instance] facts

/-- An extended real whose absolute value is below infinity is a real. -/
theorem real_of_bit (x : EReal) (h : FloatOps.cmpf (F := 𝕀) (φ := .f32) .olt (FloatOps.hostAbsf (F := 𝕀) (φ := .f32) x) (Ideal.ofBits .f32 0x7F800000#32) = 1#1) : ∃ r : ℝ, x = (r : EReal) := by
  have hb : Ideal.ofBits .f32 0x7F800000#32 = ⊤ := by simp [Ideal.ofBits, Ideal.ieee]
  rw [hb] at h
  induction x using EReal.rec with
  | bot => exfalso; revert h; simp [FloatOps.cmpf, FloatOps.hostAbsf]; simp [Ideal.cmp]
  | top => exfalso; revert h; simp [FloatOps.cmpf, FloatOps.hostAbsf]; simp [Ideal.cmp]
  | coe r => exact ⟨r, rfl⟩

/-- Under the precondition every query and every key is a real number. -/
theorem reals (x0 : FVec 𝕀 S4x4096x6x64 .f32) (x1) (x2 : FVec 𝕀 S4x4096x2x64 .f32) (x3 : FVec 𝕀 S4x256x2x64 .f32) (x4 x5)
    (h : fn (F := 𝕀) x0 x1 x2 x3 x4 x5 = fun _ => 1#1) :
    (∀ i, ∃ r : ℝ, x0 i = (r : EReal)) ∧ (∀ i, ∃ r : ℝ, x2 i = (r : EReal)) ∧ (∀ i, ∃ r : ℝ, x3 i = (r : EReal)) := by
  have h := congrFun h (Shape.Idx.first facts.h_S_)
  dsimp only [fn] at h
  obtain ⟨h, h3⟩ := IntOp.andi_eq_one.1 h
  obtain ⟨h0, h2⟩ := IntOp.andi_eq_one.1 h
  refine ⟨fun i => ?_, fun i => ?_, fun i => ?_⟩
  · exact real_of_bit _ (Host.reduce_andi_all _ _ _ _ _ h0 i)
  · exact real_of_bit _ (Host.reduce_andi_all _ _ _ _ _ h2 i)
  · exact real_of_bit _ (Host.reduce_andi_all _ _ _ _ _ h3 i)
end Cert.Pre_finite
end
-- ==== Proof.MoeRun.lean ====
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Pipeline.Frame
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The table as the body is handed it. -/
abbrev tab : Memref sig .tc .smem S32x128 .i32 := Memref.whole main_v11
abbrev htab : tab.IsWhole := Memref.isWhole_whole _

/-- Half the table's buffer on core `c`, at the words `f`. -/
abbrev TabBuf (c : Dev nD) : Type := Buf (Elt F) (tab.view.loc (c : Thread nD τ))
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- The word of chunk 0 at the point `i`. -/
abbrev word0 (c : Dev nD) (i : grid0.Coords) (f : TabBuf (F := F) c) : BitVec 32 :=
  tab.view.readAt (Elt F) (Rect.unit (s := S32x128) (k0_off1 i) S1x1.size (k0_off1_inb i)).toLoadRect f (Shape.Idx.first (numel1_S1x1.symm ▸ Nat.one_pos))
/-- The word of chunk 1 at the point `i`. -/
abbrev word1 (c : Dev nD) (i : grid0.Coords) (f : TabBuf (F := F) c) : BitVec 32 :=
  tab.view.readAt (Elt F) (Rect.unit (s := S32x128) (k0_off5 i) S1x1.size (k0_off5_inb i)).toLoadRect f (Shape.Idx.first (numel1_S1x1.symm ▸ Nat.one_pos))
/-- The word of chunk 2 at the point `i`. -/
abbrev word2 (c : Dev nD) (i : grid0.Coords) (f : TabBuf (F := F) c) : BitVec 32 :=
  tab.view.readAt (Elt F) (Rect.unit (s := S32x128) (k0_off9 i) S1x1.size (k0_off9_inb i)).toLoadRect f (Shape.Idx.first (numel1_S1x1.symm ▸ Nat.one_pos))
/-- The word of chunk 3 at the point `i`. -/
abbrev word3 (c : Dev nD) (i : grid0.Coords) (f : TabBuf (F := F) c) : BitVec 32 :=
  tab.view.readAt (Elt F) (Rect.unit (s := S32x128) (k0_off13 i) S1x1.size (k0_off13_inb i)).toLoadRect f (Shape.Idx.first (numel1_S1x1.symm ▸ Nat.one_pos))
/-- The word of chunk 4 at the point `i`. -/
abbrev word4 (c : Dev nD) (i : grid0.Coords) (f : TabBuf (F := F) c) : BitVec 32 :=
  tab.view.readAt (Elt F) (Rect.unit (s := S32x128) (k0_off17 i) S1x1.size (k0_off17_inb i)).toLoadRect f (Shape.Idx.first (numel1_S1x1.symm ▸ Nat.one_pos))
/-- The word of chunk 5 at the point `i`. -/
abbrev word5 (c : Dev nD) (i : grid0.Coords) (f : TabBuf (F := F) c) : BitVec 32 :=
  tab.view.readAt (Elt F) (Rect.unit (s := S32x128) (k0_off21 i) S1x1.size (k0_off21_inb i)).toLoadRect f (Shape.Idx.first (numel1_S1x1.symm ▸ Nat.one_pos))
/-- The word of chunk 6 at the point `i`. -/
abbrev word6 (c : Dev nD) (i : grid0.Coords) (f : TabBuf (F := F) c) : BitVec 32 :=
  tab.view.readAt (Elt F) (Rect.unit (s := S32x128) (k0_off25 i) S1x1.size (k0_off25_inb i)).toLoadRect f (Shape.Idx.first (numel1_S1x1.symm ▸ Nat.one_pos))

set_option maxHeartbeats 4000000 in
/-- One call of the body: it leaves its inputs, and what it stores into its result is found by the run. Each chunk of
    slots is run either through its group's experts or, past the last group, to zeros. -/
def bodyRun (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S512x128 .f32) (harg8 : arg8.IsWhole) (arg9 : Memref sig .tc .vmem S1x1x512 .i32) (harg9 : arg9.IsWhole) (arg10 : Memref sig .tc .vmem S1x16x1024x256 .bf16) (harg10 : arg10.IsWhole) (arg11 : Memref sig .tc .vmem S1x16x1024x256 .bf16) (harg11 : arg11.IsWhole) (arg12 : Memref sig .tc .vmem S1x16x256x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S896x1024 .bf16) (harg15 : arg15.IsWhole) (arg16 : Memref sig .tc .vmem S896x1024 .bf16) (harg16 : arg16.IsWhole)
    (x0 : Vec F S1x512x1024 .f32) (x1 : Vec F S1x1x1024 .f32) (x2 : Vec F S1x1x1024 .f32) (x3 : Vec F S1x1x1024 .f32) (x4 : Vec F S1x1024 .f32) (x5 : Vec F S512x128 .f32) (x6 : Vec F S1x1x512 .i32) (x7 : Vec F S1x16x1024x256 .bf16) (x8 : Vec F S1x16x1024x256 .bf16) (x9 : Vec F S1x16x256x1024 .bf16) (x10 : Vec F S1x1024 .f32) (xt : TabBuf (F := F) c) (hw0 : k0_chk1 (word0 c i xt)) (hw1 : k0_chk2 (word1 c i xt)) (hw2 : k0_chk3 (word2 c i xt)) (hw3 : k0_chk4 (word3 c i xt)) (hw4 : k0_chk5 (word4 c i xt)) (hw5 : k0_chk6 (word5 c i xt)) (hw6 : k0_chk7 (word6 c i xt))
    (xs0 : Vec F S896x1024 .bf16) (xs1 : Vec F S896x1024 .bf16) :
    { L : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ owns (c : Thread nD τ) arg15 fullShare xs0 ∗ owns (c : Thread nD τ) arg16 fullShare xs1 ∗ tabPt c tab xt
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L) ∗ (∃ f, arg15.view.loc (c : Thread nD τ) ↦[arg15.view.set]{fullShare} f) ∗ (∃ f, arg16.view.loc (c : Thread nD τ) ↦[arg16.view.set]{fullShare} f) ∗ tabPt c tab xt) -∗ K ⟨⟩))
          ⊢ wp frame (wpE (defs₀ (F := F)) Variants.none c none) E (cc0_moe_experts i tab htab arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hs0, HS0⟩, ⟨%fs1, %hs1, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hs0; obtain rfl := harg16.eq_unread hs1
    sl_exec (disch := first | sl_exact hw0 | sl_exact hw1 | sl_exact hw2 | sl_exact hw3 | sl_exact hw4 | sl_exact hw5 | sl_exact hw6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [HS0]; · iexists _; iexact HS0
    isplitl [HS1]; · iexists _; iexact HS1
    iexact HT0

end Cert.Kernel2Ideal.Moe

end
-- ==== Proof.MoeYp.lean ====
module

public import proofs.«01_k».proof.Proof.Gen.Kernel2Ideal
public import proofs.«01_k».proof.Proof.MoeRun
public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Pipeline.Frame
public import Idealize.ShloMosaic.Lib.Pipeline.Kit
public import Idealize.ShloMosaic.Lib.Ring
public import Idealize.ShloMosaic.Lib.Tactic
public import Idealize.ShloMosaic.Lib.WordCmp
public import Idealize.ShloMosaic.Lib.Claim
public import Idealize.ShloMosaic.Lib.VecWindow

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-! ## Chunks of the slots' results, stored one after the other -/

section Step

variable (m : Memref sig .tc .vmem S896x1024 .bf16) {C₁ C₂ : Prop} [Decidable C₁] [Decidable C₂] (o : ℕ)
  (inb : ∀ a, (![o, 0] : Fin 2 → ℕ) a + S128x1024.size a ≤ S896x1024.size a) (f : m.view.ty.Contents (Elt F))
  (w₁ : C₁ → (Rect.unit (s := S896x1024) ![o, 0] S128x1024.size inb).shape.Idx → Elt F .bf16)
  (w₂ : C₂ → (Rect.unit (s := S896x1024) ![o, 0] S128x1024.size inb).shape.Idx → Elt F .bf16)

/-- The buffer after a chunk: through the experts where `C₁` holds, then zeros where `C₂` does. -/
abbrev chunkStep : m.view.ty.Contents (Elt F) :=
  if h₂ : C₂ then
    m.view.writes (Elt F) (if h₁ : C₁ then m.view.writes (Elt F) f [⟨Rect.unit ![o, 0] S128x1024.size inb, w₁ h₁⟩] else f)
      [⟨Rect.unit ![o, 0] S128x1024.size inb, w₂ h₂⟩]
  else if h₁ : C₁ then m.view.writes (Elt F) f [⟨Rect.unit ![o, 0] S128x1024.size inb, w₁ h₁⟩] else f

theorem chunkStep_miss (y : S896x1024.Idx) (hy : (y 0).val < o ∨ o + 128 ≤ (y 0).val) :
    m.view.read (Elt F) (chunkStep m o inb f w₁ w₂) y = m.view.read (Elt F) f y := by
  unfold chunkStep
  have key : ∀ (g : m.view.ty.Contents (Elt F)) w, m.view.read (Elt F) (m.view.writes (Elt F) g [⟨Rect.unit (s := S896x1024) ![o, 0] S128x1024.size inb, w⟩]) y
      = m.view.read (Elt F) g y := fun g w =>
    View.read_writes_cons_unit_of_not_mem m.view g inb w [] y rfl (0 : Fin 2) hy
  split_ifs <;> simp only [key]

theorem chunkStep_live (y : S896x1024.Idx) (x : S128x1024.Idx) (hx0 : (y 0).val = o + (x 0).val)
    (hx1 : (y 1).val = (x 1).val) (h₁ : C₁) (h₂ : ¬C₂) :
    m.view.read (Elt F) (chunkStep m o inb f w₁ w₂) y = w₁ h₁ x := by
  unfold chunkStep
  rw [dif_neg h₂, dif_pos h₁]
  exact View.read_writes_cons_unit_of_mem m.view f inb _ [] y x rfl
    (Fin.forall_fin_two.mpr ⟨hx0, by rw [hx1]; exact (Nat.zero_add _).symm⟩)

theorem chunkStep_dead (y : S896x1024.Idx) (x : S128x1024.Idx) (hx0 : (y 0).val = o + (x 0).val)
    (hx1 : (y 1).val = (x 1).val) (h₂ : C₂) :
    m.view.read (Elt F) (chunkStep m o inb f w₁ w₂) y = w₂ h₂ x := by
  unfold chunkStep
  rw [dif_pos h₂]
  exact View.read_writes_cons_unit_of_mem m.view _ inb _ [] y x rfl
    (Fin.forall_fin_two.mpr ⟨hx0, by rw [hx1]; exact (Nat.zero_add _).symm⟩)

end Step

/-! ## The words -/

/-- A word that is a group: one of four. -/
theorem word_cases {w : BitVec 32} (h : w.toNat < 4) : w = 0#32 ∨ w = 1#32 ∨ w = 2#32 ∨ w = 3#32 := by
  have : w = BitVec.ofNat 32 w.toNat := by simp
  generalize w.toNat = n at *
  subst this
  match n, h with
  | 0, _ => exact .inl rfl
  | 1, _ => exact .inr (.inl rfl)
  | 2, _ => exact .inr (.inr (.inl rfl))
  | 3, _ => exact .inr (.inr (.inr rfl))

theorem cond_live {w : BitVec 32} (h : w.toNat < 4) : k0_cond1 w = 1#1 := by
  rcases word_cases h with rfl | rfl | rfl | rfl <;> decide

/-- The second test of a chunk: the word is past the last group. -/
abbrev past (w : BitVec 32) : BitVec 1 := Scalar.cmpi .ne (Scalar.extui (Scalar.cmpi .sge w 4#32) : BitVec 32) 0#32

theorem past_live {w : BitVec 32} (h : w.toNat < 4) : ¬past w = 1#1 := by
  rcases word_cases h with rfl | rfl | rfl | rfl <;> decide

theorem past_dead {w : BitVec 32} (h : w.toNat < 2 ^ 31) (h' : ¬w.toNat < 4) : past w = 1#1 := by
  have e : (4#32).sle w = true := by
    have h4 : (4#32 : BitVec 32).toInt = 4 := by decide
    rw [BitVec.sle_eq_decide, decide_eq_true_iff, h4, BitVec.toInt_eq_toNat_of_lt (by omega)]
    omega
  have e' : Scalar.cmpi .sge w 4#32 = 1#1 := by
    show BitVec.ofBool ((4#32).sle w) = 1#1
    rw [e]; rfl
  unfold past
  rw [e']; decide

theorem off_up {w : BitVec 32} (h : w.toNat < 4) : k0_off2 w = ![0, 4 * w.toNat + 0, 0, 0] := by
  rcases word_cases h with rfl | rfl | rfl | rfl <;> rfl
theorem off_up1 {w : BitVec 32} (h : w.toNat < 4) : k0_off3 w 0#32 = ![0, 4 * w.toNat + 1, 0, 0] := by
  rcases word_cases h with rfl | rfl | rfl | rfl <;> rfl
theorem off_up2 {w : BitVec 32} (h : w.toNat < 4) : k0_off3 w 1#32 = ![0, 4 * w.toNat + 2, 0, 0] := by
  rcases word_cases h with rfl | rfl | rfl | rfl <;> rfl
theorem off_up3 {w : BitVec 32} (h : w.toNat < 4) : k0_off3 w 2#32 = ![0, 4 * w.toNat + 3, 0, 0] := by
  rcases word_cases h with rfl | rfl | rfl | rfl <;> rfl
theorem off_dn0 {w : BitVec 32} (h : w.toNat < 4) : k0_off4 w 0#32 = ![0, 4 * w.toNat + 0, 0, 0] := by
  rcases word_cases h with rfl | rfl | rfl | rfl <;> rfl
theorem off_dn1 {w : BitVec 32} (h : w.toNat < 4) : k0_off4 w 1#32 = ![0, 4 * w.toNat + 1, 0, 0] := by
  rcases word_cases h with rfl | rfl | rfl | rfl <;> rfl
theorem off_dn2 {w : BitVec 32} (h : w.toNat < 4) : k0_off4 w 2#32 = ![0, 4 * w.toNat + 2, 0, 0] := by
  rcases word_cases h with rfl | rfl | rfl | rfl <;> rfl
theorem off_dn3 {w : BitVec 32} (h : w.toNat < 4) : k0_off4 w 3#32 = ![0, 4 * w.toNat + 3, 0, 0] := by
  rcases word_cases h with rfl | rfl | rfl | rfl <;> rfl

/-! ## One chunk through its group's experts -/

theorem up_inb {e : ℕ} (h : e < 16) : ∀ a, (![0, e, 0, 0] : Fin 4 → ℕ) a + S1x1x1024x256.size a ≤ S1x16x1024x256.size a := by
  intro a; match a with
  | ⟨0, _⟩ => exact (by decide : (0 + 1 : ℕ) ≤ 1)
  | ⟨1, _⟩ => show e + 1 ≤ 16; omega
  | ⟨2, _⟩ => exact (by decide : (0 + 1024 : ℕ) ≤ 1024)
  | ⟨3, _⟩ => exact (by decide : (0 + 256 : ℕ) ≤ 256)
theorem dn_inb {e : ℕ} (h : e < 16) : ∀ a, (![0, e, 0, 0] : Fin 4 → ℕ) a + S1x1x256x1024.size a ≤ S1x16x256x1024.size a := by
  intro a; match a with
  | ⟨0, _⟩ => exact (by decide : (0 + 1 : ℕ) ≤ 1)
  | ⟨1, _⟩ => show e + 1 ≤ 16; omega
  | ⟨2, _⟩ => exact (by decide : (0 + 256 : ℕ) ≤ 256)
  | ⟨3, _⟩ => exact (by decide : (0 + 1024 : ℕ) ≤ 1024)

/-- One expert's way in, of the stacked ones. -/
abbrev up (x : Vec F S1x16x1024x256 .bf16) (e : ℕ) (h : e < 16) : Vec F S1x1x1024x256 .bf16 :=
  VecWindow.window x ![0, e, 0, 0] S1x1x1024x256.size (up_inb h)
/-- One expert's way out, of the stacked ones. -/
abbrev dn (x : Vec F S1x16x256x1024 .bf16) (e : ℕ) (h : e < 16) : Vec F S1x1x256x1024 .bf16 :=
  VecWindow.window x ![0, e, 0, 0] S1x1x256x1024.size (dn_inb h)

/-- The rows of a chunk through one expert's matrix. -/
def lift (xc : FVec F S128x1024 .bf16) (w : Vec F S1x1x1024x256 .bf16) : FVec F S128x256 .f32 :=
  matmul dot_S128x1024_S1024x256_S128x256_1_0_0_1_n_n none xc (shapeCast S1024x256 w shapeCasts_S1x1x1024x256_S1024x256)
    (constant S128x256 .f32 0x00000000#32)

/-- A chunk's rows through one expert, each row weighed by its column of weights. -/
def expert (xc : FVec F S128x1024 .bf16) (col : FVec F S128x1 .f32) (g u : Vec F S1x1x1024x256 .bf16) (d : Vec F S1x1x256x1024 .bf16) :
    FVec F S128x1024 .f32 :=
  matmul dot_S128x256_S256x1024_S128x1024_1_0_0_1_n_n none
    (truncf .bf16 (mulf (mulf (mulf (lift xc g) (logistic (lift xc g))) (lift xc u)) (broadcastTo S128x256 col broadcasts_S128x1_S128x256)) bitsLt_bf16_f32)
    (shapeCast S256x1024 d shapeCasts_S1x1x256x1024_S256x1024) (constant S128x1024 .f32 0x00000000#32)

/-- A chunk's rows through four experts, each row weighed by four columns of weights. -/
def chunk (xc : FVec F S128x1024 .bf16) (c0 c1 c2 c3 : FVec F S128x1 .f32) (g0 g1 g2 g3 u0 u1 u2 u3 : Vec F S1x1x1024x256 .bf16)
    (d0 d1 d2 d3 : Vec F S1x1x256x1024 .bf16) : FVec F S128x1024 .bf16 :=
  shapeCast S128x1024 (truncf .bf16 (addf (addf (addf (addf (broadcast S128x1024 (Scalar.ofBits .f32 0x00000000#32))
    (expert xc c0 g0 u0 d0)) (expert xc c1 g1 u1 d1)) (expert xc c2 g2 u2 d2)) (expert xc c3 g3 u3 d3)) bitsLt_bf16_f32)
    shapeCasts_S128x1024_S128x1024

/-- A chunk's rows through the four experts of the group `g`, of the stacked ones. -/
def grouped (xc : FVec F S128x1024 .bf16) (c0 c1 c2 c3 : FVec F S128x1 .f32) (x7 x8 : Vec F S1x16x1024x256 .bf16) (x9 : Vec F S1x16x256x1024 .bf16)
    (g : ℕ) (h : g < 4) : FVec F S128x1024 .bf16 :=
  chunk xc c0 c1 c2 c3
    (up x7 (4 * g + 0) (by omega)) (up x7 (4 * g + 1) (by omega)) (up x7 (4 * g + 2) (by omega)) (up x7 (4 * g + 3) (by omega))
    (up x8 (4 * g + 0) (by omega)) (up x8 (4 * g + 1) (by omega)) (up x8 (4 * g + 2) (by omega)) (up x8 (4 * g + 3) (by omega))
    (dn x9 (4 * g + 0) (by omega)) (dn x9 (4 * g + 1) (by omega)) (dn x9 (4 * g + 2) (by omega)) (dn x9 (4 * g + 3) (by omega))

theorem ld_up (m : Memref sig .tc .vmem S1x16x1024x256 .bf16) (hm : m.IsWhole) (x : Vec F S1x16x1024x256 .bf16) (off : Fin 4 → ℕ)
    (inb : ∀ a, off a + S1x1x1024x256.size a ≤ S1x16x1024x256.size a) {e : ℕ} (h : e < 16) (ho : off = ![0, e, 0, 0]) :
    m.view.readAt (Elt F) (Rect.unit (s := S1x16x1024x256) off S1x1x1024x256.size inb).toLoadRect (hm.unread x) = up x e h := by
  rw [View.readAt_unit m.view _ inb ho (up_inb h), hm.read_unread]
theorem ld_dn (m : Memref sig .tc .vmem S1x16x256x1024 .bf16) (hm : m.IsWhole) (x : Vec F S1x16x256x1024 .bf16) (off : Fin 4 → ℕ)
    (inb : ∀ a, off a + S1x1x256x1024.size a ≤ S1x16x256x1024.size a) {e : ℕ} (h : e < 16) (ho : off = ![0, e, 0, 0]) :
    m.view.readAt (Elt F) (Rect.unit (s := S1x16x256x1024) off S1x1x256x1024.size inb).toLoadRect (hm.unread x) = dn x e h := by
  rw [View.readAt_unit m.view _ inb ho (dn_inb h), hm.read_unread]

theorem cov_rows (m : Memref sig .tc .vmem S896x1024 .bf16) (w : Vec F S896x1024 .bf16) (off : Fin 2 → ℕ)
    (inb : ∀ a, off a + S128x1024.size a ≤ S896x1024.size a) :
    m.view.readCov [(⟨Rect.unit ![0, 0] S896x1024.size inb_S896x1024_S896x1024_0_0, w⟩ : View.Piece (Elt F) S896x1024 .bf16)]
      (Rect.unit (s := S896x1024) off S128x1024.size inb).toLoadRect = VecWindow.window w off S128x1024.size inb :=
  (View.readAt_unit m.view _ inb rfl inb).trans (by rw [View.read_writes_full])

/-- The rows a tile's slots hold. -/
def slotRows (x0 : Vec F S1x512x1024 .f32) (x1 x2 : Vec F S1x1x1024 .f32) (x4 : Vec F S1x1024 .f32) (x6 : Vec F S1x1x512 .i32) :
    FVec F S896x1024 .bf16 :=
  k0_pay64 (k0_pay59 x0 x4 x2 x1) (k0_pay61 x6) (Scalar.ofBits .f32 0x3F800000#32)

/-- The weights a tile's slots hold. -/
def slotWts (x5 : Vec F S512x128 .f32) (x6 : Vec F S1x1x512 .i32) : FVec F S896x128 .f32 :=
  k0_pay65 x5 (k0_pay61 x6) (Scalar.ofBits .f32 0x3F800000#32)

/-! ## What the run names -/

section Names

variable {arg3 : Memref sig .tc .vmem S1x512x1024 .f32} {harg3 : arg3.IsWhole} {arg4 arg5 : Memref sig .tc .vmem S1x1x1024 .f32}
  {harg4 : arg4.IsWhole} {harg5 : arg5.IsWhole} {arg7 : Memref sig .tc .vmem S1x1024 .f32} {harg7 : arg7.IsWhole}
  {arg8 : Memref sig .tc .vmem S512x128 .f32} {harg8 : arg8.IsWhole} {arg9 : Memref sig .tc .vmem S1x1x512 .i32} {harg9 : arg9.IsWhole}
  {x0 : Vec F S1x512x1024 .f32} {x1 x2 : Vec F S1x1x1024 .f32} {x4 : Vec F S1x1024 .f32} {x5 : Vec F S512x128 .f32} {x6 : Vec F S1x1x512 .i32}

theorem sl_r_4 (c : Dev nD) : bodyRun.sl.r_4 c arg9 harg9 x6 = k0_pay61 x6 := by
  unfold bodyRun.sl.r_4
  rw [View.readAt_full, harg9.read_unread]
theorem sl_r_1 (c : Dev nD) : bodyRun.sl.r_1 c arg3 harg3 arg4 harg4 arg5 harg5 arg7 harg7 x0 x1 x2 x4 = k0_pay59 x0 x4 x2 x1 := by
  unfold bodyRun.sl.r_1
  rw [View.readAt_full, View.readAt_full, View.readAt_full, View.readAt_full, harg3.read_unread, harg4.read_unread, harg5.read_unread, harg7.read_unread]
theorem sl_r_15 (c : Dev nD) : bodyRun.sl.r_15 c arg8 harg8 arg9 harg9 x5 x6 = slotWts x5 x6 := by
  unfold bodyRun.sl.r_15 bodyRun.sl.r_2
  rw [View.readAt_full, harg8.read_unread, sl_r_4]
  rfl
theorem sl_HS0_1 (c : Dev nD) : bodyRun.sl.HS0_1 c arg3 harg3 arg4 harg4 arg5 harg5 arg7 harg7 arg9 harg9 x0 x1 x2 x4 x6
    = [(⟨Rect.unit ![0, 0] S896x1024.size inb_S896x1024_S896x1024_0_0, slotRows x0 x1 x2 x4 x6⟩ : View.Piece (Elt F) S896x1024 .bf16)] := by
  unfold bodyRun.sl.HS0_1
  rw [sl_r_1, sl_r_4]
  rfl

end Names

theorem chunk_congr {xc xc' : FVec F S128x1024 .bf16} {c0 c1 c2 c3 c0' c1' c2' c3' : FVec F S128x1 .f32}
    {g0 g1 g2 g3 u0 u1 u2 u3 g0' g1' g2' g3' u0' u1' u2' u3' : Vec F S1x1x1024x256 .bf16} {d0 d1 d2 d3 d0' d1' d2' d3' : Vec F S1x1x256x1024 .bf16}
    (h : xc = xc') (hc0 : c0 = c0') (hc1 : c1 = c1') (hc2 : c2 = c2') (hc3 : c3 = c3')
    (hg0 : g0 = g0') (hg1 : g1 = g1') (hg2 : g2 = g2') (hg3 : g3 = g3') (hu0 : u0 = u0') (hu1 : u1 = u1') (hu2 : u2 = u2') (hu3 : u3 = u3')
    (hd0 : d0 = d0') (hd1 : d1 = d1') (hd2 : d2 = d2') (hd3 : d3 = d3') :
    chunk xc c0 c1 c2 c3 g0 g1 g2 g3 u0 u1 u2 u3 d0 d1 d2 d3 = chunk xc' c0' c1' c2' c3' g0' g1' g2' g3' u0' u1' u2' u3' d0' d1' d2' d3' := by
  subst h hc0 hc1 hc2 hc3 hg0 hg1 hg2 hg3 hu0 hu1 hu2 hu3 hd0 hd1 hd2 hd3
  rfl

/-- What chunk 0 of a tile's slots holds when its word is the group `g`. -/
def piece0 (x0 : Vec F S1x512x1024 .f32) (x1 x2 : Vec F S1x1x1024 .f32) (x4 : Vec F S1x1024 .f32) (x5 : Vec F S512x128 .f32) (x6 : Vec F S1x1x512 .i32)
    (x7 x8 : Vec F S1x16x1024x256 .bf16) (x9 : Vec F S1x16x256x1024 .bf16) (g : ℕ) (h : g < 4) : FVec F S128x1024 .bf16 :=
  grouped (VecWindow.window (slotRows x0 x1 x2 x4 x6) ![0, 0] S128x1024.size inb_S896x1024_S128x1024_0_0)
    (extractStridedSlice S128x1 ![0, 0] (slotWts x5 x6) slices_S896x128_o0_0_S128x1)
    (extractStridedSlice S128x1 ![0, 1] (slotWts x5 x6) slices_S896x128_o0_1_S128x1)
    (extractStridedSlice S128x1 ![0, 2] (slotWts x5 x6) slices_S896x128_o0_2_S128x1)
    (extractStridedSlice S128x1 ![0, 3] (slotWts x5 x6) slices_S896x128_o0_3_S128x1) x7 x8 x9 g h

/-- What chunk 1 of a tile's slots holds when its word is the group `g`. -/
def piece1 (x0 : Vec F S1x512x1024 .f32) (x1 x2 : Vec F S1x1x1024 .f32) (x4 : Vec F S1x1024 .f32) (x5 : Vec F S512x128 .f32) (x6 : Vec F S1x1x512 .i32)
    (x7 x8 : Vec F S1x16x1024x256 .bf16) (x9 : Vec F S1x16x256x1024 .bf16) (g : ℕ) (h : g < 4) : FVec F S128x1024 .bf16 :=
  grouped (VecWindow.window (slotRows x0 x1 x2 x4 x6) ![128, 0] S128x1024.size inb_S896x1024_S128x1024_128_0)
    (extractStridedSlice S128x1 ![128, 0] (slotWts x5 x6) slices_S896x128_o128_0_S128x1)
    (extractStridedSlice S128x1 ![128, 1] (slotWts x5 x6) slices_S896x128_o128_1_S128x1)
    (extractStridedSlice S128x1 ![128, 2] (slotWts x5 x6) slices_S896x128_o128_2_S128x1)
    (extractStridedSlice S128x1 ![128, 3] (slotWts x5 x6) slices_S896x128_o128_3_S128x1) x7 x8 x9 g h

/-- What chunk 2 of a tile's slots holds when its word is the group `g`. -/
def piece2 (x0 : Vec F S1x512x1024 .f32) (x1 x2 : Vec F S1x1x1024 .f32) (x4 : Vec F S1x1024 .f32) (x5 : Vec F S512x128 .f32) (x6 : Vec F S1x1x512 .i32)
    (x7 x8 : Vec F S1x16x1024x256 .bf16) (x9 : Vec F S1x16x256x1024 .bf16) (g : ℕ) (h : g < 4) : FVec F S128x1024 .bf16 :=
  grouped (VecWindow.window (slotRows x0 x1 x2 x4 x6) ![256, 0] S128x1024.size inb_S896x1024_S128x1024_256_0)
    (extractStridedSlice S128x1 ![256, 0] (slotWts x5 x6) slices_S896x128_o256_0_S128x1)
    (extractStridedSlice S128x1 ![256, 1] (slotWts x5 x6) slices_S896x128_o256_1_S128x1)
    (extractStridedSlice S128x1 ![256, 2] (slotWts x5 x6) slices_S896x128_o256_2_S128x1)
    (extractStridedSlice S128x1 ![256, 3] (slotWts x5 x6) slices_S896x128_o256_3_S128x1) x7 x8 x9 g h

/-- What chunk 3 of a tile's slots holds when its word is the group `g`. -/
def piece3 (x0 : Vec F S1x512x1024 .f32) (x1 x2 : Vec F S1x1x1024 .f32) (x4 : Vec F S1x1024 .f32) (x5 : Vec F S512x128 .f32) (x6 : Vec F S1x1x512 .i32)
    (x7 x8 : Vec F S1x16x1024x256 .bf16) (x9 : Vec F S1x16x256x1024 .bf16) (g : ℕ) (h : g < 4) : FVec F S128x1024 .bf16 :=
  grouped (VecWindow.window (slotRows x0 x1 x2 x4 x6) ![384, 0] S128x1024.size inb_S896x1024_S128x1024_384_0)
    (extractStridedSlice S128x1 ![384, 0] (slotWts x5 x6) slices_S896x128_o384_0_S128x1)
    (extractStridedSlice S128x1 ![384, 1] (slotWts x5 x6) slices_S896x128_o384_1_S128x1)
    (extractStridedSlice S128x1 ![384, 2] (slotWts x5 x6) slices_S896x128_o384_2_S128x1)
    (extractStridedSlice S128x1 ![384, 3] (slotWts x5 x6) slices_S896x128_o384_3_S128x1) x7 x8 x9 g h

/-- What chunk 4 of a tile's slots holds when its word is the group `g`. -/
def piece4 (x0 : Vec F S1x512x1024 .f32) (x1 x2 : Vec F S1x1x1024 .f32) (x4 : Vec F S1x1024 .f32) (x5 : Vec F S512x128 .f32) (x6 : Vec F S1x1x512 .i32)
    (x7 x8 : Vec F S1x16x1024x256 .bf16) (x9 : Vec F S1x16x256x1024 .bf16) (g : ℕ) (h : g < 4) : FVec F S128x1024 .bf16 :=
  grouped (VecWindow.window (slotRows x0 x1 x2 x4 x6) ![512, 0] S128x1024.size inb_S896x1024_S128x1024_512_0)
    (extractStridedSlice S128x1 ![512, 0] (slotWts x5 x6) slices_S896x128_o512_0_S128x1)
    (extractStridedSlice S128x1 ![512, 1] (slotWts x5 x6) slices_S896x128_o512_1_S128x1)
    (extractStridedSlice S128x1 ![512, 2] (slotWts x5 x6) slices_S896x128_o512_2_S128x1)
    (extractStridedSlice S128x1 ![512, 3] (slotWts x5 x6) slices_S896x128_o512_3_S128x1) x7 x8 x9 g h

/-- What chunk 5 of a tile's slots holds when its word is the group `g`. -/
def piece5 (x0 : Vec F S1x512x1024 .f32) (x1 x2 : Vec F S1x1x1024 .f32) (x4 : Vec F S1x1024 .f32) (x5 : Vec F S512x128 .f32) (x6 : Vec F S1x1x512 .i32)
    (x7 x8 : Vec F S1x16x1024x256 .bf16) (x9 : Vec F S1x16x256x1024 .bf16) (g : ℕ) (h : g < 4) : FVec F S128x1024 .bf16 :=
  grouped (VecWindow.window (slotRows x0 x1 x2 x4 x6) ![640, 0] S128x1024.size inb_S896x1024_S128x1024_640_0)
    (extractStridedSlice S128x1 ![640, 0] (slotWts x5 x6) slices_S896x128_o640_0_S128x1)
    (extractStridedSlice S128x1 ![640, 1] (slotWts x5 x6) slices_S896x128_o640_1_S128x1)
    (extractStridedSlice S128x1 ![640, 2] (slotWts x5 x6) slices_S896x128_o640_2_S128x1)
    (extractStridedSlice S128x1 ![640, 3] (slotWts x5 x6) slices_S896x128_o640_3_S128x1) x7 x8 x9 g h

/-- What chunk 6 of a tile's slots holds when its word is the group `g`. -/
def piece6 (x0 : Vec F S1x512x1024 .f32) (x1 x2 : Vec F S1x1x1024 .f32) (x4 : Vec F S1x1024 .f32) (x5 : Vec F S512x128 .f32) (x6 : Vec F S1x1x512 .i32)
    (x7 x8 : Vec F S1x16x1024x256 .bf16) (x9 : Vec F S1x16x256x1024 .bf16) (g : ℕ) (h : g < 4) : FVec F S128x1024 .bf16 :=
  grouped (VecWindow.window (slotRows x0 x1 x2 x4 x6) ![768, 0] S128x1024.size inb_S896x1024_S128x1024_768_0)
    (extractStridedSlice S128x1 ![768, 0] (slotWts x5 x6) slices_S896x128_o768_0_S128x1)
    (extractStridedSlice S128x1 ![768, 1] (slotWts x5 x6) slices_S896x128_o768_1_S128x1)
    (extractStridedSlice S128x1 ![768, 2] (slotWts x5 x6) slices_S896x128_o768_2_S128x1)
    (extractStridedSlice S128x1 ![768, 3] (slotWts x5 x6) slices_S896x128_o768_3_S128x1) x7 x8 x9 g h

theorem at0u0 {w : BitVec 32} (h : w.toNat < 4) : k0_off2 w = ![0, 4 * w.toNat + 0, 0, 0] := off_up h
theorem at0u1 {w : BitVec 32} (h : w.toNat < 4) : k0_off3 w 0#32 = ![0, 4 * w.toNat + 1, 0, 0] := off_up1 h
theorem at0u2 {w : BitVec 32} (h : w.toNat < 4) : k0_off3 w 1#32 = ![0, 4 * w.toNat + 2, 0, 0] := off_up2 h
theorem at0u3 {w : BitVec 32} (h : w.toNat < 4) : k0_off3 w 2#32 = ![0, 4 * w.toNat + 3, 0, 0] := off_up3 h
theorem at0d0 {w : BitVec 32} (h : w.toNat < 4) : k0_off4 w 0#32 = ![0, 4 * w.toNat + 0, 0, 0] := off_dn0 h
theorem at0d1 {w : BitVec 32} (h : w.toNat < 4) : k0_off4 w 1#32 = ![0, 4 * w.toNat + 1, 0, 0] := off_dn1 h
theorem at0d2 {w : BitVec 32} (h : w.toNat < 4) : k0_off4 w 2#32 = ![0, 4 * w.toNat + 2, 0, 0] := off_dn2 h
theorem at0d3 {w : BitVec 32} (h : w.toNat < 4) : k0_off4 w 3#32 = ![0, 4 * w.toNat + 3, 0, 0] := off_dn3 h

theorem pay0 (v28 : Vec F S512x128 .f32) (v35 : IVec S896x512 1) (s : F .f32) (xc : FVec F S128x1024 .bf16) (g0 g1 g2 g3 u0 u1 u2 u3 : Vec F S1x1x1024x256 .bf16)
    (d0 d1 d2 d3 : Vec F S1x1x256x1024 .bf16) :
    k0_pay66 v28 v35 s xc (k0_pay6 xc g2) (k0_pay7 xc u2) (k0_pay8 (k0_pay65 v28 v35 s) k0_pay2 (k0_pay3 xc g1) (k0_pay4 xc u1) (k0_pay5 (k0_pay65 v28 v35 s) xc g0 u0) d0 d1) (k0_pay9 xc g3) u3 d2 d3
      = chunk xc (extractStridedSlice S128x1 ![0, 0] (k0_pay65 v28 v35 s) slices_S896x128_o0_0_S128x1) (extractStridedSlice S128x1 ![0, 1] (k0_pay65 v28 v35 s) slices_S896x128_o0_1_S128x1) (extractStridedSlice S128x1 ![0, 2] (k0_pay65 v28 v35 s) slices_S896x128_o0_2_S128x1) (extractStridedSlice S128x1 ![0, 3] (k0_pay65 v28 v35 s) slices_S896x128_o0_3_S128x1) g0 g1 g2 g3 u0 u1 u2 u3 d0 d1 d2 d3 := rfl

set_option maxHeartbeats 4000000 in
theorem chunk0 (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S512x128 .f32) (harg8 : arg8.IsWhole) (arg9 : Memref sig .tc .vmem S1x1x512 .i32) (harg9 : arg9.IsWhole) (arg10 : Memref sig .tc .vmem S1x16x1024x256 .bf16) (harg10 : arg10.IsWhole) (arg11 : Memref sig .tc .vmem S1x16x1024x256 .bf16) (harg11 : arg11.IsWhole) (arg12 : Memref sig .tc .vmem S1x16x256x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S896x1024 .bf16) (harg15 : arg15.IsWhole) (arg16 : Memref sig .tc .vmem S896x1024 .bf16) (harg16 : arg16.IsWhole)
    (x0 : Vec F S1x512x1024 .f32) (x1 : Vec F S1x1x1024 .f32) (x2 : Vec F S1x1x1024 .f32) (x3 : Vec F S1x1x1024 .f32) (x4 : Vec F S1x1024 .f32) (x5 : Vec F S512x128 .f32) (x6 : Vec F S1x1x512 .i32) (x7 : Vec F S1x16x1024x256 .bf16) (x8 : Vec F S1x16x1024x256 .bf16) (x9 : Vec F S1x16x256x1024 .bf16) (x10 : Vec F S1x1024 .f32) (xt : TabBuf (F := F) c) (hw0 : k0_chk1 (word0 c i xt)) (hw1 : k0_chk2 (word1 c i xt)) (hw2 : k0_chk3 (word2 c i xt)) (hw3 : k0_chk4 (word3 c i xt)) (hw4 : k0_chk5 (word4 c i xt)) (hw5 : k0_chk6 (word5 c i xt)) (hw6 : k0_chk7 (word6 c i xt))
    (xs0 : Vec F S896x1024 .bf16) (xs1 : Vec F S896x1024 .bf16)
    (hp : (word0 c i xt).toNat < 2 ^ 31) (y : S896x1024.Idx) (x : S128x1024.Idx) (hx0 : (y 0).val = 0 + (x 0).val)
    (hx1 : (y 1).val = (x 1).val) :
    bodyRun.sl.v123 c i arg3 harg3 arg4 harg4 arg5 harg5 arg7 harg7 arg8 harg8 arg9 harg9 arg10 harg10 arg11 harg11 arg12 harg12 arg15 arg16 harg16 x0 x1 x2 x4 x5 x6 x7 x8 x9 xt hw0 hw1 hw2 hw3 hw4 hw5 hw6 xs1 y
      = if h : (word0 c i xt).toNat < 4 then piece0 x0 x1 x2 x4 x5 x6 x7 x8 x9 (word0 c i xt).toNat h x else FloatOps.ofBits .bf16 0x0000#16 := by
  have hlt : (x 0).val < 128 := (x 0).isLt
  unfold bodyRun.sl.v123
  rw [View.readAt_full]
  refine (chunkStep_miss arg16 768 _ _ _ _ y (by omega)).trans ?_
  refine (chunkStep_miss arg16 640 _ _ _ _ y (by omega)).trans ?_
  refine (chunkStep_miss arg16 512 _ _ _ _ y (by omega)).trans ?_
  refine (chunkStep_miss arg16 384 _ _ _ _ y (by omega)).trans ?_
  refine (chunkStep_miss arg16 256 _ _ _ _ y (by omega)).trans ?_
  refine (chunkStep_miss arg16 128 _ _ _ _ y (by omega)).trans ?_
  by_cases h : (word0 c i xt).toNat < 4
  · rw [dif_pos h]
    refine (chunkStep_live arg16 0 _ _ _ _ y x hx0 hx1 (cond_live h) (past_live h)).trans (congrFun ?_ x)
    dsimp only [bodyRun.sl.r_6, bodyRun.sl.r_7, bodyRun.sl.r_8, bodyRun.sl.r_9, bodyRun.sl.r_10, bodyRun.sl.r_11, bodyRun.sl.r_12]
    refine (pay0 _ _ _ _ _ _ _ _ _ _ _ _ _ _ _ _).trans ?_
    unfold piece0 grouped
    dsimp only [bodyRun.sl.r_5]
    refine chunk_congr ?_ ?_ ?_ ?_ ?_ ?_ ?_ ?_ ?_ ?_ ?_ ?_ ?_ ?_ ?_ ?_ ?_
    · exact ((congrArg (fun L => arg15.view.readCov L (Rect.unit (s := S896x1024) ![0, 0] S128x1024.size inb_S896x1024_S128x1024_0_0).toLoadRect) (sl_HS0_1 (arg3 := arg3) (harg3 := harg3) (arg4 := arg4) (harg4 := harg4) (arg5 := arg5) (harg5 := harg5) (arg7 := arg7) (harg7 := harg7) (arg9 := arg9) (harg9 := harg9) (x0 := x0) (x1 := x1) (x2 := x2) (x4 := x4) (x6 := x6) c)).trans (cov_rows arg15 _ _ _))
    · exact (congrArg (fun W => extractStridedSlice S128x1 ![0, 0] W slices_S896x128_o0_0_S128x1) (sl_r_15 (arg8 := arg8) (harg8 := harg8) (arg9 := arg9) (harg9 := harg9) (x5 := x5) (x6 := x6) c))
    · exact (congrArg (fun W => extractStridedSlice S128x1 ![0, 1] W slices_S896x128_o0_1_S128x1) (sl_r_15 (arg8 := arg8) (harg8 := harg8) (arg9 := arg9) (harg9 := harg9) (x5 := x5) (x6 := x6) c))
    · exact (congrArg (fun W => extractStridedSlice S128x1 ![0, 2] W slices_S896x128_o0_2_S128x1) (sl_r_15 (arg8 := arg8) (harg8 := harg8) (arg9 := arg9) (harg9 := harg9) (x5 := x5) (x6 := x6) c))
    · exact (congrArg (fun W => extractStridedSlice S128x1 ![0, 3] W slices_S896x128_o0_3_S128x1) (sl_r_15 (arg8 := arg8) (harg8 := harg8) (arg9 := arg9) (harg9 := harg9) (x5 := x5) (x6 := x6) c))
    · exact ld_up arg10 harg10 x7 _ _ (by omega) (at0u0 h)
    · exact ld_up arg10 harg10 x7 _ _ (by omega) (at0u1 h)
    · exact ld_up arg10 harg10 x7 _ _ (by omega) (at0u2 h)
    · exact ld_up arg10 harg10 x7 _ _ (by omega) (at0u3 h)
    · exact ld_up arg11 harg11 x8 _ _ (by omega) (at0u0 h)
    · exact ld_up arg11 harg11 x8 _ _ (by omega) (at0u1 h)
    · exact ld_up arg11 harg11 x8 _ _ (by omega) (at0u2 h)
    · exact ld_up arg11 harg11 x8 _ _ (by omega) (at0u3 h)
    · exact ld_dn arg12 harg12 x9 _ _ (by omega) (at0d0 h)
    · exact ld_dn arg12 harg12 x9 _ _ (by omega) (at0d1 h)
    · exact ld_dn arg12 harg12 x9 _ _ (by omega) (at0d2 h)
    · exact ld_dn arg12 harg12 x9 _ _ (by omega) (at0d3 h)
  · rw [dif_neg h]
    refine (chunkStep_dead arg16 0 _ _ _ _ y x hx0 hx1 (past_dead hp h)).trans ?_
    rfl

theorem at1u0 {w : BitVec 32} (h : w.toNat < 4) : k0_off6 w = ![0, 4 * w.toNat + 0, 0, 0] := off_up h
theorem at1u1 {w : BitVec 32} (h : w.toNat < 4) : k0_off7 w 0#32 = ![0, 4 * w.toNat + 1, 0, 0] := off_up1 h
theorem at1u2 {w : BitVec 32} (h : w.toNat < 4) : k0_off7 w 1#32 = ![0, 4 * w.toNat + 2, 0, 0] := off_up2 h
theorem at1u3 {w : BitVec 32} (h : w.toNat < 4) : k0_off7 w 2#32 = ![0, 4 * w.toNat + 3, 0, 0] := off_up3 h
theorem at1d0 {w : BitVec 32} (h : w.toNat < 4) : k0_off8 w 0#32 = ![0, 4 * w.toNat + 0, 0, 0] := off_dn0 h
theorem at1d1 {w : BitVec 32} (h : w.toNat < 4) : k0_off8 w 1#32 = ![0, 4 * w.toNat + 1, 0, 0] := off_dn1 h
theorem at1d2 {w : BitVec 32} (h : w.toNat < 4) : k0_off8 w 2#32 = ![0, 4 * w.toNat + 2, 0, 0] := off_dn2 h
theorem at1d3 {w : BitVec 32} (h : w.toNat < 4) : k0_off8 w 3#32 = ![0, 4 * w.toNat + 3, 0, 0] := off_dn3 h

theorem pay1 (W : FVec F S896x128 .f32) (xc : FVec F S128x1024 .bf16) (g0 g1 g2 g3 u0 u1 u2 u3 : Vec F S1x1x1024x256 .bf16)
    (d0 d1 d2 d3 : Vec F S1x1x256x1024 .bf16) :
    k0_pay68 W xc (k0_pay14 xc g2) (k0_pay15 xc u2) (k0_pay16 W k0_pay10 (k0_pay11 xc g1) (k0_pay12 xc u1) (k0_pay13 W xc g0 u0) d0 d1) (k0_pay17 xc g3) u3 d2 d3
      = chunk xc (extractStridedSlice S128x1 ![128, 0] W slices_S896x128_o128_0_S128x1) (extractStridedSlice S128x1 ![128, 1] W slices_S896x128_o128_1_S128x1) (extractStridedSlice S128x1 ![128, 2] W slices_S896x128_o128_2_S128x1) (extractStridedSlice S128x1 ![128, 3] W slices_S896x128_o128_3_S128x1) g0 g1 g2 g3 u0 u1 u2 u3 d0 d1 d2 d3 := rfl

set_option maxHeartbeats 4000000 in
theorem chunk1 (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S512x128 .f32) (harg8 : arg8.IsWhole) (arg9 : Memref sig .tc .vmem S1x1x512 .i32) (harg9 : arg9.IsWhole) (arg10 : Memref sig .tc .vmem S1x16x1024x256 .bf16) (harg10 : arg10.IsWhole) (arg11 : Memref sig .tc .vmem S1x16x1024x256 .bf16) (harg11 : arg11.IsWhole) (arg12 : Memref sig .tc .vmem S1x16x256x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S896x1024 .bf16) (harg15 : arg15.IsWhole) (arg16 : Memref sig .tc .vmem S896x1024 .bf16) (harg16 : arg16.IsWhole)
    (x0 : Vec F S1x512x1024 .f32) (x1 : Vec F S1x1x1024 .f32) (x2 : Vec F S1x1x1024 .f32) (x3 : Vec F S1x1x1024 .f32) (x4 : Vec F S1x1024 .f32) (x5 : Vec F S512x128 .f32) (x6 : Vec F S1x1x512 .i32) (x7 : Vec F S1x16x1024x256 .bf16) (x8 : Vec F S1x16x1024x256 .bf16) (x9 : Vec F S1x16x256x1024 .bf16) (x10 : Vec F S1x1024 .f32) (xt : TabBuf (F := F) c) (hw0 : k0_chk1 (word0 c i xt)) (hw1 : k0_chk2 (word1 c i xt)) (hw2 : k0_chk3 (word2 c i xt)) (hw3 : k0_chk4 (word3 c i xt)) (hw4 : k0_chk5 (word4 c i xt)) (hw5 : k0_chk6 (word5 c i xt)) (hw6 : k0_chk7 (word6 c i xt))
    (xs0 : Vec F S896x1024 .bf16) (xs1 : Vec F S896x1024 .bf16)
    (hp : (word1 c i xt).toNat < 2 ^ 31) (y : S896x1024.Idx) (x : S128x1024.Idx) (hx0 : (y 0).val = 128 + (x 0).val)
    (hx1 : (y 1).val = (x 1).val) :
    bodyRun.sl.v123 c i arg3 harg3 arg4 harg4 arg5 harg5 arg7 harg7 arg8 harg8 arg9 harg9 arg10 harg10 arg11 harg11 arg12 harg12 arg15 arg16 harg16 x0 x1 x2 x4 x5 x6 x7 x8 x9 xt hw0 hw1 hw2 hw3 hw4 hw5 hw6 xs1 y
      = if h : (word1 c i xt).toNat < 4 then piece1 x0 x1 x2 x4 x5 x6 x7 x8 x9 (word1 c i xt).toNat h x else FloatOps.ofBits .bf16 0x0000#16 := by
  have hlt : (x 0).val < 128 := (x 0).isLt
  unfold bodyRun.sl.v123
  rw [View.readAt_full]
  refine (chunkStep_miss arg16 768 _ _ _ _ y (by omega)).trans ?_
  refine (chunkStep_miss arg16 640 _ _ _ _ y (by omega)).trans ?_
  refine (chunkStep_miss arg16 512 _ _ _ _ y (by omega)).trans ?_
  refine (chunkStep_miss arg16 384 _ _ _ _ y (by omega)).trans ?_
  refine (chunkStep_miss arg16 256 _ _ _ _ y (by omega)).trans ?_
  by_cases h : (word1 c i xt).toNat < 4
  · rw [dif_pos h]
    refine (chunkStep_live arg16 128 _ _ _ _ y x hx0 hx1 (cond_live h) (past_live h)).trans (congrFun ?_ x)
    dsimp only [bodyRun.sl.r_16, bodyRun.sl.r_17, bodyRun.sl.r_18, bodyRun.sl.r_19, bodyRun.sl.r_20, bodyRun.sl.r_21, bodyRun.sl.r_22]
    refine (pay1 _ _ _ _ _ _ _ _ _ _ _ _ _ _).trans ?_
    unfold piece1 grouped
    dsimp only [bodyRun.sl.r_13]
    refine chunk_congr ?_ ?_ ?_ ?_ ?_ ?_ ?_ ?_ ?_ ?_ ?_ ?_ ?_ ?_ ?_ ?_ ?_
    · exact ((congrArg (fun L => arg15.view.readCov L (Rect.unit (s := S896x1024) ![128, 0] S128x1024.size inb_S896x1024_S128x1024_128_0).toLoadRect) (sl_HS0_1 (arg3 := arg3) (harg3 := harg3) (arg4 := arg4) (harg4 := harg4) (arg5 := arg5) (harg5 := harg5) (arg7 := arg7) (harg7 := harg7) (arg9 := arg9) (harg9 := harg9) (x0 := x0) (x1 := x1) (x2 := x2) (x4 := x4) (x6 := x6) c)).trans (cov_rows arg15 _ _ _))
    · exact (congrArg (fun W => extractStridedSlice S128x1 ![128, 0] W slices_S896x128_o128_0_S128x1) (sl_r_15 (arg8 := arg8) (harg8 := harg8) (arg9 := arg9) (harg9 := harg9) (x5 := x5) (x6 := x6) c))
    · exact (congrArg (fun W => extractStridedSlice S128x1 ![128, 1] W slices_S896x128_o128_1_S128x1) (sl_r_15 (arg8 := arg8) (harg8 := harg8) (arg9 := arg9) (harg9 := harg9) (x5 := x5) (x6 := x6) c))
    · exact (congrArg (fun W => extractStridedSlice S128x1 ![128, 2] W slices_S896x128_o128_2_S128x1) (sl_r_15 (arg8 := arg8) (harg8 := harg8) (arg9 := arg9) (harg9 := harg9) (x5 := x5) (x6 := x6) c))
    · exact (congrArg (fun W => extractStridedSlice S128x1 ![128, 3] W slices_S896x128_o128_3_S128x1) (sl_r_15 (arg8 := arg8) (harg8 := harg8) (arg9 := arg9) (harg9 := harg9) (x5 := x5) (x6 := x6) c))
    · exact ld_up arg10 harg10 x7 _ _ (by omega) (at1u0 h)
    · exact ld_up arg10 harg10 x7 _ _ (by omega) (at1u1 h)
    · exact ld_up arg10 harg10 x7 _ _ (by omega) (at1u2 h)
    · exact ld_up arg10 harg10 x7 _ _ (by omega) (at1u3 h)
    · exact ld_up arg11 harg11 x8 _ _ (by omega) (at1u0 h)
    · exact ld_up arg11 harg11 x8 _ _ (by omega) (at1u1 h)
    · exact ld_up arg11 harg11 x8 _ _ (by omega) (at1u2 h)
    · exact ld_up arg11 harg11 x8 _ _ (by omega) (at1u3 h)
    · exact ld_dn arg12 harg12 x9 _ _ (by omega) (at1d0 h)
    · exact ld_dn arg12 harg12 x9 _ _ (by omega) (at1d1 h)
    · exact ld_dn arg12 harg12 x9 _ _ (by omega) (at1d2 h)
    · exact ld_dn arg12 harg12 x9 _ _ (by omega) (at1d3 h)
  · rw [dif_neg h]
    refine (chunkStep_dead arg16 128 _ _ _ _ y x hx0 hx1 (past_dead hp h)).trans ?_
    rfl

theorem at2u0 {w : BitVec 32} (h : w.toNat < 4) : k0_off10 w = ![0, 4 * w.toNat + 0, 0, 0] := off_up h
theorem at2u1 {w : BitVec 32} (h : w.toNat < 4) : k0_off11 w 0#32 = ![0, 4 * w.toNat + 1, 0, 0] := off_up1 h
theorem at2u2 {w : BitVec 32} (h : w.toNat < 4) : k0_off11 w 1#32 = ![0, 4 * w.toNat + 2, 0, 0] := off_up2 h
theorem at2u3 {w : BitVec 32} (h : w.toNat < 4) : k0_off11 w 2#32 = ![0, 4 * w.toNat + 3, 0, 0] := off_up3 h
theorem at2d0 {w : BitVec 32} (h : w.toNat < 4) : k0_off12 w 0#32 = ![0, 4 * w.toNat + 0, 0, 0] := off_dn0 h
theorem at2d1 {w : BitVec 32} (h : w.toNat < 4) : k0_off12 w 1#32 = ![0, 4 * w.toNat + 1, 0, 0] := off_dn1 h
theorem at2d2 {w : BitVec 32} (h : w.toNat < 4) : k0_off12 w 2#32 = ![0, 4 * w.toNat + 2, 0, 0] := off_dn2 h
theorem at2d3 {w : BitVec 32} (h : w.toNat < 4) : k0_off12 w 3#32 = ![0, 4 * w.toNat + 3, 0, 0] := off_dn3 h

theorem pay2 (W : FVec F S896x128 .f32) (xc : FVec F S128x1024 .bf16) (g0 g1 g2 g3 u0 u1 u2 u3 : Vec F S1x1x1024x256 .bf16)
    (d0 d1 d2 d3 : Vec F S1x1x256x1024 .bf16) :
    k0_pay70 W xc (k0_pay22 xc g2) (k0_pay23 xc u2) (k0_pay24 W k0_pay18 (k0_pay19 xc g1) (k0_pay20 xc u1) (k0_pay21 W xc g0 u0) d0 d1) (k0_pay25 xc g3) u3 d2 d3
      = chunk xc (extractStridedSlice S128x1 ![256, 0] W slices_S896x128_o256_0_S128x1) (extractStridedSlice S128x1 ![256, 1] W slices_S896x128_o256_1_S128x1) (extractStridedSlice S128x1 ![256, 2] W slices_S896x128_o256_2_S128x1) (extractStridedSlice S128x1 ![256, 3] W slices_S896x128_o256_3_S128x1) g0 g1 g2 g3 u0 u1 u2 u3 d0 d1 d2 d3 := rfl

set_option maxHeartbeats 4000000 in
theorem chunk2 (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S512x128 .f32) (harg8 : arg8.IsWhole) (arg9 : Memref sig .tc .vmem S1x1x512 .i32) (harg9 : arg9.IsWhole) (arg10 : Memref sig .tc .vmem S1x16x1024x256 .bf16) (harg10 : arg10.IsWhole) (arg11 : Memref sig .tc .vmem S1x16x1024x256 .bf16) (harg11 : arg11.IsWhole) (arg12 : Memref sig .tc .vmem S1x16x256x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S896x1024 .bf16) (harg15 : arg15.IsWhole) (arg16 : Memref sig .tc .vmem S896x1024 .bf16) (harg16 : arg16.IsWhole)
    (x0 : Vec F S1x512x1024 .f32) (x1 : Vec F S1x1x1024 .f32) (x2 : Vec F S1x1x1024 .f32) (x3 : Vec F S1x1x1024 .f32) (x4 : Vec F S1x1024 .f32) (x5 : Vec F S512x128 .f32) (x6 : Vec F S1x1x512 .i32) (x7 : Vec F S1x16x1024x256 .bf16) (x8 : Vec F S1x16x1024x256 .bf16) (x9 : Vec F S1x16x256x1024 .bf16) (x10 : Vec F S1x1024 .f32) (xt : TabBuf (F := F) c) (hw0 : k0_chk1 (word0 c i xt)) (hw1 : k0_chk2 (word1 c i xt)) (hw2 : k0_chk3 (word2 c i xt)) (hw3 : k0_chk4 (word3 c i xt)) (hw4 : k0_chk5 (word4 c i xt)) (hw5 : k0_chk6 (word5 c i xt)) (hw6 : k0_chk7 (word6 c i xt))
    (xs0 : Vec F S896x1024 .bf16) (xs1 : Vec F S896x1024 .bf16)
    (hp : (word2 c i xt).toNat < 2 ^ 31) (y : S896x1024.Idx) (x : S128x1024.Idx) (hx0 : (y 0).val = 256 + (x 0).val)
    (hx1 : (y 1).val = (x 1).val) :
    bodyRun.sl.v123 c i arg3 harg3 arg4 harg4 arg5 harg5 arg7 harg7 arg8 harg8 arg9 harg9 arg10 harg10 arg11 harg11 arg12 harg12 arg15 arg16 harg16 x0 x1 x2 x4 x5 x6 x7 x8 x9 xt hw0 hw1 hw2 hw3 hw4 hw5 hw6 xs1 y
      = if h : (word2 c i xt).toNat < 4 then piece2 x0 x1 x2 x4 x5 x6 x7 x8 x9 (word2 c i xt).toNat h x else FloatOps.ofBits .bf16 0x0000#16 := by
  have hlt : (x 0).val < 128 := (x 0).isLt
  unfold bodyRun.sl.v123
  rw [View.readAt_full]
  refine (chunkStep_miss arg16 768 _ _ _ _ y (by omega)).trans ?_
  refine (chunkStep_miss arg16 640 _ _ _ _ y (by omega)).trans ?_
  refine (chunkStep_miss arg16 512 _ _ _ _ y (by omega)).trans ?_
  refine (chunkStep_miss arg16 384 _ _ _ _ y (by omega)).trans ?_
  by_cases h : (word2 c i xt).toNat < 4
  · rw [dif_pos h]
    refine (chunkStep_live arg16 256 _ _ _ _ y x hx0 hx1 (cond_live h) (past_live h)).trans (congrFun ?_ x)
    dsimp only [bodyRun.sl.r_24, bodyRun.sl.r_25, bodyRun.sl.r_26, bodyRun.sl.r_27, bodyRun.sl.r_28, bodyRun.sl.r_29, bodyRun.sl.r_30]
    refine (pay2 _ _ _ _ _ _ _ _ _ _ _ _ _ _).trans ?_
    unfold piece2 grouped
    dsimp only [bodyRun.sl.r_23]
    refine chunk_congr ?_ ?_ ?_ ?_ ?_ ?_ ?_ ?_ ?_ ?_ ?_ ?_ ?_ ?_ ?_ ?_ ?_
    · exact ((congrArg (fun L => arg15.view.readCov L (Rect.unit (s := S896x1024) ![256, 0] S128x1024.size inb_S896x1024_S128x1024_256_0).toLoadRect) (sl_HS0_1 (arg3 := arg3) (harg3 := harg3) (arg4 := arg4) (harg4 := harg4) (arg5 := arg5) (harg5 := harg5) (arg7 := arg7) (harg7 := harg7) (arg9 := arg9) (harg9 := harg9) (x0 := x0) (x1 := x1) (x2 := x2) (x4 := x4) (x6 := x6) c)).trans (cov_rows arg15 _ _ _))
    · exact (congrArg (fun W => extractStridedSlice S128x1 ![256, 0] W slices_S896x128_o256_0_S128x1) (sl_r_15 (arg8 := arg8) (harg8 := harg8) (arg9 := arg9) (harg9 := harg9) (x5 := x5) (x6 := x6) c))
    · exact (congrArg (fun W => extractStridedSlice S128x1 ![256, 1] W slices_S896x128_o256_1_S128x1) (sl_r_15 (arg8 := arg8) (harg8 := harg8) (arg9 := arg9) (harg9 := harg9) (x5 := x5) (x6 := x6) c))
    · exact (congrArg (fun W => extractStridedSlice S128x1 ![256, 2] W slices_S896x128_o256_2_S128x1) (sl_r_15 (arg8 := arg8) (harg8 := harg8) (arg9 := arg9) (harg9 := harg9) (x5 := x5) (x6 := x6) c))
    · exact (congrArg (fun W => extractStridedSlice S128x1 ![256, 3] W slices_S896x128_o256_3_S128x1) (sl_r_15 (arg8 := arg8) (harg8 := harg8) (arg9 := arg9) (harg9 := harg9) (x5 := x5) (x6 := x6) c))
    · exact ld_up arg10 harg10 x7 _ _ (by omega) (at2u0 h)
    · exact ld_up arg10 harg10 x7 _ _ (by omega) (at2u1 h)
    · exact ld_up arg10 harg10 x7 _ _ (by omega) (at2u2 h)
    · exact ld_up arg10 harg10 x7 _ _ (by omega) (at2u3 h)
    · exact ld_up arg11 harg11 x8 _ _ (by omega) (at2u0 h)
    · exact ld_up arg11 harg11 x8 _ _ (by omega) (at2u1 h)
    · exact ld_up arg11 harg11 x8 _ _ (by omega) (at2u2 h)
    · exact ld_up arg11 harg11 x8 _ _ (by omega) (at2u3 h)
    · exact ld_dn arg12 harg12 x9 _ _ (by omega) (at2d0 h)
    · exact ld_dn arg12 harg12 x9 _ _ (by omega) (at2d1 h)
    · exact ld_dn arg12 harg12 x9 _ _ (by omega) (at2d2 h)
    · exact ld_dn arg12 harg12 x9 _ _ (by omega) (at2d3 h)
  · rw [dif_neg h]
    refine (chunkStep_dead arg16 256 _ _ _ _ y x hx0 hx1 (past_dead hp h)).trans ?_
    rfl

theorem at3u0 {w : BitVec 32} (h : w.toNat < 4) : k0_off14 w = ![0, 4 * w.toNat + 0, 0, 0] := off_up h
theorem at3u1 {w : BitVec 32} (h : w.toNat < 4) : k0_off15 w 0#32 = ![0, 4 * w.toNat + 1, 0, 0] := off_up1 h
theorem at3u2 {w : BitVec 32} (h : w.toNat < 4) : k0_off15 w 1#32 = ![0, 4 * w.toNat + 2, 0, 0] := off_up2 h
theorem at3u3 {w : BitVec 32} (h : w.toNat < 4) : k0_off15 w 2#32 = ![0, 4 * w.toNat + 3, 0, 0] := off_up3 h
theorem at3d0 {w : BitVec 32} (h : w.toNat < 4) : k0_off16 w 0#32 = ![0, 4 * w.toNat + 0, 0, 0] := off_dn0 h
theorem at3d1 {w : BitVec 32} (h : w.toNat < 4) : k0_off16 w 1#32 = ![0, 4 * w.toNat + 1, 0, 0] := off_dn1 h
theorem at3d2 {w : BitVec 32} (h : w.toNat < 4) : k0_off16 w 2#32 = ![0, 4 * w.toNat + 2, 0, 0] := off_dn2 h
theorem at3d3 {w : BitVec 32} (h : w.toNat < 4) : k0_off16 w 3#32 = ![0, 4 * w.toNat + 3, 0, 0] := off_dn3 h

theorem pay3 (W : FVec F S896x128 .f32) (xc : FVec F S128x1024 .bf16) (g0 g1 g2 g3 u0 u1 u2 u3 : Vec F S1x1x1024x256 .bf16)
    (d0 d1 d2 d3 : Vec F S1x1x256x1024 .bf16) :
    k0_pay72 W xc (k0_pay30 xc g2) (k0_pay31 xc u2) (k0_pay32 W k0_pay26 (k0_pay27 xc g1) (k0_pay28 xc u1) (k0_pay29 W xc g0 u0) d0 d1) (k0_pay33 xc g3) u3 d2 d3
      = chunk xc (extractStridedSlice S128x1 ![384, 0] W slices_S896x128_o384_0_S128x1) (extractStridedSlice S128x1 ![384, 1] W slices_S896x128_o384_1_S128x1) (extractStridedSlice S128x1 ![384, 2] W slices_S896x128_o384_2_S128x1) (extractStridedSlice S128x1 ![384, 3] W slices_S896x128_o384_3_S128x1) g0 g1 g2 g3 u0 u1 u2 u3 d0 d1 d2 d3 := rfl

set_option maxHeartbeats 4000000 in
theorem chunk3 (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S512x128 .f32) (harg8 : arg8.IsWhole) (arg9 : Memref sig .tc .vmem S1x1x512 .i32) (harg9 : arg9.IsWhole) (arg10 : Memref sig .tc .vmem S1x16x1024x256 .bf16) (harg10 : arg10.IsWhole) (arg11 : Memref sig .tc .vmem S1x16x1024x256 .bf16) (harg11 : arg11.IsWhole) (arg12 : Memref sig .tc .vmem S1x16x256x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S896x1024 .bf16) (harg15 : arg15.IsWhole) (arg16 : Memref sig .tc .vmem S896x1024 .bf16) (harg16 : arg16.IsWhole)
    (x0 : Vec F S1x512x1024 .f32) (x1 : Vec F S1x1x1024 .f32) (x2 : Vec F S1x1x1024 .f32) (x3 : Vec F S1x1x1024 .f32) (x4 : Vec F S1x1024 .f32) (x5 : Vec F S512x128 .f32) (x6 : Vec F S1x1x512 .i32) (x7 : Vec F S1x16x1024x256 .bf16) (x8 : Vec F S1x16x1024x256 .bf16) (x9 : Vec F S1x16x256x1024 .bf16) (x10 : Vec F S1x1024 .f32) (xt : TabBuf (F := F) c) (hw0 : k0_chk1 (word0 c i xt)) (hw1 : k0_chk2 (word1 c i xt)) (hw2 : k0_chk3 (word2 c i xt)) (hw3 : k0_chk4 (word3 c i xt)) (hw4 : k0_chk5 (word4 c i xt)) (hw5 : k0_chk6 (word5 c i xt)) (hw6 : k0_chk7 (word6 c i xt))
    (xs0 : Vec F S896x1024 .bf16) (xs1 : Vec F S896x1024 .bf16)
    (hp : (word3 c i xt).toNat < 2 ^ 31) (y : S896x1024.Idx) (x : S128x1024.Idx) (hx0 : (y 0).val = 384 + (x 0).val)
    (hx1 : (y 1).val = (x 1).val) :
    bodyRun.sl.v123 c i arg3 harg3 arg4 harg4 arg5 harg5 arg7 harg7 arg8 harg8 arg9 harg9 arg10 harg10 arg11 harg11 arg12 harg12 arg15 arg16 harg16 x0 x1 x2 x4 x5 x6 x7 x8 x9 xt hw0 hw1 hw2 hw3 hw4 hw5 hw6 xs1 y
      = if h : (word3 c i xt).toNat < 4 then piece3 x0 x1 x2 x4 x5 x6 x7 x8 x9 (word3 c i xt).toNat h x else FloatOps.ofBits .bf16 0x0000#16 := by
  have hlt : (x 0).val < 128 := (x 0).isLt
  unfold bodyRun.sl.v123
  rw [View.readAt_full]
  refine (chunkStep_miss arg16 768 _ _ _ _ y (by omega)).trans ?_
  refine (chunkStep_miss arg16 640 _ _ _ _ y (by omega)).trans ?_
  refine (chunkStep_miss arg16 512 _ _ _ _ y (by omega)).trans ?_
  by_cases h : (word3 c i xt).toNat < 4
  · rw [dif_pos h]
    refine (chunkStep_live arg16 384 _ _ _ _ y x hx0 hx1 (cond_live h) (past_live h)).trans (congrFun ?_ x)
    dsimp only [bodyRun.sl.r_32, bodyRun.sl.r_33, bodyRun.sl.r_34, bodyRun.sl.r_35, bodyRun.sl.r_36, bodyRun.sl.r_37, bodyRun.sl.r_38]
    refine (pay3 _ _ _ _ _ _ _ _ _ _ _ _ _ _).trans ?_
    unfold piece3 grouped
    dsimp only [bodyRun.sl.r_31]
    refine chunk_congr ?_ ?_ ?_ ?_ ?_ ?_ ?_ ?_ ?_ ?_ ?_ ?_ ?_ ?_ ?_ ?_ ?_
    · exact ((congrArg (fun L => arg15.view.readCov L (Rect.unit (s := S896x1024) ![384, 0] S128x1024.size inb_S896x1024_S128x1024_384_0).toLoadRect) (sl_HS0_1 (arg3 := arg3) (harg3 := harg3) (arg4 := arg4) (harg4 := harg4) (arg5 := arg5) (harg5 := harg5) (arg7 := arg7) (harg7 := harg7) (arg9 := arg9) (harg9 := harg9) (x0 := x0) (x1 := x1) (x2 := x2) (x4 := x4) (x6 := x6) c)).trans (cov_rows arg15 _ _ _))
    · exact (congrArg (fun W => extractStridedSlice S128x1 ![384, 0] W slices_S896x128_o384_0_S128x1) (sl_r_15 (arg8 := arg8) (harg8 := harg8) (arg9 := arg9) (harg9 := harg9) (x5 := x5) (x6 := x6) c))
    · exact (congrArg (fun W => extractStridedSlice S128x1 ![384, 1] W slices_S896x128_o384_1_S128x1) (sl_r_15 (arg8 := arg8) (harg8 := harg8) (arg9 := arg9) (harg9 := harg9) (x5 := x5) (x6 := x6) c))
    · exact (congrArg (fun W => extractStridedSlice S128x1 ![384, 2] W slices_S896x128_o384_2_S128x1) (sl_r_15 (arg8 := arg8) (harg8 := harg8) (arg9 := arg9) (harg9 := harg9) (x5 := x5) (x6 := x6) c))
    · exact (congrArg (fun W => extractStridedSlice S128x1 ![384, 3] W slices_S896x128_o384_3_S128x1) (sl_r_15 (arg8 := arg8) (harg8 := harg8) (arg9 := arg9) (harg9 := harg9) (x5 := x5) (x6 := x6) c))
    · exact ld_up arg10 harg10 x7 _ _ (by omega) (at3u0 h)
    · exact ld_up arg10 harg10 x7 _ _ (by omega) (at3u1 h)
    · exact ld_up arg10 harg10 x7 _ _ (by omega) (at3u2 h)
    · exact ld_up arg10 harg10 x7 _ _ (by omega) (at3u3 h)
    · exact ld_up arg11 harg11 x8 _ _ (by omega) (at3u0 h)
    · exact ld_up arg11 harg11 x8 _ _ (by omega) (at3u1 h)
    · exact ld_up arg11 harg11 x8 _ _ (by omega) (at3u2 h)
    · exact ld_up arg11 harg11 x8 _ _ (by omega) (at3u3 h)
    · exact ld_dn arg12 harg12 x9 _ _ (by omega) (at3d0 h)
    · exact ld_dn arg12 harg12 x9 _ _ (by omega) (at3d1 h)
    · exact ld_dn arg12 harg12 x9 _ _ (by omega) (at3d2 h)
    · exact ld_dn arg12 harg12 x9 _ _ (by omega) (at3d3 h)
  · rw [dif_neg h]
    refine (chunkStep_dead arg16 384 _ _ _ _ y x hx0 hx1 (past_dead hp h)).trans ?_
    rfl

theorem at4u0 {w : BitVec 32} (h : w.toNat < 4) : k0_off18 w = ![0, 4 * w.toNat + 0, 0, 0] := off_up h
theorem at4u1 {w : BitVec 32} (h : w.toNat < 4) : k0_off19 w 0#32 = ![0, 4 * w.toNat + 1, 0, 0] := off_up1 h
theorem at4u2 {w : BitVec 32} (h : w.toNat < 4) : k0_off19 w 1#32 = ![0, 4 * w.toNat + 2, 0, 0] := off_up2 h
theorem at4u3 {w : BitVec 32} (h : w.toNat < 4) : k0_off19 w 2#32 = ![0, 4 * w.toNat + 3, 0, 0] := off_up3 h
theorem at4d0 {w : BitVec 32} (h : w.toNat < 4) : k0_off20 w 0#32 = ![0, 4 * w.toNat + 0, 0, 0] := off_dn0 h
theorem at4d1 {w : BitVec 32} (h : w.toNat < 4) : k0_off20 w 1#32 = ![0, 4 * w.toNat + 1, 0, 0] := off_dn1 h
theorem at4d2 {w : BitVec 32} (h : w.toNat < 4) : k0_off20 w 2#32 = ![0, 4 * w.toNat + 2, 0, 0] := off_dn2 h
theorem at4d3 {w : BitVec 32} (h : w.toNat < 4) : k0_off20 w 3#32 = ![0, 4 * w.toNat + 3, 0, 0] := off_dn3 h

theorem pay4 (W : FVec F S896x128 .f32) (xc : FVec F S128x1024 .bf16) (g0 g1 g2 g3 u0 u1 u2 u3 : Vec F S1x1x1024x256 .bf16)
    (d0 d1 d2 d3 : Vec F S1x1x256x1024 .bf16) :
    k0_pay74 W xc (k0_pay38 xc g2) (k0_pay39 xc u2) (k0_pay40 W k0_pay34 (k0_pay35 xc g1) (k0_pay36 xc u1) (k0_pay37 W xc g0 u0) d0 d1) (k0_pay41 xc g3) u3 d2 d3
      = chunk xc (extractStridedSlice S128x1 ![512, 0] W slices_S896x128_o512_0_S128x1) (extractStridedSlice S128x1 ![512, 1] W slices_S896x128_o512_1_S128x1) (extractStridedSlice S128x1 ![512, 2] W slices_S896x128_o512_2_S128x1) (extractStridedSlice S128x1 ![512, 3] W slices_S896x128_o512_3_S128x1) g0 g1 g2 g3 u0 u1 u2 u3 d0 d1 d2 d3 := rfl

set_option maxHeartbeats 4000000 in
theorem chunk4 (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S512x128 .f32) (harg8 : arg8.IsWhole) (arg9 : Memref sig .tc .vmem S1x1x512 .i32) (harg9 : arg9.IsWhole) (arg10 : Memref sig .tc .vmem S1x16x1024x256 .bf16) (harg10 : arg10.IsWhole) (arg11 : Memref sig .tc .vmem S1x16x1024x256 .bf16) (harg11 : arg11.IsWhole) (arg12 : Memref sig .tc .vmem S1x16x256x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S896x1024 .bf16) (harg15 : arg15.IsWhole) (arg16 : Memref sig .tc .vmem S896x1024 .bf16) (harg16 : arg16.IsWhole)
    (x0 : Vec F S1x512x1024 .f32) (x1 : Vec F S1x1x1024 .f32) (x2 : Vec F S1x1x1024 .f32) (x3 : Vec F S1x1x1024 .f32) (x4 : Vec F S1x1024 .f32) (x5 : Vec F S512x128 .f32) (x6 : Vec F S1x1x512 .i32) (x7 : Vec F S1x16x1024x256 .bf16) (x8 : Vec F S1x16x1024x256 .bf16) (x9 : Vec F S1x16x256x1024 .bf16) (x10 : Vec F S1x1024 .f32) (xt : TabBuf (F := F) c) (hw0 : k0_chk1 (word0 c i xt)) (hw1 : k0_chk2 (word1 c i xt)) (hw2 : k0_chk3 (word2 c i xt)) (hw3 : k0_chk4 (word3 c i xt)) (hw4 : k0_chk5 (word4 c i xt)) (hw5 : k0_chk6 (word5 c i xt)) (hw6 : k0_chk7 (word6 c i xt))
    (xs0 : Vec F S896x1024 .bf16) (xs1 : Vec F S896x1024 .bf16)
    (hp : (word4 c i xt).toNat < 2 ^ 31) (y : S896x1024.Idx) (x : S128x1024.Idx) (hx0 : (y 0).val = 512 + (x 0).val)
    (hx1 : (y 1).val = (x 1).val) :
    bodyRun.sl.v123 c i arg3 harg3 arg4 harg4 arg5 harg5 arg7 harg7 arg8 harg8 arg9 harg9 arg10 harg10 arg11 harg11 arg12 harg12 arg15 arg16 harg16 x0 x1 x2 x4 x5 x6 x7 x8 x9 xt hw0 hw1 hw2 hw3 hw4 hw5 hw6 xs1 y
      = if h : (word4 c i xt).toNat < 4 then piece4 x0 x1 x2 x4 x5 x6 x7 x8 x9 (word4 c i xt).toNat h x else FloatOps.ofBits .bf16 0x0000#16 := by
  have hlt : (x 0).val < 128 := (x 0).isLt
  unfold bodyRun.sl.v123
  rw [View.readAt_full]
  refine (chunkStep_miss arg16 768 _ _ _ _ y (by omega)).trans ?_
  refine (chunkStep_miss arg16 640 _ _ _ _ y (by omega)).trans ?_
  by_cases h : (word4 c i xt).toNat < 4
  · rw [dif_pos h]
    refine (chunkStep_live arg16 512 _ _ _ _ y x hx0 hx1 (cond_live h) (past_live h)).trans (congrFun ?_ x)
    dsimp only [bodyRun.sl.r_40, bodyRun.sl.r_41, bodyRun.sl.r_42, bodyRun.sl.r_43, bodyRun.sl.r_44, bodyRun.sl.r_45, bodyRun.sl.r_46]
    refine (pay4 _ _ _ _ _ _ _ _ _ _ _ _ _ _).trans ?_
    unfold piece4 grouped
    dsimp only [bodyRun.sl.r_39]
    refine chunk_congr ?_ ?_ ?_ ?_ ?_ ?_ ?_ ?_ ?_ ?_ ?_ ?_ ?_ ?_ ?_ ?_ ?_
    · exact ((congrArg (fun L => arg15.view.readCov L (Rect.unit (s := S896x1024) ![512, 0] S128x1024.size inb_S896x1024_S128x1024_512_0).toLoadRect) (sl_HS0_1 (arg3 := arg3) (harg3 := harg3) (arg4 := arg4) (harg4 := harg4) (arg5 := arg5) (harg5 := harg5) (arg7 := arg7) (harg7 := harg7) (arg9 := arg9) (harg9 := harg9) (x0 := x0) (x1 := x1) (x2 := x2) (x4 := x4) (x6 := x6) c)).trans (cov_rows arg15 _ _ _))
    · exact (congrArg (fun W => extractStridedSlice S128x1 ![512, 0] W slices_S896x128_o512_0_S128x1) (sl_r_15 (arg8 := arg8) (harg8 := harg8) (arg9 := arg9) (harg9 := harg9) (x5 := x5) (x6 := x6) c))
    · exact (congrArg (fun W => extractStridedSlice S128x1 ![512, 1] W slices_S896x128_o512_1_S128x1) (sl_r_15 (arg8 := arg8) (harg8 := harg8) (arg9 := arg9) (harg9 := harg9) (x5 := x5) (x6 := x6) c))
    · exact (congrArg (fun W => extractStridedSlice S128x1 ![512, 2] W slices_S896x128_o512_2_S128x1) (sl_r_15 (arg8 := arg8) (harg8 := harg8) (arg9 := arg9) (harg9 := harg9) (x5 := x5) (x6 := x6) c))
    · exact (congrArg (fun W => extractStridedSlice S128x1 ![512, 3] W slices_S896x128_o512_3_S128x1) (sl_r_15 (arg8 := arg8) (harg8 := harg8) (arg9 := arg9) (harg9 := harg9) (x5 := x5) (x6 := x6) c))
    · exact ld_up arg10 harg10 x7 _ _ (by omega) (at4u0 h)
    · exact ld_up arg10 harg10 x7 _ _ (by omega) (at4u1 h)
    · exact ld_up arg10 harg10 x7 _ _ (by omega) (at4u2 h)
    · exact ld_up arg10 harg10 x7 _ _ (by omega) (at4u3 h)
    · exact ld_up arg11 harg11 x8 _ _ (by omega) (at4u0 h)
    · exact ld_up arg11 harg11 x8 _ _ (by omega) (at4u1 h)
    · exact ld_up arg11 harg11 x8 _ _ (by omega) (at4u2 h)
    · exact ld_up arg11 harg11 x8 _ _ (by omega) (at4u3 h)
    · exact ld_dn arg12 harg12 x9 _ _ (by omega) (at4d0 h)
    · exact ld_dn arg12 harg12 x9 _ _ (by omega) (at4d1 h)
    · exact ld_dn arg12 harg12 x9 _ _ (by omega) (at4d2 h)
    · exact ld_dn arg12 harg12 x9 _ _ (by omega) (at4d3 h)
  · rw [dif_neg h]
    refine (chunkStep_dead arg16 512 _ _ _ _ y x hx0 hx1 (past_dead hp h)).trans ?_
    rfl

theorem at5u0 {w : BitVec 32} (h : w.toNat < 4) : k0_off22 w = ![0, 4 * w.toNat + 0, 0, 0] := off_up h
theorem at5u1 {w : BitVec 32} (h : w.toNat < 4) : k0_off23 w 0#32 = ![0, 4 * w.toNat + 1, 0, 0] := off_up1 h
theorem at5u2 {w : BitVec 32} (h : w.toNat < 4) : k0_off23 w 1#32 = ![0, 4 * w.toNat + 2, 0, 0] := off_up2 h
theorem at5u3 {w : BitVec 32} (h : w.toNat < 4) : k0_off23 w 2#32 = ![0, 4 * w.toNat + 3, 0, 0] := off_up3 h
theorem at5d0 {w : BitVec 32} (h : w.toNat < 4) : k0_off24 w 0#32 = ![0, 4 * w.toNat + 0, 0, 0] := off_dn0 h
theorem at5d1 {w : BitVec 32} (h : w.toNat < 4) : k0_off24 w 1#32 = ![0, 4 * w.toNat + 1, 0, 0] := off_dn1 h
theorem at5d2 {w : BitVec 32} (h : w.toNat < 4) : k0_off24 w 2#32 = ![0, 4 * w.toNat + 2, 0, 0] := off_dn2 h
theorem at5d3 {w : BitVec 32} (h : w.toNat < 4) : k0_off24 w 3#32 = ![0, 4 * w.toNat + 3, 0, 0] := off_dn3 h

theorem pay5 (W : FVec F S896x128 .f32) (xc : FVec F S128x1024 .bf16) (g0 g1 g2 g3 u0 u1 u2 u3 : Vec F S1x1x1024x256 .bf16)
    (d0 d1 d2 d3 : Vec F S1x1x256x1024 .bf16) :
    k0_pay76 W xc (k0_pay46 xc g2) (k0_pay47 xc u2) (k0_pay48 W k0_pay42 (k0_pay43 xc g1) (k0_pay44 xc u1) (k0_pay45 W xc g0 u0) d0 d1) (k0_pay49 xc g3) u3 d2 d3
      = chunk xc (extractStridedSlice S128x1 ![640, 0] W slices_S896x128_o640_0_S128x1) (extractStridedSlice S128x1 ![640, 1] W slices_S896x128_o640_1_S128x1) (extractStridedSlice S128x1 ![640, 2] W slices_S896x128_o640_2_S128x1) (extractStridedSlice S128x1 ![640, 3] W slices_S896x128_o640_3_S128x1) g0 g1 g2 g3 u0 u1 u2 u3 d0 d1 d2 d3 := rfl

set_option maxHeartbeats 4000000 in
theorem chunk5 (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S512x128 .f32) (harg8 : arg8.IsWhole) (arg9 : Memref sig .tc .vmem S1x1x512 .i32) (harg9 : arg9.IsWhole) (arg10 : Memref sig .tc .vmem S1x16x1024x256 .bf16) (harg10 : arg10.IsWhole) (arg11 : Memref sig .tc .vmem S1x16x1024x256 .bf16) (harg11 : arg11.IsWhole) (arg12 : Memref sig .tc .vmem S1x16x256x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S896x1024 .bf16) (harg15 : arg15.IsWhole) (arg16 : Memref sig .tc .vmem S896x1024 .bf16) (harg16 : arg16.IsWhole)
    (x0 : Vec F S1x512x1024 .f32) (x1 : Vec F S1x1x1024 .f32) (x2 : Vec F S1x1x1024 .f32) (x3 : Vec F S1x1x1024 .f32) (x4 : Vec F S1x1024 .f32) (x5 : Vec F S512x128 .f32) (x6 : Vec F S1x1x512 .i32) (x7 : Vec F S1x16x1024x256 .bf16) (x8 : Vec F S1x16x1024x256 .bf16) (x9 : Vec F S1x16x256x1024 .bf16) (x10 : Vec F S1x1024 .f32) (xt : TabBuf (F := F) c) (hw0 : k0_chk1 (word0 c i xt)) (hw1 : k0_chk2 (word1 c i xt)) (hw2 : k0_chk3 (word2 c i xt)) (hw3 : k0_chk4 (word3 c i xt)) (hw4 : k0_chk5 (word4 c i xt)) (hw5 : k0_chk6 (word5 c i xt)) (hw6 : k0_chk7 (word6 c i xt))
    (xs0 : Vec F S896x1024 .bf16) (xs1 : Vec F S896x1024 .bf16)
    (hp : (word5 c i xt).toNat < 2 ^ 31) (y : S896x1024.Idx) (x : S128x1024.Idx) (hx0 : (y 0).val = 640 + (x 0).val)
    (hx1 : (y 1).val = (x 1).val) :
    bodyRun.sl.v123 c i arg3 harg3 arg4 harg4 arg5 harg5 arg7 harg7 arg8 harg8 arg9 harg9 arg10 harg10 arg11 harg11 arg12 harg12 arg15 arg16 harg16 x0 x1 x2 x4 x5 x6 x7 x8 x9 xt hw0 hw1 hw2 hw3 hw4 hw5 hw6 xs1 y
      = if h : (word5 c i xt).toNat < 4 then piece5 x0 x1 x2 x4 x5 x6 x7 x8 x9 (word5 c i xt).toNat h x else FloatOps.ofBits .bf16 0x0000#16 := by
  have hlt : (x 0).val < 128 := (x 0).isLt
  unfold bodyRun.sl.v123
  rw [View.readAt_full]
  refine (chunkStep_miss arg16 768 _ _ _ _ y (by omega)).trans ?_
  by_cases h : (word5 c i xt).toNat < 4
  · rw [dif_pos h]
    refine (chunkStep_live arg16 640 _ _ _ _ y x hx0 hx1 (cond_live h) (past_live h)).trans (congrFun ?_ x)
    dsimp only [bodyRun.sl.r_48, bodyRun.sl.r_49, bodyRun.sl.r_50, bodyRun.sl.r_51, bodyRun.sl.r_52, bodyRun.sl.r_53, bodyRun.sl.r_54]
    refine (pay5 _ _ _ _ _ _ _ _ _ _ _ _ _ _).trans ?_
    unfold piece5 grouped
    dsimp only [bodyRun.sl.r_47]
    refine chunk_congr ?_ ?_ ?_ ?_ ?_ ?_ ?_ ?_ ?_ ?_ ?_ ?_ ?_ ?_ ?_ ?_ ?_
    · exact ((congrArg (fun L => arg15.view.readCov L (Rect.unit (s := S896x1024) ![640, 0] S128x1024.size inb_S896x1024_S128x1024_640_0).toLoadRect) (sl_HS0_1 (arg3 := arg3) (harg3 := harg3) (arg4 := arg4) (harg4 := harg4) (arg5 := arg5) (harg5 := harg5) (arg7 := arg7) (harg7 := harg7) (arg9 := arg9) (harg9 := harg9) (x0 := x0) (x1 := x1) (x2 := x2) (x4 := x4) (x6 := x6) c)).trans (cov_rows arg15 _ _ _))
    · exact (congrArg (fun W => extractStridedSlice S128x1 ![640, 0] W slices_S896x128_o640_0_S128x1) (sl_r_15 (arg8 := arg8) (harg8 := harg8) (arg9 := arg9) (harg9 := harg9) (x5 := x5) (x6 := x6) c))
    · exact (congrArg (fun W => extractStridedSlice S128x1 ![640, 1] W slices_S896x128_o640_1_S128x1) (sl_r_15 (arg8 := arg8) (harg8 := harg8) (arg9 := arg9) (harg9 := harg9) (x5 := x5) (x6 := x6) c))
    · exact (congrArg (fun W => extractStridedSlice S128x1 ![640, 2] W slices_S896x128_o640_2_S128x1) (sl_r_15 (arg8 := arg8) (harg8 := harg8) (arg9 := arg9) (harg9 := harg9) (x5 := x5) (x6 := x6) c))
    · exact (congrArg (fun W => extractStridedSlice S128x1 ![640, 3] W slices_S896x128_o640_3_S128x1) (sl_r_15 (arg8 := arg8) (harg8 := harg8) (arg9 := arg9) (harg9 := harg9) (x5 := x5) (x6 := x6) c))
    · exact ld_up arg10 harg10 x7 _ _ (by omega) (at5u0 h)
    · exact ld_up arg10 harg10 x7 _ _ (by omega) (at5u1 h)
    · exact ld_up arg10 harg10 x7 _ _ (by omega) (at5u2 h)
    · exact ld_up arg10 harg10 x7 _ _ (by omega) (at5u3 h)
    · exact ld_up arg11 harg11 x8 _ _ (by omega) (at5u0 h)
    · exact ld_up arg11 harg11 x8 _ _ (by omega) (at5u1 h)
    · exact ld_up arg11 harg11 x8 _ _ (by omega) (at5u2 h)
    · exact ld_up arg11 harg11 x8 _ _ (by omega) (at5u3 h)
    · exact ld_dn arg12 harg12 x9 _ _ (by omega) (at5d0 h)
    · exact ld_dn arg12 harg12 x9 _ _ (by omega) (at5d1 h)
    · exact ld_dn arg12 harg12 x9 _ _ (by omega) (at5d2 h)
    · exact ld_dn arg12 harg12 x9 _ _ (by omega) (at5d3 h)
  · rw [dif_neg h]
    refine (chunkStep_dead arg16 640 _ _ _ _ y x hx0 hx1 (past_dead hp h)).trans ?_
    rfl

theorem at6u0 {w : BitVec 32} (h : w.toNat < 4) : k0_off26 w = ![0, 4 * w.toNat + 0, 0, 0] := off_up h
theorem at6u1 {w : BitVec 32} (h : w.toNat < 4) : k0_off27 w 0#32 = ![0, 4 * w.toNat + 1, 0, 0] := off_up1 h
theorem at6u2 {w : BitVec 32} (h : w.toNat < 4) : k0_off27 w 1#32 = ![0, 4 * w.toNat + 2, 0, 0] := off_up2 h
theorem at6u3 {w : BitVec 32} (h : w.toNat < 4) : k0_off27 w 2#32 = ![0, 4 * w.toNat + 3, 0, 0] := off_up3 h
theorem at6d0 {w : BitVec 32} (h : w.toNat < 4) : k0_off28 w 0#32 = ![0, 4 * w.toNat + 0, 0, 0] := off_dn0 h
theorem at6d1 {w : BitVec 32} (h : w.toNat < 4) : k0_off28 w 1#32 = ![0, 4 * w.toNat + 1, 0, 0] := off_dn1 h
theorem at6d2 {w : BitVec 32} (h : w.toNat < 4) : k0_off28 w 2#32 = ![0, 4 * w.toNat + 2, 0, 0] := off_dn2 h
theorem at6d3 {w : BitVec 32} (h : w.toNat < 4) : k0_off28 w 3#32 = ![0, 4 * w.toNat + 3, 0, 0] := off_dn3 h

theorem pay6 (W : FVec F S896x128 .f32) (xc : FVec F S128x1024 .bf16) (g0 g1 g2 g3 u0 u1 u2 u3 : Vec F S1x1x1024x256 .bf16)
    (d0 d1 d2 d3 : Vec F S1x1x256x1024 .bf16) :
    k0_pay78 W xc (k0_pay54 xc g2) (k0_pay55 xc u2) (k0_pay56 W k0_pay50 (k0_pay51 xc g1) (k0_pay52 xc u1) (k0_pay53 W xc g0 u0) d0 d1) (k0_pay57 xc g3) u3 d2 d3
      = chunk xc (extractStridedSlice S128x1 ![768, 0] W slices_S896x128_o768_0_S128x1) (extractStridedSlice S128x1 ![768, 1] W slices_S896x128_o768_1_S128x1) (extractStridedSlice S128x1 ![768, 2] W slices_S896x128_o768_2_S128x1) (extractStridedSlice S128x1 ![768, 3] W slices_S896x128_o768_3_S128x1) g0 g1 g2 g3 u0 u1 u2 u3 d0 d1 d2 d3 := rfl

set_option maxHeartbeats 4000000 in
theorem chunk6 (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S512x128 .f32) (harg8 : arg8.IsWhole) (arg9 : Memref sig .tc .vmem S1x1x512 .i32) (harg9 : arg9.IsWhole) (arg10 : Memref sig .tc .vmem S1x16x1024x256 .bf16) (harg10 : arg10.IsWhole) (arg11 : Memref sig .tc .vmem S1x16x1024x256 .bf16) (harg11 : arg11.IsWhole) (arg12 : Memref sig .tc .vmem S1x16x256x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S896x1024 .bf16) (harg15 : arg15.IsWhole) (arg16 : Memref sig .tc .vmem S896x1024 .bf16) (harg16 : arg16.IsWhole)
    (x0 : Vec F S1x512x1024 .f32) (x1 : Vec F S1x1x1024 .f32) (x2 : Vec F S1x1x1024 .f32) (x3 : Vec F S1x1x1024 .f32) (x4 : Vec F S1x1024 .f32) (x5 : Vec F S512x128 .f32) (x6 : Vec F S1x1x512 .i32) (x7 : Vec F S1x16x1024x256 .bf16) (x8 : Vec F S1x16x1024x256 .bf16) (x9 : Vec F S1x16x256x1024 .bf16) (x10 : Vec F S1x1024 .f32) (xt : TabBuf (F := F) c) (hw0 : k0_chk1 (word0 c i xt)) (hw1 : k0_chk2 (word1 c i xt)) (hw2 : k0_chk3 (word2 c i xt)) (hw3 : k0_chk4 (word3 c i xt)) (hw4 : k0_chk5 (word4 c i xt)) (hw5 : k0_chk6 (word5 c i xt)) (hw6 : k0_chk7 (word6 c i xt))
    (xs0 : Vec F S896x1024 .bf16) (xs1 : Vec F S896x1024 .bf16)
    (hp : (word6 c i xt).toNat < 2 ^ 31) (y : S896x1024.Idx) (x : S128x1024.Idx) (hx0 : (y 0).val = 768 + (x 0).val)
    (hx1 : (y 1).val = (x 1).val) :
    bodyRun.sl.v123 c i arg3 harg3 arg4 harg4 arg5 harg5 arg7 harg7 arg8 harg8 arg9 harg9 arg10 harg10 arg11 harg11 arg12 harg12 arg15 arg16 harg16 x0 x1 x2 x4 x5 x6 x7 x8 x9 xt hw0 hw1 hw2 hw3 hw4 hw5 hw6 xs1 y
      = if h : (word6 c i xt).toNat < 4 then piece6 x0 x1 x2 x4 x5 x6 x7 x8 x9 (word6 c i xt).toNat h x else FloatOps.ofBits .bf16 0x0000#16 := by
  have hlt : (x 0).val < 128 := (x 0).isLt
  unfold bodyRun.sl.v123
  rw [View.readAt_full]

  by_cases h : (word6 c i xt).toNat < 4
  · rw [dif_pos h]
    refine (chunkStep_live arg16 768 _ _ _ _ y x hx0 hx1 (cond_live h) (past_live h)).trans (congrFun ?_ x)
    dsimp only [bodyRun.sl.r_56, bodyRun.sl.r_57, bodyRun.sl.r_58, bodyRun.sl.r_59, bodyRun.sl.r_60, bodyRun.sl.r_61, bodyRun.sl.r_62]
    refine (pay6 _ _ _ _ _ _ _ _ _ _ _ _ _ _).trans ?_
    unfold piece6 grouped
    dsimp only [bodyRun.sl.r_55]
    refine chunk_congr ?_ ?_ ?_ ?_ ?_ ?_ ?_ ?_ ?_ ?_ ?_ ?_ ?_ ?_ ?_ ?_ ?_
    · exact ((congrArg (fun L => arg15.view.readCov L (Rect.unit (s := S896x1024) ![768, 0] S128x1024.size inb_S896x1024_S128x1024_768_0).toLoadRect) (sl_HS0_1 (arg3 := arg3) (harg3 := harg3) (arg4 := arg4) (harg4 := harg4) (arg5 := arg5) (harg5 := harg5) (arg7 := arg7) (harg7 := harg7) (arg9 := arg9) (harg9 := harg9) (x0 := x0) (x1 := x1) (x2 := x2) (x4 := x4) (x6 := x6) c)).trans (cov_rows arg15 _ _ _))
    · exact (congrArg (fun W => extractStridedSlice S128x1 ![768, 0] W slices_S896x128_o768_0_S128x1) (sl_r_15 (arg8 := arg8) (harg8 := harg8) (arg9 := arg9) (harg9 := harg9) (x5 := x5) (x6 := x6) c))
    · exact (congrArg (fun W => extractStridedSlice S128x1 ![768, 1] W slices_S896x128_o768_1_S128x1) (sl_r_15 (arg8 := arg8) (harg8 := harg8) (arg9 := arg9) (harg9 := harg9) (x5 := x5) (x6 := x6) c))
    · exact (congrArg (fun W => extractStridedSlice S128x1 ![768, 2] W slices_S896x128_o768_2_S128x1) (sl_r_15 (arg8 := arg8) (harg8 := harg8) (arg9 := arg9) (harg9 := harg9) (x5 := x5) (x6 := x6) c))
    · exact (congrArg (fun W => extractStridedSlice S128x1 ![768, 3] W slices_S896x128_o768_3_S128x1) (sl_r_15 (arg8 := arg8) (harg8 := harg8) (arg9 := arg9) (harg9 := harg9) (x5 := x5) (x6 := x6) c))
    · exact ld_up arg10 harg10 x7 _ _ (by omega) (at6u0 h)
    · exact ld_up arg10 harg10 x7 _ _ (by omega) (at6u1 h)
    · exact ld_up arg10 harg10 x7 _ _ (by omega) (at6u2 h)
    · exact ld_up arg10 harg10 x7 _ _ (by omega) (at6u3 h)
    · exact ld_up arg11 harg11 x8 _ _ (by omega) (at6u0 h)
    · exact ld_up arg11 harg11 x8 _ _ (by omega) (at6u1 h)
    · exact ld_up arg11 harg11 x8 _ _ (by omega) (at6u2 h)
    · exact ld_up arg11 harg11 x8 _ _ (by omega) (at6u3 h)
    · exact ld_dn arg12 harg12 x9 _ _ (by omega) (at6d0 h)
    · exact ld_dn arg12 harg12 x9 _ _ (by omega) (at6d1 h)
    · exact ld_dn arg12 harg12 x9 _ _ (by omega) (at6d2 h)
    · exact ld_dn arg12 harg12 x9 _ _ (by omega) (at6d3 h)
  · rw [dif_neg h]
    refine (chunkStep_dead arg16 768 _ _ _ _ y x hx0 hx1 (past_dead hp h)).trans ?_
    rfl

end Cert.Kernel2Ideal.Moe

end
-- ==== Proof.MoeTile.lean ====
module

public import proofs.«01_k».proof.Proof.Gen.Kernel2Ideal
public import proofs.«01_k».proof.Proof.MoeRun
public import proofs.«01_k».proof.Proof.MoeYp
public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Pipeline.Frame
public import Idealize.ShloMosaic.Lib.Pipeline.Kit
public import Idealize.ShloMosaic.Lib.Ring
public import Idealize.ShloMosaic.Lib.Tactic
public import Idealize.ShloMosaic.Lib.WordCmp
public import Idealize.ShloMosaic.Lib.Claim
public import Idealize.ShloMosaic.Lib.VecWindow

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

theorem readAt_whole_unread {sh : Shape} {e : EltTy} (m : Memref sig .tc .vmem sh e) (hm : m.IsWhole) {off : Fin sh.rank → ℕ}
    (inb : ∀ a, off a + sh.size a ≤ sh.size a) (x : sh.Idx → Elt F e) :
    m.view.readAt (Elt F) (Rect.unit off sh.size inb).toLoadRect (hm.unread x) = x :=
  (View.readAt_full m.view _ inb).trans (hm.read_unread x)

/-- What chunk `k` of a tile's slots holds, the chunks' words being `w`: its group's experts, or zeros past the last group. -/
def chunkOut (x0 : Vec F S1x512x1024 .f32) (x1 x2 : Vec F S1x1x1024 .f32) (x4 : Vec F S1x1024 .f32) (x5 : Vec F S512x128 .f32)
    (x6 : Vec F S1x1x512 .i32) (x7 x8 : Vec F S1x16x1024x256 .bf16) (x9 : Vec F S1x16x256x1024 .bf16) (w : Fin 7 → BitVec 32) (k : Fin 7) : FVec F S128x1024 .bf16 :=
  if h : (w k).toNat < 4 then
    match k with
    | 0 => piece0 x0 x1 x2 x4 x5 x6 x7 x8 x9 (w 0).toNat h
    | 1 => piece1 x0 x1 x2 x4 x5 x6 x7 x8 x9 (w 1).toNat h
    | 2 => piece2 x0 x1 x2 x4 x5 x6 x7 x8 x9 (w 2).toNat h
    | 3 => piece3 x0 x1 x2 x4 x5 x6 x7 x8 x9 (w 3).toNat h
    | 4 => piece4 x0 x1 x2 x4 x5 x6 x7 x8 x9 (w 4).toNat h
    | 5 => piece5 x0 x1 x2 x4 x5 x6 x7 x8 x9 (w 5).toNat h
    | 6 => piece6 x0 x1 x2 x4 x5 x6 x7 x8 x9 (w 6).toNat h
  else fun _ => FloatOps.ofBits .bf16 0x0000#16

/-- The row of its chunk, of a slot. -/
abbrev inChunk (y : S896x1024.Idx) : S128x1024.Idx := fun a => match a with
  | ⟨0, _⟩ => (⟨(y 0).val % 128, Nat.mod_lt _ (by decide)⟩ : Fin 128)
  | ⟨1, _⟩ => (y 1 : Fin 1024)

/-- What a tile's slots hold after the experts. -/
def slotsOut (x0 : Vec F S1x512x1024 .f32) (x1 x2 : Vec F S1x1x1024 .f32) (x4 : Vec F S1x1024 .f32) (x5 : Vec F S512x128 .f32)
    (x6 : Vec F S1x1x512 .i32) (x7 x8 : Vec F S1x16x1024x256 .bf16) (x9 : Vec F S1x16x256x1024 .bf16) (w : Fin 7 → BitVec 32) : FVec F S896x1024 .bf16 := fun y =>
  chunkOut x0 x1 x2 x4 x5 x6 x7 x8 x9 w ⟨(y 0).val / 128, by have : (y 0).val < 896 := (y 0).isLt; omega⟩ (inChunk y)

/-- What a tile of the result holds. -/
def tileOut (x0 : Vec F S1x512x1024 .f32) (x1 x2 : Vec F S1x1x1024 .f32)  (x3 : Vec F S1x1x1024 .f32) (x4 : Vec F S1x1024 .f32) (x5 : Vec F S512x128 .f32)
    (x6 : Vec F S1x1x512 .i32) (x7 x8 : Vec F S1x16x1024x256 .bf16) (x9 : Vec F S1x16x256x1024 .bf16) (x10 : Vec F S1x1024 .f32) (w : Fin 7 → BitVec 32) :
    FVec F S1x512x1024 .f32 :=
  k0_pay1 (k0_pay80 (k0_pay58 x0) (k0_pay63 (k0_pay60 x5)) x3 (slotsOut x0 x1 x2 x4 x5 x6 x7 x8 x9 w)) x10

/-- The seven words of a point. -/
abbrev words (c : Dev nD) (i : grid0.Coords) (f : TabBuf (F := F) c) : Fin 7 → BitVec 32 :=
  ![word0 c i f, word1 c i f, word2 c i f, word3 c i f, word4 c i f, word5 c i f, word6 c i f]

set_option maxHeartbeats 1000000 in
theorem slots_run (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S512x128 .f32) (harg8 : arg8.IsWhole) (arg9 : Memref sig .tc .vmem S1x1x512 .i32) (harg9 : arg9.IsWhole) (arg10 : Memref sig .tc .vmem S1x16x1024x256 .bf16) (harg10 : arg10.IsWhole) (arg11 : Memref sig .tc .vmem S1x16x1024x256 .bf16) (harg11 : arg11.IsWhole) (arg12 : Memref sig .tc .vmem S1x16x256x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S896x1024 .bf16) (harg15 : arg15.IsWhole) (arg16 : Memref sig .tc .vmem S896x1024 .bf16) (harg16 : arg16.IsWhole)
    (x0 : Vec F S1x512x1024 .f32) (x1 : Vec F S1x1x1024 .f32) (x2 : Vec F S1x1x1024 .f32) (x3 : Vec F S1x1x1024 .f32) (x4 : Vec F S1x1024 .f32) (x5 : Vec F S512x128 .f32) (x6 : Vec F S1x1x512 .i32) (x7 : Vec F S1x16x1024x256 .bf16) (x8 : Vec F S1x16x1024x256 .bf16) (x9 : Vec F S1x16x256x1024 .bf16) (x10 : Vec F S1x1024 .f32) (xt : TabBuf (F := F) c) (hw0 : k0_chk1 (word0 c i xt)) (hw1 : k0_chk2 (word1 c i xt)) (hw2 : k0_chk3 (word2 c i xt)) (hw3 : k0_chk4 (word3 c i xt)) (hw4 : k0_chk5 (word4 c i xt)) (hw5 : k0_chk6 (word5 c i xt)) (hw6 : k0_chk7 (word6 c i xt))
    (xs0 : Vec F S896x1024 .bf16) (xs1 : Vec F S896x1024 .bf16)
    (hp : ∀ k, (words c i xt k).toNat < 2 ^ 31) :
    bodyRun.sl.v123 c i arg3 harg3 arg4 harg4 arg5 harg5 arg7 harg7 arg8 harg8 arg9 harg9 arg10 harg10 arg11 harg11 arg12 harg12 arg15 arg16 harg16 x0 x1 x2 x4 x5 x6 x7 x8 x9 xt hw0 hw1 hw2 hw3 hw4 hw5 hw6 xs1 = slotsOut x0 x1 x2 x4 x5 x6 x7 x8 x9 (words c i xt) := by
  funext y
  have hy : (y 0).val < 896 := (y 0).isLt
  unfold slotsOut
  have hq : (y 0).val / 128 < 7 := by omega
  have hm : (y 0).val = 128 * ((y 0).val / 128) + (y 0).val % 128 := by omega
  generalize hk : (⟨(y 0).val / 128, _⟩ : Fin 7) = k
  have hk' : (y 0).val / 128 = k.val := congrArg Fin.val hk
  rw [hk'] at hm
  unfold chunkOut
  match k with
  | 0 =>
    refine (chunk0 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xt hw0 hw1 hw2 hw3 hw4 hw5 hw6 xs0 xs1 (hp 0) y (inChunk y) hm rfl).trans ?_
    by_cases h : (word0 c i xt).toNat < 4
    · rw [dif_pos h, dif_pos (show (words c i xt 0).toNat < 4 from h)]; rfl
    · rw [dif_neg h, dif_neg (show ¬(words c i xt 0).toNat < 4 from h)]
  | 1 =>
    refine (chunk1 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xt hw0 hw1 hw2 hw3 hw4 hw5 hw6 xs0 xs1 (hp 1) y (inChunk y) hm rfl).trans ?_
    by_cases h : (word1 c i xt).toNat < 4
    · rw [dif_pos h, dif_pos (show (words c i xt 1).toNat < 4 from h)]; rfl
    · rw [dif_neg h, dif_neg (show ¬(words c i xt 1).toNat < 4 from h)]
  | 2 =>
    refine (chunk2 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xt hw0 hw1 hw2 hw3 hw4 hw5 hw6 xs0 xs1 (hp 2) y (inChunk y) hm rfl).trans ?_
    by_cases h : (word2 c i xt).toNat < 4
    · rw [dif_pos h, dif_pos (show (words c i xt 2).toNat < 4 from h)]; rfl
    · rw [dif_neg h, dif_neg (show ¬(words c i xt 2).toNat < 4 from h)]
  | 3 =>
    refine (chunk3 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xt hw0 hw1 hw2 hw3 hw4 hw5 hw6 xs0 xs1 (hp 3) y (inChunk y) hm rfl).trans ?_
    by_cases h : (word3 c i xt).toNat < 4
    · rw [dif_pos h, dif_pos (show (words c i xt 3).toNat < 4 from h)]; rfl
    · rw [dif_neg h, dif_neg (show ¬(words c i xt 3).toNat < 4 from h)]
  | 4 =>
    refine (chunk4 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xt hw0 hw1 hw2 hw3 hw4 hw5 hw6 xs0 xs1 (hp 4) y (inChunk y) hm rfl).trans ?_
    by_cases h : (word4 c i xt).toNat < 4
    · rw [dif_pos h, dif_pos (show (words c i xt 4).toNat < 4 from h)]; rfl
    · rw [dif_neg h, dif_neg (show ¬(words c i xt 4).toNat < 4 from h)]
  | 5 =>
    refine (chunk5 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xt hw0 hw1 hw2 hw3 hw4 hw5 hw6 xs0 xs1 (hp 5) y (inChunk y) hm rfl).trans ?_
    by_cases h : (word5 c i xt).toNat < 4
    · rw [dif_pos h, dif_pos (show (words c i xt 5).toNat < 4 from h)]; rfl
    · rw [dif_neg h, dif_neg (show ¬(words c i xt 5).toNat < 4 from h)]
  | 6 =>
    refine (chunk6 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xt hw0 hw1 hw2 hw3 hw4 hw5 hw6 xs0 xs1 (hp 6) y (inChunk y) hm rfl).trans ?_
    by_cases h : (word6 c i xt).toNat < 4
    · rw [dif_pos h, dif_pos (show (words c i xt 6).toNat < 4 from h)]; rfl
    · rw [dif_neg h, dif_neg (show ¬(words c i xt 6).toNat < 4 from h)]

set_option maxHeartbeats 1000000 in
/-- The body leaves `tileOut` in its result, whatever was in its scratch buffers. -/
theorem tile_run (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S512x128 .f32) (harg8 : arg8.IsWhole) (arg9 : Memref sig .tc .vmem S1x1x512 .i32) (harg9 : arg9.IsWhole) (arg10 : Memref sig .tc .vmem S1x16x1024x256 .bf16) (harg10 : arg10.IsWhole) (arg11 : Memref sig .tc .vmem S1x16x1024x256 .bf16) (harg11 : arg11.IsWhole) (arg12 : Memref sig .tc .vmem S1x16x256x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S896x1024 .bf16) (harg15 : arg15.IsWhole) (arg16 : Memref sig .tc .vmem S896x1024 .bf16) (harg16 : arg16.IsWhole)
    (x0 : Vec F S1x512x1024 .f32) (x1 : Vec F S1x1x1024 .f32) (x2 : Vec F S1x1x1024 .f32) (x3 : Vec F S1x1x1024 .f32) (x4 : Vec F S1x1024 .f32) (x5 : Vec F S512x128 .f32) (x6 : Vec F S1x1x512 .i32) (x7 : Vec F S1x16x1024x256 .bf16) (x8 : Vec F S1x16x1024x256 .bf16) (x9 : Vec F S1x16x256x1024 .bf16) (x10 : Vec F S1x1024 .f32) (xt : TabBuf (F := F) c) (hw0 : k0_chk1 (word0 c i xt)) (hw1 : k0_chk2 (word1 c i xt)) (hw2 : k0_chk3 (word2 c i xt)) (hw3 : k0_chk4 (word3 c i xt)) (hw4 : k0_chk5 (word4 c i xt)) (hw5 : k0_chk6 (word5 c i xt)) (hw6 : k0_chk7 (word6 c i xt))
    (xs0 : Vec F S896x1024 .bf16) (xs1 : Vec F S896x1024 .bf16)
    (hp : ∀ k, (words c i xt k).toNat < 2 ^ 31) (f : arg14.view.ty.Contents (Elt F)) :
    arg14.view.read (Elt F) (arg14.view.writes (Elt F) f (bodyRun c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xt hw0 hw1 hw2 hw3 hw4 hw5 hw6 xs0 xs1).1)
      = tileOut x0 x1 x2 x3 x4 x5 x6 x7 x8 x9 x10 (words c i xt) := by
  refine (View.read_writes_full arg14.view f inb_S1x512x1024_S1x512x1024_0_0_0 _ []).trans ?_
  unfold tileOut
  rw [← slots_run c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xt hw0 hw1 hw2 hw3 hw4 hw5 hw6 xs0 xs1 hp]
  dsimp only [bodyRun.sl.r_63, bodyRun.sl.r_64, bodyRun.sl.r, bodyRun.sl.r_14, bodyRun.sl.r_3, bodyRun.sl.r_2]
  rw [readAt_whole_unread arg3 harg3, readAt_whole_unread arg13 harg13, readAt_whole_unread arg8 harg8, readAt_whole_unread arg6 harg6]

end Cert.Kernel2Ideal.Moe

end
-- ==== Proof.MoeLaunch.lean ====
module

public import proofs.«01_k».proof.Proof.Gen.Kernel2Ideal
public import proofs.«01_k».proof.Proof.MoeRun
public import proofs.«01_k».proof.Proof.MoeYp
public import proofs.«01_k».proof.Proof.MoeTile
public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Pipeline.Frame
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host code before the grid -/

/-- What the grid finds in the buffer `b` of core `c`. -/
abbrev V (c : Dev nD) (b : Ref sig .tc) : Buf (Elt F) ((c : Thread nD τ).loc b) := StableHlo.after hostOps0 (fun b => m (c, b)) b

theorem prefix_fresh : (hostOps0 : List (HloOp τ sig (Elt F))).Forall fun op => op.fresh = ∅ := by
  simp only [List.Forall]; repeat' constructor

set_option maxHeartbeats 800000 in
theorem prefix_main : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub prefix_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (by decide)))

/-! ## The table of groups -/

def tbl : pre0.Contents (Elt F) := fun j => V m (0 : Dev nD) (pre0.ref j)

theorem V_tbl (c : Dev nD) (j : Fin 1) : V m c (pre0.ref j) = tbl m j := by
  obtain rfl : c = 0 := Subsingleton.elim _ _; rfl

/-- No window's place depends on the table. -/
theorem table_ok : ok0 (F := F) (tbl m) := by
  first | trivial | exact fun _ => trivial | (unfold ok0; trivial) | (unfold ok0; decide)

abbrev adm : (pcfg0 (F := F)).Adm := ⟨tbl m, table_ok m⟩
abbrev cfgM : Pipeline.Cfg sig Λ₀ := cfg0 (adm m)

theorem table_half (c : Dev nD) : (Pipeline.ΦT pre0 (tbl m) c : sProp 𝕄) = iprop(tabPt c tab (tbl m 0)) := by
  unfold Pipeline.ΦT Pipeline.prefHeld
  rw [show (Finset.univ : Finset (Fin 1)) = {(0 : Fin 1)} from by decide, bigSep_singleton]
  rfl

/-- The words of the table at the point `t`: one group for each chunk of slots. -/
abbrev wordsAt (c : Dev nD) (t : Fin (cfgM m).N) : Fin 7 → BitVec 32 := words c (grid0.coords t) (tbl m 0)

/-- No word of the table is negative. -/
def Groups : Prop := ∀ (c : Dev nD) (t : Fin (cfgM m).N) (k : Fin 7), (wordsAt m c t k).toNat < 2 ^ 31

theorem cond_dead {w : BitVec 32} (h : w.toNat < 2 ^ 31) (h' : ¬w.toNat < 4) : ¬k0_cond1 w = 1#1 := by
  have e : w.slt 4#32 = false := by
    have h4 : (4#32 : BitVec 32).toInt = 4 := by decide
    rw [BitVec.slt_eq_decide, decide_eq_false_iff_not, h4, BitVec.toInt_eq_toNat_of_lt (by omega)]
    omega
  have e' : Scalar.cmpi .slt w 4#32 = 0#1 := by
    show BitVec.ofBool (w.slt 4#32) = 0#1
    rw [e]; rfl
  unfold k0_cond1
  dsimp only
  rw [e']; decide

theorem chk1 {w : BitVec 32} (h : w.toNat < 2 ^ 31) : k0_chk1 w := by
  by_cases h4 : w.toNat < 4
  · rcases word_cases h4 with rfl | rfl | rfl | rfl <;> decide +kernel
  · have hc := cond_dead h h4
    exact ⟨fun h' => absurd h' hc, fun h' => absurd h' hc, fun h' => absurd h' hc⟩
theorem chk2 {w : BitVec 32} (h : w.toNat < 2 ^ 31) : k0_chk2 w := by
  by_cases h4 : w.toNat < 4
  · rcases word_cases h4 with rfl | rfl | rfl | rfl <;> decide +kernel
  · have hc := cond_dead h h4
    exact ⟨fun h' => absurd h' hc, fun h' => absurd h' hc, fun h' => absurd h' hc⟩
theorem chk3 {w : BitVec 32} (h : w.toNat < 2 ^ 31) : k0_chk3 w := by
  by_cases h4 : w.toNat < 4
  · rcases word_cases h4 with rfl | rfl | rfl | rfl <;> decide +kernel
  · have hc := cond_dead h h4
    exact ⟨fun h' => absurd h' hc, fun h' => absurd h' hc, fun h' => absurd h' hc⟩
theorem chk4 {w : BitVec 32} (h : w.toNat < 2 ^ 31) : k0_chk4 w := by
  by_cases h4 : w.toNat < 4
  · rcases word_cases h4 with rfl | rfl | rfl | rfl <;> decide +kernel
  · have hc := cond_dead h h4
    exact ⟨fun h' => absurd h' hc, fun h' => absurd h' hc, fun h' => absurd h' hc⟩
theorem chk5 {w : BitVec 32} (h : w.toNat < 2 ^ 31) : k0_chk5 w := by
  by_cases h4 : w.toNat < 4
  · rcases word_cases h4 with rfl | rfl | rfl | rfl <;> decide +kernel
  · have hc := cond_dead h h4
    exact ⟨fun h' => absurd h' hc, fun h' => absurd h' hc, fun h' => absurd h' hc⟩
theorem chk6 {w : BitVec 32} (h : w.toNat < 2 ^ 31) : k0_chk6 w := by
  by_cases h4 : w.toNat < 4
  · rcases word_cases h4 with rfl | rfl | rfl | rfl <;> decide +kernel
  · have hc := cond_dead h h4
    exact ⟨fun h' => absurd h' hc, fun h' => absurd h' hc, fun h' => absurd h' hc⟩
theorem chk7 {w : BitVec 32} (h : w.toNat < 2 ^ 31) : k0_chk7 w := by
  by_cases h4 : w.toNat < 4
  · rcases word_cases h4 with rfl | rfl | rfl | rfl <;> decide +kernel
  · have hc := cond_dead h h4
    exact ⟨fun h' => absurd h' hc, fun h' => absurd h' hc, fun h' => absurd h' hc⟩

/-! ## The windows' blocks -/

/-- The block of window `w` at the point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What the body leaves in its result at the point `t`. -/
def tileAt (c : Dev nD) (t : Fin (cfgM m).N) : FVec F S1x512x1024 .f32 :=
  tileOut (iblk m c 0 t) (iblk m c 1 t) (iblk m c 2 t) (iblk m c 3 t) (iblk m c 4 t) (iblk m c 5 t) (iblk m c 6 t) (iblk m c 7 t)
    (iblk m c 8 t) (iblk m c 9 t) (iblk m c 10 t) (wordsAt m c t)

abbrev scr0 : Memref sig .tc .vmem S896x1024 .bf16 := Memref.whole cc0_scratch0
abbrev scr1 : Memref sig .tc .vmem S896x1024 .bf16 := Memref.whole cc0_scratch1

theorem scratch_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

abbrev buf0 (t : Fin (cfgM m).N) : Memref sig .tc .vmem S1x512x1024 .f32 := spec0_0.stage ((cfgM m).slots t 0)
abbrev whole0 (t : Fin (cfgM m).N) : (buf0 m t).IsWhole := hstage0_0 (((cfgM m).slots t 0).cast nbuf0_0)
abbrev buf1 (t : Fin (cfgM m).N) : Memref sig .tc .vmem S1x1x1024 .f32 := spec0_1.stage ((cfgM m).slots t 1)
abbrev whole1 (t : Fin (cfgM m).N) : (buf1 m t).IsWhole := hstage0_1 (((cfgM m).slots t 1).cast nbuf0_1)
abbrev buf2 (t : Fin (cfgM m).N) : Memref sig .tc .vmem S1x1x1024 .f32 := spec0_2.stage ((cfgM m).slots t 2)
abbrev whole2 (t : Fin (cfgM m).N) : (buf2 m t).IsWhole := hstage0_2 (((cfgM m).slots t 2).cast nbuf0_2)
abbrev buf3 (t : Fin (cfgM m).N) : Memref sig .tc .vmem S1x1x1024 .f32 := spec0_3.stage ((cfgM m).slots t 3)
abbrev whole3 (t : Fin (cfgM m).N) : (buf3 m t).IsWhole := hstage0_3 (((cfgM m).slots t 3).cast nbuf0_3)
abbrev buf4 (t : Fin (cfgM m).N) : Memref sig .tc .vmem S1x1024 .f32 := spec0_4.stage ((cfgM m).slots t 4)
abbrev whole4 (t : Fin (cfgM m).N) : (buf4 m t).IsWhole := hstage0_4 (((cfgM m).slots t 4).cast nbuf0_4)
abbrev buf5 (t : Fin (cfgM m).N) : Memref sig .tc .vmem S512x128 .f32 := spec0_5.stage ((cfgM m).slots t 5)
abbrev whole5 (t : Fin (cfgM m).N) : (buf5 m t).IsWhole := hstage0_5 (((cfgM m).slots t 5).cast nbuf0_5)
abbrev buf6 (t : Fin (cfgM m).N) : Memref sig .tc .vmem S1x1x512 .i32 := spec0_6.stage ((cfgM m).slots t 6)
abbrev whole6 (t : Fin (cfgM m).N) : (buf6 m t).IsWhole := hstage0_6 (((cfgM m).slots t 6).cast nbuf0_6)
abbrev buf7 (t : Fin (cfgM m).N) : Memref sig .tc .vmem S1x16x1024x256 .bf16 := spec0_7.stage ((cfgM m).slots t 7)
abbrev whole7 (t : Fin (cfgM m).N) : (buf7 m t).IsWhole := hstage0_7 (((cfgM m).slots t 7).cast nbuf0_7)
abbrev buf8 (t : Fin (cfgM m).N) : Memref sig .tc .vmem S1x16x1024x256 .bf16 := spec0_8.stage ((cfgM m).slots t 8)
abbrev whole8 (t : Fin (cfgM m).N) : (buf8 m t).IsWhole := hstage0_8 (((cfgM m).slots t 8).cast nbuf0_8)
abbrev buf9 (t : Fin (cfgM m).N) : Memref sig .tc .vmem S1x16x256x1024 .bf16 := spec0_9.stage ((cfgM m).slots t 9)
abbrev whole9 (t : Fin (cfgM m).N) : (buf9 m t).IsWhole := hstage0_9 (((cfgM m).slots t 9).cast nbuf0_9)
abbrev buf10 (t : Fin (cfgM m).N) : Memref sig .tc .vmem S1x1024 .f32 := spec0_10.stage ((cfgM m).slots t 10)
abbrev whole10 (t : Fin (cfgM m).N) : (buf10 m t).IsWhole := hstage0_10 (((cfgM m).slots t 10).cast nbuf0_10)
abbrev buf11 (t : Fin (cfgM m).N) : Memref sig .tc .vmem S1x512x1024 .f32 := spec0_11.stage ((cfgM m).slots t 11)
abbrev whole11 (t : Fin (cfgM m).N) : (buf11 m t).IsWhole := hstage0_11 (((cfgM m).slots t 11).cast nbuf0_11)

/-- The body at the point `t`. -/
abbrev bodyAt (t : Fin (cfgM m).N) : Prog (TpuEff nD τ sig (Elt F) Λ₀ .tc) PUnit :=
  cc0_moe_experts (grid0.coords t) (Memref.whole main_v11) (Memref.isWhole_whole _) (buf0 m t) (whole0 m t) (buf1 m t) (whole1 m t) (buf2 m t) (whole2 m t) (buf3 m t) (whole3 m t) (buf4 m t) (whole4 m t) (buf5 m t) (whole5 m t) (buf6 m t) (whole6 m t) (buf7 m t) (whole7 m t) (buf8 m t) (whole8 m t) (buf9 m t) (whole9 m t) (buf10 m t) (whole10 m t) (buf11 m t) (whole11 m t) (Memref.whole cc0_scratch0) (Memref.isWhole_whole _) (Memref.whole cc0_scratch1) (Memref.isWhole_whole _)

/-- What the grid holds point by point: every input its block, the result the tile. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => tileAt m c t
  Φ _ := iprop(Pipeline.ΦA spec0 c ∗ Pipeline.ΦT pre0 (tbl m) c)
  q w := Pipeline.shareOf spec0 w
  owed _ := 0

theorem arr_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = iblk m c 5 t := by dsimp only [dats]; try rfl
theorem after6 (c : Dev nD) (t : Fin (cfgM m).N) : (dats m 0 c).after 6 t = iblk m c 6 t := by dsimp only [dats]; try rfl
theorem after7 (c : Dev nD) (t : Fin (cfgM m).N) : (dats m 0 c).after 7 t = iblk m c 7 t := by dsimp only [dats]; try rfl
theorem after8 (c : Dev nD) (t : Fin (cfgM m).N) : (dats m 0 c).after 8 t = iblk m c 8 t := by dsimp only [dats]; try rfl
theorem after9 (c : Dev nD) (t : Fin (cfgM m).N) : (dats m 0 c).after 9 t = iblk m c 9 t := by dsimp only [dats]; try rfl
theorem after10 (c : Dev nD) (t : Fin (cfgM m).N) : (dats m 0 c).after 10 t = iblk m c 10 t := by dsimp only [dats]; try rfl
theorem after11 (c : Dev nD) (t : Fin (cfgM m).N) : (dats m 0 c).after 11 t = tileAt m c t := by dsimp only [dats]; try rfl
theorem before0 (c : Dev nD) (t : Fin (cfgM m).N) (d) : (dats m 0 c).before 0 t d = iblk m c 0 t :=
  ((dats m 0 c).before_in_eq_fetched 0 rfl (fun _ => rfl) (fun _ _ _ => rfl)
    (fun t => by rw [after0]; unfold Dat.blockOf iblk; rw [arr_eq]; try rfl) t d).trans
    (by unfold Dat.fetched Dat.blockOf iblk; rw [arr_eq]; try rfl)
theorem before1 (c : Dev nD) (t : Fin (cfgM m).N) (d) : (dats m 0 c).before 1 t d = iblk m c 1 t :=
  ((dats m 0 c).before_in_eq_fetched 1 rfl (fun _ => rfl) (fun _ _ _ => rfl)
    (fun t => by rw [after1]; unfold Dat.blockOf iblk; rw [arr_eq]; try rfl) t d).trans
    (by unfold Dat.fetched Dat.blockOf iblk; rw [arr_eq]; try rfl)
theorem before2 (c : Dev nD) (t : Fin (cfgM m).N) (d) : (dats m 0 c).before 2 t d = iblk m c 2 t :=
  ((dats m 0 c).before_in_eq_fetched 2 rfl (fun _ => rfl) (fun _ _ _ => rfl)
    (fun t => by rw [after2]; unfold Dat.blockOf iblk; rw [arr_eq]; try rfl) t d).trans
    (by unfold Dat.fetched Dat.blockOf iblk; rw [arr_eq]; try rfl)
theorem before3 (c : Dev nD) (t : Fin (cfgM m).N) (d) : (dats m 0 c).before 3 t d = iblk m c 3 t :=
  ((dats m 0 c).before_in_eq_fetched 3 rfl (fun _ => rfl) (fun _ _ _ => rfl)
    (fun t => by rw [after3]; unfold Dat.blockOf iblk; rw [arr_eq]; try rfl) t d).trans
    (by unfold Dat.fetched Dat.blockOf iblk; rw [arr_eq]; try rfl)
theorem before4 (c : Dev nD) (t : Fin (cfgM m).N) (d) : (dats m 0 c).before 4 t d = iblk m c 4 t :=
  ((dats m 0 c).before_in_eq_fetched 4 rfl (fun _ => rfl) (fun _ _ _ => rfl)
    (fun t => by rw [after4]; unfold Dat.blockOf iblk; rw [arr_eq]; try rfl) t d).trans
    (by unfold Dat.fetched Dat.blockOf iblk; rw [arr_eq]; try rfl)
theorem before5 (c : Dev nD) (t : Fin (cfgM m).N) (d) : (dats m 0 c).before 5 t d = iblk m c 5 t :=
  ((dats m 0 c).before_in_eq_fetched 5 rfl (fun _ => rfl) (fun _ _ _ => rfl)
    (fun t => by rw [after5]; unfold Dat.blockOf iblk; rw [arr_eq]; try rfl) t d).trans
    (by unfold Dat.fetched Dat.blockOf iblk; rw [arr_eq]; try rfl)
theorem before6 (c : Dev nD) (t : Fin (cfgM m).N) (d) : (dats m 0 c).before 6 t d = iblk m c 6 t :=
  ((dats m 0 c).before_in_eq_fetched 6 rfl (fun _ => rfl) (fun _ _ _ => rfl)
    (fun t => by rw [after6]; unfold Dat.blockOf iblk; rw [arr_eq]; try rfl) t d).trans
    (by unfold Dat.fetched Dat.blockOf iblk; rw [arr_eq]; try rfl)
theorem before7 (c : Dev nD) (t : Fin (cfgM m).N) (d) : (dats m 0 c).before 7 t d = iblk m c 7 t :=
  ((dats m 0 c).before_in_eq_fetched 7 rfl (fun _ => rfl) (fun _ _ _ => rfl)
    (fun t => by rw [after7]; unfold Dat.blockOf iblk; rw [arr_eq]; try rfl) t d).trans
    (by unfold Dat.fetched Dat.blockOf iblk; rw [arr_eq]; try rfl)
theorem before8 (c : Dev nD) (t : Fin (cfgM m).N) (d) : (dats m 0 c).before 8 t d = iblk m c 8 t :=
  ((dats m 0 c).before_in_eq_fetched 8 rfl (fun _ => rfl) (fun _ _ _ => rfl)
    (fun t => by rw [after8]; unfold Dat.blockOf iblk; rw [arr_eq]; try rfl) t d).trans
    (by unfold Dat.fetched Dat.blockOf iblk; rw [arr_eq]; try rfl)
theorem before9 (c : Dev nD) (t : Fin (cfgM m).N) (d) : (dats m 0 c).before 9 t d = iblk m c 9 t :=
  ((dats m 0 c).before_in_eq_fetched 9 rfl (fun _ => rfl) (fun _ _ _ => rfl)
    (fun t => by rw [after9]; unfold Dat.blockOf iblk; rw [arr_eq]; try rfl) t d).trans
    (by unfold Dat.fetched Dat.blockOf iblk; rw [arr_eq]; try rfl)
theorem before10 (c : Dev nD) (t : Fin (cfgM m).N) (d) : (dats m 0 c).before 10 t d = iblk m c 10 t :=
  ((dats m 0 c).before_in_eq_fetched 10 rfl (fun _ => rfl) (fun _ _ _ => rfl)
    (fun t => by rw [after10]; unfold Dat.blockOf iblk; rw [arr_eq]; try rfl) t d).trans
    (by unfold Dat.fetched Dat.blockOf iblk; rw [arr_eq]; try rfl)

/-! ## The body at a point -/

def bodyPre (c : Dev nD) (t : Fin (cfgM m).N) : sProp 𝕄 :=
  iprop((dats m 0 c).Φ t.castSucc ∗ (dats m 0 c).owesAt () t.castSucc
    ∗ (∃ d, owns (c : Thread nD τ) (buf0 m t) fullShare ((dats m 0 c).before 0 t d))
    ∗ (∃ d, owns (c : Thread nD τ) (buf1 m t) fullShare ((dats m 0 c).before 1 t d))
    ∗ (∃ d, owns (c : Thread nD τ) (buf2 m t) fullShare ((dats m 0 c).before 2 t d))
    ∗ (∃ d, owns (c : Thread nD τ) (buf3 m t) fullShare ((dats m 0 c).before 3 t d))
    ∗ (∃ d, owns (c : Thread nD τ) (buf4 m t) fullShare ((dats m 0 c).before 4 t d))
    ∗ (∃ d, owns (c : Thread nD τ) (buf5 m t) fullShare ((dats m 0 c).before 5 t d))
    ∗ (∃ d, owns (c : Thread nD τ) (buf6 m t) fullShare ((dats m 0 c).before 6 t d))
    ∗ (∃ d, owns (c : Thread nD τ) (buf7 m t) fullShare ((dats m 0 c).before 7 t d))
    ∗ (∃ d, owns (c : Thread nD τ) (buf8 m t) fullShare ((dats m 0 c).before 8 t d))
    ∗ (∃ d, owns (c : Thread nD τ) (buf9 m t) fullShare ((dats m 0 c).before 9 t d))
    ∗ (∃ d, owns (c : Thread nD τ) (buf10 m t) fullShare ((dats m 0 c).before 10 t d))
    ∗ (∃ d, owns (c : Thread nD τ) (buf11 m t) fullShare ((dats m 0 c).before 11 t d)))

def bodyPost (c : Dev nD) (t : Fin (cfgM m).N) : sProp 𝕄 :=
  iprop((dats m 0 c).Φ t.succ ∗ (dats m 0 c).owesAt () t.succ
    ∗ owns (c : Thread nD τ) (buf0 m t) fullShare ((dats m 0 c).after 0 t)
    ∗ owns (c : Thread nD τ) (buf1 m t) fullShare ((dats m 0 c).after 1 t)
    ∗ owns (c : Thread nD τ) (buf2 m t) fullShare ((dats m 0 c).after 2 t)
    ∗ owns (c : Thread nD τ) (buf3 m t) fullShare ((dats m 0 c).after 3 t)
    ∗ owns (c : Thread nD τ) (buf4 m t) fullShare ((dats m 0 c).after 4 t)
    ∗ owns (c : Thread nD τ) (buf5 m t) fullShare ((dats m 0 c).after 5 t)
    ∗ owns (c : Thread nD τ) (buf6 m t) fullShare ((dats m 0 c).after 6 t)
    ∗ owns (c : Thread nD τ) (buf7 m t) fullShare ((dats m 0 c).after 7 t)
    ∗ owns (c : Thread nD τ) (buf8 m t) fullShare ((dats m 0 c).after 8 t)
    ∗ owns (c : Thread nD τ) (buf9 m t) fullShare ((dats m 0 c).after 9 t)
    ∗ owns (c : Thread nD τ) (buf10 m t) fullShare ((dats m 0 c).after 10 t)
    ∗ owns (c : Thread nD τ) (buf11 m t) fullShare ((dats m 0 c).after 11 t))

set_option maxHeartbeats 4800000 in
/-- The body at any point: the run at the blocks, and its result is the tile. -/
theorem body_sound (hG : Groups m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = iprop(Pipeline.ΦA spec0 c ∗ Pipeline.ΦT pre0 (tbl m) c) from rfl, table_half, scratch_eq]
  iintro ⟨⟨⟨⟨⟨%e0, HS0⟩, ⟨%e1, HS1⟩⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun c (grid0.coords t) (buf0 m t) (whole0 m t) (buf1 m t) (whole1 m t) (buf2 m t) (whole2 m t) (buf3 m t) (whole3 m t) (buf4 m t) (whole4 m t) (buf5 m t) (whole5 m t) (buf6 m t) (whole6 m t) (buf7 m t) (whole7 m t) (buf8 m t) (whole8 m t) (buf9 m t) (whole9 m t) (buf10 m t) (whole10 m t) (buf11 m t) (whole11 m t) scr0 (Memref.isWhole_whole _) scr1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (tbl m 0) (chk1 (hG c t 0)) (chk2 (hG c t 1)) (chk3 (hG c t 2)) (chk4 (hG c t 3)) (chk5 (hG c t 4)) (chk6 (hG c t 5)) (chk7 (hG c t 6)) e0 e1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HT0]; · iexact HT0
  iintro ⟨H0, H1, H2, H3, H4, H5, H6, H7, H8, H9, H10, ⟨%f11, H11⟩, ⟨%g0, HS0⟩, ⟨%g1, HS1⟩, HT0⟩
  isplitl [HS0 HS1 Hg HT0]
  · isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro
  exact tile_run c (grid0.coords t) (buf0 m t) (whole0 m t) (buf1 m t) (whole1 m t) (buf2 m t) (whole2 m t) (buf3 m t) (whole3 m t) (buf4 m t) (whole4 m t) (buf5 m t) (whole5 m t) (buf6 m t) (whole6 m t) (buf7 m t) (whole7 m t) (buf8 m t) (whole8 m t) (buf9 m t) (whole9 m t) (buf10 m t) (whole10 m t) (buf11 m t) (whole11 m t) scr0 (Memref.isWhole_whole _) scr1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (tbl m 0) (chk1 (hG c t 0)) (chk2 (hG c t 1)) (chk3 (hG c t 2)) (chk4 (hG c t 3)) (chk5 (hG c t 4)) (chk6 (hG c t 5)) (chk7 (hG c t 6)) e0 e1 (hG c t) f11

theorem body_row (t : Fin (cfgM m).N) :
    defs₀ (F := F) .tc (cfgM m).body ((cfgM m).bodyArgs t ((cfgM m).slots t)) = bodyAt m t := by
  unfold defs₀; rw [Defs.onTc_tc]

theorem obligation (hG : Groups m) (c : Dev nD) : BodyObligation (dats (F := F) m 0 c) (defs₀ (F := F)) Variants.none () Set.univ := fun t => by
  rw [bigSep_W0, bigSep_W0, body_row m]
  exact triple_restated (body_sound m hG c t) rfl .rfl fun _ => .rfl

/-! ## The run and the frame -/

set_option backward.isDefEq.respectTransparency.types false in
/-- The whole call runs to its end, every array as the points leave it, every semaphore at zero. -/
theorem run_main (hG : Groups m) : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_shared (Q' := _) pcfgs (fun _ => adm m) (dats m) (0 : Fin 1) launch₀0 defs₀ Variants.none m ρ main
    (hbody := fun c => (obligation m hG c).loose) (hq := fun _ _ _ => rfl)
    (howed := fun _ _ => rfl) (V := V m) (hmain := prefix_main m) (hA := arr_eq m) (hpf := V_tbl m)
    (hΦ := fun _ _ => rfl)

/-- An array the grid stages as an input ends as it was launched. -/
theorem staged (c : Dev nD) (w : Fin (cfgM m).W) (hw : ((cfgM m).win w).isOut = false) (f) :
    (dats m 0 c).arrAt w f = V m c (Pipeline.arrRef spec0 w) :=
  ((dats m 0 c).arrAt_in w hw _).trans (arr_eq m c w)

/-- The frame: the call ends, its arguments are unchanged, and every semaphore is at zero. -/
theorem frame (hG : Groups m) : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨
      ((h.1 c).1 0).trans ((staged m c 0 rfl _).trans (V_arg0 m c)),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c),
      ((h.1 c).1 5).trans ((staged m c 5 rfl _).trans (V_arg5 m c)),
      ((h.1 c).1 6).trans ((staged m c 6 rfl _).trans (V_arg6 m c)),
      ((h.1 c).2 main_arg7 (by decide : main_arg7 ∈ Pipeline.restRefs sig spec0)).trans (V_arg7 m c),
      ((h.1 c).2 main_arg8 (by decide : main_arg8 ∈ Pipeline.restRefs sig spec0)).trans (V_arg8 m c),
      ((h.1 c).2 main_arg9 (by decide : main_arg9 ∈ Pipeline.restRefs sig spec0)).trans (V_arg9 m c),
      ((h.1 c).2 main_arg10 (by decide : main_arg10 ∈ Pipeline.restRefs sig spec0)).trans (V_arg10 m c),
      ((h.1 c).2 main_arg11 (by decide : main_arg11 ∈ Pipeline.restRefs sig spec0)).trans (V_arg11 m c)⟩, h.2⟩) (run_main m ρ hG)

end Cert.Kernel2Ideal.Moe

end
-- ==== Proof.MoeGroups.lean ====
module

public import proofs.«01_k».proof.Proof.Gen.Kernel2Ideal
public import proofs.«01_k».proof.Proof.MoeLaunch
public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Pipeline.Frame
public import Idealize.ShloMosaic.Lib.Pipeline.Kit
public import Idealize.ShloMosaic.Lib.Ring
public import Idealize.ShloMosaic.Lib.Tactic
public import Idealize.ShloMosaic.Lib.WordCmp
public import Idealize.ShloMosaic.Lib.Claim
public import Idealize.ShloMosaic.Lib.Pointwise
public import Idealize.ShloMosaic.Lib.ReduceAll
public import proofs.«01_k».proof.Pre_groups

@[expose] public section

set_option maxRecDepth 16384

noncomputable section

/-! The words the body reads, as entries of the table of groups; no word is negative under the precondition. -/

namespace Cert.Pre_groups

open Idealize.ShloMosaic

theorem facts : Facts where
  slices_S32x1x128_S32x1x7_0_0_0 := by decide
  bcast_S_S32x1x7 := by decide
  reducesTo_S32x1x7_S_d0_1_2 := by decide
  h_S_ := by decide

attribute [instance] facts

/-- Under the precondition the first seven words of every tile are below half the range. -/
theorem small {F : FTy → Type} [FloatOps F] (x0 x1 x2 x3 x4 x5 x6) (x7 : IVec S32x1x128 32) (x8 x9 x10 x11)
    (h : fn (F := F) x0 x1 x2 x3 x4 x5 x6 x7 x8 x9 x10 x11 = fun _ => 1#1) (t : Fin 32) (k : Fin 7) :
    (x7 (ix3 t 0 ⟨k.val, by omega⟩)).toNat < 2 ^ 31 := by
  have h := congrFun h (Shape.Idx.first facts.h_S_)
  dsimp only [fn] at h
  have h := Host.reduce_andi_all _ _ _ _ _ h (ix3 t 0 k)
  have e : (extractStridedSlice S32x1x7 ![0, 0, 0] x7 facts.slices_S32x1x128_S32x1x7_0_0_0) (ix3 t 0 k) = x7 (ix3 t 0 ⟨k.val, by omega⟩) :=
    congrArg x7 (funext fun a => match a with
      | ⟨0, _⟩ => Fin.ext (Nat.zero_add _)
      | ⟨1, _⟩ => Fin.ext rfl
      | ⟨2, _⟩ => Fin.ext (Nat.zero_add _))
  have h' : IntOp.cmpi .sge ((extractStridedSlice S32x1x7 ![0, 0, 0] x7 facts.slices_S32x1x128_S32x1x7_0_0_0) (ix3 t 0 k)) 0#32 = 1#1 := h
  rw [e] at h'
  generalize x7 (ix3 t 0 ⟨k.val, by omega⟩) = w at h'
  have h'' : (0#32 : BitVec 32).sle w = true := by
    have : BitVec.ofBool ((0#32 : BitVec 32).sle w) = 1#1 := h'
    cases hh : (0#32 : BitVec 32).sle w
    · rw [hh] at this; exact absurd this (by decide)
    · rfl
  rw [BitVec.sle_eq_decide, decide_eq_true_iff, show (0#32 : BitVec 32).toInt = 0 by decide, BitVec.toInt_eq_toNat_cond] at h''
  have := w.isLt
  split at h'' <;> omega

end Cert.Pre_groups

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

theorem row_word (p : Fin 4) (q : Fin 8) :
    (Scalar.indexCast (Scalar.addi (Scalar.muli (BitVec.ofNat 32 p.val) 8#32) (BitVec.ofNat 32 q.val)) : Index).toNat = 8 * p.val + q.val := by
  revert p q; decide +kernel

/-- The tile of a point. -/
def tileOf (i : grid0.Coords) : Fin 32 := ⟨8 * (i 0).val + (i 1).val, by
  have h0 : (i 0).val < 4 := (i 0).isLt
  have h1 : (i 1).val < 8 := (i 1).isLt
  omega⟩

theorem word0_eq (c : Dev nD) (i : grid0.Coords) (f : TabBuf (F := F) c) : word0 c i f = f (ix2 (tileOf i) ⟨0, by decide⟩) := by
  refine congrArg f (funext fun a => ?_)
  match a with
  | ⟨0, _⟩ => exact Fin.ext (row_word (i 0) (i 1))
  | ⟨1, _⟩ => exact Fin.ext rfl
theorem word1_eq (c : Dev nD) (i : grid0.Coords) (f : TabBuf (F := F) c) : word1 c i f = f (ix2 (tileOf i) ⟨1, by decide⟩) := by
  refine congrArg f (funext fun a => ?_)
  match a with
  | ⟨0, _⟩ => exact Fin.ext (row_word (i 0) (i 1))
  | ⟨1, _⟩ => exact Fin.ext rfl
theorem word2_eq (c : Dev nD) (i : grid0.Coords) (f : TabBuf (F := F) c) : word2 c i f = f (ix2 (tileOf i) ⟨2, by decide⟩) := by
  refine congrArg f (funext fun a => ?_)
  match a with
  | ⟨0, _⟩ => exact Fin.ext (row_word (i 0) (i 1))
  | ⟨1, _⟩ => exact Fin.ext rfl
theorem word3_eq (c : Dev nD) (i : grid0.Coords) (f : TabBuf (F := F) c) : word3 c i f = f (ix2 (tileOf i) ⟨3, by decide⟩) := by
  refine congrArg f (funext fun a => ?_)
  match a with
  | ⟨0, _⟩ => exact Fin.ext (row_word (i 0) (i 1))
  | ⟨1, _⟩ => exact Fin.ext rfl
theorem word4_eq (c : Dev nD) (i : grid0.Coords) (f : TabBuf (F := F) c) : word4 c i f = f (ix2 (tileOf i) ⟨4, by decide⟩) := by
  refine congrArg f (funext fun a => ?_)
  match a with
  | ⟨0, _⟩ => exact Fin.ext (row_word (i 0) (i 1))
  | ⟨1, _⟩ => exact Fin.ext rfl
theorem word5_eq (c : Dev nD) (i : grid0.Coords) (f : TabBuf (F := F) c) : word5 c i f = f (ix2 (tileOf i) ⟨5, by decide⟩) := by
  refine congrArg f (funext fun a => ?_)
  match a with
  | ⟨0, _⟩ => exact Fin.ext (row_word (i 0) (i 1))
  | ⟨1, _⟩ => exact Fin.ext rfl
theorem word6_eq (c : Dev nD) (i : grid0.Coords) (f : TabBuf (F := F) c) : word6 c i f = f (ix2 (tileOf i) ⟨6, by decide⟩) := by
  refine congrArg f (funext fun a => ?_)
  match a with
  | ⟨0, _⟩ => exact Fin.ext (row_word (i 0) (i 1))
  | ⟨1, _⟩ => exact Fin.ext rfl

/-- The words at a point are the tile's row of the table. -/
theorem words_eq (c : Dev nD) (i : grid0.Coords) (f : TabBuf (F := F) c) (k : Fin 7) :
    words c i f k = f (ix2 (tileOf i) ⟨k.val, by omega⟩) := by
  match k with
  | ⟨0, _⟩ => exact word0_eq c i f
  | ⟨1, _⟩ => exact word1_eq c i f
  | ⟨2, _⟩ => exact word2_eq c i f
  | ⟨3, _⟩ => exact word3_eq c i f
  | ⟨4, _⟩ => exact word4_eq c i f
  | ⟨5, _⟩ => exact word5_eq c i f
  | ⟨6, _⟩ => exact word6_eq c i f

variable (m : (ℓ : Loc nD τ sig) → Buf (Elt F) ℓ)

/-- The table of groups, as given. -/
abbrev tblIn (c : Dev nD) : IVec S32x1x128 32 := m (c.tc.loc main_arg7)

theorem table_apply (t : Fin 32) (k : Fin 128) : (tbl m 0 : IVec S32x128 32) (ix2 t k) = tblIn m 0 (ix3 t 0 k) := by
  show (V m 0 main_v11 : IVec S32x128 32) (ix2 t k) = _
  entry_read
  pointwise []

theorem wordsAt_eq (c : Dev nD) (t : Fin (cfgM m).N) (k : Fin 7) :
    wordsAt m c t k = tblIn m 0 (ix3 (tileOf (grid0.coords t)) 0 ⟨k.val, by omega⟩) :=
  (words_eq c _ _ k).trans (table_apply m _ _)

/-- No word is negative when the given table has none. -/
theorem groups_of (h : ∀ t k, (tblIn m 0 (ix3 t 0 ⟨(k : Fin 7).val, by omega⟩)).toNat < 2 ^ 31) : Groups m := fun c t k => by
  rw [wordsAt_eq]; exact h _ _

end Cert.Kernel2Ideal.Moe

end
-- ==== Proof.MoeMath.lean ====
module

public import Idealize.ShloMosaic.Lib.Pointwise

/-! The mathematics of the experts call on rows of extended reals: the normed row, an expert, the sum of a token's
    experts, and why a weight may be moved through an expert's second product. -/

@[expose] public section

noncomputable section

namespace Cert.Experts

open Idealize.ShloMosaic

/-- A row over the root of its mean square. -/
def rms (x : Fin 1024 → EReal) (j : Fin 1024) : EReal :=
  x j * Ideal.rsqrt (Ideal.div (∑ k, x k * x k) (Ideal.ofBits .f32 0x44800000#32) + Ideal.ofBits .f32 0x358637BD#32)

/-- The row handed to the experts: normed, scaled and shifted. -/
def inp (x g sc sh : Fin 1024 → EReal) (j : Fin 1024) : EReal := rms x j * g j * (1 + sc j) + sh j

/-- An expert's inner activations. -/
def act (t : Fin 1024 → EReal) (wg wu : Fin 1024 → Fin 256 → EReal) (f : Fin 256) : EReal :=
  ((∑ k, t k * wg k f) * Ideal.logistic (∑ k, t k * wg k f)) * ∑ k, t k * wu k f

/-- An expert applied to a row. -/
def ffn (t : Fin 1024 → EReal) (wg wu : Fin 1024 → Fin 256 → EReal) (wd : Fin 256 → Fin 1024 → EReal) (i : Fin 1024) : EReal :=
  ∑ f, act t wg wu f * wd f i

/-- The weighted sum of the four experts of the group of a slot's chunk; nothing where the slot is out of range or its
    chunk has no group. -/
def routed (s : BitVec 32) (w : Fin 7 → BitVec 32) (p : Fin 4 → EReal) (y : Fin 16 → EReal) : EReal :=
  if h : s.toNat < 896 then
    if h' : (w ⟨s.toNat / 128, by omega⟩).toNat < 4 then
      ∑ q : Fin 4, p q * y ⟨4 * (w ⟨s.toNat / 128, by omega⟩).toNat + q.val, by omega⟩
    else 0
  else 0

/-- A token's result: its row, with its experts' sum gated and added, normed. Tokens are packed 512 to a tile. -/
def result (x : Fin 4 → Fin 4096 → Fin 1024 → EReal) (sh sc gt : Fin 4 → Fin 1024 → EReal) (g : Fin 1024 → EReal)
    (rt : Fin 16384 → Fin 4 → EReal) (s : Fin 32 → Fin 512 → BitVec 32) (w : Fin 32 → Fin 7 → BitVec 32)
    (wg wu : Fin 16 → Fin 1024 → Fin 256 → EReal) (wd : Fin 16 → Fin 256 → Fin 1024 → EReal) (gf : Fin 1024 → EReal)
    (b : Fin 4) (n : Fin 4096) (j : Fin 1024) : EReal :=
  rms (fun i => x b n i + gt b i * routed (s ⟨8 * b.val + n.val / 512, by omega⟩ ⟨n.val % 512, Nat.mod_lt _ (by decide)⟩)
    (w ⟨8 * b.val + n.val / 512, by omega⟩) (rt ⟨4096 * b.val + n.val, by omega⟩)
    (fun e => ffn (inp (x b n) g (sc b) (sh b)) (wg e) (wu e) (wd e) i)) j * gf j

theorem mul_sum_of_pos {ι : Type} (s : Finset ι) (w : EReal) (h0 : 0 ≤ w) (h1 : w ≠ ⊤) (f : ι → EReal) :
    ∑ i ∈ s, w * f i = w * ∑ i ∈ s, f i := by
  classical
  induction s using Finset.induction_on with
  | empty => simp
  | insert a s ha ih =>
    rw [Finset.sum_insert ha, Finset.sum_insert ha, ih, EReal.left_distrib_of_nonneg_of_ne_top h0 h1]

/-- A finite weight that is not negative may multiply the inner activations or the expert's result. -/
theorem weighed (t : Fin 1024 → EReal) (wg wu : Fin 1024 → Fin 256 → EReal) (wd : Fin 256 → Fin 1024 → EReal) (i : Fin 1024)
    (w : EReal) (h0 : 0 ≤ w) (h1 : w ≠ ⊤) : ∑ f, act t wg wu f * w * wd f i = w * ffn t wg wu wd i := by
  unfold ffn
  rw [← mul_sum_of_pos _ w h0 h1]
  refine Finset.sum_congr rfl fun f _ => ?_
  rw [mul_comm (act t wg wu f) w, mul_assoc]

/-- A sum that keeps one entry. -/
theorem pick {n : ℕ} (a b : Fin n → BitVec 32) (f : Fin n → EReal) (r : Fin n) (h : ∀ x, a x = b x ↔ x = r) :
    ∑ x, Scalar.select (IntOp.cmpi .eq (a x) (b x)) (f x) 0 = f r := by
  have e : ∀ x, Scalar.select (IntOp.cmpi .eq (a x) (b x)) (f x) 0 = if x = r then f x else 0 := fun x => by
    by_cases hx : x = r
    · rw [if_pos hx, show IntOp.cmpi .eq (a x) (b x) = 1#1 by
        show BitVec.ofBool (a x == b x) = 1#1
        rw [beq_iff_eq.mpr ((h x).mpr hx)]; rfl]
      rfl
    · rw [if_neg hx, show IntOp.cmpi .eq (a x) (b x) = 0#1 by
        show BitVec.ofBool (a x == b x) = 0#1
        rw [beq_eq_false_iff_ne.mpr (fun e => hx ((h x).mp e))]; rfl]
      rfl
  rw [Finset.sum_congr rfl fun x _ => e x, Finset.sum_ite_eq' Finset.univ r f, if_pos (Finset.mem_univ r)]

/-- A sum that keeps no entry. -/
theorem pick_none {n : ℕ} (a b : Fin n → BitVec 32) (f : Fin n → EReal) (h : ∀ x, a x ≠ b x) :
    ∑ x, Scalar.select (IntOp.cmpi .eq (a x) (b x)) (f x) 0 = 0 := by
  refine Finset.sum_eq_zero fun x _ => ?_
  rw [show IntOp.cmpi .eq (a x) (b x) = 0#1 by
    show BitVec.ofBool (a x == b x) = 0#1
    rw [beq_eq_false_iff_ne.mpr (h x)]; rfl]
  rfl

theorem sub_self_of_weight (w : EReal) (h0 : 0 ≤ w) (h1 : w ≠ ⊤) : w - w = 0 :=
  EReal.sub_self h1 (fun h => by rw [h] at h0; exact absurd h0 (by decide))

end Cert.Experts

end
-- ==== Proof.MoeVal.lean ====
module

public import proofs.«01_k».proof.Proof.MoeTile
public import proofs.«01_k».proof.Proof.MoeMath
public import Idealize.ShloMosaic.Lib.Pointwise

@[expose] public section

set_option maxRecDepth 65536

noncomputable section

namespace Cert.Kernel2Ideal.Moe

open Idealize.ShloMosaic Idealize.ShloMosaic.TcCoe Idealize.ShloMosaic.Tactic
open Cert.Experts Cert.Kernel2Ideal Cert.Kernel2Ideal.Gen

local notation "𝕀" => Idealize.ShloMosaic.Ideal

theorem expert_apply (xc : FVec 𝕀 S128x1024 .bf16) (col : FVec 𝕀 S128x1 .f32) (g u : Vec 𝕀 S1x1x1024x256 .bf16) (d : Vec 𝕀 S1x1x256x1024 .bf16)
    (r : Fin 128) (j : Fin 1024) : expert xc col g u d (ix2 r j)
      = ∑ f, act (fun k => xc (ix2 r k)) (fun k f => g (ix4 0 0 k f)) (fun k f => u (ix4 0 0 k f)) f * col (ix2 r 0) * d (ix4 0 0 f j) := by
  pointwise [expert, lift]
  rfl

/-- The row handed to the experts. -/
theorem pay59_apply (x0 : Vec 𝕀 S1x512x1024 .f32) (x1 x2 : Vec 𝕀 S1x1x1024 .f32) (x4 : Vec 𝕀 S1x1024 .f32) (r : Fin 512) (j : Fin 1024) :
    k0_pay59 x0 x4 x2 x1 (ix2 r j)
      = inp (fun k => x0 (ix3 0 r k)) (fun k => x4 (ix2 0 k)) (fun k => x2 (ix3 0 0 k)) (fun k => x1 (ix3 0 0 k)) j := by
  pointwise [k0_pay59, k0_pay58]
  rfl

theorem rows_apply (t : FVec 𝕀 S512x1024 .f32) (x6 : Vec 𝕀 S1x1x512 .i32) (k : Fin 896) (j : Fin 1024) :
    k0_pay64 t (k0_pay61 x6) (Scalar.ofBits .f32 0x3F800000#32) (ix2 k j)
      = ∑ x, Scalar.select (IntOp.cmpi .eq (BitVec.ofNat 32 k.val) (x6 (ix3 0 0 x))) (t (ix2 x j) : EReal) 0 := by
  pointwise [k0_pay64, k0_pay61, k0_pay62]

theorem wts_apply (x5 : Vec 𝕀 S512x128 .f32) (x6 : Vec 𝕀 S1x1x512 .i32) (k : Fin 896) (j : Fin 128) :
    slotWts x5 x6 (ix2 k j)
      = ∑ x, Scalar.select (IntOp.cmpi .eq (BitVec.ofNat 32 k.val) (x6 (ix3 0 0 x))) (x5 (ix2 x j) : EReal) 0
        + ∑ x, Scalar.select (IntOp.cmpi .eq (BitVec.ofNat 32 k.val) (x6 (ix3 0 0 x))) (x5 (ix2 x j) - x5 (ix2 x j) : EReal) 0
        + ∑ x, Scalar.select (IntOp.cmpi .eq (BitVec.ofNat 32 k.val) (x6 (ix3 0 0 x)))
            (x5 (ix2 x j) - x5 (ix2 x j) - (x5 (ix2 x j) - x5 (ix2 x j)) : EReal) 0 := by
  pointwise [slotWts, k0_pay65, k0_pay61, k0_pay62]

theorem scatter_apply (x5 : Vec 𝕀 S512x128 .f32) (v : FVec 𝕀 S896x1024 .bf16) (r : Fin 512) (j : Fin 1024) :
    (∑ k, (k0_pay63 (F := 𝕀) (k0_pay60 x5) (ix2 r k) : EReal) * v (ix2 k j))
      = ∑ k : Fin 896, Scalar.select (IntOp.cmpi .eq (BitVec.ofNat 32 k.val) (Ideal.fptosi 32 (x5 (ix2 r 4)))) (v (ix2 k j) : EReal) 0 := by
  pointwise [k0_pay63, k0_pay60]
  rfl

theorem out_apply (x : FVec 𝕀 S512x1024 .f32) (s : FVec 𝕀 S512x896 .bf16) (x3 : Vec 𝕀 S1x1x1024 .f32) (y : Vec 𝕀 S896x1024 .bf16)
    (x10 : Vec 𝕀 S1x1024 .f32) (r : Fin 512) (j : Fin 1024) :
    k0_pay1 (k0_pay80 x s x3 y) x10 (ix3 0 r j)
      = rms (fun i => x (ix2 r i) + x3 (ix3 0 0 i) * ∑ k, s (ix2 r k) * y (ix2 k i)) j * x10 (ix2 0 j) := by
  pointwise [k0_pay1, k0_pay80]
  rfl

theorem up_apply (x : Vec 𝕀 S1x16x1024x256 .bf16) (e : ℕ) (h : e < 16) (k : Fin 1024) (f : Fin 256) :
    up x e h (ix4 0 0 k f) = x (ix4 0 ⟨e, h⟩ k f) := by
  refine congrArg x ?_
  idx_ext

theorem dn_apply (x : Vec 𝕀 S1x16x256x1024 .bf16) (e : ℕ) (h : e < 16) (f : Fin 256) (k : Fin 1024) :
    dn x e h (ix4 0 0 f k) = x (ix4 0 ⟨e, h⟩ f k) := by
  refine congrArg x ?_
  idx_ext

theorem expert_of (xc : FVec 𝕀 S128x1024 .bf16) (col : FVec 𝕀 S128x1 .f32) (x7 x8 : Vec 𝕀 S1x16x1024x256 .bf16)
    (x9 : Vec 𝕀 S1x16x256x1024 .bf16) (e : ℕ) (h : e < 16) (r : Fin 128) (j : Fin 1024) :
    expert xc col (up x7 e h) (up x8 e h) (dn x9 e h) (ix2 r j)
      = ∑ f, act (fun k => xc (ix2 r k)) (fun k f => x7 (ix4 0 ⟨e, h⟩ k f)) (fun k f => x8 (ix4 0 ⟨e, h⟩ k f)) f * col (ix2 r 0)
          * x9 (ix4 0 ⟨e, h⟩ f j) := by
  refine (expert_apply ..).trans (Finset.sum_congr rfl fun f _ => ?_)
  exact congrArg₂ (· * ·) (congrArg (· * col (ix2 r 0)) (congrArg₂ (fun a b => act (fun k => xc (ix2 r k)) a b f)
    (funext fun k => funext fun f => up_apply x7 e h k f) (funext fun k => funext fun f => up_apply x8 e h k f))) (dn_apply x9 e h f j)

/-- A chunk's row through its group: the four experts, their activations weighed. -/
theorem grouped_apply (xc : FVec 𝕀 S128x1024 .bf16) (c0 c1 c2 c3 : FVec 𝕀 S128x1 .f32) (x7 x8 : Vec 𝕀 S1x16x1024x256 .bf16)
    (x9 : Vec 𝕀 S1x16x256x1024 .bf16) (g : ℕ) (h : g < 4) (r : Fin 128) (j : Fin 1024) :
    grouped xc c0 c1 c2 c3 x7 x8 x9 g h (ix2 r j)
      = ∑ q : Fin 4, ∑ f, act (fun k => xc (ix2 r k)) (fun k f => x7 (ix4 0 ⟨4 * g + q.val, by omega⟩ k f))
          (fun k f => x8 (ix4 0 ⟨4 * g + q.val, by omega⟩ k f)) f * ![c0 (ix2 r 0), c1 (ix2 r 0), c2 (ix2 r 0), c3 (ix2 r 0)] q
            * x9 (ix4 0 ⟨4 * g + q.val, by omega⟩ f j) := by
  unfold grouped
  pointwise [chunk]
  rw [Fin.sum_univ_four, expert_of, expert_of, expert_of, expert_of]
  rfl

theorem rows_window (W : FVec 𝕀 S896x1024 .bf16) (o : ℕ) (inb : ∀ a, (![o, 0] : Fin 2 → ℕ) a + S128x1024.size a ≤ S896x1024.size a)
    (ho : o + 128 ≤ 896) (r : Fin 128) (k : Fin 1024) :
    VecWindow.window W ![o, 0] S128x1024.size inb (ix2 r k) = W (ix2 ⟨o + r.val, by omega⟩ k) := by
  refine congrArg W ?_
  idx_ext

theorem wts_slice (W : FVec 𝕀 S896x128 .f32) (o q : ℕ) (h : S896x128.Slices ![o, q] S128x1)
    (ho : o + 128 ≤ 896) (hq : q < 128) (r : Fin 128) :
    extractStridedSlice S128x1 ![o, q] W h (ix2 r 0) = W (ix2 ⟨o + r.val, by omega⟩ ⟨q, hq⟩) :=
  congrArg W (funext fun a => match a with | ⟨0, _⟩ => Fin.ext rfl | ⟨1, _⟩ => Fin.ext rfl)

section Tile

variable (x0 : Vec 𝕀 S1x512x1024 .f32) (x1 x2 x3 : Vec 𝕀 S1x1x1024 .f32) (x4 : Vec 𝕀 S1x1024 .f32) (x5 : Vec 𝕀 S512x128 .f32)
  (x6 : Vec 𝕀 S1x1x512 .i32) (x7 x8 : Vec 𝕀 S1x16x1024x256 .bf16) (x9 : Vec 𝕀 S1x16x256x1024 .bf16) (x10 : Vec 𝕀 S1x1024 .f32)

/-- What slot `k` holds when its chunk is of group `g`. -/
def slotSum (g : ℕ) (h : g < 4) (k : Fin 896) (j : Fin 1024) : EReal :=
  ∑ q : Fin 4, ∑ f, act (fun k' => slotRows x0 x1 x2 x4 x6 (ix2 k k')) (fun k f => x7 (ix4 0 ⟨4 * g + q.val, by omega⟩ k f))
    (fun k f => x8 (ix4 0 ⟨4 * g + q.val, by omega⟩ k f)) f * slotWts x5 x6 (ix2 k ⟨q.val, by omega⟩)
      * x9 (ix4 0 ⟨4 * g + q.val, by omega⟩ f j)

theorem piece0_apply (g : ℕ) (h : g < 4) (r : Fin 128) (j : Fin 1024) :
    piece0 x0 x1 x2 x4 x5 x6 x7 x8 x9 g h (ix2 r j) = slotSum x0 x1 x2 x4 x5 x6 x7 x8 x9 g h ⟨0 + r.val, by omega⟩ j := by
  unfold piece0 slotSum
  rw [grouped_apply]
  refine Finset.sum_congr rfl fun q _ => Finset.sum_congr rfl fun f _ => ?_
  rw [wts_slice _ 0 0 _ (by omega) (by omega), wts_slice _ 0 1 _ (by omega) (by omega), wts_slice _ 0 2 _ (by omega) (by omega),
    wts_slice _ 0 3 _ (by omega) (by omega)]
  simp only [rows_window _ 0 _ (by omega)]
  match q with
  | 0 => rfl
  | 1 => rfl
  | 2 => rfl
  | 3 => rfl

theorem piece1_apply (g : ℕ) (h : g < 4) (r : Fin 128) (j : Fin 1024) :
    piece1 x0 x1 x2 x4 x5 x6 x7 x8 x9 g h (ix2 r j) = slotSum x0 x1 x2 x4 x5 x6 x7 x8 x9 g h ⟨128 + r.val, by omega⟩ j := by
  unfold piece1 slotSum
  rw [grouped_apply]
  refine Finset.sum_congr rfl fun q _ => Finset.sum_congr rfl fun f _ => ?_
  rw [wts_slice _ 128 0 _ (by omega) (by omega), wts_slice _ 128 1 _ (by omega) (by omega), wts_slice _ 128 2 _ (by omega) (by omega),
    wts_slice _ 128 3 _ (by omega) (by omega)]
  simp only [rows_window _ 128 _ (by omega)]
  match q with
  | 0 => rfl
  | 1 => rfl
  | 2 => rfl
  | 3 => rfl

theorem piece2_apply (g : ℕ) (h : g < 4) (r : Fin 128) (j : Fin 1024) :
    piece2 x0 x1 x2 x4 x5 x6 x7 x8 x9 g h (ix2 r j) = slotSum x0 x1 x2 x4 x5 x6 x7 x8 x9 g h ⟨256 + r.val, by omega⟩ j := by
  unfold piece2 slotSum
  rw [grouped_apply]
  refine Finset.sum_congr rfl fun q _ => Finset.sum_congr rfl fun f _ => ?_
  rw [wts_slice _ 256 0 _ (by omega) (by omega), wts_slice _ 256 1 _ (by omega) (by omega), wts_slice _ 256 2 _ (by omega) (by omega),
    wts_slice _ 256 3 _ (by omega) (by omega)]
  simp only [rows_window _ 256 _ (by omega)]
  match q with
  | 0 => rfl
  | 1 => rfl
  | 2 => rfl
  | 3 => rfl

theorem piece3_apply (g : ℕ) (h : g < 4) (r : Fin 128) (j : Fin 1024) :
    piece3 x0 x1 x2 x4 x5 x6 x7 x8 x9 g h (ix2 r j) = slotSum x0 x1 x2 x4 x5 x6 x7 x8 x9 g h ⟨384 + r.val, by omega⟩ j := by
  unfold piece3 slotSum
  rw [grouped_apply]
  refine Finset.sum_congr rfl fun q _ => Finset.sum_congr rfl fun f _ => ?_
  rw [wts_slice _ 384 0 _ (by omega) (by omega), wts_slice _ 384 1 _ (by omega) (by omega), wts_slice _ 384 2 _ (by omega) (by omega),
    wts_slice _ 384 3 _ (by omega) (by omega)]
  simp only [rows_window _ 384 _ (by omega)]
  match q with
  | 0 => rfl
  | 1 => rfl
  | 2 => rfl
  | 3 => rfl

theorem piece4_apply (g : ℕ) (h : g < 4) (r : Fin 128) (j : Fin 1024) :
    piece4 x0 x1 x2 x4 x5 x6 x7 x8 x9 g h (ix2 r j) = slotSum x0 x1 x2 x4 x5 x6 x7 x8 x9 g h ⟨512 + r.val, by omega⟩ j := by
  unfold piece4 slotSum
  rw [grouped_apply]
  refine Finset.sum_congr rfl fun q _ => Finset.sum_congr rfl fun f _ => ?_
  rw [wts_slice _ 512 0 _ (by omega) (by omega), wts_slice _ 512 1 _ (by omega) (by omega), wts_slice _ 512 2 _ (by omega) (by omega),
    wts_slice _ 512 3 _ (by omega) (by omega)]
  simp only [rows_window _ 512 _ (by omega)]
  match q with
  | 0 => rfl
  | 1 => rfl
  | 2 => rfl
  | 3 => rfl

theorem piece5_apply (g : ℕ) (h : g < 4) (r : Fin 128) (j : Fin 1024) :
    piece5 x0 x1 x2 x4 x5 x6 x7 x8 x9 g h (ix2 r j) = slotSum x0 x1 x2 x4 x5 x6 x7 x8 x9 g h ⟨640 + r.val, by omega⟩ j := by
  unfold piece5 slotSum
  rw [grouped_apply]
  refine Finset.sum_congr rfl fun q _ => Finset.sum_congr rfl fun f _ => ?_
  rw [wts_slice _ 640 0 _ (by omega) (by omega), wts_slice _ 640 1 _ (by omega) (by omega), wts_slice _ 640 2 _ (by omega) (by omega),
    wts_slice _ 640 3 _ (by omega) (by omega)]
  simp only [rows_window _ 640 _ (by omega)]
  match q with
  | 0 => rfl
  | 1 => rfl
  | 2 => rfl
  | 3 => rfl

theorem piece6_apply (g : ℕ) (h : g < 4) (r : Fin 128) (j : Fin 1024) :
    piece6 x0 x1 x2 x4 x5 x6 x7 x8 x9 g h (ix2 r j) = slotSum x0 x1 x2 x4 x5 x6 x7 x8 x9 g h ⟨768 + r.val, by omega⟩ j := by
  unfold piece6 slotSum
  rw [grouped_apply]
  refine Finset.sum_congr rfl fun q _ => Finset.sum_congr rfl fun f _ => ?_
  rw [wts_slice _ 768 0 _ (by omega) (by omega), wts_slice _ 768 1 _ (by omega) (by omega), wts_slice _ 768 2 _ (by omega) (by omega),
    wts_slice _ 768 3 _ (by omega) (by omega)]
  simp only [rows_window _ 768 _ (by omega)]
  match q with
  | 0 => rfl
  | 1 => rfl
  | 2 => rfl
  | 3 => rfl

/-- A slot after the experts, of its chunk and its place in it. -/
theorem chunk_apply (w : Fin 7 → BitVec 32) (c : Fin 7) (r : Fin 128) (j : Fin 1024) :
    chunkOut x0 x1 x2 x4 x5 x6 x7 x8 x9 w c (ix2 r j)
      = if h : (w c).toNat < 4 then slotSum x0 x1 x2 x4 x5 x6 x7 x8 x9 (w c).toNat h ⟨128 * c.val + r.val, by omega⟩ j else 0 := by
  unfold chunkOut
  by_cases h : (w c).toNat < 4
  · rw [dif_pos h, dif_pos h]
    match c with
    | 0 => exact piece0_apply ..
    | 1 => exact piece1_apply ..
    | 2 => exact piece2_apply ..
    | 3 => exact piece3_apply ..
    | 4 => exact piece4_apply ..
    | 5 => exact piece5_apply ..
    | 6 => exact piece6_apply ..
  · rw [dif_neg h, dif_neg h]
    pointwise []

theorem slots_apply (w : Fin 7 → BitVec 32) (k : Fin 896) (j : Fin 1024) :
    slotsOut x0 x1 x2 x4 x5 x6 x7 x8 x9 w (ix2 k j)
      = if h : (w ⟨k.val / 128, by omega⟩).toNat < 4 then
          slotSum x0 x1 x2 x4 x5 x6 x7 x8 x9 (w ⟨k.val / 128, by omega⟩).toNat h k j else 0 := by
  have e : inChunk (ix2 k j) = ix2 ⟨k.val % 128, Nat.mod_lt _ (by decide)⟩ j :=
    funext fun a => match a with | ⟨0, _⟩ => rfl | ⟨1, _⟩ => rfl
  have ek : (⟨128 * (k.val / 128) + k.val % 128, by omega⟩ : Fin 896) = k := Fin.ext (by dsimp only; omega)
  have h := chunk_apply x0 x1 x2 x4 x5 x6 x7 x8 x9 w ⟨k.val / 128, by omega⟩ ⟨k.val % 128, Nat.mod_lt _ (by decide)⟩ j
  rw [← e] at h
  refine h.trans ?_
  dsimp only
  rw [ek]

/-- The weights of a slot that a token holds are that token's. -/
theorem wts_of (hs : ∀ r r', x6 (ix3 0 0 r) = x6 (ix3 0 0 r') → r = r') (r : Fin 512) (k : Fin 896)
    (hk : BitVec.ofNat 32 k.val = x6 (ix3 0 0 r)) (j : Fin 128) (h0 : 0 ≤ (x5 (ix2 r j) : EReal)) (h1 : (x5 (ix2 r j) : EReal) ≠ ⊤) :
    slotWts x5 x6 (ix2 k j) = x5 (ix2 r j) := by
  have hp : ∀ x, BitVec.ofNat 32 k.val = x6 (ix3 0 0 x) ↔ x = r := fun x =>
    ⟨fun h => hs x r (h.symm.trans hk), fun h => h ▸ hk⟩
  have e0 : (x5 (ix2 r j) - x5 (ix2 r j) : EReal) = 0 := sub_self_of_weight _ h0 h1
  rw [wts_apply, pick _ _ _ r hp, pick _ _ _ r hp, pick _ _ _ r hp, e0]
  simp

theorem rows_of (hs : ∀ r r', x6 (ix3 0 0 r) = x6 (ix3 0 0 r') → r = r') (r : Fin 512) (k : Fin 896)
    (hk : BitVec.ofNat 32 k.val = x6 (ix3 0 0 r)) (j : Fin 1024) :
    slotRows x0 x1 x2 x4 x6 (ix2 k j)
      = inp (fun k => x0 (ix3 0 r k)) (fun k => x4 (ix2 0 k)) (fun k => x2 (ix3 0 0 k)) (fun k => x1 (ix3 0 0 k)) j := by
  have hp : ∀ x, BitVec.ofNat 32 k.val = x6 (ix3 0 0 x) ↔ x = r := fun x =>
    ⟨fun h => hs x r (h.symm.trans hk), fun h => h ▸ hk⟩
  refine (rows_apply ..).trans ((pick _ _ _ r hp).trans (pay59_apply ..))

/-- What a slot that a token holds comes to. -/
theorem slotSum_of (hs : ∀ r r', x6 (ix3 0 0 r) = x6 (ix3 0 0 r') → r = r') (r : Fin 512) (k : Fin 896)
    (hk : BitVec.ofNat 32 k.val = x6 (ix3 0 0 r))
    (hw : ∀ q : Fin 4, 0 ≤ (x5 (ix2 r ⟨q.val, by omega⟩) : EReal) ∧ (x5 (ix2 r ⟨q.val, by omega⟩) : EReal) ≠ ⊤)
    (g : ℕ) (h : g < 4) (j : Fin 1024) :
    slotSum x0 x1 x2 x4 x5 x6 x7 x8 x9 g h k j
      = ∑ q : Fin 4, (x5 (ix2 r ⟨q.val, by omega⟩) : EReal)
          * ffn (inp (fun k => x0 (ix3 0 r k)) (fun k => x4 (ix2 0 k)) (fun k => x2 (ix3 0 0 k)) (fun k => x1 (ix3 0 0 k)))
              (fun k f => x7 (ix4 0 ⟨4 * g + q.val, by omega⟩ k f)) (fun k f => x8 (ix4 0 ⟨4 * g + q.val, by omega⟩ k f))
              (fun f i => x9 (ix4 0 ⟨4 * g + q.val, by omega⟩ f i)) j := by
  unfold slotSum
  refine Finset.sum_congr rfl fun q _ => ?_
  rw [funext (rows_of x0 x1 x2 x4 x6 hs r k hk), wts_of x5 x6 hs r k hk _ (hw q).1 (hw q).2]
  exact weighed _ _ _ (fun f i => x9 (ix4 0 ⟨4 * g + q.val, by omega⟩ f i)) j _ (hw q).1 (hw q).2

/-- A tile's result: each token's row with its experts' sum added, normed. -/
theorem tile_apply (w : Fin 7 → BitVec 32) (r : Fin 512) (j : Fin 1024)
    (hs : ∀ r r', x6 (ix3 0 0 r) = x6 (ix3 0 0 r') → r = r')
    (hf : Ideal.fptosi 32 (x5 (ix2 r 4)) = x6 (ix3 0 0 r))
    (hw : ∀ q : Fin 4, 0 ≤ (x5 (ix2 r ⟨q.val, by omega⟩) : EReal) ∧ (x5 (ix2 r ⟨q.val, by omega⟩) : EReal) ≠ ⊤) :
    tileOut x0 x1 x2 x3 x4 x5 x6 x7 x8 x9 x10 w (ix3 0 r j)
      = rms (fun i => x0 (ix3 0 r i) + x3 (ix3 0 0 i) * routed (x6 (ix3 0 0 r)) w (fun q => x5 (ix2 r ⟨q.val, by omega⟩))
          (fun e => ffn (inp (fun k => x0 (ix3 0 r k)) (fun k => x4 (ix2 0 k)) (fun k => x2 (ix3 0 0 k)) (fun k => x1 (ix3 0 0 k)))
            (fun k f => x7 (ix4 0 e k f)) (fun k f => x8 (ix4 0 e k f)) (fun f i => x9 (ix4 0 e f i)) i)) j * x10 (ix2 0 j) := by
  unfold tileOut
  refine (out_apply ..).trans (congrArg (· * (x10 (ix2 0 j) : EReal)) (congrArg (fun f => rms f j) (funext fun i => ?_)))
  refine congrArg₂ (· + ·) ?_ (congrArg (x3 (ix3 0 0 i) * ·) ?_)
  · pointwise [k0_pay58]
  refine (scatter_apply ..).trans ?_
  rw [hf]
  unfold routed
  by_cases hr : (x6 (ix3 0 0 r)).toNat < 896
  · have hk : ∀ k : Fin 896, BitVec.ofNat 32 k.val = x6 (ix3 0 0 r) ↔ k = ⟨(x6 (ix3 0 0 r)).toNat, hr⟩ := fun k => by
      constructor
      · intro h
        refine Fin.ext ?_
        show k.val = (x6 (ix3 0 0 r)).toNat
        rw [← h, BitVec.toNat_ofNat, Nat.mod_eq_of_lt (by omega)]
      · intro h
        rw [h]
        exact BitVec.eq_of_toNat_eq ((BitVec.toNat_ofNat _ _).trans (Nat.mod_eq_of_lt (BitVec.isLt _)))
    rw [pick _ _ _ _ hk, dif_pos hr, slots_apply]
    dsimp only
    by_cases hg : (w ⟨(x6 (ix3 0 0 r)).toNat / 128, by omega⟩).toNat < 4
    · rw [dif_pos hg, dif_pos hg]
      exact slotSum_of _ _ _ _ _ _ _ _ _ hs r _ ((hk _).mpr rfl) hw _ hg i
    · rw [dif_neg hg, dif_neg hg]
  · rw [dif_neg hr]
    refine pick_none _ _ _ fun k h => hr ?_
    rw [← h, BitVec.toNat_ofNat, Nat.mod_eq_of_lt (by omega)]
    exact k.isLt

end Tile

end Cert.Kernel2Ideal.Moe
end
-- ==== Proof.MoeArray.lean ====
module

public import proofs.«01_k».proof.Proof.MoeVal
public import proofs.«01_k».proof.Proof.MoeGroups
public import Idealize.ShloMosaic.Lib.Pipeline.ValueKit
public import Idealize.ShloMosaic.Lib.Pointwise
public import Idealize.ShloMosaic.Lib.Claim

/-! What the experts call's result array holds after the run: each token's row with its experts' sum added, normed. -/

@[expose] public section

set_option maxRecDepth 16384

noncomputable section

namespace Cert.Kernel2Ideal.Moe

open Idealize.ShloMosaic Idealize.ShloMosaic.TcCoe Idealize.ShloMosaic.Tactic
open Idealize.ShloMosaic.Pipeline (Dat Cfg Window BodyObligation cellOf)
open Cert.Kernel2Ideal Cert.Kernel2Ideal.Gen Cert.Experts

local notation "𝕀" => Idealize.ShloMosaic.Ideal

variable (m : (ℓ : Loc nD τ sig) → Buf (Elt 𝕀) ℓ) (c : Dev nD)

theorem idx_0 (t : Fin (cfgM m).N) : ((cfgM m).win 0).index t = ![t.val / 8, t.val % 8, 0] :=
  (by decide +kernel : ∀ t : Fin grid0.N, cc0_transform_0 (grid0.coords t) = ![t.val / 8, t.val % 8, 0]) t

theorem idx_1 (t : Fin (cfgM m).N) : ((cfgM m).win 1).index t = ![t.val / 8, 0, 3] :=
  (by decide +kernel : ∀ t : Fin grid0.N, cc0_transform_1 (grid0.coords t) = ![t.val / 8, 0, 3]) t

theorem idx_2 (t : Fin (cfgM m).N) : ((cfgM m).win 2).index t = ![t.val / 8, 0, 4] :=
  (by decide +kernel : ∀ t : Fin grid0.N, cc0_transform_2 (grid0.coords t) = ![t.val / 8, 0, 4]) t

theorem idx_3 (t : Fin (cfgM m).N) : ((cfgM m).win 3).index t = ![t.val / 8, 0, 5] :=
  (by decide +kernel : ∀ t : Fin grid0.N, cc0_transform_3 (grid0.coords t) = ![t.val / 8, 0, 5]) t

theorem idx_4 (t : Fin (cfgM m).N) : ((cfgM m).win 4).index t = ![0, 0] :=
  (by decide +kernel : ∀ t : Fin grid0.N, cc0_transform_4 (grid0.coords t) = ![0, 0]) t

theorem idx_5 (t : Fin (cfgM m).N) : ((cfgM m).win 5).index t = ![t.val, 0] :=
  (by decide +kernel : ∀ t : Fin grid0.N, cc0_transform_5 (grid0.coords t) = ![t.val, 0]) t

theorem idx_6 (t : Fin (cfgM m).N) : ((cfgM m).win 6).index t = ![t.val, 0, 0] :=
  (by decide +kernel : ∀ t : Fin grid0.N, cc0_transform_6 (grid0.coords t) = ![t.val, 0, 0]) t

theorem idx_7 (t : Fin (cfgM m).N) : ((cfgM m).win 7).index t = ![0, 0, 0, 0] :=
  (by decide +kernel : ∀ t : Fin grid0.N, cc0_transform_7 (grid0.coords t) = ![0, 0, 0, 0]) t

theorem idx_8 (t : Fin (cfgM m).N) : ((cfgM m).win 8).index t = ![0, 0, 0, 0] :=
  (by decide +kernel : ∀ t : Fin grid0.N, cc0_transform_8 (grid0.coords t) = ![0, 0, 0, 0]) t

theorem idx_9 (t : Fin (cfgM m).N) : ((cfgM m).win 9).index t = ![0, 0, 0, 0] :=
  (by decide +kernel : ∀ t : Fin grid0.N, cc0_transform_9 (grid0.coords t) = ![0, 0, 0, 0]) t

theorem idx_10 (t : Fin (cfgM m).N) : ((cfgM m).win 10).index t = ![0, 0] :=
  (by decide +kernel : ∀ t : Fin grid0.N, cc0_transform_10 (grid0.coords t) = ![0, 0]) t

theorem idx_11 (t : Fin (cfgM m).N) : ((cfgM m).win 11).index t = ![t.val / 8, t.val % 8, 0] :=
  (by decide +kernel : ∀ t : Fin grid0.N, cc0_transform_11 (grid0.coords t) = ![t.val / 8, t.val % 8, 0]) t

theorem read_0 (W : FVec 𝕀 S4x4096x1024 .f32) (t : Fin (cfgM m).N) (ht : t.val < 32) (r : Fin 512) (k : Fin 1024) :
    (((cfgM m).win 0).blk t).view.read (Elt 𝕀) W (ix3 0 r k) = W (ix3 ⟨t.val / 8, by omega⟩ ⟨512 * (t.val % 8) + r.val, by omega⟩ k) := by
  blk_ext [idx_0 m t]

theorem read_1 (W : FVec 𝕀 S4x1x6144 .f32) (t : Fin (cfgM m).N) (ht : t.val < 32) (k : Fin 1024) :
    (((cfgM m).win 1).blk t).view.read (Elt 𝕀) W (ix3 0 0 k) = W (ix3 ⟨t.val / 8, by omega⟩ 0 ⟨3 * 1024 + k.val, by omega⟩) := by
  blk_ext [idx_1 m t]

theorem read_2 (W : FVec 𝕀 S4x1x6144 .f32) (t : Fin (cfgM m).N) (ht : t.val < 32) (k : Fin 1024) :
    (((cfgM m).win 2).blk t).view.read (Elt 𝕀) W (ix3 0 0 k) = W (ix3 ⟨t.val / 8, by omega⟩ 0 ⟨4 * 1024 + k.val, by omega⟩) := by
  blk_ext [idx_2 m t]

theorem read_3 (W : FVec 𝕀 S4x1x6144 .f32) (t : Fin (cfgM m).N) (ht : t.val < 32) (k : Fin 1024) :
    (((cfgM m).win 3).blk t).view.read (Elt 𝕀) W (ix3 0 0 k) = W (ix3 ⟨t.val / 8, by omega⟩ 0 ⟨5 * 1024 + k.val, by omega⟩) := by
  blk_ext [idx_3 m t]

theorem read_4 (W : FVec 𝕀 S1x1024 .f32) (t : Fin (cfgM m).N) (ht : t.val < 32) (k : Fin 1024) :
    (((cfgM m).win 4).blk t).view.read (Elt 𝕀) W (ix2 0 k) = W (ix2 0 k) := by
  blk_ext [idx_4 m t]

theorem read_5 (W : FVec 𝕀 S16384x128 .f32) (t : Fin (cfgM m).N) (ht : t.val < 32) (r : Fin 512) (k : Fin 128) :
    (((cfgM m).win 5).blk t).view.read (Elt 𝕀) W (ix2 r k) = W (ix2 ⟨512 * t.val + r.val, by omega⟩ k) := by
  blk_ext [idx_5 m t]

theorem read_6 (W : IVec S32x1x512 32) (t : Fin (cfgM m).N) (ht : t.val < 32) (r : Fin 512) :
    (((cfgM m).win 6).blk t).view.read (Elt 𝕀) W (ix3 0 0 r) = W (ix3 ⟨t.val, ht⟩ 0 r) := by
  blk_ext [idx_6 m t]

theorem read_7 (W : FVec 𝕀 S1x16x1024x256 .bf16) (t : Fin (cfgM m).N) (ht : t.val < 32) (e : Fin 16) (k : Fin 1024) (f : Fin 256) :
    (((cfgM m).win 7).blk t).view.read (Elt 𝕀) W (ix4 0 e k f) = W (ix4 0 e k f) := by
  blk_ext [idx_7 m t]

theorem read_8 (W : FVec 𝕀 S1x16x1024x256 .bf16) (t : Fin (cfgM m).N) (ht : t.val < 32) (e : Fin 16) (k : Fin 1024) (f : Fin 256) :
    (((cfgM m).win 8).blk t).view.read (Elt 𝕀) W (ix4 0 e k f) = W (ix4 0 e k f) := by
  blk_ext [idx_8 m t]

theorem read_9 (W : FVec 𝕀 S1x16x256x1024 .bf16) (t : Fin (cfgM m).N) (ht : t.val < 32) (e : Fin 16) (f : Fin 256) (k : Fin 1024) :
    (((cfgM m).win 9).blk t).view.read (Elt 𝕀) W (ix4 0 e f k) = W (ix4 0 e f k) := by
  blk_ext [idx_9 m t]

theorem read_10 (W : FVec 𝕀 S1x1024 .f32) (t : Fin (cfgM m).N) (ht : t.val < 32) (k : Fin 1024) :
    (((cfgM m).win 10).blk t).view.read (Elt 𝕀) W (ix2 0 k) = W (ix2 0 k) := by
  blk_ext [idx_10 m t]

/-! ## What the call reads, of what is given -/

/-- The arrays as given. -/
def xIn (b : Fin 4) (n : Fin 4096) (k : Fin 1024) : EReal := (m (c.tc.loc main_arg0) : FVec 𝕀 S4x4096x1024 .f32) (ix3 b n k)
def shIn (b : Fin 4) (k : Fin 1024) : EReal := (m (c.tc.loc main_arg1) : FVec 𝕀 S4x1024 .f32) (ix2 b k)
def scIn (b : Fin 4) (k : Fin 1024) : EReal := (m (c.tc.loc main_arg2) : FVec 𝕀 S4x1024 .f32) (ix2 b k)
def gtIn (b : Fin 4) (k : Fin 1024) : EReal := (m (c.tc.loc main_arg3) : FVec 𝕀 S4x1024 .f32) (ix2 b k)
def gIn (k : Fin 1024) : EReal := (m (c.tc.loc main_arg4) : FVec 𝕀 S1024 .f32) (ix1 k)
def rtIn (r : Fin 16384) (k : Fin 128) : EReal := (m (c.tc.loc main_arg5) : FVec 𝕀 S16384x128 .f32) (ix2 r k)
def slotIn (t : Fin 32) (r : Fin 512) : BitVec 32 := (m (c.tc.loc main_arg6) : IVec S32x1x512 32) (ix3 t 0 r)
def wgIn (e : Fin 16) (k : Fin 1024) (f : Fin 256) : EReal := (m (c.tc.loc main_arg8) : FVec 𝕀 S16x1024x256 .f32) (ix3 e k f)
def wuIn (e : Fin 16) (k : Fin 1024) (f : Fin 256) : EReal := (m (c.tc.loc main_arg9) : FVec 𝕀 S16x1024x256 .f32) (ix3 e k f)
def wdIn (e : Fin 16) (f : Fin 256) (k : Fin 1024) : EReal := (m (c.tc.loc main_arg10) : FVec 𝕀 S16x256x1024 .f32) (ix3 e f k)
def gfIn (k : Fin 1024) : EReal := (m (c.tc.loc main_arg11) : FVec 𝕀 S1024 .f32) (ix1 k)

theorem piece_3 (x0 x1 x2 x3 x4 x5 : FVec 𝕀 S4x1024 .f32) (b : Fin 4) (k : Fin 1024) :
    concatenate S4x6144 1 [⟨S4x1024, x0⟩, ⟨S4x1024, x1⟩, ⟨S4x1024, x2⟩, ⟨S4x1024, x3⟩, ⟨S4x1024, x4⟩, ⟨S4x1024, x5⟩]
      concatenates_S4x1024_S4x1024_S4x1024_S4x1024_S4x1024_S4x1024_S4x6144_d1 (ix2 b ⟨3 * 1024 + k.val, by omega⟩) = x3 (ix2 b k) := by
  pointwise []
  rw [dif_neg (by omega), dif_neg (by omega), dif_neg (by omega), dif_pos (by omega)]
  refine congrArg x3 ?_
  idx_ext

theorem piece_4 (x0 x1 x2 x3 x4 x5 : FVec 𝕀 S4x1024 .f32) (b : Fin 4) (k : Fin 1024) :
    concatenate S4x6144 1 [⟨S4x1024, x0⟩, ⟨S4x1024, x1⟩, ⟨S4x1024, x2⟩, ⟨S4x1024, x3⟩, ⟨S4x1024, x4⟩, ⟨S4x1024, x5⟩]
      concatenates_S4x1024_S4x1024_S4x1024_S4x1024_S4x1024_S4x1024_S4x6144_d1 (ix2 b ⟨4 * 1024 + k.val, by omega⟩) = x4 (ix2 b k) := by
  pointwise []
  rw [dif_neg (by omega), dif_neg (by omega), dif_neg (by omega), dif_neg (by omega), dif_pos (by omega)]
  exact congrArg (fun i : Fin 1024 => x4 (ix2 b i)) (Fin.ext (by show 4096 + k.val - 1024 - 1024 - 1024 - 1024 = k.val; omega))

theorem piece_5 (x0 x1 x2 x3 x4 x5 : FVec 𝕀 S4x1024 .f32) (b : Fin 4) (k : Fin 1024) :
    concatenate S4x6144 1 [⟨S4x1024, x0⟩, ⟨S4x1024, x1⟩, ⟨S4x1024, x2⟩, ⟨S4x1024, x3⟩, ⟨S4x1024, x4⟩, ⟨S4x1024, x5⟩]
      concatenates_S4x1024_S4x1024_S4x1024_S4x1024_S4x1024_S4x1024_S4x6144_d1 (ix2 b ⟨5 * 1024 + k.val, by omega⟩) = x5 (ix2 b k) := by
  pointwise []
  rw [dif_neg (by omega), dif_neg (by omega), dif_neg (by omega), dif_neg (by omega), dif_neg (by omega)]
  exact congrArg (fun i : Fin 1024 => x5 (ix2 b i)) (Fin.ext (by show 5120 + k.val - 1024 - 1024 - 1024 - 1024 - 1024 = k.val; omega))

theorem mods_eq : (V m c main_v2 : FVec 𝕀 S4x1x6144 .f32) = fun i => shapeCast S4x1x6144
    (V m c main_v1 : FVec 𝕀 S4x6144 .f32) shapeCasts_S4x6144_S4x1x6144 i := by
  rfl

theorem mods_cat (x0 : FVec 𝕀 S4x1024 .f32) (h : x0 = V m c main_v0) : (V m c main_v1 : FVec 𝕀 S4x6144 .f32) =
    concatenate S4x6144 1 [⟨S4x1024, x0⟩, ⟨S4x1024, x0⟩, ⟨S4x1024, x0⟩, ⟨S4x1024, m (c.tc.loc main_arg1)⟩,
      ⟨S4x1024, m (c.tc.loc main_arg2)⟩, ⟨S4x1024, m (c.tc.loc main_arg3)⟩]
      concatenates_S4x1024_S4x1024_S4x1024_S4x1024_S4x1024_S4x1024_S4x6144_d1 := by
  subst h
  rfl

theorem mods_flat (W : FVec 𝕀 S4x6144 .f32) (b : Fin 4) (k : Fin 6144) :
    shapeCast S4x1x6144 W shapeCasts_S4x6144_S4x1x6144 (ix3 b 0 k) = W (ix2 b k) := by
  pointwise []

theorem mod_3 (b : Fin 4) (k : Fin 1024) :
    (V m c main_v2 : FVec 𝕀 S4x1x6144 .f32) (ix3 b 0 ⟨3 * 1024 + k.val, by omega⟩) = shIn m c b k := by
  refine (congrFun (mods_eq m c) _).trans ((mods_flat _ _ _).trans ?_)
  refine (congrFun (mods_cat m c _ rfl) _).trans ?_
  exact piece_3 ..

theorem mod_4 (b : Fin 4) (k : Fin 1024) :
    (V m c main_v2 : FVec 𝕀 S4x1x6144 .f32) (ix3 b 0 ⟨4 * 1024 + k.val, by omega⟩) = scIn m c b k := by
  refine (congrFun (mods_eq m c) _).trans ((mods_flat _ _ _).trans ?_)
  refine (congrFun (mods_cat m c _ rfl) _).trans ?_
  exact piece_4 ..

theorem mod_5 (b : Fin 4) (k : Fin 1024) :
    (V m c main_v2 : FVec 𝕀 S4x1x6144 .f32) (ix3 b 0 ⟨5 * 1024 + k.val, by omega⟩) = gtIn m c b k := by
  refine (congrFun (mods_eq m c) _).trans ((mods_flat _ _ _).trans ?_)
  refine (congrFun (mods_cat m c _ rfl) _).trans ?_
  exact piece_5 ..

theorem host_gIn (k : Fin 1024) : (V m c main_v3 : FVec 𝕀 S1x1024 .f32) (ix2 0 k) = gIn m c k := by
  entry_read
  pointwise []
  rfl

theorem host_gfIn (k : Fin 1024) : (V m c main_v10 : FVec 𝕀 S1x1024 .f32) (ix2 0 k) = gfIn m c k := by
  entry_read
  pointwise []
  rfl

theorem host_wgIn (e : Fin 16) (k : Fin 1024) (f : Fin 256) : (V m c main_v5 : FVec 𝕀 S1x16x1024x256 .bf16) (ix4 0 e k f) = wgIn m c e k f := by
  entry_read
  pointwise []
  rfl

theorem host_wuIn (e : Fin 16) (k : Fin 1024) (f : Fin 256) : (V m c main_v7 : FVec 𝕀 S1x16x1024x256 .bf16) (ix4 0 e k f) = wuIn m c e k f := by
  entry_read
  pointwise []
  rfl

theorem host_wdIn (e : Fin 16) (f : Fin 256) (k : Fin 1024) : (V m c main_v9 : FVec 𝕀 S1x16x256x1024 .bf16) (ix4 0 e f k) = wdIn m c e f k := by
  entry_read
  pointwise []
  rfl

/-- Contents of the table that no place depends on. -/
def anyTable : (pcfg0 (F := 𝕀)).Adm := ⟨fun j => match j with | 0 => (fun _ => 0#32 : IVec S32x128 32), trivial⟩

theorem covers_any : ((cfg0 anyTable).win 11).Covers := by
  decide +kernel

theorem covers : ((cfgM m).win 11).Covers := covers_any

theorem tile_of_point : ∀ t : Fin grid0.N, (tileOf (grid0.coords t)).val = t.val := by decide +kernel

/-- What the call needs of its routing: no two tokens of a tile in one slot, the two copies of the slots agree, and the
    weights are finite and not negative. -/
structure Packed : Prop where
  apart : ∀ t r r', slotIn m c t r = slotIn m c t r' → r = r'
  same : ∀ (t : Fin 32) (r : Fin 512), Ideal.fptosi 32 (rtIn m c ⟨512 * t.val + r.val, by omega⟩ 4) = slotIn m c t r
  weight : ∀ r (q : Fin 4), 0 ≤ rtIn m c r ⟨q.val, by omega⟩ ∧ rtIn m c r ⟨q.val, by omega⟩ ≠ ⊤

/-- The result at a token. -/
def outVal (b : Fin 4) (n : Fin 4096) (j : Fin 1024) : EReal :=
  result (xIn m c) (shIn m c) (scIn m c) (gtIn m c) (gIn m c) (fun r q => rtIn m c r ⟨q.val, by omega⟩) (slotIn m c)
    (fun t k => tblIn m 0 (ix3 t 0 ⟨k.val, by omega⟩)) (wgIn m c) (wuIn m c) (wdIn m c) (gfIn m c) b n j

theorem blk_x (t : Fin (cfgM m).N) (ht : t.val < 32) (r : Fin 512) (k : Fin 1024) :
    iblk m c 0 t (ix3 0 r k) = xIn m c ⟨t.val / 8, by omega⟩ ⟨512 * (t.val % 8) + r.val, by omega⟩ k :=
  (read_0 m (V m c main_arg0) t ht r k).trans (congrFun (V_arg0 m c) _)
theorem blk_sh (t : Fin (cfgM m).N) (ht : t.val < 32) (k : Fin 1024) : iblk m c 1 t (ix3 0 0 k) = shIn m c ⟨t.val / 8, by omega⟩ k :=
  (read_1 m (V m c main_v2) t ht k).trans (mod_3 ..)
theorem blk_sc (t : Fin (cfgM m).N) (ht : t.val < 32) (k : Fin 1024) : iblk m c 2 t (ix3 0 0 k) = scIn m c ⟨t.val / 8, by omega⟩ k :=
  (read_2 m (V m c main_v2) t ht k).trans (mod_4 ..)
theorem blk_gt (t : Fin (cfgM m).N) (ht : t.val < 32) (k : Fin 1024) : iblk m c 3 t (ix3 0 0 k) = gtIn m c ⟨t.val / 8, by omega⟩ k :=
  (read_3 m (V m c main_v2) t ht k).trans (mod_5 ..)
theorem blk_g (t : Fin (cfgM m).N) (ht : t.val < 32) (k : Fin 1024) : iblk m c 4 t (ix2 0 k) = gIn m c k :=
  (read_4 m (V m c main_v3) t ht k).trans (host_gIn ..)
theorem blk_rt (t : Fin (cfgM m).N) (ht : t.val < 32) (r : Fin 512) (k : Fin 128) :
    iblk m c 5 t (ix2 r k) = rtIn m c ⟨512 * t.val + r.val, by omega⟩ k :=
  (read_5 m (V m c main_arg5) t ht r k).trans (congrFun (V_arg5 m c) _)
theorem blk_slot (t : Fin (cfgM m).N) (ht : t.val < 32) (r : Fin 512) : iblk m c 6 t (ix3 0 0 r) = slotIn m c ⟨t.val, ht⟩ r :=
  (read_6 m (V m c main_arg6) t ht r).trans (congrFun (V_arg6 m c) _)
theorem blk_wg (t : Fin (cfgM m).N) (ht : t.val < 32) (e : Fin 16) (k : Fin 1024) (f : Fin 256) :
    iblk m c 7 t (ix4 0 e k f) = wgIn m c e k f := (read_7 m (V m c main_v5) t ht e k f).trans (host_wgIn ..)
theorem blk_wu (t : Fin (cfgM m).N) (ht : t.val < 32) (e : Fin 16) (k : Fin 1024) (f : Fin 256) :
    iblk m c 8 t (ix4 0 e k f) = wuIn m c e k f := (read_8 m (V m c main_v7) t ht e k f).trans (host_wuIn ..)
theorem blk_wd (t : Fin (cfgM m).N) (ht : t.val < 32) (e : Fin 16) (f : Fin 256) (k : Fin 1024) :
    iblk m c 9 t (ix4 0 e f k) = wdIn m c e f k := (read_9 m (V m c main_v9) t ht e f k).trans (host_wdIn ..)
theorem blk_gf (t : Fin (cfgM m).N) (ht : t.val < 32) (k : Fin 1024) : iblk m c 10 t (ix2 0 k) = gfIn m c k :=
  (read_10 m (V m c main_v10) t ht k).trans (host_gfIn ..)

theorem words_at (t : Fin (cfgM m).N) (ht : t.val < 32) (k : Fin 7) : wordsAt m c t k = tblIn m 0 (ix3 ⟨t.val, ht⟩ 0 ⟨k.val, by omega⟩) := by
  rw [wordsAt_eq, show tileOf (grid0.coords t) = ⟨t.val, ht⟩ from Fin.ext (tile_of_point t)]

/-- What the body leaves at a point is the tokens' results. -/
theorem tileAt_apply (h : Packed m c) (t : Fin (cfgM m).N) (ht : t.val < 32) (r : Fin 512) (j : Fin 1024) :
    tileAt m c t (ix3 0 r j) = outVal m c ⟨t.val / 8, by omega⟩ ⟨512 * (t.val % 8) + r.val, by omega⟩ j := by
  unfold tileAt
  refine (tile_apply _ _ _ _ _ _ _ _ _ _ _ _ r j ?_ ?_ ?_).trans ?_
  · intro r r' e
    rw [blk_slot m c t ht, blk_slot m c t ht] at e
    exact h.apart _ _ _ e
  · rw [blk_slot m c t ht, blk_rt m c t ht]
    exact h.same ⟨t.val, ht⟩ r
  · intro q
    rw [blk_rt m c t ht]
    exact h.weight _ q
  unfold outVal result
  have e1 : (8 * (t.val / 8) + (512 * (t.val % 8) + r.val) / 512) = t.val := by omega
  have e2 : (512 * (t.val % 8) + r.val) % 512 = r.val := by omega
  have e3 : 4096 * (t.val / 8) + (512 * (t.val % 8) + r.val) = 512 * t.val + r.val := by omega
  simp only [e1, e2, e3]
  rw [show wordsAt m c t = fun k => tblIn m 0 (ix3 ⟨t.val, ht⟩ 0 ⟨k.val, by omega⟩) from funext (words_at m c t ht)]
  refine congrArg₂ (· * ·) (congrArg (fun f => rms f j) (funext fun i => ?_)) (blk_gf m c t ht j)
  rw [blk_x m c t ht, blk_gt m c t ht, blk_slot m c t ht]
  simp only [blk_x m c t ht, blk_sh m c t ht, blk_sc m c t ht, blk_g m c t ht, blk_rt m c t ht, blk_wg m c t ht, blk_wu m c t ht, blk_wd m c t ht]

/-- The result array. -/
def outArr : FVec 𝕀 S4x4096x1024 .f32 := fun y => outVal m c (y 0) (y 1) (y 2)

/-- A block of the result array at a point is what the body leaves there. -/
theorem block_out (h : Packed m c) (t : Fin (cfgM m).N) (y : S1x512x1024.Idx) :
    tileAt m c t y = outArr m c ((((cfgM m).win 11).blk t).view.emb y) := by
  have ht : t.val < 32 := t.isLt
  have hc : (y 2).val < 1024 := (y 2).isLt
  have hr : (y 1).val < 512 := (y 1).isLt
  have h0 : (y 0).val < 1 := (y 0).isLt
  have hy : y = ix3 0 ⟨(y 1).val, hr⟩ ⟨(y 2).val, hc⟩ := by
    idx_ext
  have hemb : (((cfgM m).win 11).blk t).view.emb y
      = (ix3 ⟨t.val / 8, by omega⟩ ⟨512 * (t.val % 8) + (y 1).val, by omega⟩ ⟨(y 2).val, hc⟩ : S4x4096x1024.Idx) := by
    blk_ext [idx_11 m t]
  refine Eq.trans ?_ (congrArg (outArr m c) hemb).symm
  refine Eq.trans (congrArg (tileAt m c t) hy) ?_
  exact tileAt_apply m c h t ht ⟨(y 1).val, hr⟩ ⟨(y 2).val, hc⟩

theorem out_eq (h : Packed m c) : (dats m 0 c).arrAt 11 (cfgM m).N = outArr m c := by
  refine (dats m 0 c).arrAt_eq_of_covers 11 _ (covers m) fun t hf y => ?_
  blk_simp
  rw [after11]
  exact block_out m c h t y

end Cert.Kernel2Ideal.Moe

end
-- ==== Proof.MoeGroup.lean ====
module

public import proofs.«01_k».proof.Proof.MoeMath

/-! The plain experts' combination: a token's weights stand at the four experts of the group of its slot's chunk. -/

@[expose] public section

noncomputable section

namespace Cert.Experts

open Idealize.ShloMosaic

/-- The group of a slot's chunk; four where the slot is out of range. -/
def groupOf (s : BitVec 32) (w : Fin 7 → BitVec 32) : BitVec 32 :=
  if h : s.toNat < 896 then w ⟨s.toNat / 128, by omega⟩ else 4#32

theorem select_range (s w g : BitVec 32) (a b : ℕ) (ha : a < 1000) (hb : b < 1000) :
    Scalar.select (IntOp.andi (IntOp.cmpi .sge s (BitVec.ofNat 32 a)) (IntOp.cmpi .slt s (BitVec.ofNat 32 b))) w g
      = if a ≤ s.toNat ∧ s.toNat < b then w else g := by
  have e1 : IntOp.cmpi .sge s (BitVec.ofNat 32 a) = BitVec.ofBool ((BitVec.ofNat 32 a).sle s) := rfl
  have e2 : IntOp.cmpi .slt s (BitVec.ofNat 32 b) = BitVec.ofBool (s.slt (BitVec.ofNat 32 b)) := rfl
  have ta : (BitVec.ofNat 32 a).toInt = a := by
    rw [BitVec.toInt_eq_toNat_cond, BitVec.toNat_ofNat, Nat.mod_eq_of_lt (by omega), if_pos (by omega)]
  have tb : (BitVec.ofNat 32 b).toInt = b := by
    rw [BitVec.toInt_eq_toNat_cond, BitVec.toNat_ofNat, Nat.mod_eq_of_lt (by omega), if_pos (by omega)]
  rw [e1, e2, BitVec.sle_eq_decide, BitVec.slt_eq_decide, ta, tb]
  have hs := s.isLt
  have ts : s.toInt = if 2 * s.toNat < 2 ^ 32 then (s.toNat : ℤ) else (s.toNat : ℤ) - (2 ^ 32 : ℕ) := BitVec.toInt_eq_toNat_cond s
  by_cases h : a ≤ s.toNat ∧ s.toNat < b
  · rw [if_pos h, if_pos (by omega)] at *
    rw [ts, decide_eq_true (by omega : (a : ℤ) ≤ s.toNat), decide_eq_true (by omega : (s.toNat : ℤ) < b)]
    rfl
  · rw [if_neg h]
    by_cases h1 : (a : ℤ) ≤ s.toInt
    · have h2 : ¬ s.toInt < b := by
        split at ts <;> omega
      rw [decide_eq_true h1, decide_eq_false h2]
      rfl
    · rw [decide_eq_false h1]
      cases decide (s.toInt < (b : ℤ)) <;> rfl

/-- Seven choices, each by the slot's range, come to the group of the slot's chunk. -/
theorem choices (s : BitVec 32) (w : Fin 7 → BitVec 32) :
    (if 768 ≤ s.toNat ∧ s.toNat < 896 then w 6 else (if 640 ≤ s.toNat ∧ s.toNat < 768 then w 5 else (if 512 ≤ s.toNat ∧ s.toNat < 640 then w 4 else (if 384 ≤ s.toNat ∧ s.toNat < 512 then w 3 else (if 256 ≤ s.toNat ∧ s.toNat < 384 then w 2 else (if 128 ≤ s.toNat ∧ s.toNat < 256 then w 1 else (if 0 ≤ s.toNat ∧ s.toNat < 128 then w 0 else 4#32))))))) = groupOf s w := by
  unfold groupOf
  have h : s.toNat / 128 = 0 ∨ s.toNat / 128 = 1 ∨ s.toNat / 128 = 2 ∨ s.toNat / 128 = 3 ∨ s.toNat / 128 = 4 ∨ s.toNat / 128 = 5
    ∨ s.toNat / 128 = 6 ∨ 896 ≤ s.toNat := by omega
  rcases h with h | h | h | h | h | h | h | h
  · rw [if_neg (by omega), if_neg (by omega), if_neg (by omega), if_neg (by omega), if_neg (by omega), if_neg (by omega), if_pos (by omega), dif_pos (by omega)]
    exact congrArg w (Fin.ext (by show 0 = s.toNat / 128; omega))
  · rw [if_neg (by omega), if_neg (by omega), if_neg (by omega), if_neg (by omega), if_neg (by omega), if_pos (by omega), dif_pos (by omega)]
    exact congrArg w (Fin.ext (by show 1 = s.toNat / 128; omega))
  · rw [if_neg (by omega), if_neg (by omega), if_neg (by omega), if_neg (by omega), if_pos (by omega), dif_pos (by omega)]
    exact congrArg w (Fin.ext (by show 2 = s.toNat / 128; omega))
  · rw [if_neg (by omega), if_neg (by omega), if_neg (by omega), if_pos (by omega), dif_pos (by omega)]
    exact congrArg w (Fin.ext (by show 3 = s.toNat / 128; omega))
  · rw [if_neg (by omega), if_neg (by omega), if_pos (by omega), dif_pos (by omega)]
    exact congrArg w (Fin.ext (by show 4 = s.toNat / 128; omega))
  · rw [if_neg (by omega), if_pos (by omega), dif_pos (by omega)]
    exact congrArg w (Fin.ext (by show 5 = s.toNat / 128; omega))
  · rw [if_pos (by omega), dif_pos (by omega)]
    exact congrArg w (Fin.ext (by show 6 = s.toNat / 128; omega))
  · rw [if_neg (by omega), if_neg (by omega), if_neg (by omega), if_neg (by omega), if_neg (by omega), if_neg (by omega), if_neg (by omega), dif_neg (by omega)]

theorem sum_by_group (f : Fin 16 → EReal) : ∑ e, f e = ∑ c : Fin 4, ∑ q : Fin 4, f ⟨4 * c.val + q.val, by omega⟩ := by
  rw [← Fintype.sum_prod_type' (f := fun (c q : Fin 4) => f ⟨4 * c.val + q.val, by omega⟩)]
  refine (Fintype.sum_equiv (finProdFinEquiv (m := 4) (n := 4)) _ _ fun x => ?_).symm
  exact congrArg f (Fin.ext (by show 4 * x.1.val + x.2.val = x.2.val + 4 * x.1.val; omega))

/-- Weights that stand at the group's experts only: the weighted sum over all experts is that over the group's. -/
theorem combined (s : BitVec 32) (w : Fin 7 → BitVec 32) (p : Fin 4 → EReal) (y : Fin 16 → EReal) (a : Fin 16 → EReal)
    (ha : ∀ c q : Fin 4, a ⟨4 * c.val + q.val, by omega⟩
      = Scalar.select (IntOp.cmpi .eq (groupOf s w) (BitVec.ofNat 32 c.val)) (p q) 0) :
    ∑ e, a e * y e = routed s w p y := by
  have hz : ∀ c : Fin 4, groupOf s w ≠ BitVec.ofNat 32 c.val → ∑ q : Fin 4, a ⟨4 * c.val + q.val, by omega⟩ * y ⟨4 * c.val + q.val, by omega⟩ = 0 := by
    intro c hc
    refine Finset.sum_eq_zero fun q _ => ?_
    rw [ha, show IntOp.cmpi .eq (groupOf s w) (BitVec.ofNat 32 c.val) = 0#1 by
      show BitVec.ofBool (groupOf s w == BitVec.ofNat 32 c.val) = 0#1
      rw [beq_eq_false_iff_ne.mpr hc]; rfl]
    exact zero_mul _
  have hn : ∀ c : Fin 4, (BitVec.ofNat 32 c.val).toNat = c.val := fun c => by
    rw [BitVec.toNat_ofNat, Nat.mod_eq_of_lt (by omega)]
  rw [sum_by_group]
  have key : (∑ c : Fin 4, ∑ q : Fin 4, a ⟨4 * c.val + q.val, by omega⟩ * y ⟨4 * c.val + q.val, by omega⟩)
      = if h : (groupOf s w).toNat < 4 then ∑ q : Fin 4, p q * y ⟨4 * (groupOf s w).toNat + q.val, by omega⟩ else 0 := by
    by_cases h : (groupOf s w).toNat < 4
    · rw [dif_pos h, Finset.sum_eq_single ⟨(groupOf s w).toNat, h⟩]
      · refine Finset.sum_congr rfl fun q _ => ?_
        rw [ha, show IntOp.cmpi .eq (groupOf s w) (BitVec.ofNat 32 (groupOf s w).toNat) = 1#1 by
          show BitVec.ofBool (groupOf s w == BitVec.ofNat 32 (groupOf s w).toNat) = 1#1
          rw [beq_iff_eq.mpr (BitVec.eq_of_toNat_eq ((BitVec.toNat_ofNat _ _).trans (Nat.mod_eq_of_lt (BitVec.isLt _))).symm)]; rfl]
        rfl
      · intro c _ hc
        refine hz c fun e => hc (Fin.ext ?_)
        exact (hn c).symm.trans (congrArg BitVec.toNat e.symm)
      · intro h; exact absurd (Finset.mem_univ _) h
    · rw [dif_neg h]
      refine Finset.sum_eq_zero fun c _ => hz c fun e => h ?_
      rw [e, hn]; exact c.isLt
  rw [key]
  unfold routed groupOf
  by_cases hs : s.toNat < 896
  · simp only [dif_pos hs]
  · simp only [dif_neg hs]
    rfl

end Cert.Experts

end
-- ==== Proof.MoeRef.lean ====
module

public import proofs.«01_k».proof.Proof.Gen.Reference2Ideal.Read
public import proofs.«01_k».proof.Proof.MoeGroup
public import Idealize.ShloMosaic.Lib.Pointwise

/-! What the plain experts compute at an index: a token's row, its group, its weights, the experts, the normed sum. -/

@[expose] public section

set_option maxRecDepth 65536

noncomputable section

namespace Cert.Reference2Ideal.Read

open Idealize.ShloMosaic Idealize.ShloMosaic.TcCoe Idealize.ShloMosaic.Tactic Cert.Experts

local notation "𝕀" => Idealize.ShloMosaic.Ideal

variable (x0 : (⟨S4x4096x1024, .f32⟩ : BufTy).Contents (Elt 𝕀)) (x1 x2 x3 : (⟨S4x1024, .f32⟩ : BufTy).Contents (Elt 𝕀))
  (x4 : (⟨S1024, .f32⟩ : BufTy).Contents (Elt 𝕀)) (x5 : (⟨S16384x128, .f32⟩ : BufTy).Contents (Elt 𝕀))
  (x6 : (⟨S32x1x512, .i32⟩ : BufTy).Contents (Elt 𝕀)) (x7 : (⟨S32x1x128, .i32⟩ : BufTy).Contents (Elt 𝕀))
  (x8 x9 : (⟨S16x1024x256, .f32⟩ : BufTy).Contents (Elt 𝕀)) (x10 : (⟨S16x256x1024, .f32⟩ : BufTy).Contents (Elt 𝕀))
  (x11 : (⟨S1024, .f32⟩ : BufTy).Contents (Elt 𝕀))

/-- The mean square of a row. -/
theorem squares_apply (b : Fin 4) (n : Fin 4096) : val_main_v1 (F := 𝕀) x0 (ix2 b n) = ∑ k, x0 (ix3 b n k) * x0 (ix3 b n k) := by
  unfold val_main_v1 val_main_v0 val_main_cst
  pointwise []

/-- The row over the root of its mean square. -/
theorem normed_apply (b : Fin 4) (n : Fin 4096) (k : Fin 1024) :
    val_main_v9 (F := 𝕀) x0 (ix3 b n k) = rms (fun k => x0 (ix3 b n k)) k := by
  refine Eq.trans ?_ (congrArg (fun z => x0 (ix3 b n k) * Ideal.rsqrt (Ideal.div z (Ideal.ofBits .f32 0x44800000#32) + Ideal.ofBits .f32 0x358637BD#32)) (squares_apply x0 b n))
  unfold val_main_v9 val_main_v8 val_main_v7 val_main_v6 val_main_v5 val_main_v4 val_main_v3 val_main_v2 val_main_cst_0 val_main_cst_1
  generalize val_main_v1 (F := 𝕀) x0 = ss
  pointwise []

/-- The row handed to the experts. -/
theorem inp_apply (b : Fin 4) (n : Fin 4096) (k : Fin 1024) :
    val_main_v20 (F := 𝕀) x0 x1 x2 x4 (ix3 b n k)
      = inp (fun k => x0 (ix3 b n k)) (fun k => x4 (ix1 k)) (fun k => x2 (ix2 b k)) (fun k => x1 (ix2 b k)) k := by
  refine Eq.trans ?_ (congrArg (fun z => z * x4 (ix1 k) * (1 + x2 (ix2 b k)) + x1 (ix2 b k)) (normed_apply x0 b n k))
  unfold val_main_v20 val_main_v19 val_main_v18 val_main_v17 val_main_v16 val_main_v15 val_main_v14 val_main_v13 val_main_v12 val_main_v11 val_main_v10 val_main_cst_2
  generalize val_main_v9 (F := 𝕀) x0 = ss
  pointwise []

theorem row_apply (b : Fin 4) (n : Fin 4096) (k : Fin 1024) :
    val_main_v21 (F := 𝕀) x0 x1 x2 x4 (ix2 ⟨4096 * b.val + n.val, by omega⟩ k) = val_main_v20 (F := 𝕀) x0 x1 x2 x4 (ix3 b n k) := by
  unfold val_main_v21
  generalize val_main_v20 (F := 𝕀) x0 x1 x2 x4 = ss
  pointwise []

theorem gate_apply (t : Fin 16384) (e : Fin 16) (f : Fin 256) :
    val_main_v90 (F := 𝕀) x0 x1 x2 x4 x8 (ix3 t e f) = ∑ k, val_main_v21 (F := 𝕀) x0 x1 x2 x4 (ix2 t k) * x8 (ix3 e k f) := by
  unfold val_main_v90
  generalize val_main_v21 (F := 𝕀) x0 x1 x2 x4 = ss
  pointwise []

theorem up_apply (t : Fin 16384) (e : Fin 16) (f : Fin 256) :
    val_main_v92 (F := 𝕀) x0 x1 x2 x4 x9 (ix3 t e f) = ∑ k, val_main_v21 (F := 𝕀) x0 x1 x2 x4 (ix2 t k) * x9 (ix3 e k f) := by
  unfold val_main_v92
  generalize val_main_v21 (F := 𝕀) x0 x1 x2 x4 = ss
  pointwise []

theorem act_apply (t : Fin 16384) (e : Fin 16) (f : Fin 256) :
    val_main_v93 (F := 𝕀) x0 x1 x2 x4 x8 x9 (ix3 t e f)
      = act (fun k => val_main_v21 (F := 𝕀) x0 x1 x2 x4 (ix2 t k)) (fun k f => x8 (ix3 e k f)) (fun k f => x9 (ix3 e k f)) f := by
  refine Eq.trans ?_ (congrArg₂ (fun z u => (z * Ideal.div 1 (1 + Ideal.exp (-z))) * u) (gate_apply x0 x1 x2 x4 x8 t e f) (up_apply x0 x1 x2 x4 x9 t e f))
  unfold val_main_v93 val_main_v91 val_main_call8_v5 val_main_call8_v4 val_main_call8_v3 val_main_call8_v2 val_main_call8_v1 val_main_call8_v0 val_main_call8_cst val_main_call8_cst_0
  generalize val_main_v90 (F := 𝕀) x0 x1 x2 x4 x8 = ss
  generalize val_main_v92 (F := 𝕀) x0 x1 x2 x4 x9 = tt
  pointwise []

theorem expert_apply (t : Fin 16384) (e : Fin 16) (i : Fin 1024) :
    val_main_v94 (F := 𝕀) x0 x1 x2 x4 x8 x9 x10 (ix3 e t i)
      = ffn (fun k => val_main_v21 (F := 𝕀) x0 x1 x2 x4 (ix2 t k)) (fun k f => x8 (ix3 e k f)) (fun k f => x9 (ix3 e k f))
          (fun f i => x10 (ix3 e f i)) i := by
  have h : val_main_v94 (F := 𝕀) x0 x1 x2 x4 x8 x9 x10 (ix3 e t i)
      = ∑ f, val_main_v93 (F := 𝕀) x0 x1 x2 x4 x8 x9 (ix3 t e f) * x10 (ix3 e f i) := by
    unfold val_main_v94
    generalize val_main_v93 (F := 𝕀) x0 x1 x2 x4 x8 x9 = ss
    pointwise []
  refine h.trans (Finset.sum_congr rfl fun f _ => ?_)
  exact congrArg (· * x10 (ix3 e f i)) (act_apply x0 x1 x2 x4 x8 x9 t e f)

/-- A token's slot. -/
theorem slot_apply (t : Fin 32) (r : Fin 512) : val_main_v22 (F := 𝕀) x6 (ix2 t r) = x6 (ix3 t 0 r) := by
  unfold val_main_v22
  pointwise []

theorem choice_0 (t : Fin 32) (r : Fin 512) :
    val_main_v31 (F := 𝕀) x6 x7 (ix2 t r)
      = if 0 ≤ (x6 (ix3 t 0 r)).toNat ∧ (x6 (ix3 t 0 r)).toNat < 128 then x7 (ix3 t 0 0) else 4#32 := by
  refine Eq.trans ?_ (select_range (x6 (ix3 t 0 r)) (x7 (ix3 t 0 0)) _ 0 128 (by decide) (by decide))
  refine Eq.trans ?_ (congrArg (fun z => Scalar.select (IntOp.andi (IntOp.cmpi .sge z (BitVec.ofNat 32 0)) (IntOp.cmpi .slt z (BitVec.ofNat 32 128))) (x7 (ix3 t 0 0)) (4#32)) (slot_apply x6 t r))
  unfold val_main_v31 val_main_v28 val_main_v25 val_main_v27 val_main_v24 val_main_v26 val_main_c_3 val_main_c_4 val_main_call0_v0 val_main_v30 val_main_v29 val_main_v23 val_main_c
  generalize val_main_v22 (F := 𝕀) x6 = ss
  pointwise []

theorem choice_1 (t : Fin 32) (r : Fin 512) :
    val_main_v39 (F := 𝕀) x6 x7 (ix2 t r)
      = if 128 ≤ (x6 (ix3 t 0 r)).toNat ∧ (x6 (ix3 t 0 r)).toNat < 256 then x7 (ix3 t 0 1) else val_main_v31 (F := 𝕀) x6 x7 (ix2 t r) := by
  refine Eq.trans ?_ (select_range (x6 (ix3 t 0 r)) (x7 (ix3 t 0 1)) _ 128 256 (by decide) (by decide))
  refine Eq.trans ?_ (congrArg (fun z => Scalar.select (IntOp.andi (IntOp.cmpi .sge z (BitVec.ofNat 32 128)) (IntOp.cmpi .slt z (BitVec.ofNat 32 256))) (x7 (ix3 t 0 1)) (val_main_v31 (F := 𝕀) x6 x7 (ix2 t r))) (slot_apply x6 t r))
  unfold val_main_v39 val_main_v36 val_main_v33 val_main_v35 val_main_v32 val_main_v34 val_main_c_5 val_main_c_6 val_main_call1_v0 val_main_v38 val_main_v37
  generalize val_main_v22 (F := 𝕀) x6 = ss
  generalize val_main_v31 (F := 𝕀) x6 x7 = pp
  pointwise []

theorem choice_2 (t : Fin 32) (r : Fin 512) :
    val_main_v47 (F := 𝕀) x6 x7 (ix2 t r)
      = if 256 ≤ (x6 (ix3 t 0 r)).toNat ∧ (x6 (ix3 t 0 r)).toNat < 384 then x7 (ix3 t 0 2) else val_main_v39 (F := 𝕀) x6 x7 (ix2 t r) := by
  refine Eq.trans ?_ (select_range (x6 (ix3 t 0 r)) (x7 (ix3 t 0 2)) _ 256 384 (by decide) (by decide))
  refine Eq.trans ?_ (congrArg (fun z => Scalar.select (IntOp.andi (IntOp.cmpi .sge z (BitVec.ofNat 32 256)) (IntOp.cmpi .slt z (BitVec.ofNat 32 384))) (x7 (ix3 t 0 2)) (val_main_v39 (F := 𝕀) x6 x7 (ix2 t r))) (slot_apply x6 t r))
  unfold val_main_v47 val_main_v44 val_main_v41 val_main_v43 val_main_v40 val_main_v42 val_main_c_7 val_main_c_8 val_main_call2_v0 val_main_v46 val_main_v45
  generalize val_main_v22 (F := 𝕀) x6 = ss
  generalize val_main_v39 (F := 𝕀) x6 x7 = pp
  pointwise []

theorem choice_3 (t : Fin 32) (r : Fin 512) :
    val_main_v55 (F := 𝕀) x6 x7 (ix2 t r)
      = if 384 ≤ (x6 (ix3 t 0 r)).toNat ∧ (x6 (ix3 t 0 r)).toNat < 512 then x7 (ix3 t 0 3) else val_main_v47 (F := 𝕀) x6 x7 (ix2 t r) := by
  refine Eq.trans ?_ (select_range (x6 (ix3 t 0 r)) (x7 (ix3 t 0 3)) _ 384 512 (by decide) (by decide))
  refine Eq.trans ?_ (congrArg (fun z => Scalar.select (IntOp.andi (IntOp.cmpi .sge z (BitVec.ofNat 32 384)) (IntOp.cmpi .slt z (BitVec.ofNat 32 512))) (x7 (ix3 t 0 3)) (val_main_v47 (F := 𝕀) x6 x7 (ix2 t r))) (slot_apply x6 t r))
  unfold val_main_v55 val_main_v52 val_main_v49 val_main_v51 val_main_v48 val_main_v50 val_main_c_9 val_main_c_10 val_main_call3_v0 val_main_v54 val_main_v53
  generalize val_main_v22 (F := 𝕀) x6 = ss
  generalize val_main_v47 (F := 𝕀) x6 x7 = pp
  pointwise []

theorem choice_4 (t : Fin 32) (r : Fin 512) :
    val_main_v63 (F := 𝕀) x6 x7 (ix2 t r)
      = if 512 ≤ (x6 (ix3 t 0 r)).toNat ∧ (x6 (ix3 t 0 r)).toNat < 640 then x7 (ix3 t 0 4) else val_main_v55 (F := 𝕀) x6 x7 (ix2 t r) := by
  refine Eq.trans ?_ (select_range (x6 (ix3 t 0 r)) (x7 (ix3 t 0 4)) _ 512 640 (by decide) (by decide))
  refine Eq.trans ?_ (congrArg (fun z => Scalar.select (IntOp.andi (IntOp.cmpi .sge z (BitVec.ofNat 32 512)) (IntOp.cmpi .slt z (BitVec.ofNat 32 640))) (x7 (ix3 t 0 4)) (val_main_v55 (F := 𝕀) x6 x7 (ix2 t r))) (slot_apply x6 t r))
  unfold val_main_v63 val_main_v60 val_main_v57 val_main_v59 val_main_v56 val_main_v58 val_main_c_11 val_main_c_12 val_main_call4_v0 val_main_v62 val_main_v61
  generalize val_main_v22 (F := 𝕀) x6 = ss
  generalize val_main_v55 (F := 𝕀) x6 x7 = pp
  pointwise []

theorem choice_5 (t : Fin 32) (r : Fin 512) :
    val_main_v71 (F := 𝕀) x6 x7 (ix2 t r)
      = if 640 ≤ (x6 (ix3 t 0 r)).toNat ∧ (x6 (ix3 t 0 r)).toNat < 768 then x7 (ix3 t 0 5) else val_main_v63 (F := 𝕀) x6 x7 (ix2 t r) := by
  refine Eq.trans ?_ (select_range (x6 (ix3 t 0 r)) (x7 (ix3 t 0 5)) _ 640 768 (by decide) (by decide))
  refine Eq.trans ?_ (congrArg (fun z => Scalar.select (IntOp.andi (IntOp.cmpi .sge z (BitVec.ofNat 32 640)) (IntOp.cmpi .slt z (BitVec.ofNat 32 768))) (x7 (ix3 t 0 5)) (val_main_v63 (F := 𝕀) x6 x7 (ix2 t r))) (slot_apply x6 t r))
  unfold val_main_v71 val_main_v68 val_main_v65 val_main_v67 val_main_v64 val_main_v66 val_main_c_13 val_main_c_14 val_main_call5_v0 val_main_v70 val_main_v69
  generalize val_main_v22 (F := 𝕀) x6 = ss
  generalize val_main_v63 (F := 𝕀) x6 x7 = pp
  pointwise []

theorem choice_6 (t : Fin 32) (r : Fin 512) :
    val_main_v79 (F := 𝕀) x6 x7 (ix2 t r)
      = if 768 ≤ (x6 (ix3 t 0 r)).toNat ∧ (x6 (ix3 t 0 r)).toNat < 896 then x7 (ix3 t 0 6) else val_main_v71 (F := 𝕀) x6 x7 (ix2 t r) := by
  refine Eq.trans ?_ (select_range (x6 (ix3 t 0 r)) (x7 (ix3 t 0 6)) _ 768 896 (by decide) (by decide))
  refine Eq.trans ?_ (congrArg (fun z => Scalar.select (IntOp.andi (IntOp.cmpi .sge z (BitVec.ofNat 32 768)) (IntOp.cmpi .slt z (BitVec.ofNat 32 896))) (x7 (ix3 t 0 6)) (val_main_v71 (F := 𝕀) x6 x7 (ix2 t r))) (slot_apply x6 t r))
  unfold val_main_v79 val_main_v76 val_main_v73 val_main_v75 val_main_v72 val_main_v74 val_main_c_15 val_main_c_16 val_main_call6_v0 val_main_v78 val_main_v77
  generalize val_main_v22 (F := 𝕀) x6 = ss
  generalize val_main_v71 (F := 𝕀) x6 x7 = pp
  pointwise []

/-- A token's group: that of its slot's chunk. -/
theorem group_apply (t : Fin 32) (r : Fin 512) :
    val_main_v79 (F := 𝕀) x6 x7 (ix2 t r) = groupOf (x6 (ix3 t 0 r)) (fun k => x7 (ix3 t 0 ⟨k.val, by omega⟩)) := by
  rw [choice_6, choice_5, choice_4, choice_3, choice_2, choice_1, choice_0]
  exact choices (x6 (ix3 t 0 r)) (fun k => x7 (ix3 t 0 ⟨k.val, by omega⟩))

/-- A token's weight of an expert: that of the expert's place in the token's group, none outside the group. -/
theorem weight_apply (b : Fin 4) (n : Fin 4096) (c q : Fin 4) :
    val_main_v89 (F := 𝕀) x5 x6 x7 (ix2 ⟨4096 * b.val + n.val, by omega⟩ ⟨4 * c.val + q.val, by omega⟩)
      = Scalar.select (IntOp.cmpi .eq (val_main_v79 (F := 𝕀) x6 x7 (ix2 ⟨8 * b.val + n.val / 512, by omega⟩ ⟨n.val % 512, Nat.mod_lt _ (by decide)⟩))
          (BitVec.ofNat 32 c.val)) (x5 (ix2 ⟨4096 * b.val + n.val, by omega⟩ ⟨q.val, by omega⟩)) 0 := by
  unfold val_main_v89 val_main_v88 val_main_call7_v3 val_main_call7_v2 val_main_call7_v1 val_main_call7_v0 val_main_cst_17 val_main_v87 val_main_v86 val_main_v85 val_main_v84 val_main_v83 val_main_v82 val_main_v81 val_main_v80
  generalize val_main_v79 (F := 𝕀) x6 x7 = gg
  pointwise []
  have e1 : (4096 * b.val + n.val) / 512 = 8 * b.val + n.val / 512 := by omega
  have e2 : (4096 * b.val + n.val) % 512 = n.val % 512 := by omega
  have e3 : id (constant (F := 𝕀) S_ FTy.f32 0x00000000#32) ix0 = (0 : EReal) := by
    show Ideal.ofBits .f32 0x00000000#32 = _
    simp [Ideal.ofBits, Ideal.ieee]
  simp only [e1, e2]
  rw [e3]

theorem combine_apply (b : Fin 4) (n : Fin 4096) (i : Fin 1024) :
    val_main_v97 (F := 𝕀) x0 x1 x2 x4 x5 x6 x7 x8 x9 x10 (ix3 b n i)
      = ∑ e, val_main_v89 (F := 𝕀) x5 x6 x7 (ix2 ⟨4096 * b.val + n.val, by omega⟩ e)
          * val_main_v94 (F := 𝕀) x0 x1 x2 x4 x8 x9 x10 (ix3 e ⟨4096 * b.val + n.val, by omega⟩ i) := by
  unfold val_main_v97 val_main_v95
  generalize val_main_v89 (F := 𝕀) x5 x6 x7 = ss
  generalize val_main_v94 (F := 𝕀) x0 x1 x2 x4 x8 x9 x10 = tt
  pointwise []
  have e1 : b.val * 4096 + n.val = 4096 * b.val + n.val := by omega
  simp only [e1]

/-- The sum of a token's experts. -/
theorem routed_apply (b : Fin 4) (n : Fin 4096) (i : Fin 1024) :
    val_main_v97 (F := 𝕀) x0 x1 x2 x4 x5 x6 x7 x8 x9 x10 (ix3 b n i)
      = routed (x6 (ix3 ⟨8 * b.val + n.val / 512, by omega⟩ 0 ⟨n.val % 512, Nat.mod_lt _ (by decide)⟩))
          (fun k => x7 (ix3 ⟨8 * b.val + n.val / 512, by omega⟩ 0 ⟨k.val, by omega⟩))
          (fun q => x5 (ix2 ⟨4096 * b.val + n.val, by omega⟩ ⟨q.val, by omega⟩))
          (fun e => ffn (inp (fun k => x0 (ix3 b n k)) (fun k => x4 (ix1 k)) (fun k => x2 (ix2 b k)) (fun k => x1 (ix2 b k)))
            (fun k f => x8 (ix3 e k f)) (fun k f => x9 (ix3 e k f)) (fun f i => x10 (ix3 e f i)) i) := by
  rw [combine_apply]
  refine Eq.trans (Finset.sum_congr rfl fun e _ => congrArg (val_main_v89 (F := 𝕀) x5 x6 x7 (ix2 ⟨4096 * b.val + n.val, by omega⟩ e) * ·) ?_)
    (combined _ _ _ _ (fun e => val_main_v89 (F := 𝕀) x5 x6 x7 (ix2 ⟨4096 * b.val + n.val, by omega⟩ e)) fun c q => ?_)
  · rw [expert_apply]
    refine congrArg (fun t => ffn t (fun k f => x8 (ix3 e k f)) (fun k f => x9 (ix3 e k f)) (fun f i => x10 (ix3 e f i)) i) (funext fun k => ?_)
    exact (row_apply x0 x1 x2 x4 b n k).trans (inp_apply x0 x1 x2 x4 b n k)
  · rw [weight_apply, group_apply]

/-- The gated sum added to the row. -/
theorem sum_apply (b : Fin 4) (n : Fin 4096) (i : Fin 1024) :
    val_main_v100 (F := 𝕀) x0 x1 x2 x3 x4 x5 x6 x7 x8 x9 x10 (ix3 b n i)
      = x0 (ix3 b n i) + x3 (ix2 b i) * val_main_v97 (F := 𝕀) x0 x1 x2 x4 x5 x6 x7 x8 x9 x10 (ix3 b n i) := by
  unfold val_main_v100 val_main_v99 val_main_v98 val_main_v96
  generalize val_main_v97 (F := 𝕀) x0 x1 x2 x4 x5 x6 x7 x8 x9 x10 = ss
  pointwise []

theorem squares'_apply (b : Fin 4) (n : Fin 4096) :
    val_main_v102 (F := 𝕀) x0 x1 x2 x3 x4 x5 x6 x7 x8 x9 x10 (ix2 b n)
      = ∑ k, val_main_v100 (F := 𝕀) x0 x1 x2 x3 x4 x5 x6 x7 x8 x9 x10 (ix3 b n k) * val_main_v100 (F := 𝕀) x0 x1 x2 x3 x4 x5 x6 x7 x8 x9 x10 (ix3 b n k) := by
  unfold val_main_v102 val_main_v101 val_main_cst_18
  generalize val_main_v100 (F := 𝕀) x0 x1 x2 x3 x4 x5 x6 x7 x8 x9 x10 = ss
  pointwise []

theorem normed'_apply (b : Fin 4) (n : Fin 4096) (j : Fin 1024) :
    val_main_v113 (F := 𝕀) x0 x1 x2 x3 x4 x5 x6 x7 x8 x9 x10 x11 (ix3 b n j)
      = rms (fun k => val_main_v100 (F := 𝕀) x0 x1 x2 x3 x4 x5 x6 x7 x8 x9 x10 (ix3 b n k)) j * x11 (ix1 j) := by
  refine Eq.trans ?_ (congrArg (fun z => val_main_v100 (F := 𝕀) x0 x1 x2 x3 x4 x5 x6 x7 x8 x9 x10 (ix3 b n j) * Ideal.rsqrt (Ideal.div z (Ideal.ofBits .f32 0x44800000#32) + Ideal.ofBits .f32 0x358637BD#32) * x11 (ix1 j))
    (squares'_apply x0 x1 x2 x3 x4 x5 x6 x7 x8 x9 x10 b n))
  unfold val_main_v113 val_main_v112 val_main_v111 val_main_v110 val_main_v109 val_main_v108 val_main_v107 val_main_v106 val_main_v105 val_main_v104 val_main_v103 val_main_cst_19 val_main_cst_20
  generalize val_main_v102 (F := 𝕀) x0 x1 x2 x3 x4 x5 x6 x7 x8 x9 x10 = ss
  generalize val_main_v100 (F := 𝕀) x0 x1 x2 x3 x4 x5 x6 x7 x8 x9 x10 = tt
  pointwise []

/-- The plain experts' result at an index. -/
theorem result_apply (b : Fin 4) (n : Fin 4096) (j : Fin 1024) :
    val_main_v113 (F := 𝕀) x0 x1 x2 x3 x4 x5 x6 x7 x8 x9 x10 x11 (ix3 b n j)
      = result (fun b n k => x0 (ix3 b n k)) (fun b k => x1 (ix2 b k)) (fun b k => x2 (ix2 b k)) (fun b k => x3 (ix2 b k))
          (fun k => x4 (ix1 k)) (fun r q => x5 (ix2 r ⟨q.val, by omega⟩)) (fun t r => x6 (ix3 t 0 r))
          (fun t k => x7 (ix3 t 0 ⟨k.val, by omega⟩)) (fun e k f => x8 (ix3 e k f)) (fun e k f => x9 (ix3 e k f))
          (fun e f i => x10 (ix3 e f i)) (fun k => x11 (ix1 k)) b n j := by
  rw [normed'_apply]
  refine congrArg (fun z => rms z j * x11 (ix1 j)) (funext fun i => ?_)
  rw [sum_apply, routed_apply]

end Cert.Reference2Ideal.Read

end
-- ==== Proof.Packed.lean ====
module

public import proofs.«01_k».proof.Pre_packed
public import Idealize.ShloMosaic.Lib.ReduceAll
public import Idealize.ShloMosaic.Lib.Affine
public import Idealize.ShloMosaic.Lib.Pointwise

/-! The precondition on the routing, entry by entry: no group is negative, the tokens of a tile are in different slots,
    both copies of the slots agree, the weights are finite and not negative. -/

@[expose] public section

set_option maxRecDepth 16384

noncomputable section

namespace Cert.Pre_packed

open Idealize.ShloMosaic Idealize.ShloMosaic.TcCoe Idealize.ShloMosaic.Tactic

local notation "𝕀" => Idealize.ShloMosaic.Ideal

theorem facts : Facts where
  shapeCasts_S32x1x512_S32x512 := by decide
  bcast_S512_S512x1_0 := by decide
  bcast_S512_S1x512_1 := by decide
  bcast_S512x1_S512x512_0_1 := by decide
  bcast_S1x512_S512x512_0_1 := by decide
  slices_S16384x128_S16384x4_0_0 := by decide
  slices_S32x1x128_S32x1x7_0_0_0 := by decide
  bcast_S_S32x1x7 := by decide
  reducesTo_S32x1x7_S_d0_1_2 := by decide
  h_S_ := by decide
  bcast_S32x512_S32x512x1_0_1 := by decide
  bcast_S32x512_S32x1x512_0_2 := by decide
  bcast_S32x512x1_S32x512x512_0_1_2 := by decide
  bcast_S32x1x512_S32x512x512_0_1_2 := by decide
  bcast_S512x512_S1x512x512_1_2 := by decide
  bcast_S1x512x512_S32x512x512_0_1_2 := by decide
  reducesTo_S32x512x512_S_d0_1_2 := by decide
  slices_S16384x128_S16384x1_0_4 := by decide
  shapeCasts_S16384x1_S16384 := by decide
  shapeCasts_S16384_S32x512 := by decide
  reducesTo_S32x512_S_d0_1 := by decide
  bcast_S_S16384x4 := by decide
  reducesTo_S16384x4_S_d0_1 := by decide

attribute [instance] facts

theorem eq_of_bit (a b : BitVec 32) (h : IntOp.cmpi .eq a b = 1#1) : a = b := by
  have h' : BitVec.ofBool (a == b) = 1#1 := h
  cases e : a == b
  · rw [e] at h'; exact absurd h' (by decide)
  · exact beq_iff_eq.mp e

theorem small_of_bit (w : BitVec 32) (h : IntOp.cmpi .sge w 0#32 = 1#1) : w.toNat < 2 ^ 31 := by
  have h' : (0#32 : BitVec 32).sle w = true := by
    have : BitVec.ofBool ((0#32 : BitVec 32).sle w) = 1#1 := h
    cases e : (0#32 : BitVec 32).sle w
    · rw [e] at this; exact absurd this (by decide)
    · rfl
  rw [BitVec.sle_eq_decide, decide_eq_true_iff, show (0#32 : BitVec 32).toInt = 0 by decide, BitVec.toInt_eq_toNat_cond] at h'
  have := w.isLt
  split at h' <;> omega

theorem apart_of_bit (a b : BitVec 32) (r r' : Fin 512)
    (h : IntOp.ori (IntOp.cmpi .ne a b) (IntOp.cmpi .eq (BitVec.ofNat 32 r.val) (BitVec.ofNat 32 r'.val)) = 1#1) (e : a = b) : r = r' := by
  have h1 : IntOp.cmpi .ne a b = 0#1 := by
    show BitVec.ofBool (a != b) = 0#1
    rw [e]; simp
  rw [h1] at h
  have h2 : IntOp.cmpi .eq (BitVec.ofNat 32 r.val) (BitVec.ofNat 32 r'.val) = 1#1 := by
    generalize IntOp.cmpi .eq (BitVec.ofNat 32 r.val) (BitVec.ofNat 32 r'.val) = z at h
    revert h; revert z; decide
  have h3 := congrArg BitVec.toNat (eq_of_bit _ _ h2)
  rw [BitVec.toNat_ofNat, BitVec.toNat_ofNat, Nat.mod_eq_of_lt (by omega), Nat.mod_eq_of_lt (by omega)] at h3
  exact Fin.ext h3

theorem weight_of_bit (x : EReal) (h : IntOp.andi (Ideal.cmp .oge x (Ideal.ofBits .f32 0x00000000#32))
    (Ideal.cmp .olt x (Ideal.ofBits .f32 0x7F800000#32)) = 1#1) : 0 ≤ x ∧ x ≠ ⊤ := by
  have h0 : Ideal.ofBits .f32 0x00000000#32 = (0 : EReal) := by simp [Ideal.ofBits, Ideal.ieee]
  have ht : Ideal.ofBits .f32 0x7F800000#32 = ⊤ := by simp [Ideal.ofBits, Ideal.ieee]
  rw [h0, ht] at h
  obtain ⟨h1, h2⟩ := IntOp.andi_eq_one.1 h
  constructor
  · by_contra hc
    simp [Ideal.cmp] at h1
    rw [decide_eq_false hc] at h1
    exact absurd h1 (by decide)
  · intro hc
    subst hc
    simp [Ideal.cmp] at h2

variable (x0 x1 x2 x3 x4) (x5 : FVec 𝕀 S16384x128 .f32) (x6 x7 : IVec _ 32) (x8 x9 x10 x11)
  (h : fn (F := 𝕀) x0 x1 x2 x3 x4 x5 x6 x7 x8 x9 x10 x11 = fun _ => 1#1)

include h

/-- No group of a tile's first seven chunks is negative. -/
theorem small (t : Fin 32) (k : Fin 7) : (x7 (ix3 t 0 ⟨k.val, by omega⟩)).toNat < 2 ^ 31 := by
  have h := congrFun h (Shape.Idx.first facts.h_S_)
  dsimp only [fn, fn_part1] at h
  have h := (IntOp.andi_eq_one.1 (IntOp.andi_eq_one.1 (IntOp.andi_eq_one.1 h).1).1).1
  have h := Host.reduce_andi_all _ _ _ _ _ h (ix3 t 0 k)
  refine small_of_bit _ (Eq.trans (Eq.symm ?_) h)
  pointwise []

/-- Two tokens of a tile in one slot are one token. -/
theorem apart (t : Fin 32) (r r' : Fin 512) (e : x6 (ix3 t 0 r) = x6 (ix3 t 0 r')) : r = r' := by
  have h := congrFun h (Shape.Idx.first facts.h_S_)
  dsimp only [fn, fn_part1] at h
  have h := (IntOp.andi_eq_one.1 (IntOp.andi_eq_one.1 (IntOp.andi_eq_one.1 h).1).1).2
  have h := Host.reduce_andi_all _ _ _ _ _ h (ix3 t r r')
  refine apart_of_bit _ _ r r' (Eq.trans (Eq.symm ?_) h) e
  pointwise []

/-- The slots the weights' array carries are those of the slots' array. -/
theorem same (t : Fin 32) (r : Fin 512) : Ideal.fptosi 32 (x5 (ix2 ⟨512 * t.val + r.val, by omega⟩ 4)) = x6 (ix3 t 0 r) := by
  have h := congrFun h (Shape.Idx.first facts.h_S_)
  dsimp only [fn, fn_part1] at h
  have h := (IntOp.andi_eq_one.1 (IntOp.andi_eq_one.1 h).1).2
  have h := Host.reduce_andi_all _ _ _ _ _ h (ix2 t r)
  refine eq_of_bit _ _ (Eq.trans (Eq.symm ?_) h)
  pointwise []
  have e1 : t.val * 512 + r.val = 512 * t.val + r.val := by omega
  simp only [e1]
  rfl

/-- A weight is finite and not negative. -/
theorem weight (r : Fin 16384) (q : Fin 4) : 0 ≤ x5 (ix2 r ⟨q.val, by omega⟩) ∧ x5 (ix2 r ⟨q.val, by omega⟩) ≠ ⊤ := by
  have h := congrFun h (Shape.Idx.first facts.h_S_)
  dsimp only [fn, fn_part1] at h
  have h := (IntOp.andi_eq_one.1 h).2
  have h := Host.reduce_andi_all _ _ _ _ _ h (ix2 r q)
  refine weight_of_bit _ (Eq.trans (Eq.symm ?_) h)
  pointwise []

end Cert.Pre_packed

end
-- ==== Proof.MoeResult.lean ====
module

public import proofs.«01_k».proof.Proof.MoeArray
public import proofs.«01_k».proof.Proof.MoeRef
public import proofs.«01_k».proof.Proof.Packed

/-! The experts call against the plain experts: the whole run, and the two results at every entry. -/

@[expose] public section

set_option maxRecDepth 16384

noncomputable section

namespace Cert.Kernel2Ideal.Moe

open Idealize.ShloMosaic Idealize.ShloMosaic.TcCoe Idealize.ShloMosaic.Tactic Idealize.SL.Sem
open Cert.Kernel2Ideal Cert.Kernel2Ideal.Gen Cert.Experts

local notation "𝕀" => Idealize.ShloMosaic.Ideal

variable (m : (ℓ : Loc nD τ sig) → Buf (Elt 𝕀) ℓ) (ρ : Dev nD → PrngReg)

/-- The whole run under the precondition: the result array is every token's result, the arguments are unchanged. -/
theorem run_value (hG : Groups m) (hP : ∀ c, Packed m c) : θ_run defs (onTc (τ := τ) (main (F := 𝕀))) ⟨m, fun _ => 0, ρ⟩
    (fun r => ∀ c : Dev nD, r.2.mem ((c.tc : Thread nD τ).loc main_v12) = outArr m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)) :=
  (θ_run defs _ _).mono (fun _ h c => ⟨((h.1 c).1 11).trans (out_eq m c (hP c)),
      ((h.1 c).1 0).trans ((staged m c 0 rfl _).trans (V_arg0 m c)),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c),
      ((h.1 c).1 5).trans ((staged m c 5 rfl _).trans (V_arg5 m c)),
      ((h.1 c).1 6).trans ((staged m c 6 rfl _).trans (V_arg6 m c)),
      ((h.1 c).2 main_arg7 (by decide : main_arg7 ∈ Pipeline.restRefs sig spec0)).trans (V_arg7 m c),
      ((h.1 c).2 main_arg8 (by decide : main_arg8 ∈ Pipeline.restRefs sig spec0)).trans (V_arg8 m c),
      ((h.1 c).2 main_arg9 (by decide : main_arg9 ∈ Pipeline.restRefs sig spec0)).trans (V_arg9 m c),
      ((h.1 c).2 main_arg10 (by decide : main_arg10 ∈ Pipeline.restRefs sig spec0)).trans (V_arg10 m c),
      ((h.1 c).2 main_arg11 (by decide : main_arg11 ∈ Pipeline.restRefs sig spec0)).trans (V_arg11 m c)⟩) (run_main m ρ hG)

/-- The plain experts' result array is the same, entry by entry. -/
theorem equation (c : Dev nD) : Cert.Reference2Ideal.Read.val_main_v113 (F := 𝕀) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = outArr m c := by
  obtain rfl : c = 0 := Subsingleton.elim _ _
  funext y
  refine (congrArg _ (eq_ix3 y)).trans ?_
  exact Cert.Reference2Ideal.Read.result_apply _ _ _ _ _ _ _ _ _ _ _ _ (y 0) (y 1) (y 2)

end Cert.Kernel2Ideal.Moe

end
-- ==== Proof.MoeSame.lean ====
/- The experts call printed at the machine's floats and the one printed over the extended reals are one text:
   the bodies, the tables and the host programs are equal, at every interpretation of the floats. So a run of the
   one is a run of the other. -/
module

public import Idealize.ShloMosaic.Adequacy
public import proofs.«01_k».proof.Proof.Gen.Kernel2
public import proofs.«01_k».proof.Proof.Gen.Kernel2Ideal

@[expose] public section

set_option maxRecDepth 16384

noncomputable section

namespace Cert.Kernel2Ideal.Moe

open Idealize.ShloMosaic Idealize.SL.Sem

attribute [local instance] Cert.Kernel2.Gen.facts Cert.Kernel2Ideal.Gen.facts

variable {F : FTy → Type} [FloatOps F]

set_option maxHeartbeats 1000000 in
/-- The two tables of bodies agree, label by label. -/
theorem bodies_eq : Cert.Kernel2.defs₀ (F := F) = Cert.Kernel2Ideal.defs₀ := by
  funext p l a
  match p with
  | .tc =>
    match l with
    | (0 : Fin 1) => obtain ⟨t, s⟩ := a; rfl
  | .scScalar _ => rfl
  | .scVector _ _ => rfl

/-- So do the tables with the pipeline. -/
theorem defs_eq : Cert.Kernel2.defs (F := F) = Cert.Kernel2Ideal.defs :=
  congrArg (Pipeline.defs (Cert.Kernel2Ideal.pcfgs (F := F))) bodies_eq

set_option maxHeartbeats 1000000 in
/-- And the host programs. -/
theorem main_eq : Cert.Kernel2.main (F := F) = Cert.Kernel2Ideal.main := rfl

/-- The two launches are one. -/
theorem launch_eq : θ_run (Cert.Kernel2.defs (F := F)) (onTc Cert.Kernel2.main)
    = θ_run Cert.Kernel2Ideal.defs (onTc Cert.Kernel2Ideal.main) :=
  congr (congrArg (fun d => θ_run d) defs_eq) (congrArg (fun d => onTc d) main_eq)

end Cert.Kernel2Ideal.Moe

end
-- ==== Proof.OutBlock.lean ====
module
public import proofs.«01_k».proof.Proof.Gen.Kernel3Ideal.Value
public import Idealize.ShloMosaic.Lib.Pointwise
public import Idealize.ShloMosaic.Lib.Pipeline.ReadBack
public import Idealize.ShloMosaic.Lib.Pipeline.ValueKit
/-! What one grid point of the output projection stores: the residual rows plus the gate times the sum of three products. -/
@[expose] public section
set_option maxRecDepth 65536
noncomputable section
namespace Cert.Kernel3Ideal.Out
open Idealize.ShloMosaic Idealize.ShloMosaic.TcCoe Idealize.ShloMosaic.Tactic
open Idealize.ShloMosaic.Pipeline (Dat Cfg Window BodyObligation cellOf)
open Cert.Kernel3Ideal.Gen
local notation "𝕀" => Idealize.ShloMosaic.Ideal

theorem zero3 : (![0, 0, 0] : Fin 3 → ℕ) = fun _ => 0 := by decide

set_option maxHeartbeats 2000000 in
/-- The block a grid point leaves in the result's buffer is its one store. -/
theorem out_eq {F : FTy → Type} [FloatOps F] (c : Dev nD) (i : grid0.Coords) (arg2 : Memref sig .tc .vmem S1x512x1024 .f32) (harg2 : arg2.IsWhole) (arg3 : Memref sig .tc .vmem S1x512x384 .bf16) (harg3 : arg3.IsWhole)
    (arg4 : Memref sig .tc .vmem S1x512x384 .bf16) (harg4 : arg4.IsWhole) (arg5 : Memref sig .tc .vmem S1x512x256 .f32) (harg5 : arg5.IsWhole) (arg6 : Memref sig .tc .vmem S1x1x1024 .f32) (harg6 : arg6.IsWhole)
    (arg7 : Memref sig .tc .vmem S1x384x1024 .bf16) (harg7 : arg7.IsWhole) (arg8 : Memref sig .tc .vmem S1x384x1024 .bf16) (harg8 : arg8.IsWhole) (arg9 : Memref sig .tc .vmem S1x256x1024 .bf16) (harg9 : arg9.IsWhole)
    (arg10 : Memref sig .tc .vmem S1x512x1024 .f32) (harg10 : arg10.IsWhole)
    (x0 : Vec F S1x512x1024 .f32) (x1 : Vec F S1x512x384 .bf16) (x2 : Vec F S1x512x384 .bf16) (x3 : Vec F S1x512x256 .f32) (x4 : Vec F S1x1x1024 .f32) (x5 : Vec F S1x384x1024 .bf16) (x6 : Vec F S1x384x1024 .bf16) (x7 : Vec F S1x256x1024 .bf16) :
    out0_A_8 c i arg2 harg2 arg3 harg3 arg4 harg4 arg5 harg5 arg6 harg6 arg7 harg7 arg8 harg8 arg9 harg9 arg10 harg10 x0 x1 x2 x3 x4 x5 x6 x7
      = k0_pay1 x1 x5 x2 x6 x3 x7 x0 x4 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread]
  rw [View.canon_unit_zero (S := S1x512x1024) zero3]
  rw [View.ld_unit_zero (S := S1x512x1024) zero3, View.ld_unit_zero (S := S1x512x384) zero3, View.ld_unit_zero (S := S1x512x384) zero3, View.ld_unit_zero (S := S1x512x256) zero3,
    View.ld_unit_zero (S := S1x1x1024) zero3, View.ld_unit_zero (S := S1x384x1024) zero3, View.ld_unit_zero (S := S1x384x1024) zero3, View.ld_unit_zero (S := S1x256x1024) zero3]

/-- The block at a row and a column. -/
theorem pay_apply (x0 : Vec 𝕀 S1x512x1024 .f32) (x1 : Vec 𝕀 S1x512x384 .bf16) (x2 : Vec 𝕀 S1x512x384 .bf16) (x3 : Vec 𝕀 S1x512x256 .f32) (x4 : Vec 𝕀 S1x1x1024 .f32) (x5 : Vec 𝕀 S1x384x1024 .bf16) (x6 : Vec 𝕀 S1x384x1024 .bf16) (x7 : Vec 𝕀 S1x256x1024 .bf16)
    (r : Fin 512) (i : Fin 1024) :
    (k0_pay1 (F := 𝕀) x1 x5 x2 x6 x3 x7 x0 x4 (ix3 0 r i) : EReal)
      = (x0 (ix3 0 r i) : EReal) + (x4 (ix3 0 0 i) : EReal) * ((∑ k : Fin 384, (x1 (ix3 0 r k) : EReal) * (x5 (ix3 0 k i) : EReal))
          + (∑ k : Fin 384, (x2 (ix3 0 r k) : EReal) * (x6 (ix3 0 k i) : EReal)) + ∑ k : Fin 256, (x3 (ix3 0 r k) : EReal) * (x7 (ix3 0 k i) : EReal)) := by
  unfold k0_pay1
  pointwise []

end Cert.Kernel3Ideal.Out
end
-- ==== Proof.OutArray.lean ====
module
public import proofs.«01_k».proof.Proof.OutBlock
public import Idealize.ShloMosaic.Lib.Claim
/-! What the output projection's result holds after the run: the residual stream plus the gate times the joined features' product with the weights. -/
@[expose] public section
set_option maxRecDepth 16384
noncomputable section
namespace Cert.Kernel3Ideal.Out
open Idealize.ShloMosaic Idealize.ShloMosaic.TcCoe Idealize.ShloMosaic.Tactic
open Idealize.ShloMosaic.Pipeline (Dat Cfg Window BodyObligation cellOf)
open Cert.Kernel3Ideal.Gen
local notation "𝕀" => Idealize.ShloMosaic.Ideal
variable (m : (ℓ : Loc nD τ sig) → Buf (Elt 𝕀) ℓ) (c : Dev nD)

/-! ## Which rows each block holds -/

theorem idx_0 : ∀ t : Fin cfg0.N, win0_0.index t = ![t.val % 4, t.val / 4, 0] := (by decide +kernel : ∀ t : Fin grid0.N, win0_0.index t = ![t.val % 4, t.val / 4, 0])
theorem idx_1 : ∀ t : Fin cfg0.N, win0_1.index t = ![t.val % 4, t.val / 4, 0] := (by decide +kernel : ∀ t : Fin grid0.N, win0_1.index t = ![t.val % 4, t.val / 4, 0])
theorem idx_2 : ∀ t : Fin cfg0.N, win0_2.index t = ![t.val % 4, t.val / 4, 0] := (by decide +kernel : ∀ t : Fin grid0.N, win0_2.index t = ![t.val % 4, t.val / 4, 0])
theorem idx_3 : ∀ t : Fin cfg0.N, win0_3.index t = ![t.val % 4, t.val / 4, 0] := (by decide +kernel : ∀ t : Fin grid0.N, win0_3.index t = ![t.val % 4, t.val / 4, 0])
theorem idx_4 : ∀ t : Fin cfg0.N, win0_4.index t = ![t.val % 4, 0, 2] := (by decide +kernel : ∀ t : Fin grid0.N, win0_4.index t = ![t.val % 4, 0, 2])
theorem idx_5 : ∀ t : Fin cfg0.N, win0_5.index t = ![0, 0, 0] := (by decide +kernel : ∀ t : Fin grid0.N, win0_5.index t = ![0, 0, 0])
theorem idx_6 : ∀ t : Fin cfg0.N, win0_6.index t = ![0, 1, 0] := (by decide +kernel : ∀ t : Fin grid0.N, win0_6.index t = ![0, 1, 0])
theorem idx_7 : ∀ t : Fin cfg0.N, win0_7.index t = ![0, 3, 0] := (by decide +kernel : ∀ t : Fin grid0.N, win0_7.index t = ![0, 3, 0])
theorem idx_8 : ∀ t : Fin cfg0.N, win0_8.index t = ![t.val % 4, t.val / 4, 0] := (by decide +kernel : ∀ t : Fin grid0.N, win0_8.index t = ![t.val % 4, t.val / 4, 0])

theorem read_0 (W : FVec 𝕀 S4x4096x1024 .f32) (t : Fin cfg0.N) (ht : t.val < 32) (r : Fin 512) (k : Fin 1024) :
    ((cfg0.win 0).blk t).view.read (Elt 𝕀) W (ix3 0 r k) = W (ix3 ⟨t.val % 4, by omega⟩ ⟨512 * (t.val / 4) + r.val, by omega⟩ k) := by
  blk_ext [idx_0 t]
theorem read_1 (W : FVec 𝕀 S4x4096x384 .bf16) (t : Fin cfg0.N) (ht : t.val < 32) (r : Fin 512) (k : Fin 384) :
    ((cfg0.win 1).blk t).view.read (Elt 𝕀) W (ix3 0 r k) = W (ix3 ⟨t.val % 4, by omega⟩ ⟨512 * (t.val / 4) + r.val, by omega⟩ k) := by
  blk_ext [idx_1 t]
theorem read_2 (W : FVec 𝕀 S4x4352x384 .bf16) (t : Fin cfg0.N) (ht : t.val < 32) (r : Fin 512) (k : Fin 384) :
    (cfg0.win 2).fill (cfg0.grid.coords t) dflt0_2 (((cfg0.win 2).blk t).view.read (Elt 𝕀) W) (ix3 0 r k) = W (ix3 ⟨t.val % 4, by omega⟩ ⟨512 * (t.val / 4) + r.val, by omega⟩ k) := by
  unfold Pipeline.Window.fill
  rw [dif_pos (moved0_2 t _)]
  blk_ext [idx_2 t]
theorem read_3 (W : FVec 𝕀 S4x4096x256 .f32) (t : Fin cfg0.N) (ht : t.val < 32) (r : Fin 512) (k : Fin 256) :
    ((cfg0.win 3).blk t).view.read (Elt 𝕀) W (ix3 0 r k) = W (ix3 ⟨t.val % 4, by omega⟩ ⟨512 * (t.val / 4) + r.val, by omega⟩ k) := by
  blk_ext [idx_3 t]
theorem read_4 (W : FVec 𝕀 S4x1x6144 .f32) (t : Fin cfg0.N) (ht : t.val < 32) (k : Fin 1024) :
    ((cfg0.win 4).blk t).view.read (Elt 𝕀) W (ix3 0 0 k) = W (ix3 ⟨t.val % 4, by omega⟩ 0 ⟨2 * 1024 + k.val, by omega⟩) := by
  blk_ext [idx_4 t]
theorem read_5 (W : FVec 𝕀 S1x1024x1024 .bf16) (t : Fin cfg0.N) (k : Fin 384) (i : Fin 1024) :
    (cfg0.win 5).fill (cfg0.grid.coords t) dflt0_5 (((cfg0.win 5).blk t).view.read (Elt 𝕀) W) (ix3 0 k i) = W (ix3 0 ⟨k.val, by omega⟩ i) := by
  unfold Pipeline.Window.fill
  rw [dif_pos (moved0_5 t _)]
  blk_ext [idx_5 t]
theorem read_6 (W : FVec 𝕀 S1x1024x1024 .bf16) (t : Fin cfg0.N) (k : Fin 384) (i : Fin 1024) :
    (cfg0.win 6).fill (cfg0.grid.coords t) dflt0_6 (((cfg0.win 6).blk t).view.read (Elt 𝕀) W) (ix3 0 k i) = W (ix3 0 ⟨384 + k.val, by omega⟩ i) := by
  unfold Pipeline.Window.fill
  rw [dif_pos (moved0_6 t _)]
  blk_ext [idx_6 t]
theorem read_7 (W : FVec 𝕀 S1x1024x1024 .bf16) (t : Fin cfg0.N) (k : Fin 256) (i : Fin 1024) :
    ((cfg0.win 7).blk t).view.read (Elt 𝕀) W (ix3 0 k i) = W (ix3 0 ⟨768 + k.val, by omega⟩ i) := by
  blk_ext [idx_7 t]

/-! ## What the call reads, of what is given -/

/-- The arrays as given. -/
def xIn : FVec 𝕀 S4x4096x1024 .f32 := m (c.tc.loc main_arg0)
def attIn : FVec 𝕀 S4x4096x384 .f32 := m (c.tc.loc main_arg1)
def ssdIn : FVec 𝕀 S4x4096x384 .f32 := m (c.tc.loc main_arg2)
def hyIn : FVec 𝕀 S4x4096x256 .f32 := m (c.tc.loc main_arg4)
def gtIn : FVec 𝕀 S4x1024 .f32 := m (c.tc.loc main_arg5)
def wIn : FVec 𝕀 S1024x1024 .f32 := m (c.tc.loc main_arg6)

theorem host_att (b : Fin 4) (n : Fin 4096) (k : Fin 384) : ((V m c main_v3 : FVec 𝕀 S4x4096x384 .bf16) (ix3 b n k) : EReal) = attIn m c (ix3 b n k) := by
  entry_read
  pointwise []
  rfl

/-- The latent rows of the joined state-space output: the context rows lie after them. -/
theorem host_ssd (b : Fin 4) (n : Fin 4096) (k : Fin 384) : ((V m c main_v5 : FVec 𝕀 S4x4352x384 .bf16) (ix3 b ⟨n.val, by omega⟩ k) : EReal) = ssdIn m c (ix3 b n k) := by
  entry_read
  pointwise []
  rfl

theorem host_w (k : Fin 1024) (i : Fin 1024) : ((V m c main_v7 : FVec 𝕀 S1x1024x1024 .bf16) (ix3 0 k i) : EReal) = wIn m c (ix2 k i) := by
  entry_read
  pointwise []
  rfl

theorem piece_2 (x0 x1 x2 x3 x4 x5 : FVec 𝕀 S4x1024 .f32) (b : Fin 4) (k : Fin 1024) :
    concatenate S4x6144 1 [⟨S4x1024, x0⟩, ⟨S4x1024, x1⟩, ⟨S4x1024, x2⟩, ⟨S4x1024, x3⟩, ⟨S4x1024, x4⟩, ⟨S4x1024, x5⟩]
      concatenates_S4x1024_S4x1024_S4x1024_S4x1024_S4x1024_S4x1024_S4x6144_d1 (ix2 b ⟨2 * 1024 + k.val, by omega⟩) = x2 (ix2 b k) := by
  pointwise []
  rw [dif_neg (by omega), dif_neg (by omega), dif_pos (by omega)]
  exact congrArg (fun i : Fin 1024 => x2 (ix2 b i)) (Fin.ext (by show 2048 + k.val - 1024 - 1024 = k.val; omega))

theorem mods_eq : (V m c main_v2 : FVec 𝕀 S4x1x6144 .f32) = fun i => shapeCast S4x1x6144
    (V m c main_v1 : FVec 𝕀 S4x6144 .f32) shapeCasts_S4x6144_S4x1x6144 i := by
  rfl

theorem mods_cat (x0 : FVec 𝕀 S4x1024 .f32) (h : x0 = V m c main_v0) : (V m c main_v1 : FVec 𝕀 S4x6144 .f32) =
    concatenate S4x6144 1 [⟨S4x1024, x0⟩, ⟨S4x1024, x0⟩, ⟨S4x1024, gtIn m c⟩, ⟨S4x1024, x0⟩, ⟨S4x1024, x0⟩, ⟨S4x1024, x0⟩]
      concatenates_S4x1024_S4x1024_S4x1024_S4x1024_S4x1024_S4x1024_S4x6144_d1 := by
  subst h
  rfl

theorem mods_flat (W : FVec 𝕀 S4x6144 .f32) (b : Fin 4) (k : Fin 6144) :
    shapeCast S4x1x6144 W shapeCasts_S4x6144_S4x1x6144 (ix3 b 0 k) = W (ix2 b k) := by
  pointwise []

/-- The third row of the modulation array is the gate. -/
theorem host_gt (b : Fin 4) (k : Fin 1024) :
    (V m c main_v2 : FVec 𝕀 S4x1x6144 .f32) (ix3 b 0 ⟨2 * 1024 + k.val, by omega⟩) = gtIn m c (ix2 b k) := by
  refine (congrFun (mods_eq m c) _).trans ((mods_flat _ _ _).trans ?_)
  refine (congrFun (mods_cat m c _ rfl) _).trans ?_
  exact piece_2 ..

theorem blk_x (t : Fin cfg0.N) (ht : t.val < 32) (r : Fin 512) (k : Fin 1024) :
    iblk m c 0 t (ix3 0 r k) = xIn m c (ix3 ⟨t.val % 4, by omega⟩ ⟨512 * (t.val / 4) + r.val, by omega⟩ k) := read_0 (V m c main_arg0) t ht r k
theorem blk_att (t : Fin cfg0.N) (ht : t.val < 32) (r : Fin 512) (k : Fin 384) :
    (iblk m c 1 t (ix3 0 r k) : EReal) = attIn m c (ix3 ⟨t.val % 4, by omega⟩ ⟨512 * (t.val / 4) + r.val, by omega⟩ k) :=
  (read_1 (V m c main_v3) t ht r k).trans (host_att ..)
theorem blk_ssd (t : Fin cfg0.N) (ht : t.val < 32) (r : Fin 512) (k : Fin 384) :
    (X0_2 m c t (ix3 0 r k) : EReal) = ssdIn m c (ix3 ⟨t.val % 4, by omega⟩ ⟨512 * (t.val / 4) + r.val, by omega⟩ k) :=
  (read_2 (V m c main_v5) t ht r k).trans (host_ssd m c ⟨t.val % 4, by omega⟩ ⟨512 * (t.val / 4) + r.val, by omega⟩ k)
theorem blk_hy (t : Fin cfg0.N) (ht : t.val < 32) (r : Fin 512) (k : Fin 256) :
    iblk m c 3 t (ix3 0 r k) = hyIn m c (ix3 ⟨t.val % 4, by omega⟩ ⟨512 * (t.val / 4) + r.val, by omega⟩ k) := read_3 (V m c main_arg4) t ht r k
theorem blk_gt (t : Fin cfg0.N) (ht : t.val < 32) (k : Fin 1024) :
    iblk m c 4 t (ix3 0 0 k) = gtIn m c (ix2 ⟨t.val % 4, by omega⟩ k) := (read_4 (V m c main_v2) t ht k).trans (host_gt ..)
theorem blk_w5 (t : Fin cfg0.N) (k : Fin 384) (i : Fin 1024) :
    (X0_5 m c t (ix3 0 k i) : EReal) = wIn m c (ix2 ⟨k.val, by omega⟩ i) := (read_5 (V m c main_v7) t k i).trans (host_w ..)
theorem blk_w6 (t : Fin cfg0.N) (k : Fin 384) (i : Fin 1024) :
    (X0_6 m c t (ix3 0 k i) : EReal) = wIn m c (ix2 ⟨384 + k.val, by omega⟩ i) := (read_6 (V m c main_v7) t k i).trans (host_w ..)
theorem blk_w7 (t : Fin cfg0.N) (k : Fin 256) (i : Fin 1024) :
    (iblk m c 7 t (ix3 0 k i) : EReal) = wIn m c (ix2 ⟨768 + k.val, by omega⟩ i) := (read_7 (V m c main_v7) t k i).trans (host_w ..)

/-! ## The result -/

/-- The result at a batch, a row and a column. -/
def outVal (b : Fin 4) (n : Fin 4096) (i : Fin 1024) : EReal :=
  (xIn m c (ix3 b n i) : EReal) + (gtIn m c (ix2 b i) : EReal) * ((∑ k : Fin 384, (attIn m c (ix3 b n k) : EReal) * (wIn m c (ix2 ⟨k.val, by omega⟩ i) : EReal))
    + (∑ k : Fin 384, (ssdIn m c (ix3 b n k) : EReal) * (wIn m c (ix2 ⟨384 + k.val, by omega⟩ i) : EReal))
    + ∑ k : Fin 256, (hyIn m c (ix3 b n k) : EReal) * (wIn m c (ix2 ⟨768 + k.val, by omega⟩ i) : EReal))

/-- The result array. -/
def outArr : FVec 𝕀 S4x4096x1024 .f32 := fun y => outVal m c (y 0) (y 1) (y 2)

/-- A block of the result is the block's computation on the point's blocks. -/
theorem block_out (t : Fin cfg0.N) (ht : t.val < 32) (r : Fin 512) (i : Fin 1024) :
    (k0_pay1 (F := 𝕀) (iblk m c 1 t) (X0_5 m c t) (X0_2 m c t) (X0_6 m c t) (iblk m c 3 t) (iblk m c 7 t) (iblk m c 0 t) (iblk m c 4 t) (ix3 0 r i) : EReal)
      = outVal m c ⟨t.val % 4, by omega⟩ ⟨512 * (t.val / 4) + r.val, by omega⟩ i := by
  refine (pay_apply (iblk m c 0 t) (iblk m c 1 t) (X0_2 m c t) (iblk m c 3 t) (iblk m c 4 t) (X0_5 m c t) (X0_6 m c t) (iblk m c 7 t) r i).trans ?_
  unfold outVal
  refine congrArg₂ (· + ·) (blk_x m c t ht r i) (congrArg₂ (· * ·) (blk_gt m c t ht i) (congrArg₂ (· + ·) (congrArg₂ (· + ·) ?_ ?_) ?_))
  · exact Finset.sum_congr rfl fun k _ => congrArg₂ (· * ·) (blk_att m c t ht r k) (blk_w5 m c t k i)
  · exact Finset.sum_congr rfl fun k _ => congrArg₂ (· * ·) (blk_ssd m c t ht r k) (blk_w6 m c t k i)
  · exact Finset.sum_congr rfl fun k _ => congrArg₂ (· * ·) (blk_hy m c t ht r k) (blk_w7 m c t k i)

theorem arr_eq : (dats m 0 c).arrAt 8 (cfgs 0).N = outArr m c := by
  refine (dats m 0 c).arrAt_eq_of_covers 8 _ (by decide +kernel) fun t hf y => ?_
  blk_simp
  rw [after0_8]
  unfold outsAt0
  rw [out_eq]
  have ht : t.val < 32 := t.isLt
  have hc : (y 2).val < 1024 := (y 2).isLt
  have hr : (y 1).val < 512 := (y 1).isLt
  have h0 : (y 0).val < 1 := (y 0).isLt
  have hy : (y : S1x512x1024.Idx) = ix3 0 ⟨(y 1).val, hr⟩ ⟨(y 2).val, hc⟩ := by
    idx_ext
  have hemb : (win0_8.blk t).view.emb y = (ix3 ⟨t.val % 4, by omega⟩ ⟨512 * (t.val / 4) + (y 1).val, by omega⟩ ⟨(y 2).val, hc⟩ : S4x4096x1024.Idx) := by
    blk_ext [idx_8 t]
  rw [hemb]
  refine Eq.trans (congrArg (k0_pay1 _ _ _ _ _ _ _ _) hy) ?_
  exact block_out m c t ht ⟨(y 1).val, hr⟩ ⟨(y 2).val, hc⟩

end Cert.Kernel3Ideal.Out
end
-- ==== Proof.OutRef.lean ====
module
public import proofs.«01_k».proof.Proof.Gen.Reference3Ideal.Read
public import Idealize.ShloMosaic.Lib.Pointwise
/-! What the output projection's reference computes at an index. -/
@[expose] public section
set_option maxRecDepth 65536
noncomputable section
namespace Cert.Reference3Ideal.Read
open Idealize.ShloMosaic Idealize.ShloMosaic.TcCoe Idealize.ShloMosaic.Tactic
local notation "𝕀" => Idealize.ShloMosaic.Ideal
variable (x0 : (⟨S4x4096x1024, .f32⟩ : BufTy).Contents (Elt 𝕀)) (x1 x2 : (⟨S4x4096x384, .f32⟩ : BufTy).Contents (Elt 𝕀)) (x4 : (⟨S4x4096x256, .f32⟩ : BufTy).Contents (Elt 𝕀)) (x5 : (⟨S4x1024, .f32⟩ : BufTy).Contents (Elt 𝕀)) (x6 : (⟨S1024x1024, .f32⟩ : BufTy).Contents (Elt 𝕀))

/-- A sum over the joined columns is the sum over each part's columns. -/
theorem sum_parts (f : Fin 1024 → EReal) :
    ∑ k, f k = (∑ k : Fin 384, f ⟨k.val, by omega⟩) + (∑ k : Fin 384, f ⟨384 + k.val, by omega⟩) + ∑ k : Fin 256, f ⟨768 + k.val, by omega⟩ := by
  have e := Fin.sum_univ_add (a := 768) (b := 256) (fun k => f ⟨k.val, k.isLt⟩)
  have e' := Fin.sum_univ_add (a := 384) (b := 384) (fun k => f ⟨k.val, by omega⟩)
  refine e.trans ?_
  exact congrArg (· + _) e'

theorem mix_left (b : Fin 4) (n : Fin 4096) (k : Fin 384) : val_main_v0 (F := 𝕀) x1 x2 x4 (ix3 b n ⟨k.val, by omega⟩) = x1 (ix3 b n k) := by
  pointwise [val_main_v0]

theorem mix_mid (b : Fin 4) (n : Fin 4096) (k : Fin 384) : val_main_v0 (F := 𝕀) x1 x2 x4 (ix3 b n ⟨384 + k.val, by omega⟩) = x2 (ix3 b n k) := by
  pointwise [val_main_v0]

theorem mix_right (b : Fin 4) (n : Fin 4096) (k : Fin 256) : val_main_v0 (F := 𝕀) x1 x2 x4 (ix3 b n ⟨768 + k.val, by omega⟩) = x4 (ix3 b n k) := by
  pointwise [val_main_v0]
  rw [dif_neg (by omega), dif_neg (by omega)]
  exact congrArg (fun i => x4 (ix3 b n i)) (Fin.ext (by show 768 + k.val - 384 - 384 = k.val; omega))

/-- The joined columns against the weights. -/
theorem prod_apply (b : Fin 4) (n : Fin 4096) (i : Fin 1024) :
    (val_main_v1 (F := 𝕀) x1 x2 x4 x6 (ix3 b n i) : EReal) = ∑ k : Fin 1024, (val_main_v0 (F := 𝕀) x1 x2 x4 (ix3 b n k) : EReal) * (x6 (ix2 k i) : EReal) := by
  unfold val_main_v1
  generalize val_main_v0 (F := 𝕀) x1 x2 x4 = y
  pointwise []

/-- The reference's result at an index. -/
theorem out_apply (b : Fin 4) (n : Fin 4096) (i : Fin 1024) :
    (val_main_v5 (F := 𝕀) x0 x1 x2 x4 x5 x6 (ix3 b n i) : EReal)
      = (x0 (ix3 b n i) : EReal) + (x5 (ix2 b i) : EReal) * ((∑ k : Fin 384, (x1 (ix3 b n k) : EReal) * (x6 (ix2 ⟨k.val, by omega⟩ i) : EReal))
          + (∑ k : Fin 384, (x2 (ix3 b n k) : EReal) * (x6 (ix2 ⟨384 + k.val, by omega⟩ i) : EReal)) + ∑ k : Fin 256, (x4 (ix3 b n k) : EReal) * (x6 (ix2 ⟨768 + k.val, by omega⟩ i) : EReal)) := by
  have e : (val_main_v5 (F := 𝕀) x0 x1 x2 x4 x5 x6 (ix3 b n i) : EReal) = (x0 (ix3 b n i) : EReal) + (x5 (ix2 b i) : EReal) * (val_main_v1 (F := 𝕀) x1 x2 x4 x6 (ix3 b n i) : EReal) := by
    unfold val_main_v5 val_main_v4 val_main_v3 val_main_v2
    generalize val_main_v1 (F := 𝕀) x1 x2 x4 x6 = y
    pointwise []
  rw [e, prod_apply, sum_parts]
  simp only [mix_left, mix_mid, mix_right]

end Cert.Reference3Ideal.Read
end
-- ==== Proof.OutResult.lean ====
module
public import proofs.«01_k».proof.Proof.OutArray
public import proofs.«01_k».proof.Proof.OutRef
/-! The output projection's result array is the plain one's, entry by entry. -/
@[expose] public section
noncomputable section
namespace Cert.Kernel3Ideal.Out
open Idealize.ShloMosaic Idealize.ShloMosaic.TcCoe Idealize.ShloMosaic.Tactic
local notation "𝕀" => Idealize.ShloMosaic.Ideal
variable (m : (ℓ : Loc nD τ sig) → Buf (Elt 𝕀) ℓ)

theorem equation (c : Dev nD) : Cert.Reference3Ideal.Read.val_main_v5 (F := 𝕀) (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) = outArr m c := by
  funext y
  refine (congrArg _ (eq_ix3 y)).trans ?_
  exact Cert.Reference3Ideal.Read.out_apply _ _ _ _ _ _ (y 0) (y 1) (y 2)

end Cert.Kernel3Ideal.Out
end
-- ==== Proof.InRunA.lean ====
/- The whole-body run of the input projection at the first point, which packs the weights. -/
module

public import proofs.«01_k».proof.Proof.Gen.Kernel4Ideal.Frame.Runs

@[expose] public section

set_option maxRecDepth 16384

noncomputable section

namespace Cert.Kernel4Ideal.Inp

open Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- What the body leaves in each output and in the scratch at the first point, as pieces, with the proof that it runs to them. -/
noncomputable def kernelRunA (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024x2444 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S256x384 .f32) (harg12 : arg12.IsWhole) (arg13 : Memref sig .tc .vmem S256x384 .f32) (harg13 : arg13.IsWhole) (arg14 : Memref sig .tc .vmem S384x384 .bf16) (harg14 : arg14.IsWhole) (arg15 : Memref sig .tc .vmem S3x1408 .f32) (harg15 : arg15.IsWhole) (arg16 : Memref sig .tc .vmem S1x1408 .f32) (harg16 : arg16.IsWhole) (arg17 : Memref sig .tc .vmem S1x384x256 .bf16) (harg17 : arg17.IsWhole) (arg18 : Memref sig .tc .vmem S1x256x128 .bf16) (harg18 : arg18.IsWhole) (arg19 : Memref sig .tc .vmem S1x128x256 .bf16) (harg19 : arg19.IsWhole) (arg20 : Memref sig .tc .vmem S1x256x384 .f32) (harg20 : arg20.IsWhole) (arg21 : Memref sig .tc .vmem S1x256x640 .f32) (harg21 : arg21.IsWhole) (arg22 : Memref sig .tc .vmem S1x256x128 .f32) (harg22 : arg22.IsWhole) (arg23 : Memref sig .tc .vmem S1x256x768 .f32) (harg23 : arg23.IsWhole) (arg24 : Memref sig .tc .vmem S1024x2560 .bf16) (harg24 : arg24.IsWhole) (hc0 : cond0_0 i)
    (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32) :
    Σ' (L15 : List (View.Piece (Elt F) S1x384x256 .bf16)), Σ' (L16 : List (View.Piece (Elt F) S1x256x128 .bf16)), Σ' (L17 : List (View.Piece (Elt F) S1x128x256 .bf16)), Σ' (L18 : List (View.Piece (Elt F) S1x256x384 .f32)), Σ' (L19 : List (View.Piece (Elt F) S1x256x640 .f32)), Σ' (L20 : List (View.Piece (Elt F) S1x256x128 .f32)), Σ' (L21 : List (View.Piece (Elt F) S1x256x768 .f32)), { LS0 : List (View.Piece (Elt F) S1024x2560 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, fun E K => ?run⟩
  case run =>
    simp only [cc0_inproj_eq_skeleton]; unfold cc0_inproj_skel
    simp only [k0_part2_eq_skeleton, k0_part1_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact HS0

end Cert.Kernel4Ideal.Inp

end
-- ==== Proof.InBlock.lean ====
module
public import proofs.«01_k».proof.Proof.Gen.Kernel4Ideal.Frame.Runs
public import Idealize.ShloMosaic.Lib.Pipeline.ReadBack
public import Idealize.ShloMosaic.Lib.Pipeline.ValueKit
/-! What one grid point of the input projection stores, as functions of its input blocks and of the packed weights. -/
@[expose] public section
set_option maxRecDepth 65536
noncomputable section
namespace Cert.Kernel4Ideal.Inp
open Idealize.ShloMosaic Idealize.ShloMosaic.TcCoe Idealize.ShloMosaic.Tactic
open Cert.Kernel4Ideal.Gen
variable {F : FTy → Type} [FloatOps F]

/-- The weights as the first point packs them into the scratch. -/
def pack (x7 : Vec F S1x1024x2444 .f32) : Vec F S1024x2560 .bf16 :=
  View.canon ([
    ⟨Rect.unit (s := S1024x2560) ![0, 2432] S1024x128.size inb_S1024x2560_S1024x128_0_2432, k0_pay8 (k0_pay7 (View.ld x7 (Rect.unit (s := S1x1024x2444) ![0, 0, 1664] S1x1024x780.size inb_S1x1024x2444_S1x1024x780_0_0_1664)))⟩,
    ⟨Rect.unit (s := S1024x2560) ![0, 2048] S1024x384.size inb_S1024x2560_S1024x384_0_2048, k0_pay6 (View.ld x7 (Rect.unit (s := S1x1024x2444) ![0, 0, 640] S1x1024x384.size inb_S1x1024x2444_S1x1024x384_0_0_640))⟩,
    ⟨Rect.unit (s := S1024x2560) ![0, 1280] S1024x768.size inb_S1024x2560_S1024x768_0_1280, k0_pay5 (View.ld x7 (Rect.unit (s := S1x1024x2444) ![0, 0, 1664] S1x1024x780.size inb_S1x1024x2444_S1x1024x780_0_0_1664))⟩,
    ⟨Rect.unit (s := S1024x2560) ![0, 640] S1024x640.size inb_S1024x2560_S1024x640_0_640, k0_pay3 (View.ld x7 (Rect.unit (s := S1x1024x2444) ![0, 0, 1024] S1x1024x640.size inb_S1x1024x2444_S1x1024x640_0_0_1024))⟩,
    ⟨Rect.unit (s := S1024x2560) ![0, 0] S1024x640.size inb_S1024x2560_S1024x640_0_0, k0_pay2 (View.ld x7 (Rect.unit (s := S1x1024x2444) ![0, 0, 0] S1x1024x640.size inb_S1x1024x2444_S1x1024x640_0_0_0))⟩] : List (View.Piece (Elt F) S1024x2560 .bf16))

/-- The packed weights' columns from 0. -/
def wQkv (wb : Vec F S1024x2560 .bf16) : Vec F S1024x640 .bf16 := (View.ld wb (Rect.unit (s := S1024x2560) ![0, 0] S1024x640.size inb_S1024x2560_S1024x640_0_0))
/-- The packed weights' columns from 640. -/
def wXbc (wb : Vec F S1024x2560 .bf16) : Vec F S1024x640 .bf16 := (View.ld wb (Rect.unit (s := S1024x2560) ![0, 640] S1024x640.size inb_S1024x2560_S1024x640_0_640))
/-- The packed weights' columns from 1280. -/
def wHy (wb : Vec F S1024x2560 .bf16) : Vec F S1024x768 .bf16 := (View.ld wb (Rect.unit (s := S1024x2560) ![0, 1280] S1024x768.size inb_S1024x2560_S1024x768_0_1280))
/-- The packed weights' columns from 2048. -/
def wZdt (wb : Vec F S1024x2560 .bf16) : Vec F S1024x512 .bf16 := (View.ld wb (Rect.unit (s := S1024x2560) ![0, 2048] S1024x512.size inb_S1024x2560_S1024x512_0_2048))

/-- The queries of a tile. -/
def blk15 (i : grid0.Coords) (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32) (wb : Vec F S1024x2560 .bf16) : Vec F S1x384x256 .bf16 :=
  k0_pay25 (k0_pay18 (k0_pay9 i x2 x1 x0 x3 x6) (k0_pay10 x5) (Scalar.ofBits .f32 0x3F800000#32) x4 (wQkv wb)) (k0_pay20 (k0_pay9 i x2 x1 x0 x3 x6) (k0_pay10 x5) (Scalar.ofBits .f32 0x3F800000#32) x4 (wQkv wb) x12) (k0_pay23 x10) x11 x8

/-- The keys of a tile. -/
def blk16 (i : grid0.Coords) (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32) (wb : Vec F S1024x2560 .bf16) : Vec F S1x256x128 .bf16 :=
  k0_pay27 (k0_pay19 (k0_pay9 i x2 x1 x0 x3 x6) (k0_pay10 x5) (Scalar.ofBits .f32 0x3F800000#32) x4 (wQkv wb)) (k0_pay23 x10) (k0_pay24 x11) (k0_pay26 (k0_pay21 (k0_pay9 i x2 x1 x0 x3 x6) (k0_pay10 x5) (Scalar.ofBits .f32 0x3F800000#32) x4 (wQkv wb) x12)) x9

/-- The values of a tile. -/
def blk17 (i : grid0.Coords) (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32) (wb : Vec F S1024x2560 .bf16) : Vec F S1x128x256 .bf16 :=
  k0_pay29 (k0_pay28 (k0_pay16 (k0_pay9 i x2 x1 x0 x3 x6) (k0_pay10 x5) (Scalar.ofBits .f32 0x3F800000#32) x4 (wQkv wb)))

/-- The gate columns of a tile. -/
def blk18 (i : grid0.Coords) (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32) (wb : Vec F S1024x2560 .bf16) : Vec F S1x256x384 .f32 :=
  k0_pay33 (k0_pay22 (k0_pay9 i x2 x1 x0 x3 x6) (k0_pay10 x5) (Scalar.ofBits .f32 0x3F800000#32) x4 (wZdt wb))

/-- The state-space columns of a tile, after their convolution. -/
def blk19 (i : grid0.Coords) (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32) (wb : Vec F S1024x2560 .bf16) : Vec F S1x256x640 .f32 :=
  k0_pay31 (k0_pay30 (BitVec.ofNat 32 (i 0).val) (k0_pay14 (k0_pay9 i x2 x1 x0 x3 x6) (k0_pay10 x5) (Scalar.ofBits .f32 0x3F800000#32) x4 (wXbc wb)) (View.ld x13 (Rect.unit (s := S3x1408) ![0, 0] S3x640.size inb_S3x1408_S3x640_0_0)) (View.ld x14 (Rect.unit (s := S1x1408) ![0, 0] S1x640.size inb_S1x1408_S1x640_0_0)))

/-- The step-size columns of a tile. -/
def blk20 (i : grid0.Coords) (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32) (wb : Vec F S1024x2560 .bf16) : Vec F S1x256x128 .f32 :=
  k0_pay1 (k0_pay34 (k0_pay22 (k0_pay9 i x2 x1 x0 x3 x6) (k0_pay10 x5) (Scalar.ofBits .f32 0x3F800000#32) x4 (wZdt wb)))

/-- The convolution columns of a tile, after their short convolution. -/
def blk21 (i : grid0.Coords) (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32) (wb : Vec F S1024x2560 .bf16) : Vec F S1x256x768 .f32 :=
  k0_pay32 (k0_pay15 (k0_pay9 i x2 x1 x0 x3 x6) (k0_pay10 x5) (Scalar.ofBits .f32 0x3F800000#32) x4 (wHy wb)) (Scalar.andi (Scalar.cmpi .sge (BitVec.ofNat 32 (i 0).val) 1#32) (Scalar.cmpi .slt (BitVec.ofNat 32 (i 0).val) 16#32)) (Scalar.cmpi .slt (BitVec.ofNat 32 (i 0).val) 15#32) (View.ld x13 (Rect.unit (s := S3x1408) ![0, 640] S3x768.size inb_S3x1408_S3x768_0_640)) (View.ld x14 (Rect.unit (s := S1x1408) ![0, 640] S1x768.size inb_S1x1408_S1x768_0_640))

end Cert.Kernel4Ideal.Inp
end
-- ==== Proof.InLeftA.lean ====
module
public import proofs.«01_k».proof.Proof.InRunA
public import proofs.«01_k».proof.Proof.InBlock
/-! What the body leaves in its buffers at the first point. -/
@[expose] public section
set_option maxRecDepth 65536
noncomputable section
namespace Cert.Kernel4Ideal.Inp
open Idealize.ShloMosaic Idealize.ShloMosaic.TcCoe Idealize.ShloMosaic.Tactic
open Idealize.ShloMosaic.Pipeline (Dat Cfg Window BodyObligation cellOf)
open Cert.Kernel4Ideal.Gen
variable {F : FTy → Type} [FloatOps F]

variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024x2444 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S256x384 .f32) (harg12 : arg12.IsWhole) (arg13 : Memref sig .tc .vmem S256x384 .f32) (harg13 : arg13.IsWhole) (arg14 : Memref sig .tc .vmem S384x384 .bf16) (harg14 : arg14.IsWhole) (arg15 : Memref sig .tc .vmem S3x1408 .f32) (harg15 : arg15.IsWhole) (arg16 : Memref sig .tc .vmem S1x1408 .f32) (harg16 : arg16.IsWhole) (arg17 : Memref sig .tc .vmem S1x384x256 .bf16) (harg17 : arg17.IsWhole) (arg18 : Memref sig .tc .vmem S1x256x128 .bf16) (harg18 : arg18.IsWhole) (arg19 : Memref sig .tc .vmem S1x128x256 .bf16) (harg19 : arg19.IsWhole) (arg20 : Memref sig .tc .vmem S1x256x384 .f32) (harg20 : arg20.IsWhole) (arg21 : Memref sig .tc .vmem S1x256x640 .f32) (harg21 : arg21.IsWhole) (arg22 : Memref sig .tc .vmem S1x256x128 .f32) (harg22 : arg22.IsWhole) (arg23 : Memref sig .tc .vmem S1x256x768 .f32) (harg23 : arg23.IsWhole) (arg24 : Memref sig .tc .vmem S1024x2560 .bf16) (harg24 : arg24.IsWhole) (hc0 : cond0_0 i)
  (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32)

set_option maxHeartbeats 4000000 in
/-- Buffer 15: its stores cover it and are this block. -/
theorem leftA_15 (v : View sig .tc .vmem S1x384x256 .bf16) (f : v.ty.Contents (Elt F)) :
    v.read (Elt F) (v.writes (Elt F) f (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14).1) = blk15 i x0 x1 x2 x3 x4 x5 x6 x7 x8 x9 x10 x11 x12 x13 x14 (pack x7) := by
  rw [View.read_writes_eq_canon _ _ _ (View.cover_of_tiledL _ S1x384x256.size (by sl_kernel_rfl))]
  unfold kernelRunA
  dsimp only
  sl_unfold_words
  simp only [View.readCov_eq_canon']
  frame_out
  rfl

set_option maxHeartbeats 4000000 in
/-- Buffer 16: its stores cover it and are this block. -/
theorem leftA_16 (v : View sig .tc .vmem S1x256x128 .bf16) (f : v.ty.Contents (Elt F)) :
    v.read (Elt F) (v.writes (Elt F) f (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14).2.1) = blk16 i x0 x1 x2 x3 x4 x5 x6 x7 x8 x9 x10 x11 x12 x13 x14 (pack x7) := by
  rw [View.read_writes_eq_canon _ _ _ (View.cover_of_tiledL _ S1x256x128.size (by sl_kernel_rfl))]
  unfold kernelRunA
  dsimp only
  sl_unfold_words
  simp only [View.readCov_eq_canon']
  frame_out
  rfl

set_option maxHeartbeats 4000000 in
/-- Buffer 17: its stores cover it and are this block. -/
theorem leftA_17 (v : View sig .tc .vmem S1x128x256 .bf16) (f : v.ty.Contents (Elt F)) :
    v.read (Elt F) (v.writes (Elt F) f (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14).2.2.1) = blk17 i x0 x1 x2 x3 x4 x5 x6 x7 x8 x9 x10 x11 x12 x13 x14 (pack x7) := by
  rw [View.read_writes_eq_canon _ _ _ (View.cover_of_tiledL _ S1x128x256.size (by sl_kernel_rfl))]
  unfold kernelRunA
  dsimp only
  sl_unfold_words
  simp only [View.readCov_eq_canon']
  frame_out
  rfl

set_option maxHeartbeats 4000000 in
/-- Buffer 18: its stores cover it and are this block. -/
theorem leftA_18 (v : View sig .tc .vmem S1x256x384 .f32) (f : v.ty.Contents (Elt F)) :
    v.read (Elt F) (v.writes (Elt F) f (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14).2.2.2.1) = blk18 i x0 x1 x2 x3 x4 x5 x6 x7 x8 x9 x10 x11 x12 x13 x14 (pack x7) := by
  rw [View.read_writes_eq_canon _ _ _ (View.cover_of_tiledL _ S1x256x384.size (by sl_kernel_rfl))]
  unfold kernelRunA
  dsimp only
  sl_unfold_words
  simp only [View.readCov_eq_canon']
  frame_out
  rfl

set_option maxHeartbeats 4000000 in
/-- Buffer 19: its stores cover it and are this block. -/
theorem leftA_19 (v : View sig .tc .vmem S1x256x640 .f32) (f : v.ty.Contents (Elt F)) :
    v.read (Elt F) (v.writes (Elt F) f (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14).2.2.2.2.1) = blk19 i x0 x1 x2 x3 x4 x5 x6 x7 x8 x9 x10 x11 x12 x13 x14 (pack x7) := by
  rw [View.read_writes_eq_canon _ _ _ (View.cover_of_tiledL _ S1x256x640.size (by sl_kernel_rfl))]
  unfold kernelRunA
  dsimp only
  sl_unfold_words
  simp only [View.readCov_eq_canon']
  frame_out
  rfl

set_option maxHeartbeats 4000000 in
/-- Buffer 20: its stores cover it and are this block. -/
theorem leftA_20 (v : View sig .tc .vmem S1x256x128 .f32) (f : v.ty.Contents (Elt F)) :
    v.read (Elt F) (v.writes (Elt F) f (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14).2.2.2.2.2.1) = blk20 i x0 x1 x2 x3 x4 x5 x6 x7 x8 x9 x10 x11 x12 x13 x14 (pack x7) := by
  rw [View.read_writes_eq_canon _ _ _ (View.cover_of_tiledL _ S1x256x128.size (by sl_kernel_rfl))]
  unfold kernelRunA
  dsimp only
  sl_unfold_words
  simp only [View.readCov_eq_canon']
  frame_out
  rfl

set_option maxHeartbeats 4000000 in
/-- Buffer 21: its stores cover it and are this block. -/
theorem leftA_21 (v : View sig .tc .vmem S1x256x768 .f32) (f : v.ty.Contents (Elt F)) :
    v.read (Elt F) (v.writes (Elt F) f (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14).2.2.2.2.2.2.1) = blk21 i x0 x1 x2 x3 x4 x5 x6 x7 x8 x9 x10 x11 x12 x13 x14 (pack x7) := by
  rw [View.read_writes_eq_canon _ _ _ (View.cover_of_tiledL _ S1x256x768.size (by sl_kernel_rfl))]
  unfold kernelRunA
  dsimp only
  sl_unfold_words
  simp only [View.readCov_eq_canon']
  frame_out
  rfl

end Cert.Kernel4Ideal.Inp
end
-- ==== Proof.InRunB.lean ====
/- The whole-body run of the input projection at a later point, which finds the packed weights in the scratch. -/
module

public import proofs.«01_k».proof.Proof.Gen.Kernel4Ideal.Frame.Runs

@[expose] public section

set_option maxRecDepth 16384

noncomputable section

namespace Cert.Kernel4Ideal.Inp

open Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- What the body leaves in each output and in the scratch at a later point, as pieces, with the proof that it runs to them. -/
noncomputable def kernelRunB (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024x2444 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S256x384 .f32) (harg12 : arg12.IsWhole) (arg13 : Memref sig .tc .vmem S256x384 .f32) (harg13 : arg13.IsWhole) (arg14 : Memref sig .tc .vmem S384x384 .bf16) (harg14 : arg14.IsWhole) (arg15 : Memref sig .tc .vmem S3x1408 .f32) (harg15 : arg15.IsWhole) (arg16 : Memref sig .tc .vmem S1x1408 .f32) (harg16 : arg16.IsWhole) (arg17 : Memref sig .tc .vmem S1x384x256 .bf16) (harg17 : arg17.IsWhole) (arg18 : Memref sig .tc .vmem S1x256x128 .bf16) (harg18 : arg18.IsWhole) (arg19 : Memref sig .tc .vmem S1x128x256 .bf16) (harg19 : arg19.IsWhole) (arg20 : Memref sig .tc .vmem S1x256x384 .f32) (harg20 : arg20.IsWhole) (arg21 : Memref sig .tc .vmem S1x256x640 .f32) (harg21 : arg21.IsWhole) (arg22 : Memref sig .tc .vmem S1x256x128 .f32) (harg22 : arg22.IsWhole) (arg23 : Memref sig .tc .vmem S1x256x768 .f32) (harg23 : arg23.IsWhole) (arg24 : Memref sig .tc .vmem S1024x2560 .bf16) (harg24 : arg24.IsWhole) (hc0 : ¬cond0_0 i)
    (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32) (xs0 : Vec F S1024x2560 .bf16) :
    Σ' (L15 : List (View.Piece (Elt F) S1x384x256 .bf16)), Σ' (L16 : List (View.Piece (Elt F) S1x256x128 .bf16)), Σ' (L17 : List (View.Piece (Elt F) S1x128x256 .bf16)), Σ' (L18 : List (View.Piece (Elt F) S1x256x384 .f32)), Σ' (L19 : List (View.Piece (Elt F) S1x256x640 .f32)), Σ' (L20 : List (View.Piece (Elt F) S1x256x128 .f32)), Σ' (L21 : List (View.Piece (Elt F) S1x256x768 .f32)), { LS0 : List (View.Piece (Elt F) S1024x2560 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ owns (c : Thread nD τ) arg24 fullShare xs0) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, [], fun E K => ?run⟩
  case run =>
    simp only [cc0_inproj_eq_skeleton]; unfold cc0_inproj_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg24.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; isplitr; · ipureintro; exact harg24.read_unread _
    iexact HS0

end Cert.Kernel4Ideal.Inp

end
-- ==== Proof.InLeftB.lean ====
module
public import proofs.«01_k».proof.Proof.InRunB
public import proofs.«01_k».proof.Proof.InBlock
/-! What the body leaves in its buffers at a later point. -/
@[expose] public section
set_option maxRecDepth 65536
noncomputable section
namespace Cert.Kernel4Ideal.Inp
open Idealize.ShloMosaic Idealize.ShloMosaic.TcCoe Idealize.ShloMosaic.Tactic
open Idealize.ShloMosaic.Pipeline (Dat Cfg Window BodyObligation cellOf)
open Cert.Kernel4Ideal.Gen
variable {F : FTy → Type} [FloatOps F]

variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024x2444 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S256x384 .f32) (harg12 : arg12.IsWhole) (arg13 : Memref sig .tc .vmem S256x384 .f32) (harg13 : arg13.IsWhole) (arg14 : Memref sig .tc .vmem S384x384 .bf16) (harg14 : arg14.IsWhole) (arg15 : Memref sig .tc .vmem S3x1408 .f32) (harg15 : arg15.IsWhole) (arg16 : Memref sig .tc .vmem S1x1408 .f32) (harg16 : arg16.IsWhole) (arg17 : Memref sig .tc .vmem S1x384x256 .bf16) (harg17 : arg17.IsWhole) (arg18 : Memref sig .tc .vmem S1x256x128 .bf16) (harg18 : arg18.IsWhole) (arg19 : Memref sig .tc .vmem S1x128x256 .bf16) (harg19 : arg19.IsWhole) (arg20 : Memref sig .tc .vmem S1x256x384 .f32) (harg20 : arg20.IsWhole) (arg21 : Memref sig .tc .vmem S1x256x640 .f32) (harg21 : arg21.IsWhole) (arg22 : Memref sig .tc .vmem S1x256x128 .f32) (harg22 : arg22.IsWhole) (arg23 : Memref sig .tc .vmem S1x256x768 .f32) (harg23 : arg23.IsWhole) (arg24 : Memref sig .tc .vmem S1024x2560 .bf16) (harg24 : arg24.IsWhole) (hc0 : ¬cond0_0 i)
  (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32) (xs0 : Vec F S1024x2560 .bf16)

set_option maxHeartbeats 4000000 in
/-- Buffer 15: its stores cover it and are this block. -/
theorem leftB_15 (v : View sig .tc .vmem S1x384x256 .bf16) (f : v.ty.Contents (Elt F)) :
    v.read (Elt F) (v.writes (Elt F) f (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xs0).1) = blk15 i x0 x1 x2 x3 x4 x5 x6 x7 x8 x9 x10 x11 x12 x13 x14 xs0 := by
  rw [View.read_writes_eq_canon _ _ _ (View.cover_of_tiledL _ S1x384x256.size (by sl_kernel_rfl))]
  unfold kernelRunB
  dsimp only
  sl_unfold_words
  frame_out
  rfl

set_option maxHeartbeats 4000000 in
/-- Buffer 16: its stores cover it and are this block. -/
theorem leftB_16 (v : View sig .tc .vmem S1x256x128 .bf16) (f : v.ty.Contents (Elt F)) :
    v.read (Elt F) (v.writes (Elt F) f (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xs0).2.1) = blk16 i x0 x1 x2 x3 x4 x5 x6 x7 x8 x9 x10 x11 x12 x13 x14 xs0 := by
  rw [View.read_writes_eq_canon _ _ _ (View.cover_of_tiledL _ S1x256x128.size (by sl_kernel_rfl))]
  unfold kernelRunB
  dsimp only
  sl_unfold_words
  frame_out
  rfl

set_option maxHeartbeats 4000000 in
/-- Buffer 17: its stores cover it and are this block. -/
theorem leftB_17 (v : View sig .tc .vmem S1x128x256 .bf16) (f : v.ty.Contents (Elt F)) :
    v.read (Elt F) (v.writes (Elt F) f (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xs0).2.2.1) = blk17 i x0 x1 x2 x3 x4 x5 x6 x7 x8 x9 x10 x11 x12 x13 x14 xs0 := by
  rw [View.read_writes_eq_canon _ _ _ (View.cover_of_tiledL _ S1x128x256.size (by sl_kernel_rfl))]
  unfold kernelRunB
  dsimp only
  sl_unfold_words
  frame_out
  rfl

set_option maxHeartbeats 4000000 in
/-- Buffer 18: its stores cover it and are this block. -/
theorem leftB_18 (v : View sig .tc .vmem S1x256x384 .f32) (f : v.ty.Contents (Elt F)) :
    v.read (Elt F) (v.writes (Elt F) f (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xs0).2.2.2.1) = blk18 i x0 x1 x2 x3 x4 x5 x6 x7 x8 x9 x10 x11 x12 x13 x14 xs0 := by
  rw [View.read_writes_eq_canon _ _ _ (View.cover_of_tiledL _ S1x256x384.size (by sl_kernel_rfl))]
  unfold kernelRunB
  dsimp only
  sl_unfold_words
  frame_out
  rfl

set_option maxHeartbeats 4000000 in
/-- Buffer 19: its stores cover it and are this block. -/
theorem leftB_19 (v : View sig .tc .vmem S1x256x640 .f32) (f : v.ty.Contents (Elt F)) :
    v.read (Elt F) (v.writes (Elt F) f (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xs0).2.2.2.2.1) = blk19 i x0 x1 x2 x3 x4 x5 x6 x7 x8 x9 x10 x11 x12 x13 x14 xs0 := by
  rw [View.read_writes_eq_canon _ _ _ (View.cover_of_tiledL _ S1x256x640.size (by sl_kernel_rfl))]
  unfold kernelRunB
  dsimp only
  sl_unfold_words
  frame_out
  rfl

set_option maxHeartbeats 4000000 in
/-- Buffer 20: its stores cover it and are this block. -/
theorem leftB_20 (v : View sig .tc .vmem S1x256x128 .f32) (f : v.ty.Contents (Elt F)) :
    v.read (Elt F) (v.writes (Elt F) f (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xs0).2.2.2.2.2.1) = blk20 i x0 x1 x2 x3 x4 x5 x6 x7 x8 x9 x10 x11 x12 x13 x14 xs0 := by
  rw [View.read_writes_eq_canon _ _ _ (View.cover_of_tiledL _ S1x256x128.size (by sl_kernel_rfl))]
  unfold kernelRunB
  dsimp only
  sl_unfold_words
  frame_out
  rfl

set_option maxHeartbeats 4000000 in
/-- Buffer 21: its stores cover it and are this block. -/
theorem leftB_21 (v : View sig .tc .vmem S1x256x768 .f32) (f : v.ty.Contents (Elt F)) :
    v.read (Elt F) (v.writes (Elt F) f (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 xs0).2.2.2.2.2.2.1) = blk21 i x0 x1 x2 x3 x4 x5 x6 x7 x8 x9 x10 x11 x12 x13 x14 xs0 := by
  rw [View.read_writes_eq_canon _ _ _ (View.cover_of_tiledL _ S1x256x768.size (by sl_kernel_rfl))]
  unfold kernelRunB
  dsimp only
  sl_unfold_words
  frame_out
  rfl

end Cert.Kernel4Ideal.Inp
end
-- ==== Proof.InLeftS.lean ====
module
public import proofs.«01_k».proof.Proof.InRunA
public import proofs.«01_k».proof.Proof.InBlock
/-! What the body leaves in its buffers at the first point. -/
@[expose] public section
set_option maxRecDepth 65536
noncomputable section
namespace Cert.Kernel4Ideal.Inp
open Idealize.ShloMosaic Idealize.ShloMosaic.TcCoe Idealize.ShloMosaic.Tactic
open Idealize.ShloMosaic.Pipeline (Dat Cfg Window BodyObligation cellOf)
open Cert.Kernel4Ideal.Gen
variable {F : FTy → Type} [FloatOps F]

variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024x2444 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S256x384 .f32) (harg12 : arg12.IsWhole) (arg13 : Memref sig .tc .vmem S256x384 .f32) (harg13 : arg13.IsWhole) (arg14 : Memref sig .tc .vmem S384x384 .bf16) (harg14 : arg14.IsWhole) (arg15 : Memref sig .tc .vmem S3x1408 .f32) (harg15 : arg15.IsWhole) (arg16 : Memref sig .tc .vmem S1x1408 .f32) (harg16 : arg16.IsWhole) (arg17 : Memref sig .tc .vmem S1x384x256 .bf16) (harg17 : arg17.IsWhole) (arg18 : Memref sig .tc .vmem S1x256x128 .bf16) (harg18 : arg18.IsWhole) (arg19 : Memref sig .tc .vmem S1x128x256 .bf16) (harg19 : arg19.IsWhole) (arg20 : Memref sig .tc .vmem S1x256x384 .f32) (harg20 : arg20.IsWhole) (arg21 : Memref sig .tc .vmem S1x256x640 .f32) (harg21 : arg21.IsWhole) (arg22 : Memref sig .tc .vmem S1x256x128 .f32) (harg22 : arg22.IsWhole) (arg23 : Memref sig .tc .vmem S1x256x768 .f32) (harg23 : arg23.IsWhole) (arg24 : Memref sig .tc .vmem S1024x2560 .bf16) (harg24 : arg24.IsWhole) (hc0 : cond0_0 i)
  (x0 : Vec F S1x256x1024 .f32) (x1 : Vec F S1x256x1024 .f32) (x2 : Vec F S1x8x1024 .f32) (x3 : Vec F S1x8x1024 .f32) (x4 : Vec F S1x1x1024 .f32) (x5 : Vec F S1x1x1024 .f32) (x6 : Vec F S1x1024 .f32) (x7 : Vec F S1x1024x2444 .f32) (x8 : Vec F S1x384 .f32) (x9 : Vec F S1x128 .f32) (x10 : Vec F S256x384 .f32) (x11 : Vec F S256x384 .f32) (x12 : Vec F S384x384 .bf16) (x13 : Vec F S3x1408 .f32) (x14 : Vec F S1x1408 .f32)

set_option maxHeartbeats 4000000 in
/-- Buffer of the packed weights: its stores cover it and are this block. -/
theorem scratchA (v : View sig .tc .vmem S1024x2560 .bf16) (f : v.ty.Contents (Elt F)) :
    v.read (Elt F) (v.writes (Elt F) f (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14).2.2.2.2.2.2.2.1) = pack x7 := by
  refine (View.read_writes_eq_canon v f _ (View.cover_of_tiledBy (s := S1024x2560) _ ![1024, 128] (by sl_kernel_rfl))).trans ?_
  unfold kernelRunA
  dsimp only
  sl_unfold_words
  frame_out

end Cert.Kernel4Ideal.Inp
end
-- ==== Proof.InFrame.lean ====
module
public import proofs.«01_k».proof.Proof.InLeftA
public import proofs.«01_k».proof.Proof.InLeftB
public import proofs.«01_k».proof.Proof.InLeftS
public import Idealize.ShloMosaic.Lib.Claim
/-! The launch of the input projection: what every buffer holds after every point, the body at a generic point, and the run. -/
@[expose] public section
set_option maxRecDepth 65536
noncomputable section
namespace Cert.Kernel4Ideal.Inp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def first : Fin cfg0.N := ⟨0, by have : cfg0.N = 68 := N_0; omega⟩

/-- The packed weights: what the scratch holds after every point. -/
def wb (c : Dev nD) : Vec F S1024x2560 .bf16 := pack (iblk m c 7 first)

theorem wb_first (c : Dev nD) (t : Fin cfg0.N) (h : t.val = 0) : wb m c = pack (iblk m c 7 t) := by
  unfold wb
  rw [show t = first from Fin.ext h]

/-- Output 15 after point `t`. -/
def res15 (c : Dev nD) (t : Fin cfg0.N) : Vec F S1x384x256 .bf16 :=
  blk15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (wb m c)

/-- Output 16 after point `t`. -/
def res16 (c : Dev nD) (t : Fin cfg0.N) : Vec F S1x256x128 .bf16 :=
  blk16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (wb m c)

/-- Output 17 after point `t`. -/
def res17 (c : Dev nD) (t : Fin cfg0.N) : Vec F S1x128x256 .bf16 :=
  blk17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (wb m c)

/-- Output 18 after point `t`. -/
def res18 (c : Dev nD) (t : Fin cfg0.N) : Vec F S1x256x384 .f32 :=
  blk18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (wb m c)

/-- Output 19 after point `t`. -/
def res19 (c : Dev nD) (t : Fin cfg0.N) : Vec F S1x256x640 .f32 :=
  blk19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (wb m c)

/-- Output 20 after point `t`. -/
def res20 (c : Dev nD) (t : Fin cfg0.N) : Vec F S1x256x128 .f32 :=
  blk20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (wb m c)

/-- Output 21 after point `t`. -/
def res21 (c : Dev nD) (t : Fin cfg0.N) : Vec F S1x256x768 .f32 :=
  blk21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (wb m c)

/-- Between points the scratch holds the packed weights; before the first, anything. -/
def PhiS (c : Dev nD) : (n : ℕ) → n ≤ cfg0.N → sProp 𝕄
  | 0, _ => Pipeline.ΦA spec0 c
  | _ + 1, _ => iprop(iprop(owns (c : Thread nD τ) scM0_0 fullShare (wb m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (wb m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (wb m c)) ∗ (∃ r, prngReg c r)) := by
  cases n with
  | zero => exact absurd rfl hz
  | succ n => rfl

/-- What the pipeline's arrays and buffers hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => res15 m c t
    | ⟨16, _⟩ => res16 m c t
    | ⟨17, _⟩ => res17 m c t
    | ⟨18, _⟩ => res18 m c t
    | ⟨19, _⟩ => res19 m c t
    | ⟨20, _⟩ => res20 m c t
    | ⟨21, _⟩ => res21 m c t
    | ⟨_ + 22, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = res15 m c t := by dsimp only [dats]
theorem after0_16 (c : Dev nD) (t : Fin cfg0.N) : (dats m 0 c).after 16 t = res16 m c t := by dsimp only [dats]
theorem after0_17 (c : Dev nD) (t : Fin cfg0.N) : (dats m 0 c).after 17 t = res17 m c t := by dsimp only [dats]
theorem after0_18 (c : Dev nD) (t : Fin cfg0.N) : (dats m 0 c).after 18 t = res18 m c t := by dsimp only [dats]
theorem after0_19 (c : Dev nD) (t : Fin cfg0.N) : (dats m 0 c).after 19 t = res19 m c t := by dsimp only [dats]
theorem after0_20 (c : Dev nD) (t : Fin cfg0.N) : (dats m 0 c).after 20 t = res20 m c t := by dsimp only [dats]
theorem after0_21 (c : Dev nD) (t : Fin cfg0.N) : (dats m 0 c).after 21 t = res21 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 16000000 in
/-- The body at any point: the inputs' buffers hold their blocks, the run of the point's case applies, and its stores are the stated blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  unfold res15 res16 res17 res18 res19 res20 res21
  rw [show (dats m 0 c).Φ t.succ = PhiS m c (t.val + 1) t.isLt from rfl, PhiS_succ]
  have hN : t.val < 68 := lt_of_lt_of_eq t.isLt (show cfg0.N = 68 from N_0)
  by_cases h0 : t.val % 68 = 0
  · by_cases hz : t.val = 0
    · rw [PhiS_castSucc m c t, PhiS_zero m c _ _ hz, PhiA0_eq]
      rw [wb_first m c t hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRunA c (grid0.coords t) _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%es0, HS0⟩⟩
      isplitl [HS0 Hg]
      · isplitl [HS0]
        · unfold owns; iexists _; isplitr
          swap; · iexact HS0
          ipureintro; exact scratchA (v := _) (f := _) ..
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact leftA_15 (v := _) (f := _) ..
      isplitl [H16]
      · unfold owns; iexists _; isplitr
        swap; · iexact H16
        ipureintro; exact leftA_16 (v := _) (f := _) ..
      isplitl [H17]
      · unfold owns; iexists _; isplitr
        swap; · iexact H17
        ipureintro; exact leftA_17 (v := _) (f := _) ..
      isplitl [H18]
      · unfold owns; iexists _; isplitr
        swap; · iexact H18
        ipureintro; exact leftA_18 (v := _) (f := _) ..
      isplitl [H19]
      · unfold owns; iexists _; isplitr
        swap; · iexact H19
        ipureintro; exact leftA_19 (v := _) (f := _) ..
      isplitl [H20]
      · unfold owns; iexists _; isplitr
        swap; · iexact H20
        ipureintro; exact leftA_20 (v := _) (f := _) ..
      unfold owns; iexists _; isplitr
      swap; · iexact H21
      ipureintro; exact leftA_21 (v := _) (f := _) ..
    · exfalso; have hN : t.val < 68 := lt_of_lt_of_eq t.isLt (show cfg0.N = 68 from N_0); omega
  · by_cases hz : t.val = 0
    · exfalso; have hN : t.val < 68 := lt_of_lt_of_eq t.isLt (show cfg0.N = 68 from N_0); omega
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRunB c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact leftB_15 (v := _) (f := _) ..
      isplitl [H16]
      · unfold owns; iexists _; isplitr
        swap; · iexact H16
        ipureintro; exact leftB_16 (v := _) (f := _) ..
      isplitl [H17]
      · unfold owns; iexists _; isplitr
        swap; · iexact H17
        ipureintro; exact leftB_17 (v := _) (f := _) ..
      isplitl [H18]
      · unfold owns; iexists _; isplitr
        swap; · iexact H18
        ipureintro; exact leftB_18 (v := _) (f := _) ..
      isplitl [H19]
      · unfold owns; iexists _; isplitr
        swap; · iexact H19
        ipureintro; exact leftB_19 (v := _) (f := _) ..
      isplitl [H20]
      · unfold owns; iexists _; isplitr
        swap; · iexact H20
        ipureintro; exact leftB_20 (v := _) (f := _) ..
      unfold owns; iexists _; isplitr
      swap; · iexact H21
      ipureintro; exact leftB_21 (v := _) (f := _) ..

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 68 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- THE FRAME: every argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel4Ideal.Inp
end
-- ==== Proof.InMath.lean ====
module
public import proofs.«01_k».proof.Proof.Gen.Kernel4Ideal.Skeleton
public import proofs.«01_k».proof.Proof.MoeMath
public import Idealize.ShloMosaic.Lib.Pointwise
/-! The input projection's tile at an index: the normed rows of a tile with its halo rows, and their products with the packed weights. -/
@[expose] public section
set_option maxRecDepth 65536
noncomputable section
namespace Cert.Kernel4Ideal.Inp
open Idealize.ShloMosaic Idealize.ShloMosaic.TcCoe Idealize.ShloMosaic.Tactic
open Cert.Experts Cert.Kernel4Ideal Cert.Kernel4Ideal.Gen
local notation "𝕀" => Idealize.ShloMosaic.Ideal

/-! ## The kernel's conditions on the tile's number -/

theorem latBit (n : ℕ) (h : n < 17) : Scalar.cmpi .sge (BitVec.ofNat 32 n) 16#32 = if 16 ≤ n then 1#1 else 0#1 :=
  (by decide : ∀ n : Fin 17, Scalar.cmpi .sge (BitVec.ofNat 32 n.val) 16#32 = if 16 ≤ n.val then 1#1 else 0#1) ⟨n, h⟩
theorem prevBit (n : ℕ) (h : n < 17) : Scalar.andi (Scalar.cmpi .sge (BitVec.ofNat 32 n) 1#32) (Scalar.cmpi .slt (BitVec.ofNat 32 n) 16#32) = if 1 ≤ n ∧ n < 16 then 1#1 else 0#1 :=
  (by decide : ∀ n : Fin 17, Scalar.andi (Scalar.cmpi .sge (BitVec.ofNat 32 n.val) 1#32) (Scalar.cmpi .slt (BitVec.ofNat 32 n.val) 16#32) = if 1 ≤ n.val ∧ n.val < 16 then 1#1 else 0#1) ⟨n, h⟩
theorem nextBit (n : ℕ) (h : n < 17) : Scalar.cmpi .slt (BitVec.ofNat 32 n) 15#32 = if n < 15 then 1#1 else 0#1 :=
  (by decide : ∀ n : Fin 17, Scalar.cmpi .slt (BitVec.ofNat 32 n.val) 15#32 = if n.val < 15 then 1#1 else 0#1) ⟨n, h⟩
theorem dtBit : ∀ j : Fin 128, IntOp.cmpi .slt (BitVec.ofNat 32 j.val) 12#32 = if j.val < 12 then 1#1 else 0#1 := by decide

/-- The rows a tile's computation starts from: the halo before, the tile of its stream, the halo after. -/
def rows {F : FTy → Type} [FloatOps F] (i : grid0.Coords) (x0 x1 : Vec F S1x256x1024 .f32) (x2 x3 : Vec F S1x8x1024 .f32) : FVec F S272x1024 .f32 :=
  concatenate S272x1024 0 [⟨S8x1024, shapeCast S8x1024 x2 shapeCasts_S1x8x1024_S8x1024⟩,
    ⟨S256x1024, Scalar.select (Scalar.cmpi .sge (BitVec.ofNat 32 (i 0).val) 16#32) (shapeCast S256x1024 x1 shapeCasts_S1x256x1024_S256x1024 : FVec F S256x1024 .f32) (shapeCast S256x1024 x0 shapeCasts_S1x256x1024_S256x1024)⟩,
    ⟨S8x1024, shapeCast S8x1024 x3 shapeCasts_S1x8x1024_S8x1024⟩] concatenates_S8x1024_S256x1024_S8x1024_S272x1024_d0

/-- The tile's rows, normed, scaled and shifted. -/
def hid {F : FTy → Type} [FloatOps F] (i : grid0.Coords) (x0 x1 : Vec F S1x256x1024 .f32) (x2 x3 : Vec F S1x8x1024 .f32) (x4 x5 : Vec F S1x1x1024 .f32) (x6 : Vec F S1x1024 .f32) : FVec F S272x1024 .f32 :=
  k0_pay11 (k0_pay9 i x2 x1 x0 x3 x6) (k0_pay10 x5) (Scalar.ofBits .f32 0x3F800000#32) x4

/-- Rows over the root of their mean square, times the gain. -/
def nrm {F : FTy → Type} [FloatOps F] (y : FVec F S272x1024 .f32) (g : Vec F S1x1024 .f32) : FVec F S272x1024 .f32 :=
  mulf (mulf y (broadcastTo S272x1024 (rsqrt (addf (divf (shapeCast S272x1 (multiReduction .add [1] S272 (mulf y y) 0x00000000#32 reduces_S272x1024_S272 (.inl rfl) rfl) shapeCasts_S272_S272x1)
    (broadcast S272x1 (Scalar.ofBits .f32 0x44800000#32))) (broadcast S272x1 (Scalar.ofBits .f32 0x358637BD#32)))) broadcasts_S272x1_S272x1024))
    (broadcastTo S272x1024 (shapeCast S1x1024 g shapeCasts_S1x1024_S1x1024) broadcasts_S1x1024_S272x1024)

theorem nrm_apply (y : FVec 𝕀 S272x1024 .f32) (g : Vec 𝕀 S1x1024 .f32) (p : Fin 272) (k : Fin 1024) :
    (nrm (F := 𝕀) y g (ix2 p k) : EReal) = rms (fun k => y (ix2 p k)) k * g (ix2 0 k) := by
  pointwise [nrm]
  rfl

theorem pay9_eq {F : FTy → Type} [FloatOps F] (i : grid0.Coords) (x0 x1 : Vec F S1x256x1024 .f32) (x2 x3 : Vec F S1x8x1024 .f32) (x6 : Vec F S1x1024 .f32) :
    k0_pay9 i x2 x1 x0 x3 x6 = nrm (rows i x0 x1 x2 x3) x6 := rfl

theorem pay9_apply (i : grid0.Coords) (x0 x1 : Vec 𝕀 S1x256x1024 .f32) (x2 x3 : Vec 𝕀 S1x8x1024 .f32) (x6 : Vec 𝕀 S1x1024 .f32) (p : Fin 272) (k : Fin 1024) :
    (k0_pay9 (F := 𝕀) i x2 x1 x0 x3 x6 (ix2 p k) : EReal) = rms (fun k => rows (F := 𝕀) i x0 x1 x2 x3 (ix2 p k)) k * x6 (ix2 0 k) := by
  rw [pay9_eq, nrm_apply]

theorem hid_apply (i : grid0.Coords) (x0 x1 : Vec 𝕀 S1x256x1024 .f32) (x2 x3 : Vec 𝕀 S1x8x1024 .f32) (x4 x5 : Vec 𝕀 S1x1x1024 .f32) (x6 : Vec 𝕀 S1x1024 .f32) (p : Fin 272) (k : Fin 1024) :
    (hid (F := 𝕀) i x0 x1 x2 x3 x4 x5 x6 (ix2 p k) : EReal)
      = inp (fun k => rows (F := 𝕀) i x0 x1 x2 x3 (ix2 p k)) (fun k => x6 (ix2 0 k)) (fun k => x5 (ix3 0 0 k)) (fun k => x4 (ix3 0 0 k)) k := by
  have e : (hid (F := 𝕀) i x0 x1 x2 x3 x4 x5 x6 (ix2 p k) : EReal) = (k0_pay9 (F := 𝕀) i x2 x1 x0 x3 x6 (ix2 p k) : EReal) * (1 + (x5 (ix3 0 0 k) : EReal)) + x4 (ix3 0 0 k) := by
    unfold hid k0_pay11 k0_pay10
    generalize k0_pay9 (F := 𝕀) i x2 x1 x0 x3 x6 = y
    pointwise []
  rw [e, pay9_apply]
  rfl

theorem rows_own (i : grid0.Coords) (x0 x1 : Vec 𝕀 S1x256x1024 .f32) (x2 x3 : Vec 𝕀 S1x8x1024 .f32) (r : Fin 256) (k : Fin 1024) :
    (rows (F := 𝕀) i x0 x1 x2 x3 (ix2 ⟨8 + r.val, by omega⟩ k) : EReal) = if 16 ≤ (i 0).val then x1 (ix3 0 r k) else x0 (ix3 0 r k) := by
  pointwise [rows]
  rw [latBit (i 0).val (i 0).isLt]
  split_ifs <;> rfl

theorem rows_prev (i : grid0.Coords) (x0 x1 : Vec 𝕀 S1x256x1024 .f32) (x2 x3 : Vec 𝕀 S1x8x1024 .f32) (r : Fin 8) (k : Fin 1024) :
    (rows (F := 𝕀) i x0 x1 x2 x3 (ix2 ⟨r.val, by omega⟩ k) : EReal) = x2 (ix3 0 r k) := by
  pointwise [rows]

theorem rows_next (i : grid0.Coords) (x0 x1 : Vec 𝕀 S1x256x1024 .f32) (x2 x3 : Vec 𝕀 S1x8x1024 .f32) (r : Fin 8) (k : Fin 1024) :
    (rows (F := 𝕀) i x0 x1 x2 x3 (ix2 ⟨264 + r.val, by omega⟩ k) : EReal) = x3 (ix3 0 r k) := by
  pointwise [rows]
  rw [dif_neg (by omega), dif_neg (by omega)]
  exact congrArg (fun i => x3 (ix3 0 i k)) (Fin.ext (by show 264 + r.val - 8 - 256 = r.val; omega))

variable (v29 : FVec 𝕀 S272x1024 .f32) (v31 : FVec 𝕀 S1x1024 .f32) (cst : 𝕀 .f32) (v36 : Vec 𝕀 S1x1x1024 .f32)

theorem pay14_apply (w : Vec 𝕀 S1024x640 .bf16) (p : Fin 272) (j : Fin 640) :
    (k0_pay14 (F := 𝕀) v29 v31 cst v36 w (ix2 p j) : EReal) = ∑ k, (k0_pay11 (F := 𝕀) v29 v31 cst v36 (ix2 p k) : EReal) * w (ix2 k j) := by
  unfold k0_pay14 k0_pay13
  generalize k0_pay11 (F := 𝕀) v29 v31 cst v36 = y
  pointwise []

theorem pay15_apply (w : Vec 𝕀 S1024x768 .bf16) (p : Fin 272) (j : Fin 768) :
    (k0_pay15 (F := 𝕀) v29 v31 cst v36 w (ix2 p j) : EReal) = ∑ k, (k0_pay11 (F := 𝕀) v29 v31 cst v36 (ix2 p k) : EReal) * w (ix2 k j) := by
  unfold k0_pay15 k0_pay13
  generalize k0_pay11 (F := 𝕀) v29 v31 cst v36 = y
  pointwise []

theorem pay16_apply (w : Vec 𝕀 S1024x640 .bf16) (r : Fin 256) (j : Fin 640) :
    (k0_pay16 (F := 𝕀) v29 v31 cst v36 w (ix2 r j) : EReal) = ∑ k, (k0_pay11 (F := 𝕀) v29 v31 cst v36 (ix2 ⟨8 + r.val, by omega⟩ k) : EReal) * w (ix2 k j) := by
  unfold k0_pay16 k0_pay12
  generalize k0_pay11 (F := 𝕀) v29 v31 cst v36 = y
  pointwise []

theorem pay22_apply (w : Vec 𝕀 S1024x512 .bf16) (r : Fin 256) (j : Fin 512) :
    (k0_pay22 (F := 𝕀) v29 v31 cst v36 w (ix2 r j) : EReal) = ∑ k, (k0_pay11 (F := 𝕀) v29 v31 cst v36 (ix2 ⟨8 + r.val, by omega⟩ k) : EReal) * w (ix2 k j) := by
  unfold k0_pay22 k0_pay12
  generalize k0_pay11 (F := 𝕀) v29 v31 cst v36 = y
  pointwise []

/-- The values, one column of the products to a row. -/
theorem v_apply (u : FVec 𝕀 S256x640 .f32) (d : Fin 128) (r : Fin 256) : (k0_pay29 (F := 𝕀) (k0_pay28 u) (ix3 0 d r) : EReal) = u (ix2 r ⟨512 + d.val, by omega⟩) := by
  pointwise [k0_pay29, k0_pay28]

theorem z_apply (u : FVec 𝕀 S256x512 .f32) (r : Fin 256) (d : Fin 384) : (k0_pay33 (F := 𝕀) u (ix3 0 r d) : EReal) = u (ix2 r ⟨d.val, by omega⟩) := by
  pointwise [k0_pay33]

theorem dt_apply (u : FVec 𝕀 S256x512 .f32) (r : Fin 256) (d : Fin 128) : (k0_pay1 (F := 𝕀) (k0_pay34 u) (ix3 0 r d) : EReal) = u (ix2 r ⟨384 + d.val, by omega⟩) := by
  pointwise [k0_pay1, k0_pay34]

/-- The row before a tile's row: at the first row it lies in the halo, which counts as zero unless the bit is set. -/
def before (b : BitVec 1) (U : Fin 272 → EReal) (r : Fin 256) : EReal :=
  if r.val = 0 then Scalar.select b (U ⟨7 + r.val, by omega⟩) 0 else U ⟨7 + r.val, by omega⟩

/-- The row after a tile's row: at the last row it lies in the halo, which counts as zero unless the bit is set. -/
def after (b : BitVec 1) (U : Fin 272 → EReal) (r : Fin 256) : EReal :=
  if r.val = 255 then Scalar.select b (U ⟨9 + r.val, by omega⟩) 0 else U ⟨9 + r.val, by omega⟩

/-- The three-row convolution of a tile's row. -/
def conv (bp bn : BitVec 1) (U : Fin 272 → EReal) (w : Fin 3 → EReal) (b : EReal) (r : Fin 256) : EReal :=
  before bp U r * w 0 + U ⟨8 + r.val, by omega⟩ * w 1 + after bn U r * w 2 + b

theorem before_eq (bp bn : BitVec 1) (U : Fin 272 → EReal) (r : Fin 256) :
    (if h : (8 + r.val + 272 - 1) % 272 < 8 then Scalar.select bp (U ⟨(8 + r.val + 272 - 1) % 272, by omega⟩) 0
      else if h : (8 + r.val + 272 - 1) % 272 - 8 < 256 then U ⟨8 + ((8 + r.val + 272 - 1) % 272 - 8), by omega⟩
      else Scalar.select bn (U ⟨264 + ((8 + r.val + 272 - 1) % 272 - 8 - 256), by omega⟩) 0) = before bp U r := by
  have hr := r.isLt
  have e : (8 + r.val + 272 - 1) % 272 = 7 + r.val := by omega
  unfold before
  by_cases h : r.val = 0
  · rw [dif_pos (by omega), if_pos h]
    exact congrArg (fun p => Scalar.select bp (U p) 0) (Fin.ext e)
  · rw [dif_neg (by omega), dif_pos (by omega), if_neg h]
    exact congrArg U (Fin.ext (by show 8 + ((8 + r.val + 272 - 1) % 272 - 8) = 7 + r.val; omega))

theorem after_eq (bp bn : BitVec 1) (U : Fin 272 → EReal) (r : Fin 256) :
    (if h : (8 + r.val + 272 - 271) % 272 < 8 then Scalar.select bp (U ⟨(8 + r.val + 272 - 271) % 272, by omega⟩) 0
      else if h : (8 + r.val + 272 - 271) % 272 - 8 < 256 then U ⟨8 + ((8 + r.val + 272 - 271) % 272 - 8), by omega⟩
      else Scalar.select bn (U ⟨264 + ((8 + r.val + 272 - 271) % 272 - 8 - 256), by omega⟩) 0) = after bn U r := by
  have hr := r.isLt
  have e : (8 + r.val + 272 - 271) % 272 = 9 + r.val := by omega
  unfold after
  by_cases h : r.val = 255
  · rw [dif_neg (by omega), dif_neg (by omega), if_pos h]
    exact congrArg (fun p => Scalar.select bn (U p) 0) (Fin.ext (by show 264 + ((8 + r.val + 272 - 271) % 272 - 8 - 256) = 9 + r.val; omega))
  · rw [dif_neg (by omega), dif_pos (by omega), if_neg h]
    exact congrArg U (Fin.ext (by show 8 + ((8 + r.val + 272 - 271) % 272 - 8) = 9 + r.val; omega))

theorem hy_apply (u : FVec 𝕀 S272x768 .f32) (bp bn : BitVec 1) (cw : Vec 𝕀 S3x768 .f32) (cb : Vec 𝕀 S1x768 .f32) (r : Fin 256) (d : Fin 768) :
    (k0_pay32 (F := 𝕀) u bp bn cw cb (ix3 0 r d) : EReal) = conv bp bn (fun p => u (ix2 p d)) (fun q => cw (ix2 q d)) (cb (ix2 0 d)) r := by
  pointwise [k0_pay32]
  refine congrArg (· + _) (congrArg₂ (· + ·) (congrArg (· + _) (congrArg (· * _) ?_)) (congrArg (· * _) ?_))
  · exact before_eq bp bn (fun p => u (ix2 p d)) r
  · exact after_eq bp bn (fun p => u (ix2 p d)) r

theorem xbc_apply (a : BitVec 32) (u : FVec 𝕀 S272x640 .f32) (cw : Vec 𝕀 S3x640 .f32) (cb : Vec 𝕀 S1x640 .f32) (r : Fin 256) (d : Fin 640) :
    (k0_pay31 (F := 𝕀) (k0_pay30 a u cw cb) (ix3 0 r d) : EReal)
      = (fun z : EReal => z * Ideal.logistic z) (conv (Scalar.andi (Scalar.cmpi .sge a 1#32) (Scalar.cmpi .slt a 16#32)) (Scalar.cmpi .slt a 15#32)
          (fun p => u (ix2 p d)) (fun q => cw (ix2 q d)) (cb (ix2 0 d)) r) := by
  pointwise [k0_pay31, k0_pay30]
  refine congrArg (fun z : EReal => z * Ideal.logistic z) ?_
  refine congrArg (· + _) (congrArg₂ (· + ·) (congrArg (· + _) (congrArg (· * _) ?_)) (congrArg (· * _) ?_))
  · exact before_eq _ _ (fun p => u (ix2 p d)) r
  · exact after_eq _ _ (fun p => u (ix2 p d)) r

/-! ## The packed weights -/

theorem pack_q (w : Vec 𝕀 S1x1024x640 .f32) (k : Fin 1024) (j : Fin 640) : (k0_pay2 (F := 𝕀) w (ix2 k j) : EReal) = w (ix3 0 k j) := by
  pointwise [k0_pay2]
theorem pack_x (w : Vec 𝕀 S1x1024x640 .f32) (k : Fin 1024) (j : Fin 640) : (k0_pay3 (F := 𝕀) w (ix2 k j) : EReal) = w (ix3 0 k j) := by
  pointwise [k0_pay3]
theorem pack_h (w : Vec 𝕀 S1x1024x780 .f32) (k : Fin 1024) (j : Fin 768) : (k0_pay5 (F := 𝕀) w (ix2 k j) : EReal) = w (ix3 0 k ⟨12 + j.val, by omega⟩) := by
  pointwise [k0_pay5, k0_pay4]
theorem pack_z (w : Vec 𝕀 S1x1024x384 .f32) (k : Fin 1024) (j : Fin 384) : (k0_pay6 (F := 𝕀) w (ix2 k j) : EReal) = w (ix3 0 k j) := by
  pointwise [k0_pay6]
theorem pack_t (w : Vec 𝕀 S1x1024x780 .f32) (k : Fin 1024) (j : Fin 128) : (k0_pay8 (F := 𝕀) (k0_pay7 w) (ix2 k j) : EReal) = if j.val < 12 then w (ix3 0 k ⟨j.val, by omega⟩) else 0 := by
  pointwise [k0_pay8, k0_pay7, k0_pay4]
  rw [dtBit j]
  split_ifs <;> rfl

end Cert.Kernel4Ideal.Inp
end
-- ==== Proof.InSpec.lean ====
module
public import proofs.«01_k».proof.Proof.MoeMath
/-! The input projection in plain terms: a row's product with a weight column, the three-row convolution along a stream, and the two streams joined. -/
@[expose] public section
noncomputable section
namespace Cert.Inproj
open Idealize.ShloMosaic Cert.Experts

/-- A stream's rows, normed, scaled and shifted, against one weight column. -/
def proj {N : ℕ} (x : Fin N → Fin 1024 → EReal) (g sc sh w : Fin 1024 → EReal) (n : Fin N) : EReal := ∑ k, inp (x n) g sc sh k * w k

/-- The three-row convolution along a stream: beyond the stream's ends the rows count as zero. -/
def along {N : ℕ} (P : Fin N → EReal) (w : Fin 3 → EReal) (b : EReal) (n : Fin N) : EReal :=
  (if h : 0 < n.val then P ⟨n.val - 1, by omega⟩ else 0) * w 0 + P n * w 1 + (if h : n.val + 1 < N then P ⟨n.val + 1, h⟩ else 0) * w 2 + b

/-- A number times its logistic value. -/
def silu (z : EReal) : EReal := z * Ideal.div 1 (1 + Ideal.exp (-z))

/-- The latent rows, then the context rows. -/
def join (f : Fin 4096 → EReal) (h : Fin 256 → EReal) (n : Fin 4352) : EReal :=
  if l : n.val < 4096 then f ⟨n.val, l⟩ else h ⟨n.val - 4096, by omega⟩

theorem join_lat (f : Fin 4096 → EReal) (h : Fin 256 → EReal) (n : Fin 4352) (s : ℕ) (hs : s < 4096) (e : n.val = s) : join f h n = f ⟨s, hs⟩ := by
  subst e
  exact dif_pos hs

theorem join_ctx (f : Fin 4096 → EReal) (h : Fin 256 → EReal) (n : Fin 4352) (r : Fin 256) (e : n.val = 4096 + r.val) : join f h n = h r := by
  unfold join
  rw [dif_neg (by omega)]
  exact congrArg h (Fin.ext (by show n.val - 4096 = r.val; omega))

end Cert.Inproj
end
-- ==== Proof.InReads.lean ====
module
public import proofs.«01_k».proof.Proof.Gen.Kernel4Ideal.Frame.Runs
public import proofs.«01_k».proof.Proof.InMath
public import proofs.«01_k».proof.Proof.InBlock
public import proofs.«01_k».proof.Proof.InSpec
/-! What the blocks of the input projection hold, of what is given. -/
@[expose] public section
set_option maxRecDepth 65536
noncomputable section
namespace Cert.Kernel4Ideal.Inp
open Idealize.ShloMosaic Idealize.ShloMosaic.TcCoe Idealize.ShloMosaic.Tactic
open Idealize.ShloMosaic.Pipeline (Dat Cfg Window BodyObligation cellOf)
open Cert.Experts Cert.Inproj Cert.Kernel4Ideal Cert.Kernel4Ideal.Gen
local notation "𝕀" => Idealize.ShloMosaic.Ideal
variable (m : (ℓ : Loc nD τ sig) → Buf (Elt 𝕀) ℓ) (c : Dev nD)

/-! ## Which rows each block holds -/

theorem coord : ∀ t : Fin cfg0.N, (cfg0.grid.coords t 0).val = t.val / 4 := (by decide +kernel : ∀ t : Fin grid0.N, (grid0.coords t 0).val = t.val / 4)
theorem idx_0 : ∀ t : Fin cfg0.N, t.val < 64 → win0_0.index t = ![t.val % 4, t.val / 4, 0] := (by decide +kernel : ∀ t : Fin grid0.N, t.val < 64 → win0_0.index t = ![t.val % 4, t.val / 4, 0])
theorem idx_1 : ∀ t : Fin cfg0.N, 64 ≤ t.val → win0_1.index t = ![t.val % 4, 0, 0] := (by decide +kernel : ∀ t : Fin grid0.N, 64 ≤ t.val → win0_1.index t = ![t.val % 4, 0, 0])
theorem idx_2 : ∀ t : Fin cfg0.N, 4 ≤ t.val ∧ t.val < 64 → win0_2.index t = ![t.val % 4, t.val / 4 * 32 - 1, 0] := (by decide +kernel : ∀ t : Fin grid0.N, 4 ≤ t.val ∧ t.val < 64 → win0_2.index t = ![t.val % 4, t.val / 4 * 32 - 1, 0])
theorem idx_3 : ∀ t : Fin cfg0.N, t.val < 60 → win0_3.index t = ![t.val % 4, t.val / 4 * 32 + 32, 0] := (by decide +kernel : ∀ t : Fin grid0.N, t.val < 60 → win0_3.index t = ![t.val % 4, t.val / 4 * 32 + 32, 0])
theorem idx_4l : ∀ t : Fin cfg0.N, t.val < 64 → win0_4.index t = ![t.val % 4, 0, 0] := (by decide +kernel : ∀ t : Fin grid0.N, t.val < 64 → win0_4.index t = ![t.val % 4, 0, 0])
theorem idx_4c : ∀ t : Fin cfg0.N, 64 ≤ t.val → win0_4.index t = ![4, 0, 0] := (by decide +kernel : ∀ t : Fin grid0.N, 64 ≤ t.val → win0_4.index t = ![4, 0, 0])
theorem idx_5l : ∀ t : Fin cfg0.N, t.val < 64 → win0_5.index t = ![t.val % 4, 0, 1] := (by decide +kernel : ∀ t : Fin grid0.N, t.val < 64 → win0_5.index t = ![t.val % 4, 0, 1])
theorem idx_5c : ∀ t : Fin cfg0.N, 64 ≤ t.val → win0_5.index t = ![4, 0, 1] := (by decide +kernel : ∀ t : Fin grid0.N, 64 ≤ t.val → win0_5.index t = ![4, 0, 1])
theorem idx_6 : ∀ t : Fin cfg0.N, win0_6.index t = ![0, 0] := (by decide +kernel : ∀ t : Fin grid0.N, win0_6.index t = ![0, 0])
theorem idx_7 : ∀ t : Fin cfg0.N, win0_7.index t = ![0, 0, 0] := (by decide +kernel : ∀ t : Fin grid0.N, win0_7.index t = ![0, 0, 0])
theorem idx_13 : ∀ t : Fin cfg0.N, win0_13.index t = ![0, 0] := (by decide +kernel : ∀ t : Fin grid0.N, win0_13.index t = ![0, 0])
theorem idx_14 : ∀ t : Fin cfg0.N, win0_14.index t = ![0, 0] := (by decide +kernel : ∀ t : Fin grid0.N, win0_14.index t = ![0, 0])
theorem idx_17 : ∀ t : Fin cfg0.N, win0_17.index t = ![t.val % 4, 0, t.val / 4] := (by decide +kernel : ∀ t : Fin grid0.N, win0_17.index t = ![t.val % 4, 0, t.val / 4])
theorem idx_18 : ∀ t : Fin cfg0.N, win0_18.index t = ![t.val % 4, t.val / 4, 0] := (by decide +kernel : ∀ t : Fin grid0.N, win0_18.index t = ![t.val % 4, t.val / 4, 0])
theorem idx_19 : ∀ t : Fin cfg0.N, win0_19.index t = ![t.val % 4, t.val / 4, 0] := (by decide +kernel : ∀ t : Fin grid0.N, win0_19.index t = ![t.val % 4, t.val / 4, 0])
theorem idx_20 : ∀ t : Fin cfg0.N, win0_20.index t = ![t.val % 4, t.val / 4, 0] := (by decide +kernel : ∀ t : Fin grid0.N, win0_20.index t = ![t.val % 4, t.val / 4, 0])
theorem idx_21 : ∀ t : Fin cfg0.N, win0_21.index t = ![t.val % 4, t.val / 4, 0] := (by decide +kernel : ∀ t : Fin grid0.N, win0_21.index t = ![t.val % 4, t.val / 4, 0])

theorem read_0 (W : FVec 𝕀 S4x4096x1024 .f32) (t : Fin cfg0.N) (h : t.val < 64) (r : Fin 256) (k : Fin 1024) :
    ((cfg0.win 0).blk t).view.read (Elt 𝕀) W (ix3 0 r k) = W (ix3 ⟨t.val % 4, by omega⟩ ⟨256 * (t.val / 4) + r.val, by omega⟩ k) := by
  blk_ext [idx_0 t h]

theorem read_1 (W : FVec 𝕀 S4x256x1024 .f32) (t : Fin cfg0.N) (h : 64 ≤ t.val) (r : Fin 256) (k : Fin 1024) :
    ((cfg0.win 1).blk t).view.read (Elt 𝕀) W (ix3 0 r k) = W (ix3 ⟨t.val % 4, by omega⟩ r k) := by
  blk_ext [idx_1 t h]

theorem read_2 (W : FVec 𝕀 S4x4096x1024 .f32) (t : Fin cfg0.N) (h : 4 ≤ t.val ∧ t.val < 64) (k : Fin 1024) :
    ((cfg0.win 2).blk t).view.read (Elt 𝕀) W (ix3 0 7 k) = W (ix3 ⟨t.val % 4, by omega⟩ ⟨256 * (t.val / 4) - 1, by omega⟩ k) := by
  blk_ext [idx_2 t h]

theorem read_3 (W : FVec 𝕀 S4x4096x1024 .f32) (t : Fin cfg0.N) (h : t.val < 60) (k : Fin 1024) :
    ((cfg0.win 3).blk t).view.read (Elt 𝕀) W (ix3 0 0 k) = W (ix3 ⟨t.val % 4, by omega⟩ ⟨256 * (t.val / 4) + 256, by omega⟩ k) := by
  blk_ext [idx_3 t h]

theorem read_4l (W : FVec 𝕀 S8x1x6144 .f32) (t : Fin cfg0.N) (h : t.val < 64) (k : Fin 1024) :
    ((cfg0.win 4).blk t).view.read (Elt 𝕀) W (ix3 0 0 k) = W (ix3 ⟨t.val % 4, by omega⟩ 0 ⟨0 * 1024 + k.val, by omega⟩) := by
  blk_ext [idx_4l t h]

theorem read_4c (W : FVec 𝕀 S8x1x6144 .f32) (t : Fin cfg0.N) (h : 64 ≤ t.val) (k : Fin 1024) :
    ((cfg0.win 4).blk t).view.read (Elt 𝕀) W (ix3 0 0 k) = W (ix3 4 0 ⟨0 * 1024 + k.val, by omega⟩) := by
  blk_ext [idx_4c t h]

theorem read_5l (W : FVec 𝕀 S8x1x6144 .f32) (t : Fin cfg0.N) (h : t.val < 64) (k : Fin 1024) :
    ((cfg0.win 5).blk t).view.read (Elt 𝕀) W (ix3 0 0 k) = W (ix3 ⟨t.val % 4, by omega⟩ 0 ⟨1 * 1024 + k.val, by omega⟩) := by
  blk_ext [idx_5l t h]

theorem read_5c (W : FVec 𝕀 S8x1x6144 .f32) (t : Fin cfg0.N) (h : 64 ≤ t.val) (k : Fin 1024) :
    ((cfg0.win 5).blk t).view.read (Elt 𝕀) W (ix3 0 0 k) = W (ix3 4 0 ⟨1 * 1024 + k.val, by omega⟩) := by
  blk_ext [idx_5c t h]

theorem read_6 (W : FVec 𝕀 S1x1024 .f32) (t : Fin cfg0.N) (k : Fin 1024) :
    ((cfg0.win 6).blk t).view.read (Elt 𝕀) W (ix2 0 k) = W (ix2 0 k) := by
  blk_ext [idx_6 t]

theorem read_7 (W : FVec 𝕀 S1x1024x2444 .f32) (t : Fin cfg0.N) (k : Fin 1024) (j : Fin 2444) :
    ((cfg0.win 7).blk t).view.read (Elt 𝕀) W (ix3 0 k j) = W (ix3 0 k j) := by
  blk_ext [idx_7 t]

theorem read_13 (W : FVec 𝕀 S3x1408 .f32) (t : Fin cfg0.N) (q : Fin 3) (j : Fin 1408) :
    ((cfg0.win 13).blk t).view.read (Elt 𝕀) W (ix2 q j) = W (ix2 q j) := by
  blk_ext [idx_13 t]

theorem read_14 (W : FVec 𝕀 S1x1408 .f32) (t : Fin cfg0.N) (j : Fin 1408) :
    ((cfg0.win 14).blk t).view.read (Elt 𝕀) W (ix2 0 j) = W (ix2 0 j) := by
  blk_ext [idx_14 t]

/-! ## What the call reads, of what is given -/

def xIn : FVec 𝕀 S4x4096x1024 .f32 := m (c.tc.loc main_arg0)
def cxIn : FVec 𝕀 S4x256x1024 .f32 := m (c.tc.loc main_arg1)
def shIn : FVec 𝕀 S4x1024 .f32 := m (c.tc.loc main_arg2)
def scIn : FVec 𝕀 S4x1024 .f32 := m (c.tc.loc main_arg3)
def cshIn : FVec 𝕀 S1024 .f32 := m (c.tc.loc main_arg4)
def cscIn : FVec 𝕀 S1024 .f32 := m (c.tc.loc main_arg5)
def gIn : FVec 𝕀 S1024 .f32 := m (c.tc.loc main_arg6)
def wIn : FVec 𝕀 S1024x2444 .f32 := m (c.tc.loc main_arg7)
def cwxIn : FVec 𝕀 S3x640 .f32 := m (c.tc.loc main_arg10)
def cbxIn : FVec 𝕀 S640 .f32 := m (c.tc.loc main_arg11)
def cwhIn : FVec 𝕀 S3x768 .f32 := m (c.tc.loc main_arg12)
def cbhIn : FVec 𝕀 S768 .f32 := m (c.tc.loc main_arg13)

theorem host_gain : (V m c main_v63 : FVec 𝕀 S1x1024 .f32) = fun i => shapeCast S1x1024 (gIn m c) shapeCasts_S1024_S1x1024 i := by
  rfl
theorem host_weights : (V m c main_v64 : FVec 𝕀 S1x1024x2444 .f32) = broadcastInDim S1x1024x2444 ![1, 2] bcast_S1024x2444_S1x1024x2444_1_2 (wIn m c) := by
  rfl
theorem gain_flat (v : FVec 𝕀 S1024 .f32) (k : Fin 1024) : shapeCast S1x1024 v shapeCasts_S1024_S1x1024 (ix2 0 k) = v (ix1 k) := by
  pointwise []
theorem weights_flat (w : FVec 𝕀 S1024x2444 .f32) (k : Fin 1024) (j : Fin 2444) :
    broadcastInDim S1x1024x2444 ![1, 2] bcast_S1024x2444_S1x1024x2444_1_2 w (ix3 0 k j) = w (ix2 k j) := by
  pointwise []
theorem host_g (k : Fin 1024) : (V m c main_v63 : FVec 𝕀 S1x1024 .f32) (ix2 0 k) = gIn m c (ix1 k) := (congrFun (host_gain m c) _).trans (gain_flat _ k)
theorem host_w (k : Fin 1024) (j : Fin 2444) : (V m c main_v64 : FVec 𝕀 S1x1024x2444 .f32) (ix3 0 k j) = wIn m c (ix2 k j) := (congrFun (host_weights m c) _).trans (weights_flat _ k j)

theorem host_cw : (V m c main_v73 : FVec 𝕀 S3x1408 .f32) = concatenate S3x1408 1 [⟨S3x640, cwxIn m c⟩, ⟨S3x768, cwhIn m c⟩] concatenates_S3x640_S3x768_S3x1408_d1 := by
  rfl
theorem host_cb : (V m c main_v75 : FVec 𝕀 S1x1408 .f32) = fun i => shapeCast S1x1408 (concatenate S1408 0 [⟨S640, cbxIn m c⟩, ⟨S768, cbhIn m c⟩] concatenates_S640_S768_S1408_d0 : FVec 𝕀 S1408 .f32) shapeCasts_S1408_S1x1408 i := by
  rfl

theorem cat_cw_x (a : FVec 𝕀 S3x640 .f32) (b : FVec 𝕀 S3x768 .f32) (q : Fin 3) (j : Fin 640) :
    concatenate S3x1408 1 [⟨S3x640, a⟩, ⟨S3x768, b⟩] concatenates_S3x640_S3x768_S3x1408_d1 (ix2 q ⟨j.val, by omega⟩) = a (ix2 q j) := by
  pointwise []
theorem cat_cw_h (a : FVec 𝕀 S3x640 .f32) (b : FVec 𝕀 S3x768 .f32) (q : Fin 3) (j : Fin 768) :
    concatenate S3x1408 1 [⟨S3x640, a⟩, ⟨S3x768, b⟩] concatenates_S3x640_S3x768_S3x1408_d1 (ix2 q ⟨640 + j.val, by omega⟩) = b (ix2 q j) := by
  pointwise []
theorem cat_cb_x (a : FVec 𝕀 S640 .f32) (b : FVec 𝕀 S768 .f32) (j : Fin 640) :
    shapeCast S1x1408 (concatenate S1408 0 [⟨S640, a⟩, ⟨S768, b⟩] concatenates_S640_S768_S1408_d0 : FVec 𝕀 S1408 .f32) shapeCasts_S1408_S1x1408 (ix2 0 ⟨j.val, by omega⟩) = a (ix1 j) := by
  pointwise []
theorem cat_cb_h (a : FVec 𝕀 S640 .f32) (b : FVec 𝕀 S768 .f32) (j : Fin 768) :
    shapeCast S1x1408 (concatenate S1408 0 [⟨S640, a⟩, ⟨S768, b⟩] concatenates_S640_S768_S1408_d0 : FVec 𝕀 S1408 .f32) shapeCasts_S1408_S1x1408 (ix2 0 ⟨640 + j.val, by omega⟩) = b (ix1 j) := by
  pointwise []

/-- Rows of zeros, and columns of zeros: the part of the modulation array the call does not read. -/
def noRows : FVec 𝕀 S3x1024 .f32 := broadcastInDim S3x1024 ![] bcast_S_S3x1024 (constant S_ .f32 0x00000000#32 : FVec 𝕀 S_ .f32)
def noCols : FVec 𝕀 S8x4096 .f32 := broadcastInDim S8x4096 ![] bcast_S_S8x4096 (constant S_ .f32 0x00000000#32 : FVec 𝕀 S_ .f32)
/-- A vector as one row. -/
def oneRow (v : FVec 𝕀 S1024 .f32) : FVec 𝕀 S1x1024 .f32 := broadcastInDim S1x1024 ![1] bcast_S1024_S1x1024_1 v
/-- The batches' rows, the context's row, rows of zeros. -/
def fiveRows (a : FVec 𝕀 S4x1024 .f32) (v : FVec 𝕀 S1024 .f32) : FVec 𝕀 S8x1024 .f32 :=
  concatenate S8x1024 0 [⟨S4x1024, a⟩, ⟨S1x1024, oneRow v⟩, ⟨S3x1024, noRows⟩] concatenates_S4x1024_S1x1024_S3x1024_S8x1024_d0

theorem host_mods : (V m c main_v7 : FVec 𝕀 S8x1x6144 .f32) = fun i => shapeCast S8x1x6144
    (concatenate S8x6144 1 [⟨S8x1024, fiveRows (shIn m c) (cshIn m c)⟩, ⟨S8x1024, fiveRows (scIn m c) (cscIn m c)⟩, ⟨S8x4096, noCols⟩]
      concatenates_S8x1024_S8x1024_S8x4096_S8x6144_d1 : FVec 𝕀 S8x6144 .f32) shapeCasts_S8x6144_S8x1x6144 i := by
  rfl

theorem oneRow_apply (v : FVec 𝕀 S1024 .f32) (k : Fin 1024) : oneRow v (ix2 0 k) = v (ix1 k) := by
  pointwise [oneRow]

theorem mods_flat (W : FVec 𝕀 S8x6144 .f32) (b : Fin 8) (k : Fin 6144) :
    shapeCast S8x1x6144 W shapeCasts_S8x6144_S8x1x6144 (ix3 b 0 k) = W (ix2 b k) := by
  pointwise []

theorem mods_left (a b : FVec 𝕀 S8x1024 .f32) (z : FVec 𝕀 S8x4096 .f32) (q : Fin 8) (k : Fin 1024) :
    concatenate S8x6144 1 [⟨S8x1024, a⟩, ⟨S8x1024, b⟩, ⟨S8x4096, z⟩] concatenates_S8x1024_S8x1024_S8x4096_S8x6144_d1 (ix2 q ⟨0 * 1024 + k.val, by omega⟩) = a (ix2 q k) := by
  pointwise []
theorem mods_right (a b : FVec 𝕀 S8x1024 .f32) (z : FVec 𝕀 S8x4096 .f32) (q : Fin 8) (k : Fin 1024) :
    concatenate S8x6144 1 [⟨S8x1024, a⟩, ⟨S8x1024, b⟩, ⟨S8x4096, z⟩] concatenates_S8x1024_S8x1024_S8x4096_S8x6144_d1 (ix2 q ⟨1 * 1024 + k.val, by omega⟩) = b (ix2 q k) := by
  pointwise []

theorem rows_lat (a : FVec 𝕀 S4x1024 .f32) (u : FVec 𝕀 S1x1024 .f32) (z : FVec 𝕀 S3x1024 .f32) (q : Fin 4) (k : Fin 1024) :
    concatenate S8x1024 0 [⟨S4x1024, a⟩, ⟨S1x1024, u⟩, ⟨S3x1024, z⟩] concatenates_S4x1024_S1x1024_S3x1024_S8x1024_d0 (ix2 ⟨q.val, by omega⟩ k) = a (ix2 q k) := by
  pointwise []
theorem rows_ctx (a : FVec 𝕀 S4x1024 .f32) (u : FVec 𝕀 S1x1024 .f32) (z : FVec 𝕀 S3x1024 .f32) (k : Fin 1024) :
    concatenate S8x1024 0 [⟨S4x1024, a⟩, ⟨S1x1024, u⟩, ⟨S3x1024, z⟩] concatenates_S4x1024_S1x1024_S3x1024_S8x1024_d0 (ix2 4 k) = u (ix2 0 k) := by
  pointwise []

theorem host_shl (q : Fin 4) (k : Fin 1024) : (V m c main_v7 : FVec 𝕀 S8x1x6144 .f32) (ix3 ⟨q.val, by omega⟩ 0 ⟨0 * 1024 + k.val, by omega⟩) = shIn m c (ix2 q k) := by
  refine (congrFun (host_mods m c) _).trans ((mods_flat _ _ _).trans ((mods_left _ _ _ _ k).trans ?_))
  exact rows_lat _ _ _ q k
theorem host_shc (k : Fin 1024) : (V m c main_v7 : FVec 𝕀 S8x1x6144 .f32) (ix3 4 0 ⟨0 * 1024 + k.val, by omega⟩) = cshIn m c (ix1 k) := by
  refine (congrFun (host_mods m c) _).trans ((mods_flat _ _ _).trans ((mods_left _ _ _ _ k).trans ?_))
  exact (rows_ctx _ _ _ k).trans (oneRow_apply _ k)

theorem host_scl (q : Fin 4) (k : Fin 1024) : (V m c main_v7 : FVec 𝕀 S8x1x6144 .f32) (ix3 ⟨q.val, by omega⟩ 0 ⟨1 * 1024 + k.val, by omega⟩) = scIn m c (ix2 q k) := by
  refine (congrFun (host_mods m c) _).trans ((mods_flat _ _ _).trans ((mods_right _ _ _ _ k).trans ?_))
  exact rows_lat _ _ _ q k
theorem host_scc (k : Fin 1024) : (V m c main_v7 : FVec 𝕀 S8x1x6144 .f32) (ix3 4 0 ⟨1 * 1024 + k.val, by omega⟩) = cscIn m c (ix1 k) := by
  refine (congrFun (host_mods m c) _).trans ((mods_flat _ _ _).trans ((mods_right _ _ _ _ k).trans ?_))
  exact (rows_ctx _ _ _ k).trans (oneRow_apply _ k)

theorem blk_sh (t : Fin cfg0.N) (h : t.val < 64) (k : Fin 1024) : iblk m c 4 t (ix3 0 0 k) = shIn m c (ix2 ⟨t.val % 4, by omega⟩ k) :=
  (read_4l (V m c main_v7) t h k).trans (host_shl m c ⟨t.val % 4, by omega⟩ k)
theorem blk_sc (t : Fin cfg0.N) (h : t.val < 64) (k : Fin 1024) : iblk m c 5 t (ix3 0 0 k) = scIn m c (ix2 ⟨t.val % 4, by omega⟩ k) :=
  (read_5l (V m c main_v7) t h k).trans (host_scl m c ⟨t.val % 4, by omega⟩ k)
theorem blk_csh (t : Fin cfg0.N) (h : 64 ≤ t.val) (k : Fin 1024) : iblk m c 4 t (ix3 0 0 k) = cshIn m c (ix1 k) :=
  (read_4c (V m c main_v7) t h k).trans (host_shc m c k)
theorem blk_csc (t : Fin cfg0.N) (h : 64 ≤ t.val) (k : Fin 1024) : iblk m c 5 t (ix3 0 0 k) = cscIn m c (ix1 k) :=
  (read_5c (V m c main_v7) t h k).trans (host_scc m c k)
theorem blk_g (t : Fin cfg0.N) (k : Fin 1024) : iblk m c 6 t (ix2 0 k) = gIn m c (ix1 k) := (read_6 (V m c main_v63) t k).trans (host_g m c k)
theorem blk_w (t : Fin cfg0.N) (k : Fin 1024) (j : Fin 2444) : iblk m c 7 t (ix3 0 k j) = wIn m c (ix2 k j) := (read_7 (V m c main_v64) t k j).trans (host_w m c k j)
theorem blk_x (t : Fin cfg0.N) (h : t.val < 64) (r : Fin 256) (k : Fin 1024) :
    iblk m c 0 t (ix3 0 r k) = xIn m c (ix3 ⟨t.val % 4, by omega⟩ ⟨256 * (t.val / 4) + r.val, by omega⟩ k) := read_0 (V m c main_arg0) t h r k
theorem blk_cx (t : Fin cfg0.N) (h : 64 ≤ t.val) (r : Fin 256) (k : Fin 1024) :
    iblk m c 1 t (ix3 0 r k) = cxIn m c (ix3 ⟨t.val % 4, by omega⟩ r k) := read_1 (V m c main_arg1) t h r k
theorem blk_prev (t : Fin cfg0.N) (h : 4 ≤ t.val ∧ t.val < 64) (k : Fin 1024) :
    iblk m c 2 t (ix3 0 7 k) = xIn m c (ix3 ⟨t.val % 4, by omega⟩ ⟨256 * (t.val / 4) - 1, by omega⟩ k) := read_2 (V m c main_arg0) t h k
theorem blk_next (t : Fin cfg0.N) (h : t.val < 60) (k : Fin 1024) :
    iblk m c 3 t (ix3 0 0 k) = xIn m c (ix3 ⟨t.val % 4, by omega⟩ ⟨256 * (t.val / 4) + 256, by omega⟩ k) := read_3 (V m c main_arg0) t h k

/-- The convolution weights a tile reads, the state-space columns then the others. -/

def cwx {F : FTy → Type} [FloatOps F] (X : Vec F S3x1408 .f32) : Vec F S3x640 .f32 := View.ld X (Rect.unit (s := S3x1408) ![0, 0] S3x640.size inb_S3x1408_S3x640_0_0)
theorem ld_cwx (X : Vec 𝕀 S3x1408 .f32) (q : Fin 3) (j : Fin 640) : (cwx (F := 𝕀) X (ix2 q j) : EReal) = X (ix2 q ⟨j.val, by omega⟩) := by
  pointwise [cwx]
theorem blk_cwx (t : Fin cfg0.N) (q : Fin 3) (j : Fin 640) : cwx (F := 𝕀) (iblk m c 13 t) (ix2 q j) = cwxIn m c (ix2 q j) :=
  (ld_cwx (iblk m c 13 t) q j).trans ((read_13 (V m c main_v73) t q _).trans ((congrFun (host_cw m c) _).trans (cat_cw_x _ _ q j)))

def cwh {F : FTy → Type} [FloatOps F] (X : Vec F S3x1408 .f32) : Vec F S3x768 .f32 := View.ld X (Rect.unit (s := S3x1408) ![0, 640] S3x768.size inb_S3x1408_S3x768_0_640)
theorem ld_cwh (X : Vec 𝕀 S3x1408 .f32) (q : Fin 3) (j : Fin 768) : (cwh (F := 𝕀) X (ix2 q j) : EReal) = X (ix2 q ⟨640 + j.val, by omega⟩) := by
  pointwise [cwh]
theorem blk_cwh (t : Fin cfg0.N) (q : Fin 3) (j : Fin 768) : cwh (F := 𝕀) (iblk m c 13 t) (ix2 q j) = cwhIn m c (ix2 q j) :=
  (ld_cwh (iblk m c 13 t) q j).trans ((read_13 (V m c main_v73) t q _).trans ((congrFun (host_cw m c) _).trans (cat_cw_h _ _ q j)))

def cbx {F : FTy → Type} [FloatOps F] (X : Vec F S1x1408 .f32) : Vec F S1x640 .f32 := View.ld X (Rect.unit (s := S1x1408) ![0, 0] S1x640.size inb_S1x1408_S1x640_0_0)
theorem ld_cbx (X : Vec 𝕀 S1x1408 .f32) (j : Fin 640) : (cbx (F := 𝕀) X (ix2 0 j) : EReal) = X (ix2 0 ⟨j.val, by omega⟩) := by
  pointwise [cbx]
theorem blk_cbx (t : Fin cfg0.N) (j : Fin 640) : cbx (F := 𝕀) (iblk m c 14 t) (ix2 0 j) = cbxIn m c (ix1 j) :=
  (ld_cbx (iblk m c 14 t) j).trans ((read_14 (V m c main_v75) t _).trans ((congrFun (host_cb m c) _).trans (cat_cb_x _ _ j)))

def cbh {F : FTy → Type} [FloatOps F] (X : Vec F S1x1408 .f32) : Vec F S1x768 .f32 := View.ld X (Rect.unit (s := S1x1408) ![0, 640] S1x768.size inb_S1x1408_S1x768_0_640)
theorem ld_cbh (X : Vec 𝕀 S1x1408 .f32) (j : Fin 768) : (cbh (F := 𝕀) X (ix2 0 j) : EReal) = X (ix2 0 ⟨640 + j.val, by omega⟩) := by
  pointwise [cbh]
theorem blk_cbh (t : Fin cfg0.N) (j : Fin 768) : cbh (F := 𝕀) (iblk m c 14 t) (ix2 0 j) = cbhIn m c (ix1 j) :=
  (ld_cbh (iblk m c 14 t) j).trans ((read_14 (V m c main_v75) t _).trans ((congrFun (host_cb m c) _).trans (cat_cb_h _ _ j)))

end Cert.Kernel4Ideal.Inp
end
-- ==== Proof.InPack.lean ====
module
public import proofs.«01_k».proof.Proof.InReads
/-! The packed weights, column by column. -/
@[expose] public section
set_option maxRecDepth 65536
noncomputable section
namespace Cert.Kernel4Ideal.Inp
open Idealize.ShloMosaic Idealize.ShloMosaic.TcCoe Idealize.ShloMosaic.Tactic
open Idealize.ShloMosaic.Pipeline (Dat Cfg Window BodyObligation cellOf)
open Cert.Experts Cert.Inproj Cert.Kernel4Ideal Cert.Kernel4Ideal.Gen
local notation "𝕀" => Idealize.ShloMosaic.Ideal

theorem not_in (o w : ℕ) (inb : ∀ a, (![0, o] : Fin 2 → ℕ) a + (![1024, w] : Fin 2 → ℕ) a ≤ S1024x2560.size a) (k : Fin 1024) (j : Fin 2560) (h : j.val < o ∨ o + w ≤ j.val) :
    (ix2 k j : S1024x2560.Idx) ∉ (Rect.unit (s := S1024x2560) ![0, o] ![1024, w] inb).set := by
  rw [Rect.mem_set_unit]
  intro hh
  have h1 : o ≤ j.val := (hh 1).1
  have h2 : j.val < o + w := (hh 1).2
  omega

theorem at_piece (o w : ℕ) (inb : ∀ a, (![0, o] : Fin 2 → ℕ) a + (![1024, w] : Fin 2 → ℕ) a ≤ S1024x2560.size a) (k : Fin 1024) (l : Fin w) (j : Fin 2560) (h : j.val = o + l.val) :
    (Rect.unit (s := S1024x2560) ![0, o] ![1024, w] inb).emb (ix2 k l : (⟨2, ![1024, w]⟩ : Shape).Idx) = (ix2 k j : S1024x2560.Idx) := by
  funext a
  refine Fin.cases ?_ (fun a => Fin.cases ?_ (fun a => a.elim0) a) a
  · exact Fin.ext (by show 0 + 1 * k.val = k.val; omega)
  · exact Fin.ext (by show o + 1 * l.val = j.val; omega)

variable (x7 : Vec 𝕀 S1x1024x2444 .f32)

/-- A column off a stored piece is the earlier stores'. -/
theorem skip (o w : ℕ) (inb : ∀ a, (![0, o] : Fin 2 → ℕ) a + (![1024, w] : Fin 2 → ℕ) a ≤ S1024x2560.size a)
    (u : FVec 𝕀 (⟨2, ![1024, w]⟩ : Shape) .bf16) (L : List (View.Piece (Elt 𝕀) S1024x2560 .bf16)) (k : Fin 1024) (j : Fin 2560) (h : j.val < o ∨ o + w ≤ j.val) :
    View.canon (Val := Elt 𝕀) (⟨Rect.unit (s := S1024x2560) ![0, o] ![1024, w] inb, u⟩ :: L) (ix2 k j) = View.canon L (ix2 k j) :=
  View.canon_cons_of_not_mem _ _ (not_in o w inb k j h)

/-- A column of a stored piece, of the whole list of stores. -/
theorem piece_at (o w : ℕ) (inb : ∀ a, (![0, o] : Fin 2 → ℕ) a + (![1024, w] : Fin 2 → ℕ) a ≤ S1024x2560.size a)
    (u : FVec 𝕀 (⟨2, ![1024, w]⟩ : Shape) .bf16) (L : List (View.Piece (Elt 𝕀) S1024x2560 .bf16)) (k : Fin 1024) (l : Fin w) (j : Fin 2560) (h : j.val = o + l.val) :
    View.canon (Val := Elt 𝕀) (⟨Rect.unit (s := S1024x2560) ![0, o] ![1024, w] inb, u⟩ :: L) (ix2 k j) = u (ix2 k l) := by
  rw [← at_piece o w inb k l j h]
  exact View.canon_cons_emb _ _ _ _

theorem at_t (k : Fin 1024) (j : Fin 128) : (pack (F := 𝕀) x7 (ix2 k ⟨2432 + j.val, by omega⟩) : EReal) = if h : j.val < 12 then x7 (ix3 0 k ⟨1664 + j.val, by omega⟩) else 0 := by
  unfold pack
  refine (piece_at 2432 128 _ _ _ k j _ rfl).trans ?_
  refine (pack_t _ k j).trans ?_
  by_cases h : j.val < 12
  · rw [if_pos h, dif_pos h]
    pointwise []
  · rw [if_neg h, dif_neg h]

theorem at_z (k : Fin 1024) (j : Fin 384) : (pack (F := 𝕀) x7 (ix2 k ⟨2048 + j.val, by omega⟩) : EReal) = x7 (ix3 0 k ⟨640 + j.val, by omega⟩) := by
  unfold pack
  refine (skip 2432 128 _ _ _ k _ (.inl (by show 2048 + j.val < 2432; omega))).trans ?_
  refine (piece_at 2048 384 _ _ _ k j _ rfl).trans ?_
  refine (pack_z _ k j).trans ?_
  pointwise []

theorem at_h (k : Fin 1024) (j : Fin 768) : (pack (F := 𝕀) x7 (ix2 k ⟨1280 + j.val, by omega⟩) : EReal) = x7 (ix3 0 k ⟨1676 + j.val, by omega⟩) := by
  unfold pack
  refine (skip 2432 128 _ _ _ k _ (.inl (by show 1280 + j.val < 2432; omega))).trans ?_
  refine (skip 2048 384 _ _ _ k _ (.inl (by show 1280 + j.val < 2048; omega))).trans ?_
  refine (piece_at 1280 768 _ _ _ k j _ rfl).trans ?_
  refine (pack_h _ k j).trans ?_
  pointwise []
  exact congrArg (fun i => x7 (ix3 0 k i)) (Fin.ext (by show 1664 + (12 + j.val) = 1676 + j.val; omega))

theorem at_x (k : Fin 1024) (j : Fin 640) : (pack (F := 𝕀) x7 (ix2 k ⟨640 + j.val, by omega⟩) : EReal) = x7 (ix3 0 k ⟨1024 + j.val, by omega⟩) := by
  unfold pack
  refine (skip 2432 128 _ _ _ k _ (.inl (by show 640 + j.val < 2432; omega))).trans ?_
  refine (skip 2048 384 _ _ _ k _ (.inl (by show 640 + j.val < 2048; omega))).trans ?_
  refine (skip 1280 768 _ _ _ k _ (.inl (by show 640 + j.val < 1280; omega))).trans ?_
  refine (piece_at 640 640 _ _ _ k j _ rfl).trans ?_
  refine (pack_x _ k j).trans ?_
  pointwise []

theorem at_q (k : Fin 1024) (j : Fin 640) : (pack (F := 𝕀) x7 (ix2 k ⟨0 + j.val, by omega⟩) : EReal) = x7 (ix3 0 k ⟨j.val, by omega⟩) := by
  unfold pack
  refine (skip 2432 128 _ _ _ k _ (.inl (by show 0 + j.val < 2432; omega))).trans ?_
  refine (skip 2048 384 _ _ _ k _ (.inl (by show 0 + j.val < 2048; omega))).trans ?_
  refine (skip 1280 768 _ _ _ k _ (.inl (by show 0 + j.val < 1280; omega))).trans ?_
  refine (skip 640 640 _ _ _ k _ (.inl (by show 0 + j.val < 640; omega))).trans ?_
  refine (piece_at 0 640 _ _ _ k j _ rfl).trans ?_
  refine (pack_q _ k j).trans ?_
  pointwise []

theorem wQkv_apply (wb : Vec 𝕀 S1024x2560 .bf16) (k : Fin 1024) (j : Fin 640) : (wQkv (F := 𝕀) wb (ix2 k j) : EReal) = wb (ix2 k ⟨0 + j.val, by omega⟩) := by
  pointwise [wQkv]

theorem wXbc_apply (wb : Vec 𝕀 S1024x2560 .bf16) (k : Fin 1024) (j : Fin 640) : (wXbc (F := 𝕀) wb (ix2 k j) : EReal) = wb (ix2 k ⟨640 + j.val, by omega⟩) := by
  pointwise [wXbc]

theorem wHy_apply (wb : Vec 𝕀 S1024x2560 .bf16) (k : Fin 1024) (j : Fin 768) : (wHy (F := 𝕀) wb (ix2 k j) : EReal) = wb (ix2 k ⟨1280 + j.val, by omega⟩) := by
  pointwise [wHy]

theorem wZdt_apply (wb : Vec 𝕀 S1024x2560 .bf16) (k : Fin 1024) (j : Fin 512) : (wZdt (F := 𝕀) wb (ix2 k j) : EReal) = wb (ix2 k ⟨2048 + j.val, by omega⟩) := by
  pointwise [wZdt]

end Cert.Kernel4Ideal.Inp
end
-- ==== Proof.InTile.lean ====
module
public import proofs.«01_k».proof.Proof.InPack
/-! A tile of the input projection, in terms of what is given. -/
@[expose] public section
set_option maxRecDepth 65536
noncomputable section
namespace Cert.Kernel4Ideal.Inp
open Idealize.ShloMosaic Idealize.ShloMosaic.TcCoe Idealize.ShloMosaic.Tactic
open Idealize.ShloMosaic.Pipeline (Dat Cfg Window BodyObligation cellOf)
open Cert.Experts Cert.Inproj Cert.Kernel4Ideal Cert.Kernel4Ideal.Gen
local notation "𝕀" => Idealize.ShloMosaic.Ideal

variable (m : (ℓ : Loc nD τ sig) → Buf (Elt 𝕀) ℓ) (c : Dev nD)

/-- A latent row's product with a weight column. -/
def latCol (b : Fin 4) (j : Fin 2444) : Fin 4096 → EReal :=
  proj (fun n k => xIn m c (ix3 b n k)) (fun k => gIn m c (ix1 k)) (fun k => scIn m c (ix2 b k)) (fun k => shIn m c (ix2 b k)) (fun k => wIn m c (ix2 k j))

/-- A context row's product with a weight column. -/
def ctxCol (b : Fin 4) (j : Fin 2444) : Fin 256 → EReal :=
  proj (fun n k => cxIn m c (ix3 b n k)) (fun k => gIn m c (ix1 k)) (fun k => cscIn m c (ix1 k)) (fun k => cshIn m c (ix1 k)) (fun k => wIn m c (ix2 k j))

/-- The normed rows of a point's tile. -/
def hidAt (t : Fin cfg0.N) : FVec 𝕀 S272x1024 .f32 :=
  hid (F := 𝕀) (grid0.coords t) (iblk m c 0 t) (iblk m c 1 t) (iblk m c 2 t) (iblk m c 3 t) (iblk m c 4 t) (iblk m c 5 t) (iblk m c 6 t)

/-- The rows of a point's tile before the norm. -/
def rowsAt (t : Fin cfg0.N) : FVec 𝕀 S272x1024 .f32 :=
  rows (F := 𝕀) (grid0.coords t) (iblk m c 0 t) (iblk m c 1 t) (iblk m c 2 t) (iblk m c 3 t)

theorem inp_congr {x x' g g' sc sc' sh sh' : Fin 1024 → EReal} (hx : ∀ k, x k = x' k) (hg : ∀ k, g k = g' k) (hsc : ∀ k, sc k = sc' k) (hsh : ∀ k, sh k = sh' k) (k : Fin 1024) :
    inp x g sc sh k = inp x' g' sc' sh' k := by
  rw [show x = x' from funext hx, show g = g' from funext hg, show sc = sc' from funext hsc, show sh = sh' from funext hsh]

theorem col_lat (t : Fin cfg0.N) (h : t.val < 64) (p : Fin 272) (n : Fin 4096) (hr : ∀ k, (rowsAt m c t (ix2 p k) : EReal) = xIn m c (ix3 ⟨t.val % 4, by omega⟩ n k))
    (w : Fin 1024 → EReal) (j : Fin 2444) (hw : ∀ k, w k = wIn m c (ix2 k j)) :
    ∑ k, (hidAt m c t (ix2 p k) : EReal) * w k = latCol m c ⟨t.val % 4, by omega⟩ j n := by
  refine Finset.sum_congr rfl fun k _ => congrArg₂ (· * ·) ?_ (hw k)
  exact (hid_apply (grid0.coords t) (iblk m c 0 t) (iblk m c 1 t) (iblk m c 2 t) (iblk m c 3 t) (iblk m c 4 t) (iblk m c 5 t) (iblk m c 6 t) p k).trans
    (inp_congr hr (fun k => blk_g m c t k) (fun k => blk_sc m c t h k) (fun k => blk_sh m c t h k) k)

theorem col_ctx (t : Fin cfg0.N) (h : 64 ≤ t.val) (p : Fin 272) (n : Fin 256) (hr : ∀ k, (rowsAt m c t (ix2 p k) : EReal) = cxIn m c (ix3 ⟨t.val % 4, by omega⟩ n k))
    (w : Fin 1024 → EReal) (j : Fin 2444) (hw : ∀ k, w k = wIn m c (ix2 k j)) :
    ∑ k, (hidAt m c t (ix2 p k) : EReal) * w k = ctxCol m c ⟨t.val % 4, by omega⟩ j n := by
  refine Finset.sum_congr rfl fun k _ => congrArg₂ (· * ·) ?_ (hw k)
  exact (hid_apply (grid0.coords t) (iblk m c 0 t) (iblk m c 1 t) (iblk m c 2 t) (iblk m c 3 t) (iblk m c 4 t) (iblk m c 5 t) (iblk m c 6 t) p k).trans
    (inp_congr hr (fun k => blk_g m c t k) (fun k => blk_csc m c t h k) (fun k => blk_csh m c t h k) k)

theorem coord0 (t : Fin cfg0.N) : (grid0.coords t 0).val = t.val / 4 := coord t

theorem row_lat (t : Fin cfg0.N) (h : t.val < 64) (r : Fin 256) (k : Fin 1024) :
    (rowsAt m c t (ix2 ⟨8 + r.val, by omega⟩ k) : EReal) = xIn m c (ix3 ⟨t.val % 4, by omega⟩ ⟨256 * (t.val / 4) + r.val, by omega⟩ k) := by
  refine (rows_own (grid0.coords t) (iblk m c 0 t) (iblk m c 1 t) (iblk m c 2 t) (iblk m c 3 t) r k).trans ?_
  rw [coord0, if_neg (by omega)]
  exact blk_x m c t h r k
theorem row_ctx (t : Fin cfg0.N) (h : 64 ≤ t.val) (r : Fin 256) (k : Fin 1024) :
    (rowsAt m c t (ix2 ⟨8 + r.val, by omega⟩ k) : EReal) = cxIn m c (ix3 ⟨t.val % 4, by omega⟩ r k) := by
  refine (rows_own (grid0.coords t) (iblk m c 0 t) (iblk m c 1 t) (iblk m c 2 t) (iblk m c 3 t) r k).trans ?_
  rw [coord0, if_pos (by omega)]
  exact blk_cx m c t h r k
theorem row_prev (t : Fin cfg0.N) (h : 4 ≤ t.val ∧ t.val < 64) (k : Fin 1024) :
    (rowsAt m c t (ix2 7 k) : EReal) = xIn m c (ix3 ⟨t.val % 4, by omega⟩ ⟨256 * (t.val / 4) - 1, by omega⟩ k) :=
  (rows_prev (grid0.coords t) (iblk m c 0 t) (iblk m c 1 t) (iblk m c 2 t) (iblk m c 3 t) 7 k).trans (blk_prev m c t h k)
theorem row_next (t : Fin cfg0.N) (h : t.val < 60) (k : Fin 1024) :
    (rowsAt m c t (ix2 264 k) : EReal) = xIn m c (ix3 ⟨t.val % 4, by omega⟩ ⟨256 * (t.val / 4) + 256, by omega⟩ k) :=
  (rows_next (grid0.coords t) (iblk m c 0 t) (iblk m c 1 t) (iblk m c 2 t) (iblk m c 3 t) 0 k).trans (blk_next m c t h k)

/-- A tile's convolution is the stream's, where the tile's halo rows are the stream's rows or lie beyond its ends. -/
theorem conv_along {N : ℕ} (bp bn : BitVec 1) (U : Fin 272 → EReal) (P : Fin N → EReal) (w : Fin 3 → EReal) (b : EReal) (r : Fin 256) (s : ℕ) (hs : s + 256 ≤ N)
    (own : ∀ r : Fin 256, U ⟨8 + r.val, by omega⟩ = P ⟨s + r.val, by omega⟩)
    (hp : (s = 0 ∧ bp = 0#1) ∨ (∃ h : 0 < s, bp = 1#1 ∧ U 7 = P ⟨s - 1, by omega⟩))
    (hn : (s + 256 = N ∧ bn = 0#1) ∨ (∃ h : s + 256 < N, bn = 1#1 ∧ U 264 = P ⟨s + 256, h⟩)) :
    conv bp bn U w b r = along P w b ⟨s + r.val, by omega⟩ := by
  unfold conv along
  have hr := r.isLt
  refine congrArg (· + _) (congrArg₂ (· + ·) (congrArg₂ (· + ·) (congrArg (· * _) ?_) (congrArg (· * _) (own r))) (congrArg (· * _) ?_))
  · unfold before
    by_cases h : r.val = 0
    · rw [if_pos h]
      rcases hp with ⟨e, eb⟩ | ⟨e, eb, eU⟩
      · rw [eb, dif_neg (by show ¬ 0 < s + r.val; omega)]
        rfl
      · rw [eb, dif_pos (by show 0 < s + r.val; omega)]
        refine (show Scalar.select 1#1 (U ⟨7 + r.val, by omega⟩) 0 = U ⟨7 + r.val, by omega⟩ from rfl).trans ?_
        refine (congrArg U (Fin.ext (by show 7 + r.val = 7; omega))).trans (eU.trans (congrArg P (Fin.ext (by show s - 1 = s + r.val - 1; omega))))
    · rw [if_neg h, dif_pos (by show 0 < s + r.val; omega)]
      refine (congrArg U (Fin.ext (by show 7 + r.val = 8 + (r.val - 1); omega))).trans ((own ⟨r.val - 1, by omega⟩).trans (congrArg P (Fin.ext (by show s + (r.val - 1) = s + r.val - 1; omega))))
  · unfold after
    by_cases h : r.val = 255
    · rw [if_pos h]
      rcases hn with ⟨e, eb⟩ | ⟨e, eb, eU⟩
      · rw [eb, dif_neg (by show ¬ s + r.val + 1 < N; omega)]
        rfl
      · rw [eb, dif_pos (by show s + r.val + 1 < N; omega)]
        refine (show Scalar.select 1#1 (U ⟨9 + r.val, by omega⟩) 0 = U ⟨9 + r.val, by omega⟩ from rfl).trans ?_
        refine (congrArg U (Fin.ext (by show 9 + r.val = 264; omega))).trans (eU.trans (congrArg P (Fin.ext (by show s + 256 = s + r.val + 1; omega))))
    · rw [if_neg h, dif_pos (by show s + r.val + 1 < N; omega)]
      refine (congrArg U (Fin.ext (by show 9 + r.val = 8 + (r.val + 1); omega))).trans ((own ⟨r.val + 1, by omega⟩).trans (congrArg P (Fin.ext (by show s + (r.val + 1) = s + r.val + 1; omega))))

/-- A tile's own row against a weight column. -/
theorem tile_col (t : Fin cfg0.N) (ht : t.val < 68) (r : Fin 256) (w : Fin 1024 → EReal) (j : Fin 2444) (hw : ∀ k, w k = wIn m c (ix2 k j)) :
    ∑ k, (hidAt m c t (ix2 ⟨8 + r.val, by omega⟩ k) : EReal) * w k
      = join (latCol m c ⟨t.val % 4, by omega⟩ j) (ctxCol m c ⟨t.val % 4, by omega⟩ j) ⟨256 * (t.val / 4) + r.val, by omega⟩ := by
  by_cases h : t.val < 64
  · rw [join_lat _ _ _ (256 * (t.val / 4) + r.val) (by omega) rfl]
    exact col_lat m c t h _ _ (fun k => row_lat m c t h r k) w j hw
  · rw [join_ctx _ _ _ r (by show 256 * (t.val / 4) + r.val = 4096 + r.val; omega)]
    exact col_ctx m c t (by omega) _ _ (fun k => row_ctx m c t (by omega) r k) w j hw

/-- A tile's convolution of the products with a weight column. -/
theorem tile_conv (t : Fin cfg0.N) (ht : t.val < 68) (r : Fin 256) (w : Fin 1024 → EReal) (j : Fin 2444) (hw : ∀ k, w k = wIn m c (ix2 k j))
    (U : Fin 272 → EReal) (hU : ∀ p, U p = ∑ k, (hidAt m c t (ix2 p k) : EReal) * w k) (q : Fin 3 → EReal) (b : EReal) :
    conv (Scalar.andi (Scalar.cmpi .sge (BitVec.ofNat 32 (grid0.coords t 0).val) 1#32) (Scalar.cmpi .slt (BitVec.ofNat 32 (grid0.coords t 0).val) 16#32))
        (Scalar.cmpi .slt (BitVec.ofNat 32 (grid0.coords t 0).val) 15#32) U q b r
      = join (along (latCol m c ⟨t.val % 4, by omega⟩ j) q b) (along (ctxCol m c ⟨t.val % 4, by omega⟩ j) q b) ⟨256 * (t.val / 4) + r.val, by omega⟩ := by
  rw [coord0, prevBit _ (by omega), nextBit _ (by omega)]
  by_cases h : t.val < 64
  · rw [join_lat _ _ _ (256 * (t.val / 4) + r.val) (by omega) rfl]
    refine conv_along _ _ U _ q b r (256 * (t.val / 4)) (by omega) (fun r => ?_) ?_ ?_
    · exact (hU _).trans (col_lat m c t h _ _ (fun k => row_lat m c t h r k) w j hw)
    · by_cases h4 : 4 ≤ t.val
      · exact .inr ⟨by omega, if_pos (by omega), (hU _).trans (col_lat m c t h _ _ (fun k => row_prev m c t ⟨h4, h⟩ k) w j hw)⟩
      · exact .inl ⟨by omega, if_neg (by omega)⟩
    · by_cases h60 : t.val < 60
      · exact .inr ⟨by omega, if_pos (by omega), (hU _).trans (col_lat m c t h _ _ (fun k => row_next m c t h60 k) w j hw)⟩
      · exact .inl ⟨by omega, if_neg (by omega)⟩
  · rw [join_ctx _ _ _ r (by show 256 * (t.val / 4) + r.val = 4096 + r.val; omega)]
    refine (conv_along _ _ U (ctxCol m c ⟨t.val % 4, by omega⟩ j) q b r 0 (by omega) (fun r => ?_) ?_ ?_).trans (congrArg _ (Fin.ext (by show 0 + r.val = r.val; omega)))
    · exact (hU _).trans ((col_ctx m c t (by omega) _ _ (fun k => row_ctx m c t (by omega) r k) w j hw).trans (congrArg _ (Fin.ext (by show r.val = 0 + r.val; omega))))
    · exact .inl ⟨rfl, if_neg (by omega)⟩
    · exact .inl ⟨rfl, if_neg (by omega)⟩

theorem join_silu (f : Fin 4096 → EReal) (h : Fin 256 → EReal) (n : Fin 4352) : join (fun n => silu (f n)) (fun n => silu (h n)) n = silu (join f h n) := by
  unfold join
  split_ifs <;> rfl

/-! ## The blocks of the results -/

variable (t0 : Fin cfg0.N)

theorem w_q (k : Fin 1024) (j : Fin 640) : (wQkv (F := 𝕀) (pack (iblk m c 7 t0)) (ix2 k j) : EReal) = wIn m c (ix2 k ⟨j.val, by omega⟩) :=
  (wQkv_apply _ k j).trans ((at_q (iblk m c 7 t0) k j).trans (blk_w m c t0 k _))
theorem w_x (k : Fin 1024) (j : Fin 640) : (wXbc (F := 𝕀) (pack (iblk m c 7 t0)) (ix2 k j) : EReal) = wIn m c (ix2 k ⟨1024 + j.val, by omega⟩) :=
  (wXbc_apply _ k j).trans ((at_x (iblk m c 7 t0) k j).trans (blk_w m c t0 k _))
theorem w_h (k : Fin 1024) (j : Fin 768) : (wHy (F := 𝕀) (pack (iblk m c 7 t0)) (ix2 k j) : EReal) = wIn m c (ix2 k ⟨1676 + j.val, by omega⟩) :=
  (wHy_apply _ k j).trans ((at_h (iblk m c 7 t0) k j).trans (blk_w m c t0 k _))
theorem w_z (k : Fin 1024) (j : Fin 384) : (wZdt (F := 𝕀) (pack (iblk m c 7 t0)) (ix2 k ⟨j.val, by omega⟩) : EReal) = wIn m c (ix2 k ⟨640 + j.val, by omega⟩) :=
  (wZdt_apply _ k _).trans ((at_z (iblk m c 7 t0) k j).trans (blk_w m c t0 k _))
theorem w_t (k : Fin 1024) (j : Fin 128) : (wZdt (F := 𝕀) (pack (iblk m c 7 t0)) (ix2 k ⟨384 + j.val, by omega⟩) : EReal) = if h : j.val < 12 then wIn m c (ix2 k ⟨1664 + j.val, by omega⟩) else 0 := by
  refine (wZdt_apply _ k _).trans ?_
  refine (congrArg (fun i => (pack (F := 𝕀) (iblk m c 7 t0) (ix2 k i) : EReal)) (Fin.ext (by show 2048 + (384 + j.val) = 2432 + j.val; omega))).trans ((at_t (iblk m c 7 t0) k j).trans ?_)
  by_cases h : j.val < 12
  · rw [dif_pos h, dif_pos h]
    exact blk_w m c t0 k _
  · rw [dif_neg h, dif_neg h]

theorem tile_v (t : Fin cfg0.N) (ht : t.val < 68) (d : Fin 128) (r : Fin 256) : (blk17 (F := 𝕀) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (pack (iblk m c 7 t0)) (ix3 0 d r) : EReal) = join (latCol m c ⟨t.val % 4, by omega⟩ ⟨512 + d.val, by omega⟩) (ctxCol m c ⟨t.val % 4, by omega⟩ ⟨512 + d.val, by omega⟩) ⟨256 * (t.val / 4) + r.val, by omega⟩ := by
  refine (v_apply _ d r).trans ((pay16_apply _ _ _ _ _ r _).trans ?_)
  exact tile_col m c t ht r _ _ (fun k => (w_q m c t0 k ⟨512 + d.val, by omega⟩))

theorem tile_z (t : Fin cfg0.N) (ht : t.val < 68) (r : Fin 256) (d : Fin 384) : (blk18 (F := 𝕀) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (pack (iblk m c 7 t0)) (ix3 0 r d) : EReal) = join (latCol m c ⟨t.val % 4, by omega⟩ ⟨640 + d.val, by omega⟩) (ctxCol m c ⟨t.val % 4, by omega⟩ ⟨640 + d.val, by omega⟩) ⟨256 * (t.val / 4) + r.val, by omega⟩ := by
  refine (z_apply _ r d).trans ((pay22_apply _ _ _ _ _ r _).trans ?_)
  exact tile_col m c t ht r _ _ (fun k => (w_z m c t0 k d))

theorem tile_t (t : Fin cfg0.N) (ht : t.val < 68) (r : Fin 256) (d : Fin 128) : (blk20 (F := 𝕀) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (pack (iblk m c 7 t0)) (ix3 0 r d) : EReal)
    = if h : d.val < 12 then join (latCol m c ⟨t.val % 4, by omega⟩ ⟨1664 + d.val, by omega⟩) (ctxCol m c ⟨t.val % 4, by omega⟩ ⟨1664 + d.val, by omega⟩) ⟨256 * (t.val / 4) + r.val, by omega⟩ else 0 := by
  refine (dt_apply _ r d).trans ((pay22_apply _ _ _ _ _ r _).trans ?_)
  by_cases h : d.val < 12
  · rw [dif_pos h]
    exact tile_col m c t ht r _ _ (fun k => (w_t m c t0 k d).trans (dif_pos h))
  · rw [dif_neg h]
    refine Finset.sum_eq_zero fun k _ => ?_
    rw [(w_t m c t0 k d).trans (dif_neg h)]
    exact mul_zero _

theorem tile_h (t : Fin cfg0.N) (ht : t.val < 68) (r : Fin 256) (d : Fin 768) : (blk21 (F := 𝕀) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (pack (iblk m c 7 t0)) (ix3 0 r d) : EReal) = join (along (latCol m c ⟨t.val % 4, by omega⟩ ⟨1676 + d.val, by omega⟩) (fun q => cwhIn m c (ix2 q d)) (cbhIn m c (ix1 d))) (along (ctxCol m c ⟨t.val % 4, by omega⟩ ⟨1676 + d.val, by omega⟩) (fun q => cwhIn m c (ix2 q d)) (cbhIn m c (ix1 d))) ⟨256 * (t.val / 4) + r.val, by omega⟩ := by
  refine (hy_apply _ _ _ _ _ r d).trans ?_
  refine (tile_conv m c t ht r _ _ (fun k => w_h m c t0 k d) _ (fun p => pay15_apply _ _ _ _ _ p d) _ _).trans ?_
  exact congrArg₂ (fun f z => join (along (latCol m c ⟨t.val % 4, by omega⟩ ⟨1676 + d.val, by omega⟩) f z) (along (ctxCol m c ⟨t.val % 4, by omega⟩ ⟨1676 + d.val, by omega⟩) f z) ⟨256 * (t.val / 4) + r.val, by omega⟩)
    (funext fun q => blk_cwh m c t q d) (blk_cbh m c t d)

theorem tile_x (t : Fin cfg0.N) (ht : t.val < 68) (r : Fin 256) (d : Fin 640) : (blk19 (F := 𝕀) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (pack (iblk m c 7 t0)) (ix3 0 r d) : EReal) = silu (join (along (latCol m c ⟨t.val % 4, by omega⟩ ⟨1024 + d.val, by omega⟩) (fun q => cwxIn m c (ix2 q d)) (cbxIn m c (ix1 d))) (along (ctxCol m c ⟨t.val % 4, by omega⟩ ⟨1024 + d.val, by omega⟩) (fun q => cwxIn m c (ix2 q d)) (cbxIn m c (ix1 d))) ⟨256 * (t.val / 4) + r.val, by omega⟩) := by
  refine (xbc_apply _ _ _ _ r d).trans (congrArg silu ?_)
  refine (tile_conv m c t ht r _ _ (fun k => w_x m c t0 k d) _ (fun p => pay14_apply _ _ _ _ _ p d) _ _).trans ?_
  exact congrArg₂ (fun f z => join (along (latCol m c ⟨t.val % 4, by omega⟩ ⟨1024 + d.val, by omega⟩) f z) (along (ctxCol m c ⟨t.val % 4, by omega⟩ ⟨1024 + d.val, by omega⟩) f z) ⟨256 * (t.val / 4) + r.val, by omega⟩)
    (funext fun q => blk_cwx m c t q d) (blk_cbx m c t d)

end Cert.Kernel4Ideal.Inp
end
-- ==== Proof.InArray.lean ====
module
public import proofs.«01_k».proof.Proof.InFrame
public import proofs.«01_k».proof.Proof.InTile
public import Idealize.ShloMosaic.Lib.Claim
/-! What the input projection's results hold after the run. -/
@[expose] public section
set_option maxRecDepth 65536
noncomputable section
namespace Cert.Kernel4Ideal.Inp
open Idealize.ShloMosaic Idealize.ShloMosaic.TcCoe Idealize.ShloMosaic.Tactic
open Idealize.ShloMosaic.Pipeline (Dat Cfg Window BodyObligation cellOf)
open Cert.Experts Cert.Inproj Cert.Kernel4Ideal Cert.Kernel4Ideal.Gen
local notation "𝕀" => Idealize.ShloMosaic.Ideal
variable (m : (ℓ : Loc nD τ sig) → Buf (Elt 𝕀) ℓ) (c : Dev nD)

/-- The values: one column of the products to a row, the latent rows then the context rows. -/
def arrV : FVec 𝕀 S4x128x4352 .bf16 := fun y => join (latCol m c (y 0) ⟨512 + (y 1).val, by have : (y 1).val < 128 := (y 1).isLt; omega⟩) (ctxCol m c (y 0) ⟨512 + (y 1).val, by have : (y 1).val < 128 := (y 1).isLt; omega⟩) (y 2)

/-- The gate columns. -/
def arrZ : FVec 𝕀 S4x4352x384 .f32 := fun y => join (latCol m c (y 0) ⟨640 + (y 2).val, by have : (y 2).val < 384 := (y 2).isLt; omega⟩) (ctxCol m c (y 0) ⟨640 + (y 2).val, by have : (y 2).val < 384 := (y 2).isLt; omega⟩) (y 1)

/-- The step-size columns, then columns of zeros. -/
def arrT : FVec 𝕀 S4x4352x128 .f32 := fun y => if h : (y 2).val < 12 then join (latCol m c (y 0) ⟨1664 + (y 2).val, by omega⟩) (ctxCol m c (y 0) ⟨1664 + (y 2).val, by omega⟩) (y 1) else (0 : EReal)

/-- The convolution columns, after the short convolution. -/
def arrH : FVec 𝕀 S4x4352x768 .f32 := fun y => join
  (along (latCol m c (y 0) ⟨1676 + (y 2).val, by have : (y 2).val < 768 := (y 2).isLt; omega⟩) (fun q => cwhIn m c (ix2 q (y 2))) (cbhIn m c (ix1 (y 2))))
  (along (ctxCol m c (y 0) ⟨1676 + (y 2).val, by have : (y 2).val < 768 := (y 2).isLt; omega⟩) (fun q => cwhIn m c (ix2 q (y 2))) (cbhIn m c (ix1 (y 2)))) (y 1)

/-- The state-space columns, after the convolution and its activation. -/
def arrX : FVec 𝕀 S4x4352x640 .f32 := fun y => silu (join
  (along (latCol m c (y 0) ⟨1024 + (y 2).val, by have : (y 2).val < 640 := (y 2).isLt; omega⟩) (fun q => cwxIn m c (ix2 q (y 2))) (cbxIn m c (ix1 (y 2))))
  (along (ctxCol m c (y 0) ⟨1024 + (y 2).val, by have : (y 2).val < 640 := (y 2).isLt; omega⟩) (fun q => cwxIn m c (ix2 q (y 2))) (cbxIn m c (ix1 (y 2)))) (y 1))

theorem arr_v : (dats m 0 c).arrAt 17 (cfgs 0).N = arrV m c := by
  refine (dats m 0 c).arrAt_eq_of_covers 17 _ (by decide +kernel) fun t hf y => ?_
  blk_simp
  rw [after0_17]
  have ht : t.val < 68 := t.isLt
  have h0 : (y 0).val < 1 := (y 0).isLt
  have h1 : (y 1).val < 128 := (y 1).isLt
  have h2 : (y 2).val < 256 := (y 2).isLt
  have hy : (y : S1x128x256.Idx) = ix3 0 ⟨(y 1).val, h1⟩ ⟨(y 2).val, h2⟩ := by
    idx_ext
  have hemb : (win0_17.blk t).view.emb y = (ix3 ⟨t.val % 4, by omega⟩ ⟨(y 1).val, h1⟩ ⟨256 * (t.val / 4) + (y 2).val, by omega⟩ : S4x128x4352.Idx) := by
    blk_ext [idx_17 t]
  rw [hemb]
  refine Eq.trans (congrArg (res17 m c t) hy) ?_
  exact tile_v m c first t ht ⟨(y 1).val, h1⟩ ⟨(y 2).val, h2⟩

theorem arr_z : (dats m 0 c).arrAt 18 (cfgs 0).N = arrZ m c := by
  refine (dats m 0 c).arrAt_eq_of_covers 18 _ (by decide +kernel) fun t hf y => ?_
  blk_simp
  rw [after0_18]
  have ht : t.val < 68 := t.isLt
  have h0 : (y 0).val < 1 := (y 0).isLt
  have h1 : (y 1).val < 256 := (y 1).isLt
  have h2 : (y 2).val < 384 := (y 2).isLt
  have hy : (y : S1x256x384.Idx) = ix3 0 ⟨(y 1).val, h1⟩ ⟨(y 2).val, h2⟩ := by
    idx_ext
  have hemb : (win0_18.blk t).view.emb y = (ix3 ⟨t.val % 4, by omega⟩ ⟨256 * (t.val / 4) + (y 1).val, by omega⟩ ⟨(y 2).val, h2⟩ : S4x4352x384.Idx) := by
    blk_ext [idx_18 t]
  rw [hemb]
  refine Eq.trans (congrArg (res18 m c t) hy) ?_
  exact tile_z m c first t ht ⟨(y 1).val, h1⟩ ⟨(y 2).val, h2⟩

theorem arr_x : (dats m 0 c).arrAt 19 (cfgs 0).N = arrX m c := by
  refine (dats m 0 c).arrAt_eq_of_covers 19 _ (by decide +kernel) fun t hf y => ?_
  blk_simp
  rw [after0_19]
  have ht : t.val < 68 := t.isLt
  have h0 : (y 0).val < 1 := (y 0).isLt
  have h1 : (y 1).val < 256 := (y 1).isLt
  have h2 : (y 2).val < 640 := (y 2).isLt
  have hy : (y : S1x256x640.Idx) = ix3 0 ⟨(y 1).val, h1⟩ ⟨(y 2).val, h2⟩ := by
    idx_ext
  have hemb : (win0_19.blk t).view.emb y = (ix3 ⟨t.val % 4, by omega⟩ ⟨256 * (t.val / 4) + (y 1).val, by omega⟩ ⟨(y 2).val, h2⟩ : S4x4352x640.Idx) := by
    blk_ext [idx_19 t]
  rw [hemb]
  refine Eq.trans (congrArg (res19 m c t) hy) ?_
  exact tile_x m c first t ht ⟨(y 1).val, h1⟩ ⟨(y 2).val, h2⟩

theorem arr_t : (dats m 0 c).arrAt 20 (cfgs 0).N = arrT m c := by
  refine (dats m 0 c).arrAt_eq_of_covers 20 _ (by decide +kernel) fun t hf y => ?_
  blk_simp
  rw [after0_20]
  have ht : t.val < 68 := t.isLt
  have h0 : (y 0).val < 1 := (y 0).isLt
  have h1 : (y 1).val < 256 := (y 1).isLt
  have h2 : (y 2).val < 128 := (y 2).isLt
  have hy : (y : S1x256x128.Idx) = ix3 0 ⟨(y 1).val, h1⟩ ⟨(y 2).val, h2⟩ := by
    idx_ext
  have hemb : (win0_20.blk t).view.emb y = (ix3 ⟨t.val % 4, by omega⟩ ⟨256 * (t.val / 4) + (y 1).val, by omega⟩ ⟨(y 2).val, h2⟩ : S4x4352x128.Idx) := by
    blk_ext [idx_20 t]
  rw [hemb]
  refine Eq.trans (congrArg (res20 m c t) hy) ?_
  exact tile_t m c first t ht ⟨(y 1).val, h1⟩ ⟨(y 2).val, h2⟩

theorem arr_h : (dats m 0 c).arrAt 21 (cfgs 0).N = arrH m c := by
  refine (dats m 0 c).arrAt_eq_of_covers 21 _ (by decide +kernel) fun t hf y => ?_
  blk_simp
  rw [after0_21]
  have ht : t.val < 68 := t.isLt
  have h0 : (y 0).val < 1 := (y 0).isLt
  have h1 : (y 1).val < 256 := (y 1).isLt
  have h2 : (y 2).val < 768 := (y 2).isLt
  have hy : (y : S1x256x768.Idx) = ix3 0 ⟨(y 1).val, h1⟩ ⟨(y 2).val, h2⟩ := by
    idx_ext
  have hemb : (win0_21.blk t).view.emb y = (ix3 ⟨t.val % 4, by omega⟩ ⟨256 * (t.val / 4) + (y 1).val, by omega⟩ ⟨(y 2).val, h2⟩ : S4x4352x768.Idx) := by
    blk_ext [idx_21 t]
  rw [hemb]
  refine Eq.trans (congrArg (res21 m c t) hy) ?_
  exact tile_h m c first t ht ⟨(y 1).val, h1⟩ ⟨(y 2).val, h2⟩

end Cert.Kernel4Ideal.Inp
end
-- ==== Proof.InRef.lean ====
module
public import proofs.«01_k».proof.Proof.Gen.Reference4Ideal.Read
public import proofs.«01_k».proof.Proof.InSpec
public import Idealize.ShloMosaic.Lib.Pointwise
/-! What the input projection's reference computes at an index. -/
@[expose] public section
set_option maxRecDepth 65536
noncomputable section
namespace Cert.Reference4Ideal.Read
open Idealize.ShloMosaic Idealize.ShloMosaic.TcCoe Idealize.ShloMosaic.Tactic
open Cert.Experts Cert.Inproj
local notation "𝕀" => Idealize.ShloMosaic.Ideal
variable (x0 : (⟨S4x4096x1024, .f32⟩ : BufTy).Contents (Elt 𝕀)) (x1 : (⟨S4x256x1024, .f32⟩ : BufTy).Contents (Elt 𝕀))
  (x2 x3 : (⟨S4x1024, .f32⟩ : BufTy).Contents (Elt 𝕀)) (x4 x5 x6 : (⟨S1024, .f32⟩ : BufTy).Contents (Elt 𝕀)) (x7 : (⟨S1024x2444, .f32⟩ : BufTy).Contents (Elt 𝕀))
  (x10 : (⟨S3x640, .f32⟩ : BufTy).Contents (Elt 𝕀)) (x11 : (⟨S640, .f32⟩ : BufTy).Contents (Elt 𝕀))
  (x12 : (⟨S3x768, .f32⟩ : BufTy).Contents (Elt 𝕀)) (x13 : (⟨S768, .f32⟩ : BufTy).Contents (Elt 𝕀))

/-- The whole number zero, as a number. -/
theorem zero_int : (FloatOps.sitofp (F := 𝕀) FTy.f32 (0#32 : BitVec 32) : EReal) = 0 := by
  show (((BitVec.toInt (0#32 : BitVec 32) : ℝ)) : EReal) = 0
  simp

/-- A latent row's product with a weight column. -/
def latCol (b : Fin 4) (j : Fin 2444) : Fin 4096 → EReal :=
  proj (fun n k => x0 (ix3 b n k)) (fun k => x6 (ix1 k)) (fun k => x3 (ix2 b k)) (fun k => x2 (ix2 b k)) (fun k => x7 (ix2 k j))

/-- A context row's product with a weight column. -/
def ctxCol (b : Fin 4) (j : Fin 2444) : Fin 256 → EReal :=
  proj (fun n k => x1 (ix3 b n k)) (fun k => x6 (ix1 k)) (fun k => x5 (ix1 k)) (fun k => x4 (ix1 k)) (fun k => x7 (ix2 k j))

theorem lat_squares (b : Fin 4) (n : Fin 4096) : (val_main_v1 (F := 𝕀) x0 (ix2 b n) : EReal) = ∑ k, x0 (ix3 b n k) * x0 (ix3 b n k) := by
  unfold val_main_v1 val_main_v0 val_main_cst
  pointwise []

theorem lat_normed (b : Fin 4) (n : Fin 4096) (k : Fin 1024) :
    (val_main_v9 (F := 𝕀) x0 (ix3 b n k) : EReal) = rms (fun k => x0 (ix3 b n k)) k := by
  refine Eq.trans ?_ (congrArg (fun z : EReal => (x0 (ix3 b n k) : EReal) * Ideal.rsqrt (Ideal.div z (Ideal.ofBits .f32 0x44800000#32) + Ideal.ofBits .f32 0x358637BD#32)) (lat_squares x0 b n))
  unfold val_main_v9 val_main_v8 val_main_v7 val_main_v6 val_main_v5 val_main_v4 val_main_v3 val_main_v2 val_main_cst_0 val_main_cst_1
  generalize val_main_v1 (F := 𝕀) x0 = ss
  pointwise []

/-- The latent rows, normed, scaled and shifted. -/
theorem lat_inp (b : Fin 4) (n : Fin 4096) (k : Fin 1024) :
    (val_main_v20 (F := 𝕀) x0 x2 x3 x6 (ix3 b n k) : EReal)
      = inp (fun k => x0 (ix3 b n k)) (fun k => x6 (ix1 k)) (fun k => x3 (ix2 b k)) (fun k => x2 (ix2 b k)) k := by
  refine Eq.trans ?_ (congrArg (fun z : EReal => z * (x6 (ix1 k) : EReal) * (1 + (x3 (ix2 b k) : EReal)) + (x2 (ix2 b k) : EReal)) (lat_normed x0 b n k))
  unfold val_main_v20 val_main_v19 val_main_v18 val_main_v17 val_main_v16 val_main_v15 val_main_v14 val_main_v13 val_main_v12 val_main_v11 val_main_v10 val_main_cst_2
  generalize val_main_v9 (F := 𝕀) x0 = ss
  pointwise []

theorem ctx_squares (b : Fin 4) (n : Fin 256) : (val_main_v22 (F := 𝕀) x1 (ix2 b n) : EReal) = ∑ k, x1 (ix3 b n k) * x1 (ix3 b n k) := by
  unfold val_main_v22 val_main_v21 val_main_cst_3
  pointwise []

theorem ctx_normed (b : Fin 4) (n : Fin 256) (k : Fin 1024) :
    (val_main_v30 (F := 𝕀) x1 (ix3 b n k) : EReal) = rms (fun k => x1 (ix3 b n k)) k := by
  refine Eq.trans ?_ (congrArg (fun z : EReal => (x1 (ix3 b n k) : EReal) * Ideal.rsqrt (Ideal.div z (Ideal.ofBits .f32 0x44800000#32) + Ideal.ofBits .f32 0x358637BD#32)) (ctx_squares x1 b n))
  unfold val_main_v30 val_main_v29 val_main_v28 val_main_v27 val_main_v26 val_main_v25 val_main_v24 val_main_v23 val_main_cst_4 val_main_cst_5
  generalize val_main_v22 (F := 𝕀) x1 = ss
  pointwise []

/-- The context rows, normed, scaled and shifted. -/
theorem ctx_inp (b : Fin 4) (n : Fin 256) (k : Fin 1024) :
    (val_main_v43 (F := 𝕀) x1 x4 x5 x6 (ix3 b n k) : EReal)
      = inp (fun k => x1 (ix3 b n k)) (fun k => x6 (ix1 k)) (fun k => x5 (ix1 k)) (fun k => x4 (ix1 k)) k := by
  refine Eq.trans ?_ (congrArg (fun z : EReal => z * (x6 (ix1 k) : EReal) * (1 + (x5 (ix1 k) : EReal)) + (x4 (ix1 k) : EReal)) (ctx_normed x1 b n k))
  unfold val_main_v43 val_main_v42 val_main_v41 val_main_v40 val_main_v39 val_main_v38 val_main_v37 val_main_v36 val_main_v35 val_main_v34 val_main_v33 val_main_v32 val_main_v31 val_main_cst_6
  generalize val_main_v30 (F := 𝕀) x1 = ss
  pointwise []

theorem lat_prod (b : Fin 4) (n : Fin 4096) (j : Fin 2444) : (val_main_v44 (F := 𝕀) x0 x2 x3 x6 x7 (ix3 b n j) : EReal) = latCol x0 x2 x3 x6 x7 b j n := by
  have e : (val_main_v44 (F := 𝕀) x0 x2 x3 x6 x7 (ix3 b n j) : EReal) = ∑ k, (val_main_v20 (F := 𝕀) x0 x2 x3 x6 (ix3 b n k) : EReal) * (x7 (ix2 k j) : EReal) := by
    unfold val_main_v44
    generalize val_main_v20 (F := 𝕀) x0 x2 x3 x6 = y
    pointwise []
  refine e.trans ?_
  unfold latCol proj
  exact Finset.sum_congr rfl fun k _ => congrArg (· * _) (lat_inp x0 x2 x3 x6 b n k)

theorem lat_v (b : Fin 4) (n : Fin 4096) (j : Fin 128) : (val_main_v47 (F := 𝕀) x0 x2 x3 x6 x7 (ix3 b n j) : EReal) = latCol x0 x2 x3 x6 x7 b ⟨512 + j.val, by omega⟩ n := by
  refine Eq.trans ?_ (lat_prod x0 x2 x3 x6 x7 b n _)
  unfold val_main_v47
  generalize val_main_v44 (F := 𝕀) x0 x2 x3 x6 x7 = y
  pointwise []

theorem lat_z (b : Fin 4) (n : Fin 4096) (j : Fin 384) : (val_main_v48 (F := 𝕀) x0 x2 x3 x6 x7 (ix3 b n j) : EReal) = latCol x0 x2 x3 x6 x7 b ⟨640 + j.val, by omega⟩ n := by
  refine Eq.trans ?_ (lat_prod x0 x2 x3 x6 x7 b n _)
  unfold val_main_v48
  generalize val_main_v44 (F := 𝕀) x0 x2 x3 x6 x7 = y
  pointwise []

theorem lat_x (b : Fin 4) (n : Fin 4096) (j : Fin 640) : (val_main_v49 (F := 𝕀) x0 x2 x3 x6 x7 (ix3 b n j) : EReal) = latCol x0 x2 x3 x6 x7 b ⟨1024 + j.val, by omega⟩ n := by
  refine Eq.trans ?_ (lat_prod x0 x2 x3 x6 x7 b n _)
  unfold val_main_v49
  generalize val_main_v44 (F := 𝕀) x0 x2 x3 x6 x7 = y
  pointwise []

theorem lat_t (b : Fin 4) (n : Fin 4096) (j : Fin 12) : (val_main_v50 (F := 𝕀) x0 x2 x3 x6 x7 (ix3 b n j) : EReal) = latCol x0 x2 x3 x6 x7 b ⟨1664 + j.val, by omega⟩ n := by
  refine Eq.trans ?_ (lat_prod x0 x2 x3 x6 x7 b n _)
  unfold val_main_v50
  generalize val_main_v44 (F := 𝕀) x0 x2 x3 x6 x7 = y
  pointwise []

theorem lat_h (b : Fin 4) (n : Fin 4096) (j : Fin 768) : (val_main_v51 (F := 𝕀) x0 x2 x3 x6 x7 (ix3 b n j) : EReal) = latCol x0 x2 x3 x6 x7 b ⟨1676 + j.val, by omega⟩ n := by
  refine Eq.trans ?_ (lat_prod x0 x2 x3 x6 x7 b n _)
  unfold val_main_v51
  generalize val_main_v44 (F := 𝕀) x0 x2 x3 x6 x7 = y
  pointwise []

theorem ctx_prod (b : Fin 4) (n : Fin 256) (j : Fin 2444) : (val_main_v52 (F := 𝕀) x1 x4 x5 x6 x7 (ix3 b n j) : EReal) = ctxCol x1 x4 x5 x6 x7 b j n := by
  have e : (val_main_v52 (F := 𝕀) x1 x4 x5 x6 x7 (ix3 b n j) : EReal) = ∑ k, (val_main_v43 (F := 𝕀) x1 x4 x5 x6 (ix3 b n k) : EReal) * (x7 (ix2 k j) : EReal) := by
    unfold val_main_v52
    generalize val_main_v43 (F := 𝕀) x1 x4 x5 x6 = y
    pointwise []
  refine e.trans ?_
  unfold ctxCol proj
  exact Finset.sum_congr rfl fun k _ => congrArg (· * _) (ctx_inp x1 x4 x5 x6 b n k)

theorem ctx_v (b : Fin 4) (n : Fin 256) (j : Fin 128) : (val_main_v55 (F := 𝕀) x1 x4 x5 x6 x7 (ix3 b n j) : EReal) = ctxCol x1 x4 x5 x6 x7 b ⟨512 + j.val, by omega⟩ n := by
  refine Eq.trans ?_ (ctx_prod x1 x4 x5 x6 x7 b n _)
  unfold val_main_v55
  generalize val_main_v52 (F := 𝕀) x1 x4 x5 x6 x7 = y
  pointwise []

theorem ctx_z (b : Fin 4) (n : Fin 256) (j : Fin 384) : (val_main_v56 (F := 𝕀) x1 x4 x5 x6 x7 (ix3 b n j) : EReal) = ctxCol x1 x4 x5 x6 x7 b ⟨640 + j.val, by omega⟩ n := by
  refine Eq.trans ?_ (ctx_prod x1 x4 x5 x6 x7 b n _)
  unfold val_main_v56
  generalize val_main_v52 (F := 𝕀) x1 x4 x5 x6 x7 = y
  pointwise []

theorem ctx_x (b : Fin 4) (n : Fin 256) (j : Fin 640) : (val_main_v57 (F := 𝕀) x1 x4 x5 x6 x7 (ix3 b n j) : EReal) = ctxCol x1 x4 x5 x6 x7 b ⟨1024 + j.val, by omega⟩ n := by
  refine Eq.trans ?_ (ctx_prod x1 x4 x5 x6 x7 b n _)
  unfold val_main_v57
  generalize val_main_v52 (F := 𝕀) x1 x4 x5 x6 x7 = y
  pointwise []

theorem ctx_t (b : Fin 4) (n : Fin 256) (j : Fin 12) : (val_main_v58 (F := 𝕀) x1 x4 x5 x6 x7 (ix3 b n j) : EReal) = ctxCol x1 x4 x5 x6 x7 b ⟨1664 + j.val, by omega⟩ n := by
  refine Eq.trans ?_ (ctx_prod x1 x4 x5 x6 x7 b n _)
  unfold val_main_v58
  generalize val_main_v52 (F := 𝕀) x1 x4 x5 x6 x7 = y
  pointwise []

theorem ctx_h (b : Fin 4) (n : Fin 256) (j : Fin 768) : (val_main_v59 (F := 𝕀) x1 x4 x5 x6 x7 (ix3 b n j) : EReal) = ctxCol x1 x4 x5 x6 x7 b ⟨1676 + j.val, by omega⟩ n := by
  refine Eq.trans ?_ (ctx_prod x1 x4 x5 x6 x7 b n _)
  unfold val_main_v59
  generalize val_main_v52 (F := 𝕀) x1 x4 x5 x6 x7 = y
  pointwise []

/-- The values, latent rows then context rows. -/
theorem v_join (b : Fin 4) (n : Fin 4352) (j : Fin 128) :
    (val_main_v62 (F := 𝕀) x0 x1 x2 x3 x4 x5 x6 x7 (ix3 b j n) : EReal)
      = join (fun n => val_main_v47 (F := 𝕀) x0 x2 x3 x6 x7 (ix3 b n j)) (fun n => val_main_v55 (F := 𝕀) x1 x4 x5 x6 x7 (ix3 b n j)) n := by
  unfold val_main_v62 val_main_v61 val_main_v60
  generalize val_main_v47 (F := 𝕀) x0 x2 x3 x6 x7 = y
  generalize val_main_v55 (F := 𝕀) x1 x4 x5 x6 x7 = z
  pointwise [join]

/-- The gate columns, latent rows then context rows. -/
theorem z_join (b : Fin 4) (n : Fin 4352) (j : Fin 384) :
    (val_main_v63 (F := 𝕀) x0 x1 x2 x3 x4 x5 x6 x7 (ix3 b n j) : EReal)
      = join (fun n => val_main_v48 (F := 𝕀) x0 x2 x3 x6 x7 (ix3 b n j)) (fun n => val_main_v56 (F := 𝕀) x1 x4 x5 x6 x7 (ix3 b n j)) n := by
  unfold val_main_v63
  generalize val_main_v48 (F := 𝕀) x0 x2 x3 x6 x7 = y
  generalize val_main_v56 (F := 𝕀) x1 x4 x5 x6 x7 = z
  pointwise [join]

/-- The step-size columns, latent rows then context rows. -/
theorem t_join (b : Fin 4) (n : Fin 4352) (j : Fin 12) :
    (val_main_v64 (F := 𝕀) x0 x1 x2 x3 x4 x5 x6 x7 (ix3 b n j) : EReal)
      = join (fun n => val_main_v50 (F := 𝕀) x0 x2 x3 x6 x7 (ix3 b n j)) (fun n => val_main_v58 (F := 𝕀) x1 x4 x5 x6 x7 (ix3 b n j)) n := by
  unfold val_main_v64
  generalize val_main_v50 (F := 𝕀) x0 x2 x3 x6 x7 = y
  generalize val_main_v58 (F := 𝕀) x1 x4 x5 x6 x7 = z
  pointwise [join]

theorem v_apply (b : Fin 4) (j : Fin 128) (n : Fin 4352) : (val_main_v62 (F := 𝕀) x0 x1 x2 x3 x4 x5 x6 x7 (ix3 b j n) : EReal)
    = join (latCol x0 x2 x3 x6 x7 b ⟨512 + j.val, by omega⟩) (ctxCol x1 x4 x5 x6 x7 b ⟨512 + j.val, by omega⟩) n := by
  refine (v_join x0 x1 x2 x3 x4 x5 x6 x7 b n j).trans ?_
  exact congrArg₂ (fun f h => join f h n) (funext fun n => lat_v x0 x2 x3 x6 x7 b n j) (funext fun n => ctx_v x1 x4 x5 x6 x7 b n j)

theorem z_apply (b : Fin 4) (n : Fin 4352) (j : Fin 384) : (val_main_v63 (F := 𝕀) x0 x1 x2 x3 x4 x5 x6 x7 (ix3 b n j) : EReal)
    = join (latCol x0 x2 x3 x6 x7 b ⟨640 + j.val, by omega⟩) (ctxCol x1 x4 x5 x6 x7 b ⟨640 + j.val, by omega⟩) n := by
  refine (z_join x0 x1 x2 x3 x4 x5 x6 x7 b n j).trans ?_
  exact congrArg₂ (fun f h => join f h n) (funext fun n => lat_z x0 x2 x3 x6 x7 b n j) (funext fun n => ctx_z x1 x4 x5 x6 x7 b n j)

theorem t_apply (b : Fin 4) (n : Fin 4352) (j : Fin 12) : (val_main_v64 (F := 𝕀) x0 x1 x2 x3 x4 x5 x6 x7 (ix3 b n j) : EReal)
    = join (latCol x0 x2 x3 x6 x7 b ⟨1664 + j.val, by omega⟩) (ctxCol x1 x4 x5 x6 x7 b ⟨1664 + j.val, by omega⟩) n := by
  refine (t_join x0 x1 x2 x3 x4 x5 x6 x7 b n j).trans ?_
  exact congrArg₂ (fun f h => join f h n) (funext fun n => lat_t x0 x2 x3 x6 x7 b n j) (funext fun n => ctx_t x1 x4 x5 x6 x7 b n j)

/-- The step sizes, padded with zero columns. -/
theorem dt_apply (b : Fin 4) (n : Fin 4352) (j : Fin 128) : (val_main_v65 (F := 𝕀) x0 x1 x2 x3 x4 x5 x6 x7 (ix3 b n j) : EReal)
    = if h : j.val < 12 then join (latCol x0 x2 x3 x6 x7 b ⟨1664 + j.val, by omega⟩) (ctxCol x1 x4 x5 x6 x7 b ⟨1664 + j.val, by omega⟩) n else 0 := by
  have e : (val_main_v65 (F := 𝕀) x0 x1 x2 x3 x4 x5 x6 x7 (ix3 b n j) : EReal) = if h : j.val < 12 then (val_main_v64 (F := 𝕀) x0 x1 x2 x3 x4 x5 x6 x7 (ix3 b n ⟨j.val, h⟩) : EReal) else 0 := by
    unfold val_main_v65 val_main_call0_v0 val_main_c
    generalize val_main_v64 (F := 𝕀) x0 x1 x2 x3 x4 x5 x6 x7 = y
    pointwise []
    rw [zero_int]
  refine e.trans ?_
  by_cases h : j.val < 12
  · rw [dif_pos h, dif_pos h]
    exact t_apply x0 x1 x2 x3 x4 x5 x6 x7 b n ⟨j.val, h⟩
  · rw [dif_neg h, dif_neg h]

theorem lh_conv (b : Fin 4) (n : Fin 4096) (j : Fin 768) :
    (val_main_v88 (F := 𝕀) x0 x2 x3 x6 x7 x12 x13 (ix3 b n j) : EReal)
      = along (fun n => (val_main_v51 (F := 𝕀) x0 x2 x3 x6 x7 (ix3 b n j) : EReal)) (fun q => x12 (ix2 q j)) (x13 (ix1 j)) n := by
  unfold val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_call1_v0 val_main_c_7
  generalize val_main_v51 (F := 𝕀) x0 x2 x3 x6 x7 = y
  pointwise []
  unfold along
  rw [zero_int]
  refine congrArg (· + _) (congrArg₂ (· + ·) (congrArg (· + _) (congrArg (· * _) ?_)) (congrArg (· * _) ?_))
  · by_cases h : 0 < n.val
    · rw [dif_pos (by omega), dif_pos h]
    · rw [dif_neg (by omega), dif_neg h]
  · by_cases h : n.val + 1 < 4096
    · rw [dif_pos (by omega), dif_pos h]
      exact congrArg (fun i => y (ix3 b i j)) (Fin.ext (by show 2 + n.val - 1 = n.val + 1; omega))
    · rw [dif_neg (by omega), dif_neg h]

theorem ch_conv (b : Fin 4) (n : Fin 256) (j : Fin 768) :
    (val_main_v111 (F := 𝕀) x1 x4 x5 x6 x7 x12 x13 (ix3 b n j) : EReal)
      = along (fun n => (val_main_v59 (F := 𝕀) x1 x4 x5 x6 x7 (ix3 b n j) : EReal)) (fun q => x12 (ix2 q j)) (x13 (ix1 j)) n := by
  unfold val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_call2_v0 val_main_c_8
  generalize val_main_v59 (F := 𝕀) x1 x4 x5 x6 x7 = y
  pointwise []
  unfold along
  rw [zero_int]
  refine congrArg (· + _) (congrArg₂ (· + ·) (congrArg (· + _) (congrArg (· * _) ?_)) (congrArg (· * _) ?_))
  · by_cases h : 0 < n.val
    · rw [dif_pos (by omega), dif_pos h]
    · rw [dif_neg (by omega), dif_neg h]
  · by_cases h : n.val + 1 < 256
    · rw [dif_pos (by omega), dif_pos h]
      exact congrArg (fun i => y (ix3 b i j)) (Fin.ext (by show 2 + n.val - 1 = n.val + 1; omega))
    · rw [dif_neg (by omega), dif_neg h]

theorem lx_conv (b : Fin 4) (n : Fin 4096) (j : Fin 640) :
    (val_main_v135 (F := 𝕀) x0 x2 x3 x6 x7 x10 x11 (ix3 b n j) : EReal)
      = along (fun n => (val_main_v49 (F := 𝕀) x0 x2 x3 x6 x7 (ix3 b n j) : EReal)) (fun q => x10 (ix2 q j)) (x11 (ix1 j)) n := by
  unfold val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_call3_v0 val_main_c_9
  generalize val_main_v49 (F := 𝕀) x0 x2 x3 x6 x7 = y
  pointwise []
  unfold along
  rw [zero_int]
  refine congrArg (· + _) (congrArg₂ (· + ·) (congrArg (· + _) (congrArg (· * _) ?_)) (congrArg (· * _) ?_))
  · by_cases h : 0 < n.val
    · rw [dif_pos (by omega), dif_pos h]
    · rw [dif_neg (by omega), dif_neg h]
  · by_cases h : n.val + 1 < 4096
    · rw [dif_pos (by omega), dif_pos h]
      exact congrArg (fun i => y (ix3 b i j)) (Fin.ext (by show 2 + n.val - 1 = n.val + 1; omega))
    · rw [dif_neg (by omega), dif_neg h]

theorem cx_conv (b : Fin 4) (n : Fin 256) (j : Fin 640) :
    (val_main_v159 (F := 𝕀) x1 x4 x5 x6 x7 x10 x11 (ix3 b n j) : EReal)
      = along (fun n => (val_main_v57 (F := 𝕀) x1 x4 x5 x6 x7 (ix3 b n j) : EReal)) (fun q => x10 (ix2 q j)) (x11 (ix1 j)) n := by
  unfold val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_call5_v0 val_main_c_10
  generalize val_main_v57 (F := 𝕀) x1 x4 x5 x6 x7 = y
  pointwise []
  unfold along
  rw [zero_int]
  refine congrArg (· + _) (congrArg₂ (· + ·) (congrArg (· + _) (congrArg (· * _) ?_)) (congrArg (· * _) ?_))
  · by_cases h : 0 < n.val
    · rw [dif_pos (by omega), dif_pos h]
    · rw [dif_neg (by omega), dif_neg h]
  · by_cases h : n.val + 1 < 256
    · rw [dif_pos (by omega), dif_pos h]
      exact congrArg (fun i => y (ix3 b i j)) (Fin.ext (by show 2 + n.val - 1 = n.val + 1; omega))
    · rw [dif_neg (by omega), dif_neg h]

theorem lx_silu (b : Fin 4) (n : Fin 4096) (j : Fin 640) : (val_main_v136 (F := 𝕀) x0 x2 x3 x6 x7 x10 x11 (ix3 b n j) : EReal) = silu (val_main_v135 (F := 𝕀) x0 x2 x3 x6 x7 x10 x11 (ix3 b n j)) := by
  unfold val_main_v136 val_main_call4_v5 val_main_call4_v4 val_main_call4_v3 val_main_call4_v2 val_main_call4_v1 val_main_call4_v0 val_main_call4_cst val_main_call4_cst_0
  generalize val_main_v135 (F := 𝕀) x0 x2 x3 x6 x7 x10 x11 = y
  pointwise [silu]

theorem cx_silu (b : Fin 4) (n : Fin 256) (j : Fin 640) : (val_main_v160 (F := 𝕀) x1 x4 x5 x6 x7 x10 x11 (ix3 b n j) : EReal) = silu (val_main_v159 (F := 𝕀) x1 x4 x5 x6 x7 x10 x11 (ix3 b n j)) := by
  unfold val_main_v160 val_main_call6_v5 val_main_call6_v4 val_main_call6_v3 val_main_call6_v2 val_main_call6_v1 val_main_call6_v0 val_main_call6_cst val_main_call6_cst_0
  generalize val_main_v159 (F := 𝕀) x1 x4 x5 x6 x7 x10 x11 = y
  pointwise [silu]

/-- The convolution columns, latent rows then context rows. -/
theorem h_join (b : Fin 4) (n : Fin 4352) (j : Fin 768) :
    (val_main_v112 (F := 𝕀) x0 x1 x2 x3 x4 x5 x6 x7 x12 x13 (ix3 b n j) : EReal)
      = join (fun n => val_main_v88 (F := 𝕀) x0 x2 x3 x6 x7 x12 x13 (ix3 b n j)) (fun n => val_main_v111 (F := 𝕀) x1 x4 x5 x6 x7 x12 x13 (ix3 b n j)) n := by
  unfold val_main_v112
  generalize val_main_v88 (F := 𝕀) x0 x2 x3 x6 x7 x12 x13 = y
  generalize val_main_v111 (F := 𝕀) x1 x4 x5 x6 x7 x12 x13 = z
  pointwise [join]

/-- The state-space columns, latent rows then context rows. -/
theorem x_join (b : Fin 4) (n : Fin 4352) (j : Fin 640) :
    (val_main_v161 (F := 𝕀) x0 x1 x2 x3 x4 x5 x6 x7 x10 x11 (ix3 b n j) : EReal)
      = join (fun n => val_main_v136 (F := 𝕀) x0 x2 x3 x6 x7 x10 x11 (ix3 b n j)) (fun n => val_main_v160 (F := 𝕀) x1 x4 x5 x6 x7 x10 x11 (ix3 b n j)) n := by
  unfold val_main_v161
  generalize val_main_v136 (F := 𝕀) x0 x2 x3 x6 x7 x10 x11 = y
  generalize val_main_v160 (F := 𝕀) x1 x4 x5 x6 x7 x10 x11 = z
  pointwise [join]

theorem h_apply (b : Fin 4) (n : Fin 4352) (j : Fin 768) : (val_main_v112 (F := 𝕀) x0 x1 x2 x3 x4 x5 x6 x7 x12 x13 (ix3 b n j) : EReal)
    = join (along (latCol x0 x2 x3 x6 x7 b ⟨1676 + j.val, by omega⟩) (fun q => x12 (ix2 q j)) (x13 (ix1 j)))
        (along (ctxCol x1 x4 x5 x6 x7 b ⟨1676 + j.val, by omega⟩) (fun q => x12 (ix2 q j)) (x13 (ix1 j))) n := by
  refine (h_join x0 x1 x2 x3 x4 x5 x6 x7 x12 x13 b n j).trans ?_
  refine congrArg₂ (fun f h => join f h n) (funext fun n => (lh_conv x0 x2 x3 x6 x7 x12 x13 b n j).trans ?_) (funext fun n => (ch_conv x1 x4 x5 x6 x7 x12 x13 b n j).trans ?_)
  · exact congrArg (fun f => along f (fun q => x12 (ix2 q j)) (x13 (ix1 j)) n) (funext fun n => lat_h x0 x2 x3 x6 x7 b n j)
  · exact congrArg (fun f => along f (fun q => x12 (ix2 q j)) (x13 (ix1 j)) n) (funext fun n => ctx_h x1 x4 x5 x6 x7 b n j)

theorem x_apply (b : Fin 4) (n : Fin 4352) (j : Fin 640) : (val_main_v161 (F := 𝕀) x0 x1 x2 x3 x4 x5 x6 x7 x10 x11 (ix3 b n j) : EReal)
    = join (fun n => silu (along (latCol x0 x2 x3 x6 x7 b ⟨1024 + j.val, by omega⟩) (fun q => x10 (ix2 q j)) (x11 (ix1 j)) n))
        (fun n => silu (along (ctxCol x1 x4 x5 x6 x7 b ⟨1024 + j.val, by omega⟩) (fun q => x10 (ix2 q j)) (x11 (ix1 j)) n)) n := by
  refine (x_join x0 x1 x2 x3 x4 x5 x6 x7 x10 x11 b n j).trans ?_
  refine congrArg₂ (fun f h => join f h n) (funext fun n => (lx_silu x0 x2 x3 x6 x7 x10 x11 b n j).trans (congrArg silu ((lx_conv x0 x2 x3 x6 x7 x10 x11 b n j).trans ?_))) (funext fun n => (cx_silu x1 x4 x5 x6 x7 x10 x11 b n j).trans (congrArg silu ((cx_conv x1 x4 x5 x6 x7 x10 x11 b n j).trans ?_)))
  · exact congrArg (fun f => along f (fun q => x10 (ix2 q j)) (x11 (ix1 j)) n) (funext fun n => lat_x x0 x2 x3 x6 x7 b n j)
  · exact congrArg (fun f => along f (fun q => x10 (ix2 q j)) (x11 (ix1 j)) n) (funext fun n => ctx_x x1 x4 x5 x6 x7 b n j)

end Cert.Reference4Ideal.Read
end
-- ==== Proof.InResult.lean ====
module
public import proofs.«01_k».proof.Proof.InArray
public import proofs.«01_k».proof.Proof.InRef
/-! The input projection's run with its five results, and the plain form's. -/
@[expose] public section
set_option maxRecDepth 65536
noncomputable section
namespace Cert.Kernel4Ideal.Inp
open Idealize.ShloMosaic Idealize.ShloMosaic.TcCoe Idealize.ShloMosaic.Tactic Idealize.SL.Sem
open Idealize.ShloMosaic.Pipeline (Dat Cfg Window BodyObligation cellOf)
open Cert.Experts Cert.Inproj Cert.Kernel4Ideal Cert.Kernel4Ideal.Gen
local notation "𝕀" => Idealize.ShloMosaic.Ideal
variable (m : (ℓ : Loc nD τ sig) → Buf (Elt 𝕀) ℓ) (ρ : Dev nD → PrngReg)

set_option maxHeartbeats 4000000 in
/-- The whole run: the five results, and the arguments unchanged. -/
theorem run_value : θ_run defs (onTc (τ := τ) (main (F := 𝕀))) ⟨m, fun _ => 0, ρ⟩
    (fun r => ∀ c : Dev nD,
      r.2.mem ((c.tc : Thread nD τ).loc main_v76_2) = arrV m c
      ∧ r.2.mem ((c.tc : Thread nD τ).loc main_v76_3) = arrZ m c
      ∧ r.2.mem ((c.tc : Thread nD τ).loc main_v76_5) = arrT m c
      ∧ r.2.mem ((c.tc : Thread nD τ).loc main_v76_6) = arrH m c
      ∧ r.2.mem ((c.tc : Thread nD τ).loc main_v76_4) = arrX m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨((h.1 c).1 17).trans (arr_v m c), ((h.1 c).1 18).trans (arr_z m c), ((h.1 c).1 20).trans (arr_t m c),
      ((h.1 c).1 21).trans (arr_h m c), ((h.1 c).1 19).trans (arr_x m c), h.2 c⟩)
    (θ_run_and (run_main m ρ) (unchanged m ρ))

variable (c : Dev nD)

theorem ref_v : Cert.Reference4Ideal.Read.val_main_v62 (F := 𝕀) (xIn m c) (cxIn m c) (shIn m c) (scIn m c) (cshIn m c) (cscIn m c) (gIn m c) (wIn m c) = arrV m c := by
  funext y
  have hy : y = (ix3 (y 0) (y 1) (y 2) : S4x128x4352.Idx) := by idx_ext
  refine (congrArg (Cert.Reference4Ideal.Read.val_main_v62 (F := 𝕀) (xIn m c) (cxIn m c) (shIn m c) (scIn m c) (cshIn m c) (cscIn m c) (gIn m c) (wIn m c)) hy).trans ?_
  refine (Cert.Reference4Ideal.Read.v_apply (xIn m c) (cxIn m c) (shIn m c) (scIn m c) (cshIn m c) (cscIn m c) (gIn m c) (wIn m c) (y 0) (y 1) (y 2)).trans ?_
  rfl

theorem ref_z : Cert.Reference4Ideal.Read.val_main_v63 (F := 𝕀) (xIn m c) (cxIn m c) (shIn m c) (scIn m c) (cshIn m c) (cscIn m c) (gIn m c) (wIn m c) = arrZ m c := by
  funext y
  have hy : y = (ix3 (y 0) (y 1) (y 2) : S4x4352x384.Idx) := by idx_ext
  refine (congrArg (Cert.Reference4Ideal.Read.val_main_v63 (F := 𝕀) (xIn m c) (cxIn m c) (shIn m c) (scIn m c) (cshIn m c) (cscIn m c) (gIn m c) (wIn m c)) hy).trans ?_
  refine (Cert.Reference4Ideal.Read.z_apply (xIn m c) (cxIn m c) (shIn m c) (scIn m c) (cshIn m c) (cscIn m c) (gIn m c) (wIn m c) (y 0) (y 1) (y 2)).trans ?_
  rfl

theorem ref_t : Cert.Reference4Ideal.Read.val_main_v65 (F := 𝕀) (xIn m c) (cxIn m c) (shIn m c) (scIn m c) (cshIn m c) (cscIn m c) (gIn m c) (wIn m c) = arrT m c := by
  funext y
  have hy : y = (ix3 (y 0) (y 1) (y 2) : S4x4352x128.Idx) := by idx_ext
  refine (congrArg (Cert.Reference4Ideal.Read.val_main_v65 (F := 𝕀) (xIn m c) (cxIn m c) (shIn m c) (scIn m c) (cshIn m c) (cscIn m c) (gIn m c) (wIn m c)) hy).trans ?_
  refine (Cert.Reference4Ideal.Read.dt_apply (xIn m c) (cxIn m c) (shIn m c) (scIn m c) (cshIn m c) (cscIn m c) (gIn m c) (wIn m c) (y 0) (y 1) (y 2)).trans ?_
  rfl

theorem ref_h : Cert.Reference4Ideal.Read.val_main_v112 (F := 𝕀) (xIn m c) (cxIn m c) (shIn m c) (scIn m c) (cshIn m c) (cscIn m c) (gIn m c) (wIn m c) (cwhIn m c) (cbhIn m c) = arrH m c := by
  funext y
  have hy : y = (ix3 (y 0) (y 1) (y 2) : S4x4352x768.Idx) := by idx_ext
  refine (congrArg (Cert.Reference4Ideal.Read.val_main_v112 (F := 𝕀) (xIn m c) (cxIn m c) (shIn m c) (scIn m c) (cshIn m c) (cscIn m c) (gIn m c) (wIn m c) (cwhIn m c) (cbhIn m c)) hy).trans ?_
  refine (Cert.Reference4Ideal.Read.h_apply (xIn m c) (cxIn m c) (shIn m c) (scIn m c) (cshIn m c) (cscIn m c) (gIn m c) (wIn m c) (cwhIn m c) (cbhIn m c) (y 0) (y 1) (y 2)).trans ?_
  rfl

theorem ref_x : Cert.Reference4Ideal.Read.val_main_v161 (F := 𝕀) (xIn m c) (cxIn m c) (shIn m c) (scIn m c) (cshIn m c) (cscIn m c) (gIn m c) (wIn m c) (cwxIn m c) (cbxIn m c) = arrX m c := by
  funext y
  have hy : y = (ix3 (y 0) (y 1) (y 2) : S4x4352x640.Idx) := by idx_ext
  refine (congrArg (Cert.Reference4Ideal.Read.val_main_v161 (F := 𝕀) (xIn m c) (cxIn m c) (shIn m c) (scIn m c) (cshIn m c) (cscIn m c) (gIn m c) (wIn m c) (cwxIn m c) (cbxIn m c)) hy).trans ?_
  refine (Cert.Reference4Ideal.Read.x_apply (xIn m c) (cxIn m c) (shIn m c) (scIn m c) (cshIn m c) (cscIn m c) (gIn m c) (wIn m c) (cwxIn m c) (cbxIn m c) (y 0) (y 1) (y 2)).trans ?_
  exact join_silu _ _ _

end Cert.Kernel4Ideal.Inp
end
-- ==== Proof.InSame.lean ====
/- The input projection printed at the machine's floats and the one printed over the extended reals are one text:
   the bodies, the tables and the host programs are equal, at every interpretation of the floats. So a run of the
   one is a run of the other. -/
module

public import Idealize.ShloMosaic.Adequacy
public import Idealize.ShloMosaic.Lib.Claim
public import proofs.«01_k».proof.Proof.Gen.Kernel4
public import proofs.«01_k».proof.Proof.Gen.Kernel4Ideal

@[expose] public section

set_option maxRecDepth 16384

noncomputable section

namespace Cert.Kernel4Ideal.Inp

open Idealize.ShloMosaic Idealize.SL.Sem

attribute [local instance] Cert.Kernel4.Gen.facts Cert.Kernel4Ideal.Gen.facts

variable {F : FTy → Type} [FloatOps F]

/-- The two tables of bodies agree with the pipeline. -/
theorem defs_eq : Cert.Kernel4.defs (F := F) = Cert.Kernel4Ideal.defs := by
  sl_kernel_rfl

/-- And the host programs. -/
theorem main_eq : Cert.Kernel4.main (F := F) = Cert.Kernel4Ideal.main := by
  sl_kernel_rfl

/-- The two launches are one. -/
theorem launch_eq : θ_run (Cert.Kernel4.defs (F := F)) (onTc Cert.Kernel4.main)
    = θ_run Cert.Kernel4Ideal.defs (onTc Cert.Kernel4Ideal.main) :=
  congr (congrArg (fun d => θ_run d) defs_eq) (congrArg (fun d => onTc d) main_eq)

end Cert.Kernel4Ideal.Inp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.Finite
public import proofs.«01_k».proof.Proof.Gen.Kernel2
public import proofs.«01_k».proof.Proof.Gen.Reference2Ideal
public import proofs.«01_k».proof.Proof.Gen.Reference2Ideal.Run
public import proofs.«01_k».proof.Proof.Gen.Reference2Ideal.Read
public import proofs.«01_k».proof.Proof.MoeGroups
public import proofs.«01_k».proof.Pre_packed
public import proofs.«01_k».proof.Proof.MoeResult
public import proofs.«01_k».proof.Proof.MoeSame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.OutResult
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.InResult
public import proofs.«01_k».proof.Proof.InSame
public import Idealize.ShloMosaic.Adequacy
public import Idealize.ShloMosaic.Init

@[expose] public section

set_option maxRecDepth 16384

noncomputable section

namespace Cert.Proof

open Idealize.ShloMosaic Idealize.SL.Sem Cert.Kernel

/-- The attention: kernel and reference end with equal results under the precondition. -/
theorem attention : algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' pre hag
  refine ⟨fun c => Cert.KernelIdeal.Att.attArr m c, ?_, ?_⟩
  · exact (θ_run _ _ _).mono (fun _ h c => ⟨(h c).1.trans (Cert.KernelIdeal.Att.arr_eq m c), (h c).2⟩)
      (Cert.KernelIdeal.Value.run_blocks m g)
  · refine (θ_run _ _ _).mono (fun _ h c => ⟨(h c).1.trans ?_, (h c).2⟩) (Cert.ReferenceIdeal.Value.run m' g')
    obtain ⟨h0, h1, h2, h3, h4, h5⟩ := hag c
    obtain ⟨r0, r2, r3⟩ := Cert.Pre_finite.reals _ _ _ _ _ _ (pre c)
    show _ = Cert.KernelIdeal.Att.attArr m c
    rw [Cert.ReferenceIdeal.Read.val_main_v21_eq, Cert.KernelIdeal.Att.equation m c r0 r2 r3]
    rw [h0, h2, h3, h4, h5]
    rfl

/-- The reference runs and leaves its arguments; it has no semaphore. -/
theorem reference : quiescent_ReferenceIdeal (hReferenceIdeal := Cert.ReferenceIdeal.Gen.facts) := fun m g _ =>
  (θ_run _ _ _).mono (fun _ h => ⟨fun c => (h c).2, sem_eq_zero_of_no_sems (by decide) _⟩) (Cert.ReferenceIdeal.Value.run m g)

/-- The experts call runs and leaves its arguments, at the machine's floats. -/
theorem experts : quiescent_Kernel2 (hKernel2 := Cert.Kernel2.Gen.facts) (hPre_groups := Cert.Pre_groups.facts) := by
  intro m g pre
  have h := Cert.Kernel2Ideal.Moe.frame (F := Bits) m g
    (Cert.Kernel2Ideal.Moe.groups_of m (Cert.Pre_groups.small _ _ _ _ _ _ _ _ _ _ _ _ (pre 0)))
  rw [← Cert.Kernel2Ideal.Moe.launch_eq] at h
  exact h

/-- The same over the extended reals. -/
theorem experts_ideal : quiescent_Kernel2Ideal (hKernel2Ideal := Cert.Kernel2Ideal.Gen.facts) (hPre_groups := Cert.Pre_groups.facts) :=
  fun m g pre => Cert.Kernel2Ideal.Moe.frame m g
    (Cert.Kernel2Ideal.Moe.groups_of m (Cert.Pre_groups.small _ _ _ _ _ _ _ _ _ _ _ _ (pre 0)))

/-- The plain experts run and leave their arguments. -/
theorem reference2 : quiescent_Reference2Ideal (hReference2Ideal := Cert.Reference2Ideal.Gen.facts) := fun m g _ =>
  (θ_run _ _ _).mono (fun _ h => ⟨fun c => (h c).2, sem_eq_zero_of_no_sems (by decide) _⟩) (Cert.Reference2Ideal.Value.run m g)

/-- The precondition on the routing gives what the call needs. -/
theorem groups_of_packed (m : (ℓ : Loc Cert.Kernel2Ideal.nD Cert.Kernel2Ideal.τ Cert.Kernel2Ideal.sig) → Buf (Elt Ideal) ℓ)
    (pre : Pre_Kernel2Ideal_packed (hPre_packed := Cert.Pre_packed.facts) m) : Cert.Kernel2Ideal.Moe.Groups m :=
  Cert.Kernel2Ideal.Moe.groups_of m (Cert.Pre_packed.small _ _ _ _ _ _ _ _ _ _ _ _ (pre 0))

theorem packed_of_packed (m : (ℓ : Loc Cert.Kernel2Ideal.nD Cert.Kernel2Ideal.τ Cert.Kernel2Ideal.sig) → Buf (Elt Ideal) ℓ)
    (pre : Pre_Kernel2Ideal_packed (hPre_packed := Cert.Pre_packed.facts) m) (c : Dev Cert.Kernel2Ideal.nD) : Cert.Kernel2Ideal.Moe.Packed m c where
  apart := Cert.Pre_packed.apart _ _ _ _ _ _ _ _ _ _ _ _ (pre c)
  same := Cert.Pre_packed.same _ _ _ _ _ _ _ _ _ _ _ _ (pre c)
  weight := Cert.Pre_packed.weight _ _ _ _ _ _ _ _ _ _ _ _ (pre c)

/-- The experts call over the extended reals runs and leaves its arguments under the routing's precondition. -/
theorem experts_packed : quiescent_Kernel2Ideal_pre_packed (hKernel2Ideal := Cert.Kernel2Ideal.Gen.facts) (hPre_packed := Cert.Pre_packed.facts) :=
  fun m g pre => Cert.Kernel2Ideal.Moe.frame m g (groups_of_packed m pre)

/-- The experts: kernel and reference end with equal results under the routing's precondition. -/
theorem experts_value : algebraic_Kernel2Ideal_Reference2Ideal_pre_packed (hKernel2Ideal := Cert.Kernel2Ideal.Gen.facts)
    (hReference2Ideal := Cert.Reference2Ideal.Gen.facts) (hPre_packed := Cert.Pre_packed.facts) := by
  intro m g m' g' pre hag
  refine ⟨fun c => Cert.Kernel2Ideal.Moe.outArr m c, ?_, ?_⟩
  · exact Cert.Kernel2Ideal.Moe.run_value m g (groups_of_packed m pre) (packed_of_packed m pre)
  · refine (θ_run _ _ _).mono (fun _ h c => ⟨(h c).1.trans ?_, (h c).2⟩) (Cert.Reference2Ideal.Value.run m' g')
    obtain ⟨h0, h1, h2, h3, h4, h5, h6, h7, h8, h9, h10, h11⟩ := hag c
    show _ = Cert.Kernel2Ideal.Moe.outArr m c
    rw [Cert.Reference2Ideal.Read.val_main_v113_eq, ← Cert.Kernel2Ideal.Moe.equation m c]
    rw [h0, h1, h2, h3, h4, h5, h6, h7, h8, h9, h10, h11]

/-- The plain output projection runs and leaves its arguments. -/
theorem reference3 : quiescent_Reference3Ideal (hReference3Ideal := Cert.Reference3Ideal.Gen.facts) := fun m g _ =>
  (θ_run _ _ _).mono (fun _ h => ⟨fun c => (h c).2, sem_eq_zero_of_no_sems (by decide) _⟩) (Cert.Reference3Ideal.Value.run m g)

/-- The output projection: kernel and reference end with equal results. -/
theorem outproj : algebraic_Kernel3Ideal_Reference3Ideal (hKernel3Ideal := Cert.Kernel3Ideal.Gen.facts)
    (hReference3Ideal := Cert.Reference3Ideal.Gen.facts) := by
  intro m g m' g' _ hag
  refine ⟨fun c => Cert.Kernel3Ideal.Out.outArr m c, ?_, ?_⟩
  · exact (θ_run _ _ _).mono (fun _ h c => ⟨(h c).1.trans (Cert.Kernel3Ideal.Out.arr_eq m c), (h c).2⟩)
      (Cert.Kernel3Ideal.Value.run_blocks m g)
  · refine (θ_run _ _ _).mono (fun _ h c => ⟨(h c).1.trans ?_, (h c).2⟩) (Cert.Reference3Ideal.Value.run m' g')
    obtain ⟨h0, h1, h2, h3, h4, h5, h6⟩ := hag c
    show _ = Cert.Kernel3Ideal.Out.outArr m c
    rw [Cert.Reference3Ideal.Read.val_main_v5_eq, ← Cert.Kernel3Ideal.Out.equation m c]
    rw [h0, h1, h2, h4, h5, h6]

/-- The input projection runs and leaves its arguments, at the machine's floats. -/
theorem inproj_frame : quiescent_Kernel4 (hKernel4 := Cert.Kernel4.Gen.facts) := by
  intro m g _
  have h := Cert.Kernel4Ideal.Inp.frame (F := Bits) m g
  rw [← Cert.Kernel4Ideal.Inp.launch_eq] at h
  exact h

/-- The same over the extended reals. -/
theorem inproj_ideal : quiescent_Kernel4Ideal (hKernel4Ideal := Cert.Kernel4Ideal.Gen.facts) :=
  fun m g _ => Cert.Kernel4Ideal.Inp.frame m g

/-- The plain input projection runs and leaves its arguments. -/
theorem reference4 : quiescent_Reference4Ideal (hReference4Ideal := Cert.Reference4Ideal.Gen.facts) := fun m g _ =>
  (θ_run _ _ _).mono (fun _ h => ⟨fun c => (h c).2.2.2.2.2, sem_eq_zero_of_no_sems (by decide) _⟩) (Cert.Reference4Ideal.Value.run m g)

theorem plain_v (m : (ℓ : Loc Cert.Kernel4Ideal.nD Cert.Kernel4Ideal.τ Cert.Kernel4Ideal.sig) → Buf (Elt Ideal) ℓ) (c : Dev Cert.Kernel4Ideal.nD)
    {x0 : FVec Ideal Cert.Reference4Ideal.S4x4096x1024 .f32} {x1 : FVec Ideal Cert.Reference4Ideal.S4x256x1024 .f32} {x2 : FVec Ideal Cert.Reference4Ideal.S4x1024 .f32} {x3 : FVec Ideal Cert.Reference4Ideal.S4x1024 .f32} {x4 : FVec Ideal Cert.Reference4Ideal.S1024 .f32} {x5 : FVec Ideal Cert.Reference4Ideal.S1024 .f32} {x6 : FVec Ideal Cert.Reference4Ideal.S1024 .f32} {x7 : FVec Ideal Cert.Reference4Ideal.S1024x2444 .f32}
    (h0 : x0 = Cert.Kernel4Ideal.Inp.xIn m c) (h1 : x1 = Cert.Kernel4Ideal.Inp.cxIn m c) (h2 : x2 = Cert.Kernel4Ideal.Inp.shIn m c) (h3 : x3 = Cert.Kernel4Ideal.Inp.scIn m c) (h4 : x4 = Cert.Kernel4Ideal.Inp.cshIn m c) (h5 : x5 = Cert.Kernel4Ideal.Inp.cscIn m c) (h6 : x6 = Cert.Kernel4Ideal.Inp.gIn m c) (h7 : x7 = Cert.Kernel4Ideal.Inp.wIn m c) :
    Cert.Reference4Ideal.Read.val_main_v62 (F := Ideal) x0 x1 x2 x3 x4 x5 x6 x7 = Cert.Kernel4Ideal.Inp.arrV m c := by
  subst h0 h1 h2 h3 h4 h5 h6 h7
  exact Cert.Kernel4Ideal.Inp.ref_v m c

theorem plain_z (m : (ℓ : Loc Cert.Kernel4Ideal.nD Cert.Kernel4Ideal.τ Cert.Kernel4Ideal.sig) → Buf (Elt Ideal) ℓ) (c : Dev Cert.Kernel4Ideal.nD)
    {x0 : FVec Ideal Cert.Reference4Ideal.S4x4096x1024 .f32} {x1 : FVec Ideal Cert.Reference4Ideal.S4x256x1024 .f32} {x2 : FVec Ideal Cert.Reference4Ideal.S4x1024 .f32} {x3 : FVec Ideal Cert.Reference4Ideal.S4x1024 .f32} {x4 : FVec Ideal Cert.Reference4Ideal.S1024 .f32} {x5 : FVec Ideal Cert.Reference4Ideal.S1024 .f32} {x6 : FVec Ideal Cert.Reference4Ideal.S1024 .f32} {x7 : FVec Ideal Cert.Reference4Ideal.S1024x2444 .f32}
    (h0 : x0 = Cert.Kernel4Ideal.Inp.xIn m c) (h1 : x1 = Cert.Kernel4Ideal.Inp.cxIn m c) (h2 : x2 = Cert.Kernel4Ideal.Inp.shIn m c) (h3 : x3 = Cert.Kernel4Ideal.Inp.scIn m c) (h4 : x4 = Cert.Kernel4Ideal.Inp.cshIn m c) (h5 : x5 = Cert.Kernel4Ideal.Inp.cscIn m c) (h6 : x6 = Cert.Kernel4Ideal.Inp.gIn m c) (h7 : x7 = Cert.Kernel4Ideal.Inp.wIn m c) :
    Cert.Reference4Ideal.Read.val_main_v63 (F := Ideal) x0 x1 x2 x3 x4 x5 x6 x7 = Cert.Kernel4Ideal.Inp.arrZ m c := by
  subst h0 h1 h2 h3 h4 h5 h6 h7
  exact Cert.Kernel4Ideal.Inp.ref_z m c

theorem plain_t (m : (ℓ : Loc Cert.Kernel4Ideal.nD Cert.Kernel4Ideal.τ Cert.Kernel4Ideal.sig) → Buf (Elt Ideal) ℓ) (c : Dev Cert.Kernel4Ideal.nD)
    {x0 : FVec Ideal Cert.Reference4Ideal.S4x4096x1024 .f32} {x1 : FVec Ideal Cert.Reference4Ideal.S4x256x1024 .f32} {x2 : FVec Ideal Cert.Reference4Ideal.S4x1024 .f32} {x3 : FVec Ideal Cert.Reference4Ideal.S4x1024 .f32} {x4 : FVec Ideal Cert.Reference4Ideal.S1024 .f32} {x5 : FVec Ideal Cert.Reference4Ideal.S1024 .f32} {x6 : FVec Ideal Cert.Reference4Ideal.S1024 .f32} {x7 : FVec Ideal Cert.Reference4Ideal.S1024x2444 .f32}
    (h0 : x0 = Cert.Kernel4Ideal.Inp.xIn m c) (h1 : x1 = Cert.Kernel4Ideal.Inp.cxIn m c) (h2 : x2 = Cert.Kernel4Ideal.Inp.shIn m c) (h3 : x3 = Cert.Kernel4Ideal.Inp.scIn m c) (h4 : x4 = Cert.Kernel4Ideal.Inp.cshIn m c) (h5 : x5 = Cert.Kernel4Ideal.Inp.cscIn m c) (h6 : x6 = Cert.Kernel4Ideal.Inp.gIn m c) (h7 : x7 = Cert.Kernel4Ideal.Inp.wIn m c) :
    Cert.Reference4Ideal.Read.val_main_v65 (F := Ideal) x0 x1 x2 x3 x4 x5 x6 x7 = Cert.Kernel4Ideal.Inp.arrT m c := by
  subst h0 h1 h2 h3 h4 h5 h6 h7
  exact Cert.Kernel4Ideal.Inp.ref_t m c

theorem plain_h (m : (ℓ : Loc Cert.Kernel4Ideal.nD Cert.Kernel4Ideal.τ Cert.Kernel4Ideal.sig) → Buf (Elt Ideal) ℓ) (c : Dev Cert.Kernel4Ideal.nD)
    {x0 : FVec Ideal Cert.Reference4Ideal.S4x4096x1024 .f32} {x1 : FVec Ideal Cert.Reference4Ideal.S4x256x1024 .f32} {x2 : FVec Ideal Cert.Reference4Ideal.S4x1024 .f32} {x3 : FVec Ideal Cert.Reference4Ideal.S4x1024 .f32} {x4 : FVec Ideal Cert.Reference4Ideal.S1024 .f32} {x5 : FVec Ideal Cert.Reference4Ideal.S1024 .f32} {x6 : FVec Ideal Cert.Reference4Ideal.S1024 .f32} {x7 : FVec Ideal Cert.Reference4Ideal.S1024x2444 .f32} {x12 : FVec Ideal Cert.Reference4Ideal.S3x768 .f32} {x13 : FVec Ideal Cert.Reference4Ideal.S768 .f32}
    (h0 : x0 = Cert.Kernel4Ideal.Inp.xIn m c) (h1 : x1 = Cert.Kernel4Ideal.Inp.cxIn m c) (h2 : x2 = Cert.Kernel4Ideal.Inp.shIn m c) (h3 : x3 = Cert.Kernel4Ideal.Inp.scIn m c) (h4 : x4 = Cert.Kernel4Ideal.Inp.cshIn m c) (h5 : x5 = Cert.Kernel4Ideal.Inp.cscIn m c) (h6 : x6 = Cert.Kernel4Ideal.Inp.gIn m c) (h7 : x7 = Cert.Kernel4Ideal.Inp.wIn m c) (h12 : x12 = Cert.Kernel4Ideal.Inp.cwhIn m c) (h13 : x13 = Cert.Kernel4Ideal.Inp.cbhIn m c) :
    Cert.Reference4Ideal.Read.val_main_v112 (F := Ideal) x0 x1 x2 x3 x4 x5 x6 x7 x12 x13 = Cert.Kernel4Ideal.Inp.arrH m c := by
  subst h0 h1 h2 h3 h4 h5 h6 h7 h12 h13
  exact Cert.Kernel4Ideal.Inp.ref_h m c

theorem plain_x (m : (ℓ : Loc Cert.Kernel4Ideal.nD Cert.Kernel4Ideal.τ Cert.Kernel4Ideal.sig) → Buf (Elt Ideal) ℓ) (c : Dev Cert.Kernel4Ideal.nD)
    {x0 : FVec Ideal Cert.Reference4Ideal.S4x4096x1024 .f32} {x1 : FVec Ideal Cert.Reference4Ideal.S4x256x1024 .f32} {x2 : FVec Ideal Cert.Reference4Ideal.S4x1024 .f32} {x3 : FVec Ideal Cert.Reference4Ideal.S4x1024 .f32} {x4 : FVec Ideal Cert.Reference4Ideal.S1024 .f32} {x5 : FVec Ideal Cert.Reference4Ideal.S1024 .f32} {x6 : FVec Ideal Cert.Reference4Ideal.S1024 .f32} {x7 : FVec Ideal Cert.Reference4Ideal.S1024x2444 .f32} {x10 : FVec Ideal Cert.Reference4Ideal.S3x640 .f32} {x11 : FVec Ideal Cert.Reference4Ideal.S640 .f32}
    (h0 : x0 = Cert.Kernel4Ideal.Inp.xIn m c) (h1 : x1 = Cert.Kernel4Ideal.Inp.cxIn m c) (h2 : x2 = Cert.Kernel4Ideal.Inp.shIn m c) (h3 : x3 = Cert.Kernel4Ideal.Inp.scIn m c) (h4 : x4 = Cert.Kernel4Ideal.Inp.cshIn m c) (h5 : x5 = Cert.Kernel4Ideal.Inp.cscIn m c) (h6 : x6 = Cert.Kernel4Ideal.Inp.gIn m c) (h7 : x7 = Cert.Kernel4Ideal.Inp.wIn m c) (h10 : x10 = Cert.Kernel4Ideal.Inp.cwxIn m c) (h11 : x11 = Cert.Kernel4Ideal.Inp.cbxIn m c) :
    Cert.Reference4Ideal.Read.val_main_v161 (F := Ideal) x0 x1 x2 x3 x4 x5 x6 x7 x10 x11 = Cert.Kernel4Ideal.Inp.arrX m c := by
  subst h0 h1 h2 h3 h4 h5 h6 h7 h10 h11
  exact Cert.Kernel4Ideal.Inp.ref_x m c

set_option maxHeartbeats 4000000 in
/-- The input projection: kernel and reference end with five equal results. -/
theorem inproj : algebraic_Kernel4Ideal_Reference4Ideal (hKernel4Ideal := Cert.Kernel4Ideal.Gen.facts)
    (hReference4Ideal := Cert.Reference4Ideal.Gen.facts) := by
  intro m g m' g' _ hag
  refine ⟨fun c => Cert.Kernel4Ideal.Inp.arrV m c, fun c => Cert.Kernel4Ideal.Inp.arrZ m c, fun c => Cert.Kernel4Ideal.Inp.arrT m c,
    fun c => Cert.Kernel4Ideal.Inp.arrH m c, fun c => Cert.Kernel4Ideal.Inp.arrX m c, Cert.Kernel4Ideal.Inp.run_value m g, ?_⟩
  refine (θ_run _ _ _).mono (fun _ h c => ⟨(h c).1.trans ?_, (h c).2.1.trans ?_, (h c).2.2.1.trans ?_, (h c).2.2.2.1.trans ?_,
    (h c).2.2.2.2.1.trans ?_, (h c).2.2.2.2.2⟩) (Cert.Reference4Ideal.Value.run m' g')
  all_goals obtain ⟨h0, h1, h2, h3, h4, h5, h6, h7, h8, h9, h10, h11, h12, h13⟩ := hag c
  · exact (Cert.Reference4Ideal.Read.val_main_v62_eq _).trans (plain_v m c h0 h1 h2 h3 h4 h5 h6 h7)
  · exact (Cert.Reference4Ideal.Read.val_main_v63_eq _).trans (plain_z m c h0 h1 h2 h3 h4 h5 h6 h7)
  · exact (Cert.Reference4Ideal.Read.val_main_v65_eq _).trans (plain_t m c h0 h1 h2 h3 h4 h5 h6 h7)
  · exact (Cert.Reference4Ideal.Read.val_main_v112_eq _).trans (plain_h m c h0 h1 h2 h3 h4 h5 h6 h7 h12 h13)
  · exact (Cert.Reference4Ideal.Read.val_main_v161_eq _).trans (plain_x m c h0 h1 h2 h3 h4 h5 h6 h7 h10 h11)

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts,
  Cert.Kernel4.Gen.facts, Cert.Kernel4Ideal.Gen.facts, Cert.Reference4Ideal.Gen.facts, Cert.Pre_finite.facts, Cert.Pre_groups.facts, Cert.Pre_packed.facts,
  fun m g _ => Cert.Kernel.Gen.frame m g, fun m g _ => Cert.KernelIdeal.Gen.frame m g, fun m g _ => Cert.KernelIdeal.Gen.frame m g,
  fun m g _ => reference m g trivial, fun m g _ => reference m g trivial, experts, experts_ideal, experts_packed, reference2,
  fun m g _ => reference2 m g trivial, fun m g _ => Cert.Kernel3.Gen.frame m g, fun m g _ => Cert.Kernel3Ideal.Gen.frame m g,
  reference3, inproj_frame, inproj_ideal, reference4, trivial, attention, trivial, experts_value, trivial, outproj, trivial, inproj⟩

end Cert.Proof

end
